-- ==== Defs.lean ====
def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_RefInIdeal (m : (ℓ : Loc Cert.RefInIdeal.nD Cert.RefInIdeal.τ Cert.RefInIdeal.sig) → Buf (Elt Ideal) ℓ) : Prop :=
  True

def Pre_ProjDecay (m : (ℓ : Loc Cert.ProjDecay.nD Cert.ProjDecay.τ Cert.ProjDecay.sig) → Buf (Elt Bits) ℓ) : Prop :=
  True

def Pre_ProjDecayIdeal (m : (ℓ : Loc Cert.ProjDecayIdeal.nD Cert.ProjDecayIdeal.τ Cert.ProjDecayIdeal.sig) → Buf (Elt Ideal) ℓ) : Prop :=
  True

def Pre_RefDecayIdeal (m : (ℓ : Loc Cert.RefDecayIdeal.nD Cert.RefDecayIdeal.τ Cert.RefDecayIdeal.sig) → Buf (Elt Ideal) ℓ) : Prop :=
  True

def Pre_ProjNa (m : (ℓ : Loc Cert.ProjNa.nD Cert.ProjNa.τ Cert.ProjNa.sig) → Buf (Elt Bits) ℓ) : Prop :=
  True

def Pre_ProjNaIdeal (m : (ℓ : Loc Cert.ProjNaIdeal.nD Cert.ProjNaIdeal.τ Cert.ProjNaIdeal.sig) → Buf (Elt Ideal) ℓ) : Prop :=
  True

def Pre_RefNaIdeal (m : (ℓ : Loc Cert.RefNaIdeal.nD Cert.RefNaIdeal.τ Cert.RefNaIdeal.sig) → Buf (Elt Ideal) ℓ) : Prop :=
  True

def Pre_ProjGates (m : (ℓ : Loc Cert.ProjGates.nD Cert.ProjGates.τ Cert.ProjGates.sig) → Buf (Elt Bits) ℓ) : Prop :=
  True

def Pre_ProjGatesIdeal (m : (ℓ : Loc Cert.ProjGatesIdeal.nD Cert.ProjGatesIdeal.τ Cert.ProjGatesIdeal.sig) → Buf (Elt Ideal) ℓ) : Prop :=
  True

def Pre_RefGatesIdeal (m : (ℓ : Loc Cert.RefGatesIdeal.nD Cert.RefGatesIdeal.τ Cert.RefGatesIdeal.sig) → Buf (Elt Ideal) ℓ) : Prop :=
  True

def Pre_Experts [hPre_planned : Cert.Pre_planned.Facts] (m : (ℓ : Loc Cert.Experts.nD Cert.Experts.τ Cert.Experts.sig) → Buf (Elt Bits) ℓ) : Prop :=
  ∀ c : Dev Cert.Experts.nD,
    (Cert.Pre_planned.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_planned : Cert.Pre_planned.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_planned.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_RefExpertsIdeal (m : (ℓ : Loc Cert.RefExpertsIdeal.nD Cert.RefExpertsIdeal.τ Cert.RefExpertsIdeal.sig) → Buf (Elt Ideal) ℓ) : Prop :=
  True

def Pre_RefExpertsIdeal_planned [hPre_planned : Cert.Pre_planned.Facts] (m : (ℓ : Loc Cert.RefExpertsIdeal.nD Cert.RefExpertsIdeal.τ Cert.RefExpertsIdeal.sig) → Buf (Elt Ideal) ℓ) : Prop :=
  ∀ c : Dev Cert.RefExpertsIdeal.nD,
    (Cert.Pre_planned.fn (F := Ideal) (m ((c.tc : Thread Cert.RefExpertsIdeal.nD Cert.RefExpertsIdeal.τ).loc Cert.RefExpertsIdeal.main_arg0)) (m ((c.tc : Thread Cert.RefExpertsIdeal.nD Cert.RefExpertsIdeal.τ).loc Cert.RefExpertsIdeal.main_arg1)) (m ((c.tc : Thread Cert.RefExpertsIdeal.nD Cert.RefExpertsIdeal.τ).loc Cert.RefExpertsIdeal.main_arg2)) (m ((c.tc : Thread Cert.RefExpertsIdeal.nD Cert.RefExpertsIdeal.τ).loc Cert.RefExpertsIdeal.main_arg3)) (m ((c.tc : Thread Cert.RefExpertsIdeal.nD Cert.RefExpertsIdeal.τ).loc Cert.RefExpertsIdeal.main_arg4)) (m ((c.tc : Thread Cert.RefExpertsIdeal.nD Cert.RefExpertsIdeal.τ).loc Cert.RefExpertsIdeal.main_arg5)) (m ((c.tc : Thread Cert.RefExpertsIdeal.nD Cert.RefExpertsIdeal.τ).loc Cert.RefExpertsIdeal.main_arg6)) (m ((c.tc : Thread Cert.RefExpertsIdeal.nD Cert.RefExpertsIdeal.τ).loc Cert.RefExpertsIdeal.main_arg7))) = (fun _ => 1#1)

def Pre_Combine [hPre_paired : Cert.Pre_paired.Facts] (m : (ℓ : Loc Cert.Combine.nD Cert.Combine.τ Cert.Combine.sig) → Buf (Elt Bits) ℓ) : Prop :=
  ∀ c : Dev Cert.Combine.nD,
    (Cert.Pre_paired.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4)) (m ((c.tc : Thread Cert.Combine.nD Cert.Combine.τ).loc Cert.Combine.main_arg5)) (m ((c.tc : Thread Cert.Combine.nD Cert.Combine.τ).loc Cert.Combine.main_arg6)) (m ((c.tc : Thread Cert.Combine.nD Cert.Combine.τ).loc Cert.Combine.main_arg7)) (m ((c.tc : Thread Cert.Combine.nD Cert.Combine.τ).loc Cert.Combine.main_arg8)) (m ((c.tc : Thread Cert.Combine.nD Cert.Combine.τ).loc Cert.Combine.main_arg9)) (m ((c.tc : Thread Cert.Combine.nD Cert.Combine.τ).loc Cert.Combine.main_arg10)) (m ((c.tc : Thread Cert.Combine.nD Cert.Combine.τ).loc Cert.Combine.main_arg11))) = (fun _ => 1#1)

def Pre_CombineIdeal [hPre_paired : Cert.Pre_paired.Facts] (m : (ℓ : Loc Cert.CombineIdeal.nD Cert.CombineIdeal.τ Cert.CombineIdeal.sig) → Buf (Elt Ideal) ℓ) : Prop :=
  ∀ c : Dev Cert.CombineIdeal.nD,
    (Cert.Pre_paired.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5)) (m ((c.tc : Thread Cert.CombineIdeal.nD Cert.CombineIdeal.τ).loc Cert.CombineIdeal.main_arg6)) (m ((c.tc : Thread Cert.CombineIdeal.nD Cert.CombineIdeal.τ).loc Cert.CombineIdeal.main_arg7)) (m ((c.tc : Thread Cert.CombineIdeal.nD Cert.CombineIdeal.τ).loc Cert.CombineIdeal.main_arg8)) (m ((c.tc : Thread Cert.CombineIdeal.nD Cert.CombineIdeal.τ).loc Cert.CombineIdeal.main_arg9)) (m ((c.tc : Thread Cert.CombineIdeal.nD Cert.CombineIdeal.τ).loc Cert.CombineIdeal.main_arg10)) (m ((c.tc : Thread Cert.CombineIdeal.nD Cert.CombineIdeal.τ).loc Cert.CombineIdeal.main_arg11))) = (fun _ => 1#1)

def Pre_RefCombineIdeal (m : (ℓ : Loc Cert.RefCombineIdeal.nD Cert.RefCombineIdeal.τ Cert.RefCombineIdeal.sig) → Buf (Elt Ideal) ℓ) : Prop :=
  True

def Pre_RefCombineIdeal_paired [hPre_paired : Cert.Pre_paired.Facts] (m : (ℓ : Loc Cert.RefCombineIdeal.nD Cert.RefCombineIdeal.τ Cert.RefCombineIdeal.sig) → Buf (Elt Ideal) ℓ) : Prop :=
  ∀ c : Dev Cert.RefCombineIdeal.nD,
    (Cert.Pre_paired.fn (F := Ideal) (m ((c.tc : Thread Cert.RefCombineIdeal.nD Cert.RefCombineIdeal.τ).loc Cert.RefCombineIdeal.main_arg0)) (m ((c.tc : Thread Cert.RefCombineIdeal.nD Cert.RefCombineIdeal.τ).loc Cert.RefCombineIdeal.main_arg1)) (m ((c.tc : Thread Cert.RefCombineIdeal.nD Cert.RefCombineIdeal.τ).loc Cert.RefCombineIdeal.main_arg2)) (m ((c.tc : Thread Cert.RefCombineIdeal.nD Cert.RefCombineIdeal.τ).loc Cert.RefCombineIdeal.main_arg3)) (m ((c.tc : Thread Cert.RefCombineIdeal.nD Cert.RefCombineIdeal.τ).loc Cert.RefCombineIdeal.main_arg4)) (m ((c.tc : Thread Cert.RefCombineIdeal.nD Cert.RefCombineIdeal.τ).loc Cert.RefCombineIdeal.main_arg5)) (m ((c.tc : Thread Cert.RefCombineIdeal.nD Cert.RefCombineIdeal.τ).loc Cert.RefCombineIdeal.main_arg6)) (m ((c.tc : Thread Cert.RefCombineIdeal.nD Cert.RefCombineIdeal.τ).loc Cert.RefCombineIdeal.main_arg7)) (m ((c.tc : Thread Cert.RefCombineIdeal.nD Cert.RefCombineIdeal.τ).loc Cert.RefCombineIdeal.main_arg8)) (m ((c.tc : Thread Cert.RefCombineIdeal.nD Cert.RefCombineIdeal.τ).loc Cert.RefCombineIdeal.main_arg9)) (m ((c.tc : Thread Cert.RefCombineIdeal.nD Cert.RefCombineIdeal.τ).loc Cert.RefCombineIdeal.main_arg10)) (m ((c.tc : Thread Cert.RefCombineIdeal.nD Cert.RefCombineIdeal.τ).loc Cert.RefCombineIdeal.main_arg11))) = (fun _ => 1#1)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1))
      ∧ r.2.sem = fun _ => 0)

def quiescent_ProjDecay [hProjDecay : Cert.ProjDecay.Facts] : Prop :=
  ∀ (m : (ℓ : Loc Cert.ProjDecay.nD Cert.ProjDecay.τ Cert.ProjDecay.sig) → Buf (Elt Bits) ℓ) (g : Dev Cert.ProjDecay.nD → PrngReg), Pre_ProjDecay m →
    θ_run (Cert.ProjDecay.defs (F := Bits)) (onTc (τ := Cert.ProjDecay.τ) (Cert.ProjDecay.main (F := Bits))) ⟨m, fun _ => 0, g⟩ (fun r => (∀ c : Dev Cert.ProjDecay.nD,
      r.2.mem ((c.tc : Thread Cert.ProjDecay.nD Cert.ProjDecay.τ).loc Cert.ProjDecay.main_arg0) = m ((c.tc : Thread Cert.ProjDecay.nD Cert.ProjDecay.τ).loc Cert.ProjDecay.main_arg0)
      ∧ r.2.mem ((c.tc : Thread Cert.ProjDecay.nD Cert.ProjDecay.τ).loc Cert.ProjDecay.main_arg1) = m ((c.tc : Thread Cert.ProjDecay.nD Cert.ProjDecay.τ).loc Cert.ProjDecay.main_arg1))
      ∧ r.2.sem = fun _ => 0)

def quiescent_ProjDecayIdeal [hProjDecayIdeal : Cert.ProjDecayIdeal.Facts] : Prop :=
  ∀ (m : (ℓ : Loc Cert.ProjDecayIdeal.nD Cert.ProjDecayIdeal.τ Cert.ProjDecayIdeal.sig) → Buf (Elt Ideal) ℓ) (g : Dev Cert.ProjDecayIdeal.nD → PrngReg), Pre_ProjDecayIdeal m →
    θ_run (Cert.ProjDecayIdeal.defs (F := Ideal)) (onTc (τ := Cert.ProjDecayIdeal.τ) (Cert.ProjDecayIdeal.main (F := Ideal))) ⟨m, fun _ => 0, g⟩ (fun r => (∀ c : Dev Cert.ProjDecayIdeal.nD,
      r.2.mem ((c.tc : Thread Cert.ProjDecayIdeal.nD Cert.ProjDecayIdeal.τ).loc Cert.ProjDecayIdeal.main_arg0) = m ((c.tc : Thread Cert.ProjDecayIdeal.nD Cert.ProjDecayIdeal.τ).loc Cert.ProjDecayIdeal.main_arg0)
      ∧ r.2.mem ((c.tc : Thread Cert.ProjDecayIdeal.nD Cert.ProjDecayIdeal.τ).loc Cert.ProjDecayIdeal.main_arg1) = m ((c.tc : Thread Cert.ProjDecayIdeal.nD Cert.ProjDecayIdeal.τ).loc Cert.ProjDecayIdeal.main_arg1))
      ∧ r.2.sem = fun _ => 0)

def quiescent_RefDecayIdeal [hRefDecayIdeal : Cert.RefDecayIdeal.Facts] : Prop :=
  ∀ (m : (ℓ : Loc Cert.RefDecayIdeal.nD Cert.RefDecayIdeal.τ Cert.RefDecayIdeal.sig) → Buf (Elt Ideal) ℓ) (g : Dev Cert.RefDecayIdeal.nD → PrngReg), Pre_RefDecayIdeal m →
    θ_run (Cert.RefDecayIdeal.defs (F := Ideal)) (onTc (τ := Cert.RefDecayIdeal.τ) (Cert.RefDecayIdeal.main (F := Ideal))) ⟨m, fun _ => 0, g⟩ (fun r => (∀ c : Dev Cert.RefDecayIdeal.nD,
      r.2.mem ((c.tc : Thread Cert.RefDecayIdeal.nD Cert.RefDecayIdeal.τ).loc Cert.RefDecayIdeal.main_arg0) = m ((c.tc : Thread Cert.RefDecayIdeal.nD Cert.RefDecayIdeal.τ).loc Cert.RefDecayIdeal.main_arg0)
      ∧ r.2.mem ((c.tc : Thread Cert.RefDecayIdeal.nD Cert.RefDecayIdeal.τ).loc Cert.RefDecayIdeal.main_arg1) = m ((c.tc : Thread Cert.RefDecayIdeal.nD Cert.RefDecayIdeal.τ).loc Cert.RefDecayIdeal.main_arg1))
      ∧ r.2.sem = fun _ => 0)

def quiescent_ProjNa [hProjNa : Cert.ProjNa.Facts] : Prop :=
  ∀ (m : (ℓ : Loc Cert.ProjNa.nD Cert.ProjNa.τ Cert.ProjNa.sig) → Buf (Elt Bits) ℓ) (g : Dev Cert.ProjNa.nD → PrngReg), Pre_ProjNa m →
    θ_run (Cert.ProjNa.defs (F := Bits)) (onTc (τ := Cert.ProjNa.τ) (Cert.ProjNa.main (F := Bits))) ⟨m, fun _ => 0, g⟩ (fun r => (∀ c : Dev Cert.ProjNa.nD,
      r.2.mem ((c.tc : Thread Cert.ProjNa.nD Cert.ProjNa.τ).loc Cert.ProjNa.main_arg0) = m ((c.tc : Thread Cert.ProjNa.nD Cert.ProjNa.τ).loc Cert.ProjNa.main_arg0)
      ∧ r.2.mem ((c.tc : Thread Cert.ProjNa.nD Cert.ProjNa.τ).loc Cert.ProjNa.main_arg1) = m ((c.tc : Thread Cert.ProjNa.nD Cert.ProjNa.τ).loc Cert.ProjNa.main_arg1))
      ∧ r.2.sem = fun _ => 0)

def quiescent_ProjNaIdeal [hProjNaIdeal : Cert.ProjNaIdeal.Facts] : Prop :=
  ∀ (m : (ℓ : Loc Cert.ProjNaIdeal.nD Cert.ProjNaIdeal.τ Cert.ProjNaIdeal.sig) → Buf (Elt Ideal) ℓ) (g : Dev Cert.ProjNaIdeal.nD → PrngReg), Pre_ProjNaIdeal m →
    θ_run (Cert.ProjNaIdeal.defs (F := Ideal)) (onTc (τ := Cert.ProjNaIdeal.τ) (Cert.ProjNaIdeal.main (F := Ideal))) ⟨m, fun _ => 0, g⟩ (fun r => (∀ c : Dev Cert.ProjNaIdeal.nD,
      r.2.mem ((c.tc : Thread Cert.ProjNaIdeal.nD Cert.ProjNaIdeal.τ).loc Cert.ProjNaIdeal.main_arg0) = m ((c.tc : Thread Cert.ProjNaIdeal.nD Cert.ProjNaIdeal.τ).loc Cert.ProjNaIdeal.main_arg0)
      ∧ r.2.mem ((c.tc : Thread Cert.ProjNaIdeal.nD Cert.ProjNaIdeal.τ).loc Cert.ProjNaIdeal.main_arg1) = m ((c.tc : Thread Cert.ProjNaIdeal.nD Cert.ProjNaIdeal.τ).loc Cert.ProjNaIdeal.main_arg1))
      ∧ r.2.sem = fun _ => 0)

def quiescent_RefNaIdeal [hRefNaIdeal : Cert.RefNaIdeal.Facts] : Prop :=
  ∀ (m : (ℓ : Loc Cert.RefNaIdeal.nD Cert.RefNaIdeal.τ Cert.RefNaIdeal.sig) → Buf (Elt Ideal) ℓ) (g : Dev Cert.RefNaIdeal.nD → PrngReg), Pre_RefNaIdeal m →
    θ_run (Cert.RefNaIdeal.defs (F := Ideal)) (onTc (τ := Cert.RefNaIdeal.τ) (Cert.RefNaIdeal.main (F := Ideal))) ⟨m, fun _ => 0, g⟩ (fun r => (∀ c : Dev Cert.RefNaIdeal.nD,
      r.2.mem ((c.tc : Thread Cert.RefNaIdeal.nD Cert.RefNaIdeal.τ).loc Cert.RefNaIdeal.main_arg0) = m ((c.tc : Thread Cert.RefNaIdeal.nD Cert.RefNaIdeal.τ).loc Cert.RefNaIdeal.main_arg0)
      ∧ r.2.mem ((c.tc : Thread Cert.RefNaIdeal.nD Cert.RefNaIdeal.τ).loc Cert.RefNaIdeal.main_arg1) = m ((c.tc : Thread Cert.RefNaIdeal.nD Cert.RefNaIdeal.τ).loc Cert.RefNaIdeal.main_arg1))
      ∧ r.2.sem = fun _ => 0)

def quiescent_ProjGates [hProjGates : Cert.ProjGates.Facts] : Prop :=
  ∀ (m : (ℓ : Loc Cert.ProjGates.nD Cert.ProjGates.τ Cert.ProjGates.sig) → Buf (Elt Bits) ℓ) (g : Dev Cert.ProjGates.nD → PrngReg), Pre_ProjGates m →
    θ_run (Cert.ProjGates.defs (F := Bits)) (onTc (τ := Cert.ProjGates.τ) (Cert.ProjGates.main (F := Bits))) ⟨m, fun _ => 0, g⟩ (fun r => (∀ c : Dev Cert.ProjGates.nD,
      r.2.mem ((c.tc : Thread Cert.ProjGates.nD Cert.ProjGates.τ).loc Cert.ProjGates.main_arg0) = m ((c.tc : Thread Cert.ProjGates.nD Cert.ProjGates.τ).loc Cert.ProjGates.main_arg0)
      ∧ r.2.mem ((c.tc : Thread Cert.ProjGates.nD Cert.ProjGates.τ).loc Cert.ProjGates.main_arg1) = m ((c.tc : Thread Cert.ProjGates.nD Cert.ProjGates.τ).loc Cert.ProjGates.main_arg1))
      ∧ r.2.sem = fun _ => 0)

def quiescent_ProjGatesIdeal [hProjGatesIdeal : Cert.ProjGatesIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg), Pre_ProjGatesIdeal m →
    θ_run (Cert.ProjGatesIdeal.defs (F := Ideal)) (onTc (τ := Cert.ProjGatesIdeal.τ) (Cert.ProjGatesIdeal.main (F := Ideal))) ⟨m, fun _ => 0, g⟩ (fun r => (∀ c : Dev Cert.ProjGatesIdeal.nD,
      r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
      ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ r.2.sem = fun _ => 0)

def quiescent_RefGatesIdeal [hRefGatesIdeal : Cert.RefGatesIdeal.Facts] : Prop :=
  ∀ (m : (ℓ : Loc Cert.RefGatesIdeal.nD Cert.RefGatesIdeal.τ Cert.RefGatesIdeal.sig) → Buf (Elt Ideal) ℓ) (g : Dev Cert.RefGatesIdeal.nD → PrngReg), Pre_RefGatesIdeal m →
    θ_run (Cert.RefGatesIdeal.defs (F := Ideal)) (onTc (τ := Cert.RefGatesIdeal.τ) (Cert.RefGatesIdeal.main (F := Ideal))) ⟨m, fun _ => 0, g⟩ (fun r => (∀ c : Dev Cert.RefGatesIdeal.nD,
      r.2.mem ((c.tc : Thread Cert.RefGatesIdeal.nD Cert.RefGatesIdeal.τ).loc Cert.RefGatesIdeal.main_arg0) = m ((c.tc : Thread Cert.RefGatesIdeal.nD Cert.RefGatesIdeal.τ).loc Cert.RefGatesIdeal.main_arg0)
      ∧ r.2.mem ((c.tc : Thread Cert.RefGatesIdeal.nD Cert.RefGatesIdeal.τ).loc Cert.RefGatesIdeal.main_arg1) = m ((c.tc : Thread Cert.RefGatesIdeal.nD Cert.RefGatesIdeal.τ).loc Cert.RefGatesIdeal.main_arg1))
      ∧ r.2.sem = fun _ => 0)

def quiescent_Experts [hExperts : Cert.Experts.Facts] [hPre_planned : Cert.Pre_planned.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_planned : Cert.Pre_planned.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_RefExpertsIdeal [hRefExpertsIdeal : Cert.RefExpertsIdeal.Facts] : Prop :=
  ∀ (m : (ℓ : Loc Cert.RefExpertsIdeal.nD Cert.RefExpertsIdeal.τ Cert.RefExpertsIdeal.sig) → Buf (Elt Ideal) ℓ) (g : Dev Cert.RefExpertsIdeal.nD → PrngReg), Pre_RefExpertsIdeal m →
    θ_run (Cert.RefExpertsIdeal.defs (F := Ideal)) (onTc (τ := Cert.RefExpertsIdeal.τ) (Cert.RefExpertsIdeal.main (F := Ideal))) ⟨m, fun _ => 0, g⟩ (fun r => (∀ c : Dev Cert.RefExpertsIdeal.nD,
      r.2.mem ((c.tc : Thread Cert.RefExpertsIdeal.nD Cert.RefExpertsIdeal.τ).loc Cert.RefExpertsIdeal.main_arg0) = m ((c.tc : Thread Cert.RefExpertsIdeal.nD Cert.RefExpertsIdeal.τ).loc Cert.RefExpertsIdeal.main_arg0)
      ∧ r.2.mem ((c.tc : Thread Cert.RefExpertsIdeal.nD Cert.RefExpertsIdeal.τ).loc Cert.RefExpertsIdeal.main_arg1) = m ((c.tc : Thread Cert.RefExpertsIdeal.nD Cert.RefExpertsIdeal.τ).loc Cert.RefExpertsIdeal.main_arg1)
      ∧ r.2.mem ((c.tc : Thread Cert.RefExpertsIdeal.nD Cert.RefExpertsIdeal.τ).loc Cert.RefExpertsIdeal.main_arg2) = m ((c.tc : Thread Cert.RefExpertsIdeal.nD Cert.RefExpertsIdeal.τ).loc Cert.RefExpertsIdeal.main_arg2)
      ∧ r.2.mem ((c.tc : Thread Cert.RefExpertsIdeal.nD Cert.RefExpertsIdeal.τ).loc Cert.RefExpertsIdeal.main_arg3) = m ((c.tc : Thread Cert.RefExpertsIdeal.nD Cert.RefExpertsIdeal.τ).loc Cert.RefExpertsIdeal.main_arg3)
      ∧ r.2.mem ((c.tc : Thread Cert.RefExpertsIdeal.nD Cert.RefExpertsIdeal.τ).loc Cert.RefExpertsIdeal.main_arg4) = m ((c.tc : Thread Cert.RefExpertsIdeal.nD Cert.RefExpertsIdeal.τ).loc Cert.RefExpertsIdeal.main_arg4)
      ∧ r.2.mem ((c.tc : Thread Cert.RefExpertsIdeal.nD Cert.RefExpertsIdeal.τ).loc Cert.RefExpertsIdeal.main_arg5) = m ((c.tc : Thread Cert.RefExpertsIdeal.nD Cert.RefExpertsIdeal.τ).loc Cert.RefExpertsIdeal.main_arg5)
      ∧ r.2.mem ((c.tc : Thread Cert.RefExpertsIdeal.nD Cert.RefExpertsIdeal.τ).loc Cert.RefExpertsIdeal.main_arg6) = m ((c.tc : Thread Cert.RefExpertsIdeal.nD Cert.RefExpertsIdeal.τ).loc Cert.RefExpertsIdeal.main_arg6)
      ∧ r.2.mem ((c.tc : Thread Cert.RefExpertsIdeal.nD Cert.RefExpertsIdeal.τ).loc Cert.RefExpertsIdeal.main_arg7) = m ((c.tc : Thread Cert.RefExpertsIdeal.nD Cert.RefExpertsIdeal.τ).loc Cert.RefExpertsIdeal.main_arg7))
      ∧ r.2.sem = fun _ => 0)

def quiescent_RefExpertsIdeal_pre_planned [hRefExpertsIdeal : Cert.RefExpertsIdeal.Facts] [hPre_planned : Cert.Pre_planned.Facts] : Prop :=
  ∀ (m : (ℓ : Loc Cert.RefExpertsIdeal.nD Cert.RefExpertsIdeal.τ Cert.RefExpertsIdeal.sig) → Buf (Elt Ideal) ℓ) (g : Dev Cert.RefExpertsIdeal.nD → PrngReg), Pre_RefExpertsIdeal_planned m →
    θ_run (Cert.RefExpertsIdeal.defs (F := Ideal)) (onTc (τ := Cert.RefExpertsIdeal.τ) (Cert.RefExpertsIdeal.main (F := Ideal))) ⟨m, fun _ => 0, g⟩ (fun r => (∀ c : Dev Cert.RefExpertsIdeal.nD,
      r.2.mem ((c.tc : Thread Cert.RefExpertsIdeal.nD Cert.RefExpertsIdeal.τ).loc Cert.RefExpertsIdeal.main_arg0) = m ((c.tc : Thread Cert.RefExpertsIdeal.nD Cert.RefExpertsIdeal.τ).loc Cert.RefExpertsIdeal.main_arg0)
      ∧ r.2.mem ((c.tc : Thread Cert.RefExpertsIdeal.nD Cert.RefExpertsIdeal.τ).loc Cert.RefExpertsIdeal.main_arg1) = m ((c.tc : Thread Cert.RefExpertsIdeal.nD Cert.RefExpertsIdeal.τ).loc Cert.RefExpertsIdeal.main_arg1)
      ∧ r.2.mem ((c.tc : Thread Cert.RefExpertsIdeal.nD Cert.RefExpertsIdeal.τ).loc Cert.RefExpertsIdeal.main_arg2) = m ((c.tc : Thread Cert.RefExpertsIdeal.nD Cert.RefExpertsIdeal.τ).loc Cert.RefExpertsIdeal.main_arg2)
      ∧ r.2.mem ((c.tc : Thread Cert.RefExpertsIdeal.nD Cert.RefExpertsIdeal.τ).loc Cert.RefExpertsIdeal.main_arg3) = m ((c.tc : Thread Cert.RefExpertsIdeal.nD Cert.RefExpertsIdeal.τ).loc Cert.RefExpertsIdeal.main_arg3)
      ∧ r.2.mem ((c.tc : Thread Cert.RefExpertsIdeal.nD Cert.RefExpertsIdeal.τ).loc Cert.RefExpertsIdeal.main_arg4) = m ((c.tc : Thread Cert.RefExpertsIdeal.nD Cert.RefExpertsIdeal.τ).loc Cert.RefExpertsIdeal.main_arg4)
      ∧ r.2.mem ((c.tc : Thread Cert.RefExpertsIdeal.nD Cert.RefExpertsIdeal.τ).loc Cert.RefExpertsIdeal.main_arg5) = m ((c.tc : Thread Cert.RefExpertsIdeal.nD Cert.RefExpertsIdeal.τ).loc Cert.RefExpertsIdeal.main_arg5)
      ∧ r.2.mem ((c.tc : Thread Cert.RefExpertsIdeal.nD Cert.RefExpertsIdeal.τ).loc Cert.RefExpertsIdeal.main_arg6) = m ((c.tc : Thread Cert.RefExpertsIdeal.nD Cert.RefExpertsIdeal.τ).loc Cert.RefExpertsIdeal.main_arg6)
      ∧ r.2.mem ((c.tc : Thread Cert.RefExpertsIdeal.nD Cert.RefExpertsIdeal.τ).loc Cert.RefExpertsIdeal.main_arg7) = m ((c.tc : Thread Cert.RefExpertsIdeal.nD Cert.RefExpertsIdeal.τ).loc Cert.RefExpertsIdeal.main_arg7))
      ∧ r.2.sem = fun _ => 0)

def quiescent_Combine [hCombine : Cert.Combine.Facts] [hPre_paired : Cert.Pre_paired.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7)
      ∧ r.2.mem ((c.tc : Thread Cert.Combine.nD Cert.Combine.τ).loc Cert.Combine.main_arg8) = m ((c.tc : Thread Cert.Combine.nD Cert.Combine.τ).loc Cert.Combine.main_arg8)
      ∧ r.2.mem ((c.tc : Thread Cert.Combine.nD Cert.Combine.τ).loc Cert.Combine.main_arg9) = m ((c.tc : Thread Cert.Combine.nD Cert.Combine.τ).loc Cert.Combine.main_arg9)
      ∧ r.2.mem ((c.tc : Thread Cert.Combine.nD Cert.Combine.τ).loc Cert.Combine.main_arg10) = m ((c.tc : Thread Cert.Combine.nD Cert.Combine.τ).loc Cert.Combine.main_arg10)
      ∧ r.2.mem ((c.tc : Thread Cert.Combine.nD Cert.Combine.τ).loc Cert.Combine.main_arg11) = m ((c.tc : Thread Cert.Combine.nD Cert.Combine.τ).loc Cert.Combine.main_arg11))
      ∧ r.2.sem = fun _ => 0)

def quiescent_CombineIdeal [hCombineIdeal : Cert.CombineIdeal.Facts] [hPre_paired : Cert.Pre_paired.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
      ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9)
      ∧ r.2.mem ((c.tc : Thread Cert.CombineIdeal.nD Cert.CombineIdeal.τ).loc Cert.CombineIdeal.main_arg10) = m ((c.tc : Thread Cert.CombineIdeal.nD Cert.CombineIdeal.τ).loc Cert.CombineIdeal.main_arg10)
      ∧ r.2.mem ((c.tc : Thread Cert.CombineIdeal.nD Cert.CombineIdeal.τ).loc Cert.CombineIdeal.main_arg11) = m ((c.tc : Thread Cert.CombineIdeal.nD Cert.CombineIdeal.τ).loc Cert.CombineIdeal.main_arg11))
      ∧ r.2.sem = fun _ => 0)

def quiescent_RefCombineIdeal [hRefCombineIdeal : Cert.RefCombineIdeal.Facts] : Prop :=
  ∀ (m : (ℓ : Loc Cert.RefCombineIdeal.nD Cert.RefCombineIdeal.τ Cert.RefCombineIdeal.sig) → Buf (Elt Ideal) ℓ) (g : Dev Cert.RefCombineIdeal.nD → PrngReg), Pre_RefCombineIdeal m →
    θ_run (Cert.RefCombineIdeal.defs (F := Ideal)) (onTc (τ := Cert.RefCombineIdeal.τ) (Cert.RefCombineIdeal.main (F := Ideal))) ⟨m, fun _ => 0, g⟩ (fun r => (∀ c : Dev Cert.RefCombineIdeal.nD,
      r.2.mem ((c.tc : Thread Cert.RefCombineIdeal.nD Cert.RefCombineIdeal.τ).loc Cert.RefCombineIdeal.main_arg0) = m ((c.tc : Thread Cert.RefCombineIdeal.nD Cert.RefCombineIdeal.τ).loc Cert.RefCombineIdeal.main_arg0)
      ∧ r.2.mem ((c.tc : Thread Cert.RefCombineIdeal.nD Cert.RefCombineIdeal.τ).loc Cert.RefCombineIdeal.main_arg1) = m ((c.tc : Thread Cert.RefCombineIdeal.nD Cert.RefCombineIdeal.τ).loc Cert.RefCombineIdeal.main_arg1)
      ∧ r.2.mem ((c.tc : Thread Cert.RefCombineIdeal.nD Cert.RefCombineIdeal.τ).loc Cert.RefCombineIdeal.main_arg2) = m ((c.tc : Thread Cert.RefCombineIdeal.nD Cert.RefCombineIdeal.τ).loc Cert.RefCombineIdeal.main_arg2)
      ∧ r.2.mem ((c.tc : Thread Cert.RefCombineIdeal.nD Cert.RefCombineIdeal.τ).loc Cert.RefCombineIdeal.main_arg3) = m ((c.tc : Thread Cert.RefCombineIdeal.nD Cert.RefCombineIdeal.τ).loc Cert.RefCombineIdeal.main_arg3)
      ∧ r.2.mem ((c.tc : Thread Cert.RefCombineIdeal.nD Cert.RefCombineIdeal.τ).loc Cert.RefCombineIdeal.main_arg4) = m ((c.tc : Thread Cert.RefCombineIdeal.nD Cert.RefCombineIdeal.τ).loc Cert.RefCombineIdeal.main_arg4)
      ∧ r.2.mem ((c.tc : Thread Cert.RefCombineIdeal.nD Cert.RefCombineIdeal.τ).loc Cert.RefCombineIdeal.main_arg5) = m ((c.tc : Thread Cert.RefCombineIdeal.nD Cert.RefCombineIdeal.τ).loc Cert.RefCombineIdeal.main_arg5)
      ∧ r.2.mem ((c.tc : Thread Cert.RefCombineIdeal.nD Cert.RefCombineIdeal.τ).loc Cert.RefCombineIdeal.main_arg6) = m ((c.tc : Thread Cert.RefCombineIdeal.nD Cert.RefCombineIdeal.τ).loc Cert.RefCombineIdeal.main_arg6)
      ∧ r.2.mem ((c.tc : Thread Cert.RefCombineIdeal.nD Cert.RefCombineIdeal.τ).loc Cert.RefCombineIdeal.main_arg7) = m ((c.tc : Thread Cert.RefCombineIdeal.nD Cert.RefCombineIdeal.τ).loc Cert.RefCombineIdeal.main_arg7)
      ∧ r.2.mem ((c.tc : Thread Cert.RefCombineIdeal.nD Cert.RefCombineIdeal.τ).loc Cert.RefCombineIdeal.main_arg8) = m ((c.tc : Thread Cert.RefCombineIdeal.nD Cert.RefCombineIdeal.τ).loc Cert.RefCombineIdeal.main_arg8)
      ∧ r.2.mem ((c.tc : Thread Cert.RefCombineIdeal.nD Cert.RefCombineIdeal.τ).loc Cert.RefCombineIdeal.main_arg9) = m ((c.tc : Thread Cert.RefCombineIdeal.nD Cert.RefCombineIdeal.τ).loc Cert.RefCombineIdeal.main_arg9)
      ∧ r.2.mem ((c.tc : Thread Cert.RefCombineIdeal.nD Cert.RefCombineIdeal.τ).loc Cert.RefCombineIdeal.main_arg10) = m ((c.tc : Thread Cert.RefCombineIdeal.nD Cert.RefCombineIdeal.τ).loc Cert.RefCombineIdeal.main_arg10)
      ∧ r.2.mem ((c.tc : Thread Cert.RefCombineIdeal.nD Cert.RefCombineIdeal.τ).loc Cert.RefCombineIdeal.main_arg11) = m ((c.tc : Thread Cert.RefCombineIdeal.nD Cert.RefCombineIdeal.τ).loc Cert.RefCombineIdeal.main_arg11))
      ∧ r.2.sem = fun _ => 0)

def quiescent_RefCombineIdeal_pre_paired [hRefCombineIdeal : Cert.RefCombineIdeal.Facts] [hPre_paired : Cert.Pre_paired.Facts] : Prop :=
  ∀ (m : (ℓ : Loc Cert.RefCombineIdeal.nD Cert.RefCombineIdeal.τ Cert.RefCombineIdeal.sig) → Buf (Elt Ideal) ℓ) (g : Dev Cert.RefCombineIdeal.nD → PrngReg), Pre_RefCombineIdeal_paired m →
    θ_run (Cert.RefCombineIdeal.defs (F := Ideal)) (onTc (τ := Cert.RefCombineIdeal.τ) (Cert.RefCombineIdeal.main (F := Ideal))) ⟨m, fun _ => 0, g⟩ (fun r => (∀ c : Dev Cert.RefCombineIdeal.nD,
      r.2.mem ((c.tc : Thread Cert.RefCombineIdeal.nD Cert.RefCombineIdeal.τ).loc Cert.RefCombineIdeal.main_arg0) = m ((c.tc : Thread Cert.RefCombineIdeal.nD Cert.RefCombineIdeal.τ).loc Cert.RefCombineIdeal.main_arg0)
      ∧ r.2.mem ((c.tc : Thread Cert.RefCombineIdeal.nD Cert.RefCombineIdeal.τ).loc Cert.RefCombineIdeal.main_arg1) = m ((c.tc : Thread Cert.RefCombineIdeal.nD Cert.RefCombineIdeal.τ).loc Cert.RefCombineIdeal.main_arg1)
      ∧ r.2.mem ((c.tc : Thread Cert.RefCombineIdeal.nD Cert.RefCombineIdeal.τ).loc Cert.RefCombineIdeal.main_arg2) = m ((c.tc : Thread Cert.RefCombineIdeal.nD Cert.RefCombineIdeal.τ).loc Cert.RefCombineIdeal.main_arg2)
      ∧ r.2.mem ((c.tc : Thread Cert.RefCombineIdeal.nD Cert.RefCombineIdeal.τ).loc Cert.RefCombineIdeal.main_arg3) = m ((c.tc : Thread Cert.RefCombineIdeal.nD Cert.RefCombineIdeal.τ).loc Cert.RefCombineIdeal.main_arg3)
      ∧ r.2.mem ((c.tc : Thread Cert.RefCombineIdeal.nD Cert.RefCombineIdeal.τ).loc Cert.RefCombineIdeal.main_arg4) = m ((c.tc : Thread Cert.RefCombineIdeal.nD Cert.RefCombineIdeal.τ).loc Cert.RefCombineIdeal.main_arg4)
      ∧ r.2.mem ((c.tc : Thread Cert.RefCombineIdeal.nD Cert.RefCombineIdeal.τ).loc Cert.RefCombineIdeal.main_arg5) = m ((c.tc : Thread Cert.RefCombineIdeal.nD Cert.RefCombineIdeal.τ).loc Cert.RefCombineIdeal.main_arg5)
      ∧ r.2.mem ((c.tc : Thread Cert.RefCombineIdeal.nD Cert.RefCombineIdeal.τ).loc Cert.RefCombineIdeal.main_arg6) = m ((c.tc : Thread Cert.RefCombineIdeal.nD Cert.RefCombineIdeal.τ).loc Cert.RefCombineIdeal.main_arg6)
      ∧ r.2.mem ((c.tc : Thread Cert.RefCombineIdeal.nD Cert.RefCombineIdeal.τ).loc Cert.RefCombineIdeal.main_arg7) = m ((c.tc : Thread Cert.RefCombineIdeal.nD Cert.RefCombineIdeal.τ).loc Cert.RefCombineIdeal.main_arg7)
      ∧ r.2.mem ((c.tc : Thread Cert.RefCombineIdeal.nD Cert.RefCombineIdeal.τ).loc Cert.RefCombineIdeal.main_arg8) = m ((c.tc : Thread Cert.RefCombineIdeal.nD Cert.RefCombineIdeal.τ).loc Cert.RefCombineIdeal.main_arg8)
      ∧ r.2.mem ((c.tc : Thread Cert.RefCombineIdeal.nD Cert.RefCombineIdeal.τ).loc Cert.RefCombineIdeal.main_arg9) = m ((c.tc : Thread Cert.RefCombineIdeal.nD Cert.RefCombineIdeal.τ).loc Cert.RefCombineIdeal.main_arg9)
      ∧ r.2.mem ((c.tc : Thread Cert.RefCombineIdeal.nD Cert.RefCombineIdeal.τ).loc Cert.RefCombineIdeal.main_arg10) = m ((c.tc : Thread Cert.RefCombineIdeal.nD Cert.RefCombineIdeal.τ).loc Cert.RefCombineIdeal.main_arg10)
      ∧ r.2.mem ((c.tc : Thread Cert.RefCombineIdeal.nD Cert.RefCombineIdeal.τ).loc Cert.RefCombineIdeal.main_arg11) = m ((c.tc : Thread Cert.RefCombineIdeal.nD Cert.RefCombineIdeal.τ).loc Cert.RefCombineIdeal.main_arg11))
      ∧ r.2.sem = fun _ => 0)

def preserves_ProjIn_ProjInIdeal : Prop :=
  True

def algebraic_ProjInIdeal_RefInIdeal [hProjInIdeal : Cert.ProjInIdeal.Facts] [hRefInIdeal : Cert.RefInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.RefInIdeal.nD Cert.RefInIdeal.τ Cert.RefInIdeal.sig) → Buf (Elt Ideal) ℓ) (g' : Dev Cert.RefInIdeal.nD → PrngReg), Pre_ProjInIdeal m →
    (∀ c : Dev Cert.ProjInIdeal.nD,
      m' ((c.tc : Thread Cert.RefInIdeal.nD Cert.RefInIdeal.τ).loc Cert.RefInIdeal.main_arg0) = m ((c.tc : Thread Cert.ProjInIdeal.nD Cert.ProjInIdeal.τ).loc Cert.ProjInIdeal.main_arg0)
      ∧ m' ((c.tc : Thread Cert.RefInIdeal.nD Cert.RefInIdeal.τ).loc Cert.RefInIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v1)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v1) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v4) = v0 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1))

def preserves_ProjDecay_ProjDecayIdeal : Prop :=
  True

def algebraic_ProjDecayIdeal_RefDecayIdeal [hProjDecayIdeal : Cert.ProjDecayIdeal.Facts] [hRefDecayIdeal : Cert.RefDecayIdeal.Facts] : Prop :=
  ∀ (m : (ℓ : Loc Cert.ProjDecayIdeal.nD Cert.ProjDecayIdeal.τ Cert.ProjDecayIdeal.sig) → Buf (Elt Ideal) ℓ) (g : Dev Cert.ProjDecayIdeal.nD → PrngReg)
    (m' : (ℓ : Loc Cert.RefDecayIdeal.nD Cert.RefDecayIdeal.τ Cert.RefDecayIdeal.sig) → Buf (Elt Ideal) ℓ) (g' : Dev Cert.RefDecayIdeal.nD → PrngReg), Pre_ProjDecayIdeal m →
    (∀ c : Dev Cert.ProjDecayIdeal.nD,
      m' ((c.tc : Thread Cert.RefDecayIdeal.nD Cert.RefDecayIdeal.τ).loc Cert.RefDecayIdeal.main_arg0) = m ((c.tc : Thread Cert.ProjDecayIdeal.nD Cert.ProjDecayIdeal.τ).loc Cert.ProjDecayIdeal.main_arg0)
      ∧ m' ((c.tc : Thread Cert.RefDecayIdeal.nD Cert.RefDecayIdeal.τ).loc Cert.RefDecayIdeal.main_arg1) = m ((c.tc : Thread Cert.ProjDecayIdeal.nD Cert.ProjDecayIdeal.τ).loc Cert.ProjDecayIdeal.main_arg1)) →
    ∃ (v0 : (c : Dev Cert.ProjDecayIdeal.nD) → Buf (Elt Ideal) ((c.tc : Thread Cert.ProjDecayIdeal.nD Cert.ProjDecayIdeal.τ).loc Cert.ProjDecayIdeal.main_v1)),
      θ_run (Cert.ProjDecayIdeal.defs (F := Ideal)) (onTc (τ := Cert.ProjDecayIdeal.τ) (Cert.ProjDecayIdeal.main (F := Ideal))) ⟨m, fun _ => 0, g⟩ (fun r => ∀ c : Dev Cert.ProjDecayIdeal.nD,
          r.2.mem ((c.tc : Thread Cert.ProjDecayIdeal.nD Cert.ProjDecayIdeal.τ).loc Cert.ProjDecayIdeal.main_v1) = v0 c
          ∧ r.2.mem ((c.tc : Thread Cert.ProjDecayIdeal.nD Cert.ProjDecayIdeal.τ).loc Cert.ProjDecayIdeal.main_arg0) = m ((c.tc : Thread Cert.ProjDecayIdeal.nD Cert.ProjDecayIdeal.τ).loc Cert.ProjDecayIdeal.main_arg0)
          ∧ r.2.mem ((c.tc : Thread Cert.ProjDecayIdeal.nD Cert.ProjDecayIdeal.τ).loc Cert.ProjDecayIdeal.main_arg1) = m ((c.tc : Thread Cert.ProjDecayIdeal.nD Cert.ProjDecayIdeal.τ).loc Cert.ProjDecayIdeal.main_arg1))
      ∧ θ_run (Cert.RefDecayIdeal.defs (F := Ideal)) (onTc (τ := Cert.RefDecayIdeal.τ) (Cert.RefDecayIdeal.main (F := Ideal))) ⟨m', fun _ => 0, g'⟩ (fun r => ∀ c : Dev Cert.RefDecayIdeal.nD,
          r.2.mem ((c.tc : Thread Cert.RefDecayIdeal.nD Cert.RefDecayIdeal.τ).loc Cert.RefDecayIdeal.main_v4) = v0 c
          ∧ r.2.mem ((c.tc : Thread Cert.RefDecayIdeal.nD Cert.RefDecayIdeal.τ).loc Cert.RefDecayIdeal.main_arg0) = m' ((c.tc : Thread Cert.RefDecayIdeal.nD Cert.RefDecayIdeal.τ).loc Cert.RefDecayIdeal.main_arg0)
          ∧ r.2.mem ((c.tc : Thread Cert.RefDecayIdeal.nD Cert.RefDecayIdeal.τ).loc Cert.RefDecayIdeal.main_arg1) = m' ((c.tc : Thread Cert.RefDecayIdeal.nD Cert.RefDecayIdeal.τ).loc Cert.RefDecayIdeal.main_arg1))

def preserves_ProjNa_ProjNaIdeal : Prop :=
  True

def algebraic_ProjNaIdeal_RefNaIdeal [hProjNaIdeal : Cert.ProjNaIdeal.Facts] [hRefNaIdeal : Cert.RefNaIdeal.Facts] : Prop :=
  ∀ (m : (ℓ : Loc Cert.ProjNaIdeal.nD Cert.ProjNaIdeal.τ Cert.ProjNaIdeal.sig) → Buf (Elt Ideal) ℓ) (g : Dev Cert.ProjNaIdeal.nD → PrngReg)
    (m' : (ℓ : Loc Cert.RefNaIdeal.nD Cert.RefNaIdeal.τ Cert.RefNaIdeal.sig) → Buf (Elt Ideal) ℓ) (g' : Dev Cert.RefNaIdeal.nD → PrngReg), Pre_ProjNaIdeal m →
    (∀ c : Dev Cert.ProjNaIdeal.nD,
      m' ((c.tc : Thread Cert.RefNaIdeal.nD Cert.RefNaIdeal.τ).loc Cert.RefNaIdeal.main_arg0) = m ((c.tc : Thread Cert.ProjNaIdeal.nD Cert.ProjNaIdeal.τ).loc Cert.ProjNaIdeal.main_arg0)
      ∧ m' ((c.tc : Thread Cert.RefNaIdeal.nD Cert.RefNaIdeal.τ).loc Cert.RefNaIdeal.main_arg1) = m ((c.tc : Thread Cert.ProjNaIdeal.nD Cert.ProjNaIdeal.τ).loc Cert.ProjNaIdeal.main_arg1)) →
    ∃ (v0 : (c : Dev Cert.ProjNaIdeal.nD) → Buf (Elt Ideal) ((c.tc : Thread Cert.ProjNaIdeal.nD Cert.ProjNaIdeal.τ).loc Cert.ProjNaIdeal.main_v1)),
      θ_run (Cert.ProjNaIdeal.defs (F := Ideal)) (onTc (τ := Cert.ProjNaIdeal.τ) (Cert.ProjNaIdeal.main (F := Ideal))) ⟨m, fun _ => 0, g⟩ (fun r => ∀ c : Dev Cert.ProjNaIdeal.nD,
          r.2.mem ((c.tc : Thread Cert.ProjNaIdeal.nD Cert.ProjNaIdeal.τ).loc Cert.ProjNaIdeal.main_v1) = v0 c
          ∧ r.2.mem ((c.tc : Thread Cert.ProjNaIdeal.nD Cert.ProjNaIdeal.τ).loc Cert.ProjNaIdeal.main_arg0) = m ((c.tc : Thread Cert.ProjNaIdeal.nD Cert.ProjNaIdeal.τ).loc Cert.ProjNaIdeal.main_arg0)
          ∧ r.2.mem ((c.tc : Thread Cert.ProjNaIdeal.nD Cert.ProjNaIdeal.τ).loc Cert.ProjNaIdeal.main_arg1) = m ((c.tc : Thread Cert.ProjNaIdeal.nD Cert.ProjNaIdeal.τ).loc Cert.ProjNaIdeal.main_arg1))
      ∧ θ_run (Cert.RefNaIdeal.defs (F := Ideal)) (onTc (τ := Cert.RefNaIdeal.τ) (Cert.RefNaIdeal.main (F := Ideal))) ⟨m', fun _ => 0, g'⟩ (fun r => ∀ c : Dev Cert.RefNaIdeal.nD,
          r.2.mem ((c.tc : Thread Cert.RefNaIdeal.nD Cert.RefNaIdeal.τ).loc Cert.RefNaIdeal.main_v9) = v0 c
          ∧ r.2.mem ((c.tc : Thread Cert.RefNaIdeal.nD Cert.RefNaIdeal.τ).loc Cert.RefNaIdeal.main_arg0) = m' ((c.tc : Thread Cert.RefNaIdeal.nD Cert.RefNaIdeal.τ).loc Cert.RefNaIdeal.main_arg0)
          ∧ r.2.mem ((c.tc : Thread Cert.RefNaIdeal.nD Cert.RefNaIdeal.τ).loc Cert.RefNaIdeal.main_arg1) = m' ((c.tc : Thread Cert.RefNaIdeal.nD Cert.RefNaIdeal.τ).loc Cert.RefNaIdeal.main_arg1))

def preserves_ProjGates_ProjGatesIdeal : Prop :=
  True

def algebraic_ProjGatesIdeal_RefGatesIdeal [hProjGatesIdeal : Cert.ProjGatesIdeal.Facts] [hRefGatesIdeal : Cert.RefGatesIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg)
    (m' : (ℓ : Loc Cert.RefGatesIdeal.nD Cert.RefGatesIdeal.τ Cert.RefGatesIdeal.sig) → Buf (Elt Ideal) ℓ) (g' : Dev Cert.RefGatesIdeal.nD → PrngReg), Pre_ProjGatesIdeal m →
    (∀ c : Dev Cert.ProjGatesIdeal.nD,
      m' ((c.tc : Thread Cert.RefGatesIdeal.nD Cert.RefGatesIdeal.τ).loc Cert.RefGatesIdeal.main_arg0) = m ((c.tc : Thread Cert.ProjGatesIdeal.nD Cert.ProjGatesIdeal.τ).loc Cert.ProjGatesIdeal.main_arg0)
      ∧ m' ((c.tc : Thread Cert.RefGatesIdeal.nD Cert.RefGatesIdeal.τ).loc Cert.RefGatesIdeal.main_arg1) = m ((c.tc : Thread Cert.ProjGatesIdeal.nD Cert.ProjGatesIdeal.τ).loc Cert.ProjGatesIdeal.main_arg1)) →
    ∃ (v0 : (c : Dev Cert.ProjGatesIdeal.nD) → Buf (Elt Ideal) ((c.tc : Thread Cert.ProjGatesIdeal.nD Cert.ProjGatesIdeal.τ).loc Cert.ProjGatesIdeal.main_v1)),
      θ_run (Cert.ProjGatesIdeal.defs (F := Ideal)) (onTc (τ := Cert.ProjGatesIdeal.τ) (Cert.ProjGatesIdeal.main (F := Ideal))) ⟨m, fun _ => 0, g⟩ (fun r => ∀ c : Dev Cert.ProjGatesIdeal.nD,
          r.2.mem ((c.tc : Thread Cert.ProjGatesIdeal.nD Cert.ProjGatesIdeal.τ).loc Cert.ProjGatesIdeal.main_v1) = v0 c
          ∧ r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
          ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ θ_run (Cert.RefGatesIdeal.defs (F := Ideal)) (onTc (τ := Cert.RefGatesIdeal.τ) (Cert.RefGatesIdeal.main (F := Ideal))) ⟨m', fun _ => 0, g'⟩ (fun r => ∀ c : Dev Cert.RefGatesIdeal.nD,
          r.2.mem ((c.tc : Thread Cert.RefGatesIdeal.nD Cert.RefGatesIdeal.τ).loc Cert.RefGatesIdeal.main_v4) = v0 c
          ∧ r.2.mem ((c.tc : Thread Cert.RefGatesIdeal.nD Cert.RefGatesIdeal.τ).loc Cert.RefGatesIdeal.main_arg0) = m' ((c.tc : Thread Cert.RefGatesIdeal.nD Cert.RefGatesIdeal.τ).loc Cert.RefGatesIdeal.main_arg0)
          ∧ r.2.mem ((c.tc : Thread Cert.RefGatesIdeal.nD Cert.RefGatesIdeal.τ).loc Cert.RefGatesIdeal.main_arg1) = m' ((c.tc : Thread Cert.RefGatesIdeal.nD Cert.RefGatesIdeal.τ).loc Cert.RefGatesIdeal.main_arg1))

def preserves_Experts_ExpertsIdeal : Prop :=
  True

def algebraic_ExpertsIdeal_RefExpertsIdeal_on_filled [hExpertsIdeal : Cert.ExpertsIdeal.Facts] [hRefExpertsIdeal : Cert.RefExpertsIdeal.Facts] [hPre_planned : Cert.Pre_planned.Facts] [hOn_filled : Cert.On_filled.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.RefExpertsIdeal.nD Cert.RefExpertsIdeal.τ Cert.RefExpertsIdeal.sig) → Buf (Elt Ideal) ℓ) (g' : Dev Cert.RefExpertsIdeal.nD → PrngReg), Pre_ExpertsIdeal m →
    (∀ c : Dev Cert.ExpertsIdeal.nD,
      m' ((c.tc : Thread Cert.RefExpertsIdeal.nD Cert.RefExpertsIdeal.τ).loc Cert.RefExpertsIdeal.main_arg0) = m ((c.tc : Thread Cert.ExpertsIdeal.nD Cert.ExpertsIdeal.τ).loc Cert.ExpertsIdeal.main_arg0)
      ∧ m' ((c.tc : Thread Cert.RefExpertsIdeal.nD Cert.RefExpertsIdeal.τ).loc Cert.RefExpertsIdeal.main_arg1) = m ((c.tc : Thread Cert.ExpertsIdeal.nD Cert.ExpertsIdeal.τ).loc Cert.ExpertsIdeal.main_arg1)
      ∧ m' ((c.tc : Thread Cert.RefExpertsIdeal.nD Cert.RefExpertsIdeal.τ).loc Cert.RefExpertsIdeal.main_arg2) = m ((c.tc : Thread Cert.ExpertsIdeal.nD Cert.ExpertsIdeal.τ).loc Cert.ExpertsIdeal.main_arg2)
      ∧ m' ((c.tc : Thread Cert.RefExpertsIdeal.nD Cert.RefExpertsIdeal.τ).loc Cert.RefExpertsIdeal.main_arg3) = m ((c.tc : Thread Cert.ExpertsIdeal.nD Cert.ExpertsIdeal.τ).loc Cert.ExpertsIdeal.main_arg3)
      ∧ m' ((c.tc : Thread Cert.RefExpertsIdeal.nD Cert.RefExpertsIdeal.τ).loc Cert.RefExpertsIdeal.main_arg4) = m ((c.tc : Thread Cert.ExpertsIdeal.nD Cert.ExpertsIdeal.τ).loc Cert.ExpertsIdeal.main_arg4)
      ∧ m' ((c.tc : Thread Cert.RefExpertsIdeal.nD Cert.RefExpertsIdeal.τ).loc Cert.RefExpertsIdeal.main_arg5) = m ((c.tc : Thread Cert.ExpertsIdeal.nD Cert.ExpertsIdeal.τ).loc Cert.ExpertsIdeal.main_arg5)
      ∧ m' ((c.tc : Thread Cert.RefExpertsIdeal.nD Cert.RefExpertsIdeal.τ).loc Cert.RefExpertsIdeal.main_arg6) = m ((c.tc : Thread Cert.ExpertsIdeal.nD Cert.ExpertsIdeal.τ).loc Cert.ExpertsIdeal.main_arg6)
      ∧ m' ((c.tc : Thread Cert.RefExpertsIdeal.nD Cert.RefExpertsIdeal.τ).loc Cert.RefExpertsIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![34560, 2048]⟩ : Shape).Idx, (Cert.On_filled.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.RefExpertsIdeal.defs (F := Ideal)) (onTc (τ := Cert.RefExpertsIdeal.τ) (Cert.RefExpertsIdeal.main (F := Ideal))) ⟨m', fun _ => 0, g'⟩ (fun r => ∀ c : Dev Cert.RefExpertsIdeal.nD,
          (∀ i : (⟨2, ![34560, 2048]⟩ : Shape).Idx, (Cert.On_filled.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) i = 1#1 → r.2.mem ((c.tc : Thread Cert.RefExpertsIdeal.nD Cert.RefExpertsIdeal.τ).loc Cert.RefExpertsIdeal.main_v149) i = v0 c i)
          ∧ r.2.mem ((c.tc : Thread Cert.RefExpertsIdeal.nD Cert.RefExpertsIdeal.τ).loc Cert.RefExpertsIdeal.main_arg0) = m' ((c.tc : Thread Cert.RefExpertsIdeal.nD Cert.RefExpertsIdeal.τ).loc Cert.RefExpertsIdeal.main_arg0)
          ∧ r.2.mem ((c.tc : Thread Cert.RefExpertsIdeal.nD Cert.RefExpertsIdeal.τ).loc Cert.RefExpertsIdeal.main_arg1) = m' ((c.tc : Thread Cert.RefExpertsIdeal.nD Cert.RefExpertsIdeal.τ).loc Cert.RefExpertsIdeal.main_arg1)
          ∧ r.2.mem ((c.tc : Thread Cert.RefExpertsIdeal.nD Cert.RefExpertsIdeal.τ).loc Cert.RefExpertsIdeal.main_arg2) = m' ((c.tc : Thread Cert.RefExpertsIdeal.nD Cert.RefExpertsIdeal.τ).loc Cert.RefExpertsIdeal.main_arg2)
          ∧ r.2.mem ((c.tc : Thread Cert.RefExpertsIdeal.nD Cert.RefExpertsIdeal.τ).loc Cert.RefExpertsIdeal.main_arg3) = m' ((c.tc : Thread Cert.RefExpertsIdeal.nD Cert.RefExpertsIdeal.τ).loc Cert.RefExpertsIdeal.main_arg3)
          ∧ r.2.mem ((c.tc : Thread Cert.RefExpertsIdeal.nD Cert.RefExpertsIdeal.τ).loc Cert.RefExpertsIdeal.main_arg4) = m' ((c.tc : Thread Cert.RefExpertsIdeal.nD Cert.RefExpertsIdeal.τ).loc Cert.RefExpertsIdeal.main_arg4)
          ∧ r.2.mem ((c.tc : Thread Cert.RefExpertsIdeal.nD Cert.RefExpertsIdeal.τ).loc Cert.RefExpertsIdeal.main_arg5) = m' ((c.tc : Thread Cert.RefExpertsIdeal.nD Cert.RefExpertsIdeal.τ).loc Cert.RefExpertsIdeal.main_arg5)
          ∧ r.2.mem ((c.tc : Thread Cert.RefExpertsIdeal.nD Cert.RefExpertsIdeal.τ).loc Cert.RefExpertsIdeal.main_arg6) = m' ((c.tc : Thread Cert.RefExpertsIdeal.nD Cert.RefExpertsIdeal.τ).loc Cert.RefExpertsIdeal.main_arg6)
          ∧ r.2.mem ((c.tc : Thread Cert.RefExpertsIdeal.nD Cert.RefExpertsIdeal.τ).loc Cert.RefExpertsIdeal.main_arg7) = m' ((c.tc : Thread Cert.RefExpertsIdeal.nD Cert.RefExpertsIdeal.τ).loc Cert.RefExpertsIdeal.main_arg7))

def preserves_Combine_CombineIdeal : Prop :=
  True

def algebraic_CombineIdeal_RefCombineIdeal [hCombineIdeal : Cert.CombineIdeal.Facts] [hRefCombineIdeal : Cert.RefCombineIdeal.Facts] [hPre_paired : Cert.Pre_paired.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.RefCombineIdeal.nD Cert.RefCombineIdeal.τ Cert.RefCombineIdeal.sig) → Buf (Elt Ideal) ℓ) (g' : Dev Cert.RefCombineIdeal.nD → PrngReg), Pre_CombineIdeal m →
    (∀ c : Dev Cert.CombineIdeal.nD,
      m' ((c.tc : Thread Cert.RefCombineIdeal.nD Cert.RefCombineIdeal.τ).loc Cert.RefCombineIdeal.main_arg0) = m ((c.tc : Thread Cert.CombineIdeal.nD Cert.CombineIdeal.τ).loc Cert.CombineIdeal.main_arg0)
      ∧ m' ((c.tc : Thread Cert.RefCombineIdeal.nD Cert.RefCombineIdeal.τ).loc Cert.RefCombineIdeal.main_arg1) = m ((c.tc : Thread Cert.CombineIdeal.nD Cert.CombineIdeal.τ).loc Cert.CombineIdeal.main_arg1)
      ∧ m' ((c.tc : Thread Cert.RefCombineIdeal.nD Cert.RefCombineIdeal.τ).loc Cert.RefCombineIdeal.main_arg2) = m ((c.tc : Thread Cert.CombineIdeal.nD Cert.CombineIdeal.τ).loc Cert.CombineIdeal.main_arg2)
      ∧ m' ((c.tc : Thread Cert.RefCombineIdeal.nD Cert.RefCombineIdeal.τ).loc Cert.RefCombineIdeal.main_arg3) = m ((c.tc : Thread Cert.CombineIdeal.nD Cert.CombineIdeal.τ).loc Cert.CombineIdeal.main_arg3)
      ∧ m' ((c.tc : Thread Cert.RefCombineIdeal.nD Cert.RefCombineIdeal.τ).loc Cert.RefCombineIdeal.main_arg4) = m ((c.tc : Thread Cert.CombineIdeal.nD Cert.CombineIdeal.τ).loc Cert.CombineIdeal.main_arg4)
      ∧ m' ((c.tc : Thread Cert.RefCombineIdeal.nD Cert.RefCombineIdeal.τ).loc Cert.RefCombineIdeal.main_arg5) = m ((c.tc : Thread Cert.CombineIdeal.nD Cert.CombineIdeal.τ).loc Cert.CombineIdeal.main_arg5)
      ∧ m' ((c.tc : Thread Cert.RefCombineIdeal.nD Cert.RefCombineIdeal.τ).loc Cert.RefCombineIdeal.main_arg6) = m ((c.tc : Thread Cert.CombineIdeal.nD Cert.CombineIdeal.τ).loc Cert.CombineIdeal.main_arg6)
      ∧ m' ((c.tc : Thread Cert.RefCombineIdeal.nD Cert.RefCombineIdeal.τ).loc Cert.RefCombineIdeal.main_arg7) = m ((c.tc : Thread Cert.CombineIdeal.nD Cert.CombineIdeal.τ).loc Cert.CombineIdeal.main_arg7)
      ∧ m' ((c.tc : Thread Cert.RefCombineIdeal.nD Cert.RefCombineIdeal.τ).loc Cert.RefCombineIdeal.main_arg8) = m ((c.tc : Thread Cert.CombineIdeal.nD Cert.CombineIdeal.τ).loc Cert.CombineIdeal.main_arg8)
      ∧ m' ((c.tc : Thread Cert.RefCombineIdeal.nD Cert.RefCombineIdeal.τ).loc Cert.RefCombineIdeal.main_arg9) = m ((c.tc : Thread Cert.CombineIdeal.nD Cert.CombineIdeal.τ).loc Cert.CombineIdeal.main_arg9)
      ∧ m' ((c.tc : Thread Cert.RefCombineIdeal.nD Cert.RefCombineIdeal.τ).loc Cert.RefCombineIdeal.main_arg10) = m ((c.tc : Thread Cert.CombineIdeal.nD Cert.CombineIdeal.τ).loc Cert.CombineIdeal.main_arg10)
      ∧ m' ((c.tc : Thread Cert.RefCombineIdeal.nD Cert.RefCombineIdeal.τ).loc Cert.RefCombineIdeal.main_arg11) = m ((c.tc : Thread Cert.CombineIdeal.nD Cert.CombineIdeal.τ).loc Cert.CombineIdeal.main_arg11)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
          ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
          ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9)
          ∧ r.2.mem ((c.tc : Thread Cert.CombineIdeal.nD Cert.CombineIdeal.τ).loc Cert.CombineIdeal.main_arg10) = m ((c.tc : Thread Cert.CombineIdeal.nD Cert.CombineIdeal.τ).loc Cert.CombineIdeal.main_arg10)
          ∧ r.2.mem ((c.tc : Thread Cert.CombineIdeal.nD Cert.CombineIdeal.τ).loc Cert.CombineIdeal.main_arg11) = m ((c.tc : Thread Cert.CombineIdeal.nD Cert.CombineIdeal.τ).loc Cert.CombineIdeal.main_arg11))
      ∧ θ_run (Cert.RefCombineIdeal.defs (F := Ideal)) (onTc (τ := Cert.RefCombineIdeal.τ) (Cert.RefCombineIdeal.main (F := Ideal))) ⟨m', fun _ => 0, g'⟩ (fun r => ∀ c : Dev Cert.RefCombineIdeal.nD,
          r.2.mem ((c.tc : Thread Cert.RefCombineIdeal.nD Cert.RefCombineIdeal.τ).loc Cert.RefCombineIdeal.main_v41) = v0 c
          ∧ r.2.mem ((c.tc : Thread Cert.RefCombineIdeal.nD Cert.RefCombineIdeal.τ).loc Cert.RefCombineIdeal.main_arg0) = m' ((c.tc : Thread Cert.RefCombineIdeal.nD Cert.RefCombineIdeal.τ).loc Cert.RefCombineIdeal.main_arg0)
          ∧ r.2.mem ((c.tc : Thread Cert.RefCombineIdeal.nD Cert.RefCombineIdeal.τ).loc Cert.RefCombineIdeal.main_arg1) = m' ((c.tc : Thread Cert.RefCombineIdeal.nD Cert.RefCombineIdeal.τ).loc Cert.RefCombineIdeal.main_arg1)
          ∧ r.2.mem ((c.tc : Thread Cert.RefCombineIdeal.nD Cert.RefCombineIdeal.τ).loc Cert.RefCombineIdeal.main_arg2) = m' ((c.tc : Thread Cert.RefCombineIdeal.nD Cert.RefCombineIdeal.τ).loc Cert.RefCombineIdeal.main_arg2)
          ∧ r.2.mem ((c.tc : Thread Cert.RefCombineIdeal.nD Cert.RefCombineIdeal.τ).loc Cert.RefCombineIdeal.main_arg3) = m' ((c.tc : Thread Cert.RefCombineIdeal.nD Cert.RefCombineIdeal.τ).loc Cert.RefCombineIdeal.main_arg3)
          ∧ r.2.mem ((c.tc : Thread Cert.RefCombineIdeal.nD Cert.RefCombineIdeal.τ).loc Cert.RefCombineIdeal.main_arg4) = m' ((c.tc : Thread Cert.RefCombineIdeal.nD Cert.RefCombineIdeal.τ).loc Cert.RefCombineIdeal.main_arg4)
          ∧ r.2.mem ((c.tc : Thread Cert.RefCombineIdeal.nD Cert.RefCombineIdeal.τ).loc Cert.RefCombineIdeal.main_arg5) = m' ((c.tc : Thread Cert.RefCombineIdeal.nD Cert.RefCombineIdeal.τ).loc Cert.RefCombineIdeal.main_arg5)
          ∧ r.2.mem ((c.tc : Thread Cert.RefCombineIdeal.nD Cert.RefCombineIdeal.τ).loc Cert.RefCombineIdeal.main_arg6) = m' ((c.tc : Thread Cert.RefCombineIdeal.nD Cert.RefCombineIdeal.τ).loc Cert.RefCombineIdeal.main_arg6)
          ∧ r.2.mem ((c.tc : Thread Cert.RefCombineIdeal.nD Cert.RefCombineIdeal.τ).loc Cert.RefCombineIdeal.main_arg7) = m' ((c.tc : Thread Cert.RefCombineIdeal.nD Cert.RefCombineIdeal.τ).loc Cert.RefCombineIdeal.main_arg7)
          ∧ r.2.mem ((c.tc : Thread Cert.RefCombineIdeal.nD Cert.RefCombineIdeal.τ).loc Cert.RefCombineIdeal.main_arg8) = m' ((c.tc : Thread Cert.RefCombineIdeal.nD Cert.RefCombineIdeal.τ).loc Cert.RefCombineIdeal.main_arg8)
          ∧ r.2.mem ((c.tc : Thread Cert.RefCombineIdeal.nD Cert.RefCombineIdeal.τ).loc Cert.RefCombineIdeal.main_arg9) = m' ((c.tc : Thread Cert.RefCombineIdeal.nD Cert.RefCombineIdeal.τ).loc Cert.RefCombineIdeal.main_arg9)
          ∧ r.2.mem ((c.tc : Thread Cert.RefCombineIdeal.nD Cert.RefCombineIdeal.τ).loc Cert.RefCombineIdeal.main_arg10) = m' ((c.tc : Thread Cert.RefCombineIdeal.nD Cert.RefCombineIdeal.τ).loc Cert.RefCombineIdeal.main_arg10)
          ∧ r.2.mem ((c.tc : Thread Cert.RefCombineIdeal.nD Cert.RefCombineIdeal.τ).loc Cert.RefCombineIdeal.main_arg11) = m' ((c.tc : Thread Cert.RefCombineIdeal.nD Cert.RefCombineIdeal.τ).loc Cert.RefCombineIdeal.main_arg11))

def Claim : Prop :=
  ∃ (hProjIn : Cert.ProjIn.Facts) (hProjInIdeal : Cert.ProjInIdeal.Facts) (hRefInIdeal : Cert.RefInIdeal.Facts) (hProjDecay : Cert.ProjDecay.Facts) (hProjDecayIdeal : Cert.ProjDecayIdeal.Facts) (hRefDecayIdeal : Cert.RefDecayIdeal.Facts) (hProjNa : Cert.ProjNa.Facts) (hProjNaIdeal : Cert.ProjNaIdeal.Facts) (hRefNaIdeal : Cert.RefNaIdeal.Facts) (hProjGates : Cert.ProjGates.Facts) (hProjGatesIdeal : Cert.ProjGatesIdeal.Facts) (hRefGatesIdeal : Cert.RefGatesIdeal.Facts) (hExperts : Cert.Experts.Facts) (hExpertsIdeal : Cert.ExpertsIdeal.Facts) (hRefExpertsIdeal : Cert.RefExpertsIdeal.Facts) (hCombine : Cert.Combine.Facts) (hCombineIdeal : Cert.CombineIdeal.Facts) (hRefCombineIdeal : Cert.RefCombineIdeal.Facts) (hPre_planned : Cert.Pre_planned.Facts) (hPre_paired : Cert.Pre_paired.Facts) (hOn_filled : Cert.On_filled.Facts),
    quiescent_ProjIn (hProjIn := hProjIn)
    ∧ quiescent_ProjInIdeal (hProjInIdeal := hProjInIdeal)
    ∧ quiescent_RefInIdeal (hRefInIdeal := hRefInIdeal)
    ∧ quiescent_ProjDecay (hProjDecay := hProjDecay)
    ∧ quiescent_ProjDecayIdeal (hProjDecayIdeal := hProjDecayIdeal)
    ∧ quiescent_RefDecayIdeal (hRefDecayIdeal := hRefDecayIdeal)
    ∧ quiescent_ProjNa (hProjNa := hProjNa)
    ∧ quiescent_ProjNaIdeal (hProjNaIdeal := hProjNaIdeal)
    ∧ quiescent_RefNaIdeal (hRefNaIdeal := hRefNaIdeal)
    ∧ quiescent_ProjGates (hProjGates := hProjGates)
    ∧ quiescent_ProjGatesIdeal (hProjGatesIdeal := hProjGatesIdeal)
    ∧ quiescent_RefGatesIdeal (hRefGatesIdeal := hRefGatesIdeal)
    ∧ quiescent_Experts (hExperts := hExperts) (hPre_planned := hPre_planned)
    ∧ quiescent_ExpertsIdeal (hExpertsIdeal := hExpertsIdeal) (hPre_planned := hPre_planned)
    ∧ quiescent_RefExpertsIdeal (hRefExpertsIdeal := hRefExpertsIdeal)
    ∧ quiescent_RefExpertsIdeal_pre_planned (hRefExpertsIdeal := hRefExpertsIdeal) (hPre_planned := hPre_planned)
    ∧ quiescent_Combine (hCombine := hCombine) (hPre_paired := hPre_paired)
    ∧ quiescent_CombineIdeal (hCombineIdeal := hCombineIdeal) (hPre_paired := hPre_paired)
    ∧ quiescent_RefCombineIdeal (hRefCombineIdeal := hRefCombineIdeal)
    ∧ quiescent_RefCombineIdeal_pre_paired (hRefCombineIdeal := hRefCombineIdeal) (hPre_paired := hPre_paired)
    ∧ preserves_ProjIn_ProjInIdeal
    ∧ algebraic_ProjInIdeal_RefInIdeal (hProjInIdeal := hProjInIdeal) (hRefInIdeal := hRefInIdeal)
    ∧ preserves_ProjDecay_ProjDecayIdeal
    ∧ algebraic_ProjDecayIdeal_RefDecayIdeal (hProjDecayIdeal := hProjDecayIdeal) (hRefDecayIdeal := hRefDecayIdeal)
    ∧ preserves_ProjNa_ProjNaIdeal
    ∧ algebraic_ProjNaIdeal_RefNaIdeal (hProjNaIdeal := hProjNaIdeal) (hRefNaIdeal := hRefNaIdeal)
    ∧ preserves_ProjGates_ProjGatesIdeal
    ∧ algebraic_ProjGatesIdeal_RefGatesIdeal (hProjGatesIdeal := hProjGatesIdeal) (hRefGatesIdeal := hRefGatesIdeal)
    ∧ preserves_Experts_ExpertsIdeal
    ∧ algebraic_ExpertsIdeal_RefExpertsIdeal_on_filled (hExpertsIdeal := hExpertsIdeal) (hRefExpertsIdeal := hRefExpertsIdeal) (hPre_planned := hPre_planned) (hOn_filled := hOn_filled)
    ∧ preserves_Combine_CombineIdeal
    ∧ algebraic_CombineIdeal_RefCombineIdeal (hCombineIdeal := hCombineIdeal) (hRefCombineIdeal := hRefCombineIdeal) (hPre_paired := hPre_paired)
-- ==== On_filled.lean ====
abbrev S34560x2048 : Shape := ⟨2, ![34560, 2048]⟩
abbrev S15 : Shape := ⟨1, ![15]⟩
abbrev S1 : Shape := ⟨1, ![1]⟩
abbrev S1x8x2048x5632 : Shape := ⟨4, ![1, 8, 2048, 5632]⟩
abbrev S1x8x5632x2048 : Shape := ⟨4, ![1, 8, 5632, 2048]⟩
abbrev S34560x128 : Shape := ⟨2, ![34560, 128]⟩
abbrev S15x2304x2048 : Shape := ⟨3, ![15, 2304, 2048]⟩
abbrev S_ : Shape := ⟨0, ![]⟩
abbrev S15x1x1 : Shape := ⟨3, ![15, 1, 1]⟩

class Facts : Prop where
  shapeCasts_S1_S_ : S1.ShapeCasts S_
  bcast_S_S15x2304x2048 : S_.BroadcastsInDim S15x2304x2048 (![] : Fin 0 → Fin S15x2304x2048.rank)
  bcast_S15_S15x1x1_0 : S15.BroadcastsInDim S15x1x1 (![0] : Fin 1 → Fin S15x1x1.rank)
  bcast_S15x1x1_S15x2304x2048_0_1_2 : S15x1x1.BroadcastsInDim S15x2304x2048 (![0, 1, 2] : Fin 3 → Fin S15x2304x2048.rank)
  shapeCasts_S15x2304x2048_S34560x2048 : S15x2304x2048.ShapeCasts S34560x2048

variable [Facts]

def fn {F : FTy → Type} [FloatOps F] (main_arg0 : FVec F S34560x2048 .bf16) (main_arg1 : IVec S15 32) (main_arg2 : IVec S15 32) (main_arg3 : IVec S1 32) (main_arg4 : FVec F S1x8x2048x5632 .f32) (main_arg5 : FVec F S1x8x2048x5632 .f32) (main_arg6 : FVec F S1x8x5632x2048 .f32) (main_arg7 : FVec F S34560x128 .f32) : IVec S34560x2048 1 :=
  let main_v0 : IVec S15x2304x2048 32 := iotaInDim S15x2304x2048 32 0
  let main_v1 : IVec S15x2304x2048 32 := iotaInDim S15x2304x2048 32 1
  let main_v2 : IVec S_ 32 := shapeCast S_ main_arg3 shapeCasts_S1_S_
  let main_v3 : IVec S15x2304x2048 32 := broadcastInDim S15x2304x2048 ![] bcast_S_S15x2304x2048 main_v2
  let main_v4 : IVec S15x2304x2048 1 := cmpi .slt main_v0 main_v3
  let main_v5 : IVec S15x1x1 32 := broadcastInDim S15x1x1 ![0] bcast_S15_S15x1x1_0 main_arg2
  let main_v6 : IVec S15x2304x2048 32 := broadcastInDim S15x2304x2048 ![0, 1, 2] bcast_S15x1x1_S15x2304x2048_0_1_2 main_v5
  let main_v7 : IVec S15x2304x2048 1 := cmpi .slt main_v1 main_v6
  let main_v8 : IVec S15x2304x2048 1 := andi main_v4 main_v7
  let main_v9 : IVec S34560x2048 1 := shapeCast S34560x2048 main_v8 shapeCasts_S15x2304x2048_S34560x2048
  main_v9
-- ==== Pre_paired.lean ====
abbrev S34560x2048 : Shape := ⟨2, ![34560, 2048]⟩
abbrev S8192x1 : Shape := ⟨2, ![8192, 1]⟩
abbrev S8192x2048 : Shape := ⟨2, ![8192, 2048]⟩
abbrev S96x1x2048 : Shape := ⟨3, ![96, 1, 2048]⟩
abbrev S1x2048 : Shape := ⟨2, ![1, 2048]⟩
abbrev S128 : Shape := ⟨1, ![128]⟩
abbrev S128x128 : Shape := ⟨2, ![128, 128]⟩
abbrev S128x1 : Shape := ⟨2, ![128, 1]⟩
abbrev S1x128 : Shape := ⟨2, ![1, 128]⟩
abbrev S_ : Shape := ⟨0, ![]⟩
abbrev S8x128 : Shape := ⟨2, ![8, 128]⟩
abbrev S8 : Shape := ⟨1, ![8]⟩
abbrev S8192x128 : Shape := ⟨2, ![8192, 128]⟩
abbrev S8192 : Shape := ⟨1, ![8192]⟩

class Facts : Prop where
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128 : S_.BroadcastsInDim S128 (![] : Fin 0 → Fin S128.rank)
  reducesTo_S128_S_d0 : S128.ReducesTo [0] S_
  h_S_ : 0 < S_.numel
  reducesTo_S128x128_S_d0_1 : S128x128.ReducesTo [0, 1] S_
  bcast_S_S128x1 : S_.BroadcastsInDim S128x1 (![] : Fin 0 → Fin S128x1.rank)
  bcast_S_S128x128 : S_.BroadcastsInDim S128x128 (![] : Fin 0 → Fin S128x128.rank)
  bcast_S_S1x128 : S_.BroadcastsInDim S1x128 (![] : Fin 0 → Fin S1x128.rank)
  bcast_S1x128_S8x128_0_1 : S1x128.BroadcastsInDim S8x128 (![0, 1] : Fin 2 → Fin S8x128.rank)
  reducesTo_S8x128_S8_d1 : S8x128.ReducesTo [1] S8
  reducesTo_S8_S_d0 : S8.ReducesTo [0] S_
  bcast_S_S8192x128 : S_.BroadcastsInDim S8192x128 (![] : Fin 0 → Fin S8192x128.rank)
  bcast_S1x128_S8192x128_0_1 : S1x128.BroadcastsInDim S8192x128 (![0, 1] : Fin 2 → Fin S8192x128.rank)
  bcast_S8192x1_S8192x128_0_1 : S8192x1.BroadcastsInDim S8192x128 (![0, 1] : Fin 2 → Fin S8192x128.rank)
  reducesTo_S8192x128_S8192_d1 : S8192x128.ReducesTo [1] S8192
  reducesTo_S8192_S_d0 : S8192.ReducesTo [0] S_
  reducesTo_S8192x1_S_d0_1 : S8192x1.ReducesTo [0, 1] S_

variable [Facts]

def fn_part7 {F : FTy → Type} [FloatOps F] (main_arg1 : IVec S8192x1 32) (main_arg2 : IVec S8192x1 32) (main_v119 : IVec S_ 1) (main_v131 : IVec S_ 1) (main_v137 : IVec S_ 1) : IVec S_ 1 :=
  let main_v138 : IVec S_ 1 := andi main_v137 main_v119
  let main_v139 : IVec S_ 1 := andi main_v138 main_v131
  let main_v140 : IVec S8192x1 1 := cmpi .ne main_arg1 main_arg2
  let main_c_29 : IVec S_ 1 := constantI S_ 1 1#1
  let main_v141 : IVec S_ 1 := (fun x v => Host.reduce IntOp.andi x v reducesTo_S8192x1_S_d0_1 h_S_) main_v140 main_c_29
  let main_v142 : IVec S_ 1 := andi main_v139 main_v141
  main_v142

def fn_part6 {F : FTy → Type} [FloatOps F] (main_arg1 : IVec S8192x1 32) (main_arg2 : IVec S8192x1 32) (main_v18 : IVec S_ 1) (main_v26 : IVec S_ 1) (main_v35 : IVec S_ 1) (main_v48 : IVec S_ 1) (main_v62 : IVec S_ 1) (main_v82 : IVec S_ 1) (main_v93 : IVec S_ 1) (main_v104 : IVec S8192x128 1) (main_v107 : IVec S1x128 32) (main_v117 : IVec S8192x128 1) (main_c_24 : IVec S_ 1) : IVec S_ 1 :=
  let main_v118 : IVec S8192 1 := (fun x v => Host.reduce IntOp.ori x v reducesTo_S8192x128_S8192_d1 h_S_) main_v117 main_c_24
  let main_c_25 : IVec S_ 1 := constantI S_ 1 1#1
  let main_v119 : IVec S_ 1 := (fun x v => Host.reduce IntOp.andi x v reducesTo_S8192_S_d0 h_S_) main_v118 main_c_25
  let main_v120 : IVec S8192x128 32 := broadcastInDim S8192x128 ![0, 1] bcast_S1x128_S8192x128_0_1 main_v107
  let main_v121 : IVec S8192x128 32 := broadcastInDim S8192x128 ![0, 1] bcast_S8192x1_S8192x128_0_1 main_arg2
  let main_v122 : IVec S8192x128 1 := cmpi .sle main_v120 main_v121
  let main_v123 : IVec S8192x128 1 := andi main_v104 main_v122
  let main_c_26 : IVec S_ 32 := constantI S_ 32 256#32
  let main_v124 : IVec S1x128 32 := broadcastInDim S1x128 ![] bcast_S_S1x128 main_c_26
  let main_v125 : IVec S1x128 32 := addi main_v107 main_v124
  let main_v126 : IVec S8192x128 32 := broadcastInDim S8192x128 ![0, 1] bcast_S8192x1_S8192x128_0_1 main_arg2
  let main_v127 : IVec S8192x128 32 := broadcastInDim S8192x128 ![0, 1] bcast_S1x128_S8192x128_0_1 main_v125
  let main_v128 : IVec S8192x128 1 := cmpi .slt main_v126 main_v127
  let main_v129 : IVec S8192x128 1 := andi main_v123 main_v128
  let main_c_27 : IVec S_ 1 := constantI S_ 1 0#1
  let main_v130 : IVec S8192 1 := (fun x v => Host.reduce IntOp.ori x v reducesTo_S8192x128_S8192_d1 h_S_) main_v129 main_c_27
  let main_c_28 : IVec S_ 1 := constantI S_ 1 1#1
  let main_v131 : IVec S_ 1 := (fun x v => Host.reduce IntOp.andi x v reducesTo_S8192_S_d0 h_S_) main_v130 main_c_28
  let main_v132 : IVec S_ 1 := andi main_v18 main_v26
  let main_v133 : IVec S_ 1 := andi main_v132 main_v35
  let main_v134 : IVec S_ 1 := andi main_v133 main_v48
  let main_v135 : IVec S_ 1 := andi main_v134 main_v62
  let main_v136 : IVec S_ 1 := andi main_v135 main_v82
  let main_v137 : IVec S_ 1 := andi main_v136 main_v93
  fn_part7 (F := F) main_arg1 main_arg2 main_v119 main_v131 main_v137

def fn_part5 {F : FTy → Type} [FloatOps F] (main_arg1 : IVec S8192x1 32) (main_arg2 : IVec S8192x1 32) (main_arg8 : IVec S128 32) (main_arg11 : IVec S128 32) (main_v18 : IVec S_ 1) (main_v26 : IVec S_ 1) (main_v35 : IVec S_ 1) (main_v48 : IVec S_ 1) (main_v62 : IVec S_ 1) (main_v82 : IVec S_ 1) (main_v93 : IVec S_ 1) (main_v95 : IVec S1x128 32) (main_v97 : IVec S8192x128 32) : IVec S_ 1 :=
  let main_v98 : IVec S8192x128 32 := broadcastInDim S8192x128 ![0, 1] bcast_S1x128_S8192x128_0_1 main_v95
  let main_v99 : IVec S8192x128 1 := cmpi .eq main_v98 main_v97
  let main_v100 : IVec S1x128 32 := broadcastInDim S1x128 ![1] bcast_S128_S1x128_1 main_arg11
  let main_c_21 : IVec S_ 32 := constantI S_ 32 1#32
  let main_v101 : IVec S1x128 32 := broadcastInDim S1x128 ![] bcast_S_S1x128 main_c_21
  let main_v102 : IVec S1x128 1 := cmpi .eq main_v100 main_v101
  let main_v103 : IVec S8192x128 1 := broadcastInDim S8192x128 ![0, 1] bcast_S1x128_S8192x128_0_1 main_v102
  let main_v104 : IVec S8192x128 1 := andi main_v99 main_v103
  let main_v105 : IVec S1x128 32 := broadcastInDim S1x128 ![1] bcast_S128_S1x128_1 main_arg8
  let main_c_22 : IVec S_ 32 := constantI S_ 32 256#32
  let main_v106 : IVec S1x128 32 := broadcastInDim S1x128 ![] bcast_S_S1x128 main_c_22
  let main_v107 : IVec S1x128 32 := muli main_v105 main_v106
  let main_v108 : IVec S8192x128 32 := broadcastInDim S8192x128 ![0, 1] bcast_S1x128_S8192x128_0_1 main_v107
  let main_v109 : IVec S8192x128 32 := broadcastInDim S8192x128 ![0, 1] bcast_S8192x1_S8192x128_0_1 main_arg1
  let main_v110 : IVec S8192x128 1 := cmpi .sle main_v108 main_v109
  let main_v111 : IVec S8192x128 1 := andi main_v104 main_v110
  let main_c_23 : IVec S_ 32 := constantI S_ 32 256#32
  let main_v112 : IVec S1x128 32 := broadcastInDim S1x128 ![] bcast_S_S1x128 main_c_23
  let main_v113 : IVec S1x128 32 := addi main_v107 main_v112
  let main_v114 : IVec S8192x128 32 := broadcastInDim S8192x128 ![0, 1] bcast_S8192x1_S8192x128_0_1 main_arg1
  let main_v115 : IVec S8192x128 32 := broadcastInDim S8192x128 ![0, 1] bcast_S1x128_S8192x128_0_1 main_v113
  let main_v116 : IVec S8192x128 1 := cmpi .slt main_v114 main_v115
  let main_v117 : IVec S8192x128 1 := andi main_v111 main_v116
  let main_c_24 : IVec S_ 1 := constantI S_ 1 0#1
  fn_part6 (F := F) main_arg1 main_arg2 main_v18 main_v26 main_v35 main_v48 main_v62 main_v82 main_v93 main_v104 main_v107 main_v117 main_c_24

def fn_part4 {F : FTy → Type} [FloatOps F] (main_arg1 : IVec S8192x1 32) (main_arg2 : IVec S8192x1 32) (main_arg7 : IVec S128 32) (main_arg8 : IVec S128 32) (main_arg10 : IVec S128 32) (main_arg11 : IVec S128 32) (main_v18 : IVec S_ 1) (main_v26 : IVec S_ 1) (main_v35 : IVec S_ 1) (main_v48 : IVec S_ 1) (main_v62 : IVec S_ 1) (main_v75 : IVec S128x128 1) (main_v77 : IVec S1x128 32) (main_v78 : IVec S128x128 32) : IVec S_ 1 :=
  let main_v79 : IVec S128x128 32 := broadcastInDim S128x128 ![0, 1] bcast_S1x128_S128x128_0_1 main_v77
  let main_v80 : IVec S128x128 1 := cmpi .ne main_v78 main_v79
  let main_v81 : IVec S128x128 1 := ori main_v75 main_v80
  let main_c_16 : IVec S_ 1 := constantI S_ 1 1#1
  let main_v82 : IVec S_ 1 := (fun x v => Host.reduce IntOp.andi x v reducesTo_S128x128_S_d0_1 h_S_) main_v81 main_c_16
  let main_v83 : IVec S8x128 32 := iotaInDim S8x128 32 0
  let main_v84 : IVec S1x128 32 := broadcastInDim S1x128 ![1] bcast_S128_S1x128_1 main_arg7
  let main_v85 : IVec S8x128 32 := broadcastInDim S8x128 ![0, 1] bcast_S1x128_S8x128_0_1 main_v84
  let main_v86 : IVec S8x128 1 := cmpi .eq main_v85 main_v83
  let main_v87 : IVec S1x128 32 := broadcastInDim S1x128 ![1] bcast_S128_S1x128_1 main_arg10
  let main_c_17 : IVec S_ 32 := constantI S_ 32 1#32
  let main_v88 : IVec S1x128 32 := broadcastInDim S1x128 ![] bcast_S_S1x128 main_c_17
  let main_v89 : IVec S1x128 1 := cmpi .eq main_v87 main_v88
  let main_v90 : IVec S8x128 1 := broadcastInDim S8x128 ![0, 1] bcast_S1x128_S8x128_0_1 main_v89
  let main_v91 : IVec S8x128 1 := andi main_v86 main_v90
  let main_c_18 : IVec S_ 1 := constantI S_ 1 0#1
  let main_v92 : IVec S8 1 := (fun x v => Host.reduce IntOp.ori x v reducesTo_S8x128_S8_d1 h_S_) main_v91 main_c_18
  let main_c_19 : IVec S_ 1 := constantI S_ 1 1#1
  let main_v93 : IVec S_ 1 := (fun x v => Host.reduce IntOp.andi x v reducesTo_S8_S_d0 h_S_) main_v92 main_c_19
  let main_v94 : IVec S8192x128 32 := iotaInDim S8192x128 32 0
  let main_v95 : IVec S1x128 32 := broadcastInDim S1x128 ![1] bcast_S128_S1x128_1 main_arg7
  let main_c_20 : IVec S_ 32 := constantI S_ 32 10#32
  let main_v96 : IVec S8192x128 32 := broadcastInDim S8192x128 ![] bcast_S_S8192x128 main_c_20
  let main_v97 : IVec S8192x128 32 := Host.shrsi main_v94 main_v96
  fn_part5 (F := F) main_arg1 main_arg2 main_arg8 main_arg11 main_v18 main_v26 main_v35 main_v48 main_v62 main_v82 main_v93 main_v95 main_v97

def fn_part3 {F : FTy → Type} [FloatOps F] (main_arg1 : IVec S8192x1 32) (main_arg2 : IVec S8192x1 32) (main_arg7 : IVec S128 32) (main_arg8 : IVec S128 32) (main_arg10 : IVec S128 32) (main_arg11 : IVec S128 32) (main_v0 : IVec S128x128 32) (main_v1 : IVec S128x128 32) (main_v6 : IVec S128x128 1) (main_v18 : IVec S_ 1) (main_v26 : IVec S_ 1) (main_v35 : IVec S_ 1) (main_v48 : IVec S_ 1) (main_v56 : IVec S128x128 1) (main_v57 : IVec S1x128 32) (main_c_12 : IVec S_ 32) : IVec S_ 1 :=
  let main_v58 : IVec S1x128 32 := broadcastInDim S1x128 ![] bcast_S_S1x128 main_c_12
  let main_v59 : IVec S1x128 1 := cmpi .ne main_v57 main_v58
  let main_v60 : IVec S128x128 1 := broadcastInDim S128x128 ![0, 1] bcast_S1x128_S128x128_0_1 main_v59
  let main_v61 : IVec S128x128 1 := ori main_v56 main_v60
  let main_c_13 : IVec S_ 1 := constantI S_ 1 1#1
  let main_v62 : IVec S_ 1 := (fun x v => Host.reduce IntOp.andi x v reducesTo_S128x128_S_d0_1 h_S_) main_v61 main_c_13
  let main_v63 : IVec S128x128 1 := cmpi .eq main_v0 main_v1
  let main_v64 : IVec S128x1 32 := broadcastInDim S128x1 ![0] bcast_S128_S128x1_0 main_arg11
  let main_c_14 : IVec S_ 32 := constantI S_ 32 1#32
  let main_v65 : IVec S128x1 32 := broadcastInDim S128x1 ![] bcast_S_S128x1 main_c_14
  let main_v66 : IVec S128x1 1 := cmpi .ne main_v64 main_v65
  let main_v67 : IVec S128x128 1 := broadcastInDim S128x128 ![0, 1] bcast_S128x1_S128x128_0_1 main_v66
  let main_v68 : IVec S128x128 1 := ori main_v63 main_v67
  let main_v69 : IVec S1x128 32 := broadcastInDim S1x128 ![1] bcast_S128_S1x128_1 main_arg11
  let main_c_15 : IVec S_ 32 := constantI S_ 32 1#32
  let main_v70 : IVec S1x128 32 := broadcastInDim S1x128 ![] bcast_S_S1x128 main_c_15
  let main_v71 : IVec S1x128 1 := cmpi .ne main_v69 main_v70
  let main_v72 : IVec S128x128 1 := broadcastInDim S128x128 ![0, 1] bcast_S1x128_S128x128_0_1 main_v71
  let main_v73 : IVec S128x128 1 := ori main_v68 main_v72
  let main_v74 : IVec S128x128 1 := noti main_v6
  let main_v75 : IVec S128x128 1 := ori main_v73 main_v74
  let main_v76 : IVec S128x1 32 := broadcastInDim S128x1 ![0] bcast_S128_S128x1_0 main_arg8
  let main_v77 : IVec S1x128 32 := broadcastInDim S1x128 ![1] bcast_S128_S1x128_1 main_arg8
  let main_v78 : IVec S128x128 32 := broadcastInDim S128x128 ![0, 1] bcast_S128x1_S128x128_0_1 main_v76
  fn_part4 (F := F) main_arg1 main_arg2 main_arg7 main_arg8 main_arg10 main_arg11 main_v18 main_v26 main_v35 main_v48 main_v62 main_v75 main_v77 main_v78

def fn_part2 {F : FTy → Type} [FloatOps F] (main_arg1 : IVec S8192x1 32) (main_arg2 : IVec S8192x1 32) (main_arg7 : IVec S128 32) (main_arg8 : IVec S128 32) (main_arg10 : IVec S128 32) (main_arg11 : IVec S128 32) (main_v0 : IVec S128x128 32) (main_v1 : IVec S128x128 32) (main_v6 : IVec S128x128 1) (main_v18 : IVec S_ 1) (main_v26 : IVec S_ 1) (main_v35 : IVec S_ 1) (main_v38 : IVec S128x1 1) : IVec S_ 1 :=
  let main_c_8 : IVec S_ 32 := constantI S_ 32 0#32
  let main_v39 : IVec S128x128 32 := broadcastInDim S128x128 ![] bcast_S_S128x128 main_c_8
  let main_v40 : IVec S128x128 1 := cmpi .ne main_v0 main_v39
  let main_c_9 : IVec S_ 32 := constantI S_ 32 1#32
  let main_v41 : IVec S128x128 32 := broadcastInDim S128x128 ![] bcast_S_S128x128 main_c_9
  let main_v42 : IVec S128x128 32 := addi main_v1 main_v41
  let main_v43 : IVec S128x128 1 := cmpi .ne main_v0 main_v42
  let main_v44 : IVec S128x128 1 := ori main_v43 main_v6
  let main_v45 : IVec S128x128 1 := andi main_v40 main_v44
  let main_v46 : IVec S128x128 1 := broadcastInDim S128x128 ![0, 1] bcast_S128x1_S128x128_0_1 main_v38
  let main_v47 : IVec S128x128 1 := ori main_v46 main_v45
  let main_c_10 : IVec S_ 1 := constantI S_ 1 1#1
  let main_v48 : IVec S_ 1 := (fun x v => Host.reduce IntOp.andi x v reducesTo_S128x128_S_d0_1 h_S_) main_v47 main_c_10
  let main_v49 : IVec S128x1 32 := broadcastInDim S128x1 ![0] bcast_S128_S128x1_0 main_arg10
  let main_c_11 : IVec S_ 32 := constantI S_ 32 1#32
  let main_v50 : IVec S128x1 32 := broadcastInDim S128x1 ![] bcast_S_S128x1 main_c_11
  let main_v51 : IVec S128x1 1 := cmpi .ne main_v49 main_v50
  let main_v52 : IVec S128x128 1 := cmpi .sle main_v1 main_v0
  let main_v53 : IVec S128x128 1 := broadcastInDim S128x128 ![0, 1] bcast_S128x1_S128x128_0_1 main_v51
  let main_v54 : IVec S128x128 1 := ori main_v53 main_v52
  let main_v55 : IVec S128x128 1 := noti main_v6
  let main_v56 : IVec S128x128 1 := ori main_v54 main_v55
  let main_v57 : IVec S1x128 32 := broadcastInDim S1x128 ![1] bcast_S128_S1x128_1 main_arg11
  let main_c_12 : IVec S_ 32 := constantI S_ 32 1#32
  fn_part3 (F := F) main_arg1 main_arg2 main_arg7 main_arg8 main_arg10 main_arg11 main_v0 main_v1 main_v6 main_v18 main_v26 main_v35 main_v48 main_v56 main_v57 main_c_12

def fn_part1 {F : FTy → Type} [FloatOps F] (main_arg1 : IVec S8192x1 32) (main_arg2 : IVec S8192x1 32) (main_arg7 : IVec S128 32) (main_arg8 : IVec S128 32) (main_arg9 : IVec S128 32) (main_arg10 : IVec S128 32) (main_arg11 : IVec S128 32) (main_v0 : IVec S128x128 32) (main_v1 : IVec S128x128 32) (main_v6 : IVec S128x128 1) (main_v18 : IVec S_ 1) : IVec S_ 1 :=
  let main_v19 : IVec S128x128 1 := cmpi .slt main_v0 main_v1
  let main_v20 : IVec S1x128 32 := broadcastInDim S1x128 ![1] bcast_S128_S1x128_1 main_arg7
  let main_v21 : IVec S128x1 32 := broadcastInDim S128x1 ![0] bcast_S128_S128x1_0 main_arg7
  let main_v22 : IVec S128x128 32 := broadcastInDim S128x128 ![0, 1] bcast_S1x128_S128x128_0_1 main_v20
  let main_v23 : IVec S128x128 32 := broadcastInDim S128x128 ![0, 1] bcast_S128x1_S128x128_0_1 main_v21
  let main_v24 : IVec S128x128 1 := cmpi .sle main_v22 main_v23
  let main_v25 : IVec S128x128 1 := ori main_v19 main_v24
  let main_c_4 : IVec S_ 1 := constantI S_ 1 1#1
  let main_v26 : IVec S_ 1 := (fun x v => Host.reduce IntOp.andi x v reducesTo_S128x128_S_d0_1 h_S_) main_v25 main_c_4
  let main_v27 : IVec S128x1 32 := broadcastInDim S128x1 ![0] bcast_S128_S128x1_0 main_arg9
  let main_c_5 : IVec S_ 32 := constantI S_ 32 1#32
  let main_v28 : IVec S128x1 32 := broadcastInDim S128x1 ![] bcast_S_S128x1 main_c_5
  let main_v29 : IVec S128x1 1 := cmpi .ne main_v27 main_v28
  let main_v30 : IVec S128x128 1 := cmpi .sle main_v0 main_v1
  let main_v31 : IVec S128x128 1 := broadcastInDim S128x128 ![0, 1] bcast_S128x1_S128x128_0_1 main_v29
  let main_v32 : IVec S128x128 1 := ori main_v31 main_v30
  let main_v33 : IVec S128x128 1 := noti main_v6
  let main_v34 : IVec S128x128 1 := ori main_v32 main_v33
  let main_c_6 : IVec S_ 1 := constantI S_ 1 1#1
  let main_v35 : IVec S_ 1 := (fun x v => Host.reduce IntOp.andi x v reducesTo_S128x128_S_d0_1 h_S_) main_v34 main_c_6
  let main_v36 : IVec S128x1 32 := broadcastInDim S128x1 ![0] bcast_S128_S128x1_0 main_arg9
  let main_c_7 : IVec S_ 32 := constantI S_ 32 1#32
  let main_v37 : IVec S128x1 32 := broadcastInDim S128x1 ![] bcast_S_S128x1 main_c_7
  let main_v38 : IVec S128x1 1 := cmpi .eq main_v36 main_v37
  fn_part2 (F := F) main_arg1 main_arg2 main_arg7 main_arg8 main_arg10 main_arg11 main_v0 main_v1 main_v6 main_v18 main_v26 main_v35 main_v38

def fn {F : FTy → Type} [FloatOps F] (main_arg0 : FVec F S34560x2048 .bf16) (main_arg1 : IVec S8192x1 32) (main_arg2 : IVec S8192x1 32) (main_arg3 : FVec F S8192x2048 .f32) (main_arg4 : FVec F S96x1x2048 .f32) (main_arg5 : FVec F S1x2048 .f32) (main_arg6 : FVec F S1x2048 .f32) (main_arg7 : IVec S128 32) (main_arg8 : IVec S128 32) (main_arg9 : IVec S128 32) (main_arg10 : IVec S128 32) (main_arg11 : IVec S128 32) : IVec S_ 1 :=
  let main_v0 : IVec S128x128 32 := iotaInDim S128x128 32 0
  let main_v1 : IVec S128x128 32 := iotaInDim S128x128 32 1
  let main_v2 : IVec S128x1 32 := broadcastInDim S128x1 ![0] bcast_S128_S128x1_0 main_arg7
  let main_v3 : IVec S1x128 32 := broadcastInDim S1x128 ![1] bcast_S128_S1x128_1 main_arg7
  let main_v4 : IVec S128x128 32 := broadcastInDim S128x128 ![0, 1] bcast_S128x1_S128x128_0_1 main_v2
  let main_v5 : IVec S128x128 32 := broadcastInDim S128x128 ![0, 1] bcast_S1x128_S128x128_0_1 main_v3
  let main_v6 : IVec S128x128 1 := cmpi .eq main_v4 main_v5
  let main_c : IVec S_ 32 := constantI S_ 32 0#32
  let main_v7 : IVec S128 32 := broadcastInDim S128 ![] bcast_S_S128 main_c
  let main_v8 : IVec S128 1 := cmpi .sge main_arg7 main_v7
  let main_c_0 : IVec S_ 32 := constantI S_ 32 8#32
  let main_v9 : IVec S128 32 := broadcastInDim S128 ![] bcast_S_S128 main_c_0
  let main_v10 : IVec S128 1 := cmpi .slt main_arg7 main_v9
  let main_v11 : IVec S128 1 := andi main_v8 main_v10
  let main_c_1 : IVec S_ 32 := constantI S_ 32 0#32
  let main_v12 : IVec S128 32 := broadcastInDim S128 ![] bcast_S_S128 main_c_1
  let main_v13 : IVec S128 1 := cmpi .sge main_arg8 main_v12
  let main_v14 : IVec S128 1 := andi main_v11 main_v13
  let main_c_2 : IVec S_ 32 := constantI S_ 32 135#32
  let main_v15 : IVec S128 32 := broadcastInDim S128 ![] bcast_S_S128 main_c_2
  let main_v16 : IVec S128 1 := cmpi .slt main_arg8 main_v15
  let main_v17 : IVec S128 1 := andi main_v14 main_v16
  let main_c_3 : IVec S_ 1 := constantI S_ 1 1#1
  let main_v18 : IVec S_ 1 := (fun x v => Host.reduce IntOp.andi x v reducesTo_S128_S_d0 h_S_) main_v17 main_c_3
  fn_part1 (F := F) main_arg1 main_arg2 main_arg7 main_arg8 main_arg9 main_arg10 main_arg11 main_v0 main_v1 main_v6 main_v18
-- ==== Pre_planned.lean ====
abbrev S34560x2048 : Shape := ⟨2, ![34560, 2048]⟩
abbrev S15 : Shape := ⟨1, ![15]⟩
abbrev S1 : Shape := ⟨1, ![1]⟩
abbrev S1x8x2048x5632 : Shape := ⟨4, ![1, 8, 2048, 5632]⟩
abbrev S1x8x5632x2048 : Shape := ⟨4, ![1, 8, 5632, 2048]⟩
abbrev S34560x128 : Shape := ⟨2, ![34560, 128]⟩
abbrev S_ : Shape := ⟨0, ![]⟩

class Facts : Prop where
  bcast_S_S15 : S_.BroadcastsInDim S15 (![] : Fin 0 → Fin S15.rank)
  reducesTo_S15_S_d0 : S15.ReducesTo [0] S_
  h_S_ : 0 < S_.numel
  bcast_S_S1 : S_.BroadcastsInDim S1 (![] : Fin 0 → Fin S1.rank)
  reducesTo_S1_S_d0 : S1.ReducesTo [0] S_

variable [Facts]

def fn_part1 {F : FTy → Type} [FloatOps F] (main_arg3 : IVec S1 32) (main_v5 : IVec S_ 1) (main_v15 : IVec S15 1) (main_c_6 : IVec S_ 1) : IVec S_ 1 :=
  let main_v16 : IVec S_ 1 := (fun x v => Host.reduce IntOp.andi x v reducesTo_S15_S_d0 h_S_) main_v15 main_c_6
  let main_v17 : IVec S_ 1 := andi main_v5 main_v16
  let main_c_7 : IVec S_ 32 := constantI S_ 32 1#32
  let main_v18 : IVec S1 32 := broadcastInDim S1 ![] bcast_S_S1 main_c_7
  let main_v19 : IVec S1 1 := cmpi .sge main_arg3 main_v18
  let main_c_8 : IVec S_ 32 := constantI S_ 32 15#32
  let main_v20 : IVec S1 32 := broadcastInDim S1 ![] bcast_S_S1 main_c_8
  let main_v21 : IVec S1 1 := cmpi .sle main_arg3 main_v20
  let main_v22 : IVec S1 1 := andi main_v19 main_v21
  let main_c_9 : IVec S_ 1 := constantI S_ 1 1#1
  let main_v23 : IVec S_ 1 := (fun x v => Host.reduce IntOp.andi x v reducesTo_S1_S_d0 h_S_) main_v22 main_c_9
  let main_v24 : IVec S_ 1 := andi main_v17 main_v23
  main_v24

def fn {F : FTy → Type} [FloatOps F] (main_arg0 : FVec F S34560x2048 .bf16) (main_arg1 : IVec S15 32) (main_arg2 : IVec S15 32) (main_arg3 : IVec S1 32) (main_arg4 : FVec F S1x8x2048x5632 .f32) (main_arg5 : FVec F S1x8x2048x5632 .f32) (main_arg6 : FVec F S1x8x5632x2048 .f32) (main_arg7 : FVec F S34560x128 .f32) : IVec S_ 1 :=
  let main_c : IVec S_ 32 := constantI S_ 32 0#32
  let main_v0 : IVec S15 32 := broadcastInDim S15 ![] bcast_S_S15 main_c
  let main_v1 : IVec S15 1 := cmpi .sge main_arg1 main_v0
  let main_c_0 : IVec S_ 32 := constantI S_ 32 8#32
  let main_v2 : IVec S15 32 := broadcastInDim S15 ![] bcast_S_S15 main_c_0
  let main_v3 : IVec S15 1 := cmpi .slt main_arg1 main_v2
  let main_v4 : IVec S15 1 := andi main_v1 main_v3
  let main_c_1 : IVec S_ 1 := constantI S_ 1 1#1
  let main_v5 : IVec S_ 1 := (fun x v => Host.reduce IntOp.andi x v reducesTo_S15_S_d0 h_S_) main_v4 main_c_1
  let main_c_2 : IVec S_ 32 := constantI S_ 32 0#32
  let main_v6 : IVec S15 32 := broadcastInDim S15 ![] bcast_S_S15 main_c_2
  let main_v7 : IVec S15 1 := cmpi .sge main_arg2 main_v6
  let main_c_3 : IVec S_ 32 := constantI S_ 32 2304#32
  let main_v8 : IVec S15 32 := broadcastInDim S15 ![] bcast_S_S15 main_c_3
  let main_v9 : IVec S15 1 := cmpi .sle main_arg2 main_v8
  let main_v10 : IVec S15 1 := andi main_v7 main_v9
  let main_c_4 : IVec S_ 32 := constantI S_ 32 255#32
  let main_v11 : IVec S15 32 := broadcastInDim S15 ![] bcast_S_S15 main_c_4
  let main_v12 : IVec S15 32 := andi main_arg2 main_v11
  let main_c_5 : IVec S_ 32 := constantI S_ 32 0#32
  let main_v13 : IVec S15 32 := broadcastInDim S15 ![] bcast_S_S15 main_c_5
  let main_v14 : IVec S15 1 := cmpi .eq main_v12 main_v13
  let main_v15 : IVec S15 1 := andi main_v10 main_v14
  let main_c_6 : IVec S_ 1 := constantI S_ 1 1#1
  fn_part1 (F := F) main_arg3 main_v5 main_v15 main_c_6
-- ==== ProjIn.lean ====
abbrev S8704x2048 : Shape := ⟨2, ![8704, 2048]⟩
abbrev S2x2048x15392 : Shape := ⟨3, ![2, 2048, 15392]⟩
abbrev S2x15392x2048 : Shape := ⟨3, ![2, 15392, 2048]⟩
abbrev S8704x6144 : Shape := ⟨2, ![8704, 6144]⟩
abbrev S1088x2048 : Shape := ⟨2, ![1088, 2048]⟩
abbrev S1x1024x2048 : Shape := ⟨3, ![1, 1024, 2048]⟩
abbrev S1088x1024 : Shape := ⟨2, ![1088, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S2x2048x15392, .f32⟩
  | .hbm, ⟨2, _⟩ => ⟨S2x15392x2048, .f32⟩
  | .hbm, ⟨3, _⟩ => ⟨S8704x6144, .f32⟩
  | .local _ .vmem, ⟨0, _⟩ => ⟨S1088x2048, .bf16⟩
  | .local _ .vmem, ⟨1, _⟩ => ⟨S1088x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1088x1024, .f32⟩
  | .local _ .vmem, ⟨5, _⟩ => ⟨S1088x1024, .f32⟩
  | .local _ .vmem, ⟨6, _⟩ => ⟨S1024x2048, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def k0_mult1 (i : grid0.Coords) : BitVec 32 :=
  let c0_i32 : BitVec 32 := 0#32
  let arg0 : BitVec 32 := BitVec.ofNat 32 (i 0).val
  let c1024_i32 : BitVec 32 := 1024#32
  let v0 : BitVec 32 := Scalar.muli arg0 c1024_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefInIdeal.lean ====
abbrev S8704x2048 : Shape := ⟨2, ![8704, 2048]⟩
abbrev S2x2048x15392 : Shape := ⟨3, ![2, 2048, 15392]⟩
abbrev S1x2048x15392 : Shape := ⟨3, ![1, 2048, 15392]⟩
abbrev S2048x15392 : Shape := ⟨2, ![2048, 15392]⟩
abbrev S8704x15392 : Shape := ⟨2, ![8704, 15392]⟩
abbrev S8704x6144 : Shape := ⟨2, ![8704, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x15392, .f32⟩
  | .hbm, ⟨2, _⟩ => ⟨S8704x2048, .f32⟩
  | .hbm, ⟨3, _⟩ => ⟨S1x2048x15392, .f32⟩
  | .hbm, ⟨4, _⟩ => ⟨S2048x15392, .f32⟩
  | .hbm, ⟨5, _⟩ => ⟨S8704x15392, .f32⟩
  | .hbm, ⟨6, _⟩ => ⟨S8704x6144, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjDecay.lean ====
abbrev S8704x2048 : Shape := ⟨2, ![8704, 2048]⟩
abbrev S2x2048x15392 : Shape := ⟨3, ![2, 2048, 15392]⟩
abbrev S2x15392x2048 : Shape := ⟨3, ![2, 15392, 2048]⟩
abbrev S8704x128 : Shape := ⟨2, ![8704, 128]⟩
abbrev S1088x2048 : Shape := ⟨2, ![1088, 2048]⟩
abbrev S1x128x2048 : Shape := ⟨3, ![1, 128, 2048]⟩
abbrev S1088x128 : Shape := ⟨2, ![1088, 128]⟩
abbrev S128x2048 : Shape := ⟨2, ![128, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8704x2048, .bf16⟩
  | .hbm, ⟨1, _⟩ => ⟨S2x2048x15392, .f32⟩
  | .hbm, ⟨2, _⟩ => ⟨S2x15392x2048, .f32⟩
  | .hbm, ⟨3, _⟩ => ⟨S8704x128, .f32⟩
  | .local _ .vmem, ⟨0, _⟩ => ⟨S1088x2048, .bf16⟩
  | .local _ .vmem, ⟨1, _⟩ => ⟨S1088x2048, .bf16⟩
  | .local _ .vmem, ⟨2, _⟩ => ⟨S1x128x2048, .f32⟩
  | .local _ .vmem, ⟨3, _⟩ => ⟨S1088x128, .f32⟩
  | .local _ .vmem, ⟨4, _⟩ => ⟨S1088x128, .f32⟩
  | .local _ .vmem, ⟨5, _⟩ => ⟨S128x2048, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def k0_mult1 (i : grid0.Coords) : BitVec 32 :=
  let c6144_i32 : BitVec 32 := 6144#32
  let arg0 : BitVec 32 := BitVec.ofNat 32 (i 0).val
  let c128_i32 : BitVec 32 := 128#32
  let v0 : BitVec 32 := Scalar.muli arg0 c128_i32
  let v1 : BitVec 32 := Scalar.addi c6144_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c6144_i32 : BitVec 32 := 6144#32
  let v1 : BitVec 32 := Scalar.addi c6144_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefDecayIdeal.lean ====
abbrev S8704x2048 : Shape := ⟨2, ![8704, 2048]⟩
abbrev S2x2048x15392 : Shape := ⟨3, ![2, 2048, 15392]⟩
abbrev S1x2048x15392 : Shape := ⟨3, ![1, 2048, 15392]⟩
abbrev S2048x15392 : Shape := ⟨2, ![2048, 15392]⟩
abbrev S8704x15392 : Shape := ⟨2, ![8704, 15392]⟩
abbrev S8704x128 : Shape := ⟨2, ![8704, 128]⟩

abbrev nBuf : Space → Nat
  | .hbm => 7
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x15392, .f32⟩
  | .hbm, ⟨2, _⟩ => ⟨S8704x2048, .f32⟩
  | .hbm, ⟨3, _⟩ => ⟨S1x2048x15392, .f32⟩
  | .hbm, ⟨4, _⟩ => ⟨S2048x15392, .f32⟩
  | .hbm, ⟨5, _⟩ => ⟨S8704x15392, .f32⟩
  | .hbm, ⟨6, _⟩ => ⟨S8704x128, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjNa.lean ====
abbrev S8704x2048 : Shape := ⟨2, ![8704, 2048]⟩
abbrev S2x2048x15392 : Shape := ⟨3, ![2, 2048, 15392]⟩
abbrev S2x15392x2048 : Shape := ⟨3, ![2, 15392, 2048]⟩
abbrev S8704x3072 : Shape := ⟨2, ![8704, 3072]⟩
abbrev S1088x2048 : Shape := ⟨2, ![1088, 2048]⟩
abbrev S1x1024x2048 : Shape := ⟨3, ![1, 1024, 2048]⟩
abbrev S1088x1024 : Shape := ⟨2, ![1088, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S2x2048x15392, .f32⟩
  | .hbm, ⟨2, _⟩ => ⟨S2x15392x2048, .f32⟩
  | .hbm, ⟨3, _⟩ => ⟨S8704x3072, .bf16⟩
  | .local _ .vmem, ⟨0, _⟩ => ⟨S1088x2048, .bf16⟩
  | .local _ .vmem, ⟨1, _⟩ => ⟨S1088x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1088x1024, .bf16⟩
  | .local _ .vmem, ⟨5, _⟩ => ⟨S1088x1024, .bf16⟩
  | .local _ .vmem, ⟨6, _⟩ => ⟨S1024x2048, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def k0_mult1 (i : grid0.Coords) : BitVec 32 :=
  let c6176_i32 : BitVec 32 := 6176#32
  let arg0 : BitVec 32 := BitVec.ofNat 32 (i 0).val
  let c1024_i32 : BitVec 32 := 1024#32
  let v0 : BitVec 32 := Scalar.muli arg0 c1024_i32
  let v1 : BitVec 32 := Scalar.addi c6176_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c6176_i32 : BitVec 32 := 6176#32
  let v1 : BitVec 32 := Scalar.addi c6176_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefNaIdeal.lean ====
abbrev S8704x2048 : Shape := ⟨2, ![8704, 2048]⟩
abbrev S2x2048x15392 : Shape := ⟨3, ![2, 2048, 15392]⟩
abbrev S1x2048x15392 : Shape := ⟨3, ![1, 2048, 15392]⟩
abbrev S2048x15392 : Shape := ⟨2, ![2048, 15392]⟩
abbrev S8704x15392 : Shape := ⟨2, ![8704, 15392]⟩
abbrev S8704x1024 : Shape := ⟨2, ![8704, 1024]⟩
abbrev S_ : Shape := ⟨0, ![]⟩
abbrev S8704x3072 : Shape := ⟨2, ![8704, 3072]⟩

abbrev nBuf : Space → Nat
  | .hbm => 13
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x15392, .f32⟩
  | .hbm, ⟨2, _⟩ => ⟨S8704x2048, .f32⟩
  | .hbm, ⟨3, _⟩ => ⟨S1x2048x15392, .f32⟩
  | .hbm, ⟨4, _⟩ => ⟨S2048x15392, .f32⟩
  | .hbm, ⟨5, _⟩ => ⟨S8704x15392, .f32⟩
  | .hbm, ⟨6, _⟩ => ⟨S8704x1024, .f32⟩
  | .hbm, ⟨7, _⟩ => ⟨S8704x2048, .f32⟩
  | .hbm, ⟨8, _⟩ => ⟨S_, .f32⟩
  | .hbm, ⟨9, _⟩ => ⟨S8704x1024, .f32⟩
  | .hbm, ⟨10, _⟩ => ⟨S8704x1024, .f32⟩
  | .hbm, ⟨11, _⟩ => ⟨S8704x3072, .f32⟩
  | .hbm, ⟨12, _⟩ => ⟨S8704x3072, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== ProjGates.lean ====
abbrev S8704x2048 : Shape := ⟨2, ![8704, 2048]⟩
abbrev S2x2048x15392 : Shape := ⟨3, ![2, 2048, 15392]⟩
abbrev S2x15392x2048 : Shape := ⟨3, ![2, 15392, 2048]⟩
abbrev S8704x6144 : Shape := ⟨2, ![8704, 6144]⟩
abbrev S1088x2048 : Shape := ⟨2, ![1088, 2048]⟩
abbrev S1x1024x2048 : Shape := ⟨3, ![1, 1024, 2048]⟩
abbrev S1088x1024 : Shape := ⟨2, ![1088, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S2x2048x15392, .f32⟩
  | .hbm, ⟨2, _⟩ => ⟨S2x15392x2048, .f32⟩
  | .hbm, ⟨3, _⟩ => ⟨S8704x6144, .f32⟩
  | .local _ .vmem, ⟨0, _⟩ => ⟨S1088x2048, .bf16⟩
  | .local _ .vmem, ⟨1, _⟩ => ⟨S1088x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1088x1024, .f32⟩
  | .local _ .vmem, ⟨5, _⟩ => ⟨S1088x1024, .f32⟩
  | .local _ .vmem, ⟨6, _⟩ => ⟨S1024x2048, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def k0_mult1 (i : grid0.Coords) : BitVec 32 :=
  let c9248_i32 : BitVec 32 := 9248#32
  let arg0 : BitVec 32 := BitVec.ofNat 32 (i 0).val
  let c1024_i32 : BitVec 32 := 1024#32
  let v0 : BitVec 32 := Scalar.muli arg0 c1024_i32
  let v1 : BitVec 32 := Scalar.addi c9248_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c9248_i32 : BitVec 32 := 9248#32
  let v1 : BitVec 32 := Scalar.addi c9248_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefGatesIdeal.lean ====
abbrev S8704x2048 : Shape := ⟨2, ![8704, 2048]⟩
abbrev S2x2048x15392 : Shape := ⟨3, ![2, 2048, 15392]⟩
abbrev S1x2048x15392 : Shape := ⟨3, ![1, 2048, 15392]⟩
abbrev S2048x15392 : Shape := ⟨2, ![2048, 15392]⟩
abbrev S8704x15392 : Shape := ⟨2, ![8704, 15392]⟩
abbrev S8704x6144 : Shape := ⟨2, ![8704, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x15392, .f32⟩
  | .hbm, ⟨2, _⟩ => ⟨S8704x2048, .f32⟩
  | .hbm, ⟨3, _⟩ => ⟨S1x2048x15392, .f32⟩
  | .hbm, ⟨4, _⟩ => ⟨S2048x15392, .f32⟩
  | .hbm, ⟨5, _⟩ => ⟨S8704x15392, .f32⟩
  | .hbm, ⟨6, _⟩ => ⟨S8704x6144, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Experts.lean ====
abbrev S34560x2048 : Shape := ⟨2, ![34560, 2048]⟩
abbrev S15 : Shape := ⟨1, ![15]⟩
abbrev S1 : Shape := ⟨1, ![1]⟩
abbrev S1x8x2048x5632 : Shape := ⟨4, ![1, 8, 2048, 5632]⟩
abbrev S1x8x5632x2048 : Shape := ⟨4, ![1, 8, 5632, 2048]⟩
abbrev S34560x128 : Shape := ⟨2, ![34560, 128]⟩
abbrev S2304x2048 : Shape := ⟨2, ![2304, 2048]⟩
abbrev S1x1x2048x256 : Shape := ⟨4, ![1, 1, 2048, 256]⟩
abbrev S1x1x256x2048 : Shape := ⟨4, ![1, 1, 256, 2048]⟩
abbrev S2304x128 : Shape := ⟨2, ![2304, 128]⟩
abbrev S1024x2048 : Shape := ⟨2, ![1024, 2048]⟩
abbrev S2048x256 : Shape := ⟨2, ![2048, 256]⟩
abbrev S1024x256 : Shape := ⟨2, ![1024, 256]⟩
abbrev S256x2048 : Shape := ⟨2, ![256, 2048]⟩
abbrev S512x2048 : Shape := ⟨2, ![512, 2048]⟩
abbrev S512x256 : Shape := ⟨2, ![512, 256]⟩
abbrev S256x256 : Shape := ⟨2, ![256, 256]⟩
abbrev S1024x1 : Shape := ⟨2, ![1024, 1]⟩
abbrev S512x1 : Shape := ⟨2, ![512, 1]⟩
abbrev S256x1 : Shape := ⟨2, ![256, 1]⟩

abbrev nBuf : Space → Nat
  | .hbm => 6
  | .vmem => 11
  | .smem => 3
  | _ => 0

abbrev bufTy : (tb : Table) → Fin (tcTables nBuf tb) → BufTy
  | .hbm, ⟨0, _⟩ => ⟨S34560x2048, .bf16⟩
  | .hbm, ⟨1, _⟩ => ⟨S1x8x2048x5632, .f32⟩
  | .hbm, ⟨2, _⟩ => ⟨S1x8x2048x5632, .f32⟩
  | .hbm, ⟨3, _⟩ => ⟨S1x8x5632x2048, .f32⟩
  | .hbm, ⟨4, _⟩ => ⟨S34560x128, .f32⟩
  | .hbm, ⟨5, _⟩ => ⟨S34560x2048, .bf16⟩
  | .local _ .vmem, ⟨0, _⟩ => ⟨S2304x2048, .bf16⟩
  | .local _ .vmem, ⟨1, _⟩ => ⟨S1x1x2048x256, .f32⟩
  | .local _ .vmem, ⟨2, _⟩ => ⟨S1x1x2048x256, .f32⟩
  | .local _ .vmem, ⟨3, _⟩ => ⟨S1x1x2048x256, .f32⟩
  | .local _ .vmem, ⟨4, _⟩ => ⟨S1x1x2048x256, .f32⟩
  | .local _ .vmem, ⟨5, _⟩ => ⟨S1x1x256x2048, .f32⟩
  | .local _ .vmem, ⟨6, _⟩ => ⟨S1x1x256x2048, .f32⟩
  | .local _ .vmem, ⟨7, _⟩ => ⟨S2304x128, .f32⟩
  | .local _ .vmem, ⟨8, _⟩ => ⟨S2304x128, .f32⟩
  | .local _ .vmem, ⟨9, _⟩ => ⟨S2304x2048, .bf16⟩
  | .local _ .vmem, ⟨10, _⟩ => ⟨S2304x2048, .f32⟩
  | .local _ .smem, ⟨0, _⟩ => ⟨S15, .i32⟩
  | .local _ .smem, ⟨1, _⟩ => ⟨S15, .i32⟩
  | .local _ .smem, ⟨2, _⟩ => ⟨S1, .i32⟩
  | _, _ => ⟨S34560x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![15, 22], ![false, false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v4 : Index := Scalar.indexCast arg0
  ![v4.toNat]
@[reducible] def k0_t1_loop (v5 : BitVec 32) : Scf.Loop 32 :=
  let c0_i32_8 : BitVec 32 := 0#32
  let c0_i32_2 : BitVec 32 := 0#32
  let v10 : BitVec 1 := Scalar.cmpi .sgt v5 c0_i32_2
  let v11 : BitVec 32 := Scalar.extui v10
  let c0_i32_3 : BitVec 32 := 0#32
  let v12 : BitVec 1 := Scalar.cmpi .slt v5 c0_i32_3
  let v13 : BitVec 32 := Scalar.extui v12
  let v14 : BitVec 32 := Scalar.subi v11 v13
  let c1024_i32 : BitVec 32 := 1024#32
  let c0_i32_4 : BitVec 32 := 0#32
  let v15 : BitVec 1 := Scalar.cmpi .sgt c1024_i32 c0_i32_4
  let v16 : BitVec 32 := Scalar.extui v15
  let c0_i32_5 : BitVec 32 := 0#32
  let v17 : BitVec 1 := Scalar.cmpi .slt c1024_i32 c0_i32_5
  let v18 : BitVec 32 := Scalar.extui v17
  let v19 : BitVec 32 := Scalar.subi v16 v18
  let v20 : BitVec 1 := Scalar.cmpi .ne v14 v19
  let v21 : BitVec 32 := Scalar.remsi v5 c1024_i32
  let c0_i32_6 : BitVec 32 := 0#32
  let v22 : BitVec 1 := Scalar.cmpi .ne v21 c0_i32_6
  let v23 : BitVec 1 := Scalar.andi v20 v22
  let v9 : BitVec 32 := Scalar.divsi v5 c1024_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_10 : BitVec 32 := 1#32
  ⟨c0_i32_8, v30, c1_i32_10⟩
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_mult1 (v5 : BitVec 32) (k0_t1 : Fin (k0_t1_loop v5).trips) : BitVec 32 :=
  let c0_i32_8 : BitVec 32 := 0#32
  let c1_i32_10 : BitVec 32 := 1#32
  let arg12 : BitVec 32 := Scf.iv c0_i32_8 c1_i32_10 k0_t1
  let c1024_i32_23 : BitVec 32 := 1024#32
  let v52 : BitVec 32 := Scalar.muli arg12 c1024_i32_23
  v52
def k0_off3 (v5 : BitVec 32) (k0_t1 : Fin (k0_t1_loop v5).trips) : Fin 2 → Nat :=
  let c0_i32_8 : BitVec 32 := 0#32
  let c1_i32_10 : BitVec 32 := 1#32
  let arg12 : BitVec 32 := Scf.iv c0_i32_8 c1_i32_10 k0_t1
  let c1024_i32_23 : BitVec 32 := 1024#32
  let v52 : BitVec 32 := Scalar.muli arg12 c1024_i32_23
  let v53 : BitVec 32 := v52
  let v54 : Index := Scalar.indexCast v53
  let c0_24 : Index := 0#32
  ![v54.toNat, 0]
@[reducible] def k0_t2_loop (v5 : BitVec 32) : Scf.Loop 32 :=
  let c0_i32_8 : BitVec 32 := 0#32
  let c0_i32_2 : BitVec 32 := 0#32
  let v10 : BitVec 1 := Scalar.cmpi .sgt v5 c0_i32_2
  let v11 : BitVec 32 := Scalar.extui v10
  let c0_i32_3 : BitVec 32 := 0#32
  let v12 : BitVec 1 := Scalar.cmpi .slt v5 c0_i32_3
  let v13 : BitVec 32 := Scalar.extui v12
  let v14 : BitVec 32 := Scalar.subi v11 v13
  let c1024_i32 : BitVec 32 := 1024#32
  let c0_i32_4 : BitVec 32 := 0#32
  let v15 : BitVec 1 := Scalar.cmpi .sgt c1024_i32 c0_i32_4
  let v16 : BitVec 32 := Scalar.extui v15
  let c0_i32_5 : BitVec 32 := 0#32
  let v17 : BitVec 1 := Scalar.cmpi .slt c1024_i32 c0_i32_5
  let v18 : BitVec 32 := Scalar.extui v17
  let v19 : BitVec 32 := Scalar.subi v16 v18
  let v20 : BitVec 1 := Scalar.cmpi .ne v14 v19
  let v21 : BitVec 32 := Scalar.remsi v5 c1024_i32
  let c0_i32_6 : BitVec 32 := 0#32
  let v22 : BitVec 1 := Scalar.cmpi .ne v21 c0_i32_6
  let v23 : BitVec 1 := Scalar.andi v20 v22
  let v9 : BitVec 32 := Scalar.divsi v5 c1024_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let v27 : BitVec 32 := Scalar.addi c0_i32_8 v26
  let c1_i32_11 : BitVec 32 := 1#32
  ⟨v30, v27, c1_i32_11⟩
def k0_mult2 (v5 : BitVec 32) (k0_t2 : Fin (k0_t2_loop v5).trips) : BitVec 32 :=
  let c0_i32_8 : BitVec 32 := 0#32
  let c0_i32_2 : BitVec 32 := 0#32
  let v10 : BitVec 1 := Scalar.cmpi .sgt v5 c0_i32_2
  let v11 : BitVec 32 := Scalar.extui v10
  let c0_i32_3 : BitVec 32 := 0#32
  let v12 : BitVec 1 := Scalar.cmpi .slt v5 c0_i32_3
  let v13 : BitVec 32 := Scalar.extui v12
  let v14 : BitVec 32 := Scalar.subi v11 v13
  let c1024_i32 : BitVec 32 := 1024#32
  let c0_i32_4 : BitVec 32 := 0#32
  let v15 : BitVec 1 := Scalar.cmpi .sgt c1024_i32 c0_i32_4
  let v16 : BitVec 32 := Scalar.extui v15
  let c0_i32_5 : BitVec 32 := 0#32
  let v17 : BitVec 1 := Scalar.cmpi .slt c1024_i32 c0_i32_5
  let v18 : BitVec 32 := Scalar.extui v17
  let v19 : BitVec 32 := Scalar.subi v16 v18
  let v20 : BitVec 1 := Scalar.cmpi .ne v14 v19
  let v21 : BitVec 32 := Scalar.remsi v5 c1024_i32
  let c0_i32_6 : BitVec 32 := 0#32
  let v22 : BitVec 1 := Scalar.cmpi .ne v21 c0_i32_6
  let v23 : BitVec 1 := Scalar.andi v20 v22
  let v9 : BitVec 32 := Scalar.divsi v5 c1024_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg12 : BitVec 32 := Scf.iv v30 c1_i32_11 k0_t2
  let c1024_i32_23 : BitVec 32 := 1024#32
  let v52 : BitVec 32 := Scalar.muli arg12 c1024_i32_23
  v52
def k0_off4 (v5 : BitVec 32) (k0_t2 : Fin (k0_t2_loop v5).trips) : Fin 2 → Nat :=
  let c0_i32_8 : BitVec 32 := 0#32
  let c0_i32_2 : BitVec 32 := 0#32
  let v10 : BitVec 1 := Scalar.cmpi .sgt v5 c0_i32_2
  let v11 : BitVec 32 := Scalar.extui v10
  let c0_i32_3 : BitVec 32 := 0#32
  let v12 : BitVec 1 := Scalar.cmpi .slt v5 c0_i32_3
  let v13 : BitVec 32 := Scalar.extui v12
  let v14 : BitVec 32 := Scalar.subi v11 v13
  let c1024_i32 : BitVec 32 := 1024#32
  let c0_i32_4 : BitVec 32 := 0#32
  let v15 : BitVec 1 := Scalar.cmpi .sgt c1024_i32 c0_i32_4
  let v16 : BitVec 32 := Scalar.extui v15
  let c0_i32_5 : BitVec 32 := 0#32
  let v17 : BitVec 1 := Scalar.cmpi .slt c1024_i32 c0_i32_5
  let v18 : BitVec 32 := Scalar.extui v17
  let v19 : BitVec 32 := Scalar.subi v16 v18
  let v20 : BitVec 1 := Scalar.cmpi .ne v14 v19
  let v21 : BitVec 32 := Scalar.remsi v5 c1024_i32
  let c0_i32_6 : BitVec 32 := 0#32
  let v22 : BitVec 1 := Scalar.cmpi .ne v21 c0_i32_6
  let v23 : BitVec 1 := Scalar.andi v20 v22
  let v9 : BitVec 32 := Scalar.divsi v5 c1024_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg12 : BitVec 32 := Scf.iv v30 c1_i32_11 k0_t2
  let c1024_i32_23 : BitVec 32 := 1024#32
  let v52 : BitVec 32 := Scalar.muli arg12 c1024_i32_23
  let v53 : BitVec 32 := v52
  let v54 : Index := Scalar.indexCast v53
  let c0_24 : Index := 0#32
  ![v54.toNat, 0]
def k0_mult3 (v5 : BitVec 32) : BitVec 32 :=
  let c0_i32_2 : BitVec 32 := 0#32
  let v10 : BitVec 1 := Scalar.cmpi .sgt v5 c0_i32_2
  let v11 : BitVec 32 := Scalar.extui v10
  let c0_i32_3 : BitVec 32 := 0#32
  let v12 : BitVec 1 := Scalar.cmpi .slt v5 c0_i32_3
  let v13 : BitVec 32 := Scalar.extui v12
  let v14 : BitVec 32 := Scalar.subi v11 v13
  let c1024_i32 : BitVec 32 := 1024#32
  let c0_i32_4 : BitVec 32 := 0#32
  let v15 : BitVec 1 := Scalar.cmpi .sgt c1024_i32 c0_i32_4
  let v16 : BitVec 32 := Scalar.extui v15
  let c0_i32_5 : BitVec 32 := 0#32
  let v17 : BitVec 1 := Scalar.cmpi .slt c1024_i32 c0_i32_5
  let v18 : BitVec 32 := Scalar.extui v17
  let v19 : BitVec 32 := Scalar.subi v16 v18
  let v20 : BitVec 1 := Scalar.cmpi .ne v14 v19
  let v21 : BitVec 32 := Scalar.remsi v5 c1024_i32
  let c0_i32_6 : BitVec 32 := 0#32
  let v22 : BitVec 1 := Scalar.cmpi .ne v21 c0_i32_6
  let v23 : BitVec 1 := Scalar.andi v20 v22
  let v9 : BitVec 32 := Scalar.divsi v5 c1024_i32
  let c1_i32 : BitVec 32 := 1#32
  let v24 : BitVec 32 := Scalar.subi v9 c1_i32
  let v25 : BitVec 32 := Scalar.select v23 v24 v9
  let c1024_i32_23 : BitVec 32 := 1024#32
  let v52 : BitVec 32 := Scalar.muli v25 c1024_i32_23
  v52
def k0_cond3 (v5 : BitVec 32) : BitVec 1 :=
  let c0_i32_2 : BitVec 32 := 0#32
  let v10 : BitVec 1 := Scalar.cmpi .sgt v5 c0_i32_2
  let v11 : BitVec 32 := Scalar.extui v10
  let c0_i32_3 : BitVec 32 := 0#32
  let v12 : BitVec 1 := Scalar.cmpi .slt v5 c0_i32_3
  let v13 : BitVec 32 := Scalar.extui v12
  let v14 : BitVec 32 := Scalar.subi v11 v13
  let c1024_i32 : BitVec 32 := 1024#32
  let c0_i32_4 : BitVec 32 := 0#32
  let v15 : BitVec 1 := Scalar.cmpi .sgt c1024_i32 c0_i32_4
  let v16 : BitVec 32 := Scalar.extui v15
  let c0_i32_5 : BitVec 32 := 0#32
  let v17 : BitVec 1 := Scalar.cmpi .slt c1024_i32 c0_i32_5
  let v18 : BitVec 32 := Scalar.extui v17
  let v19 : BitVec 32 := Scalar.subi v16 v18
  let v20 : BitVec 1 := Scalar.cmpi .ne v14 v19
  let v21 : BitVec 32 := Scalar.remsi v5 c1024_i32
  let c0_i32_6 : BitVec 32 := 0#32
  let v22 : BitVec 1 := Scalar.cmpi .ne v21 c0_i32_6
  let v23 : BitVec 1 := Scalar.andi v20 v22
  let v9 : BitVec 32 := Scalar.divsi v5 c1024_i32
  let c1_i32 : BitVec 32 := 1#32
  let v24 : BitVec 32 := Scalar.subi v9 c1_i32
  let v25 : BitVec 32 := Scalar.select v23 v24 v9
  let c1024_i32_12 : BitVec 32 := 1024#32
  let v31 : BitVec 32 := Scalar.muli v25 c1024_i32_12
  let v32 : BitVec 32 := Scalar.subi v5 v31
  let c512_i32 : BitVec 32 := 512#32
  let v33 : BitVec 1 := Scalar.cmpi .sge v32 c512_i32
  let v34 : BitVec 32 := Scalar.extui v33
  let c0_i32_13 : BitVec 32 := 0#32
  let v35 : BitVec 1 := Scalar.cmpi .ne v34 c0_i32_13
  v35

def k0_off5 (v5 : BitVec 32) : Fin 2 → Nat :=
  let c0_i32_2 : BitVec 32 := 0#32
  let v10 : BitVec 1 := Scalar.cmpi .sgt v5 c0_i32_2
  let v11 : BitVec 32 := Scalar.extui v10
  let c0_i32_3 : BitVec 32 := 0#32
  let v12 : BitVec 1 := Scalar.cmpi .slt v5 c0_i32_3
  let v13 : BitVec 32 := Scalar.extui v12
  let v14 : BitVec 32 := Scalar.subi v11 v13
  let c1024_i32 : BitVec 32 := 1024#32
  let c0_i32_4 : BitVec 32 := 0#32
  let v15 : BitVec 1 := Scalar.cmpi .sgt c1024_i32 c0_i32_4
  let v16 : BitVec 32 := Scalar.extui v15
  let c0_i32_5 : BitVec 32 := 0#32
  let v17 : BitVec 1 := Scalar.cmpi .slt c1024_i32 c0_i32_5
  let v18 : BitVec 32 := Scalar.extui v17
  let v19 : BitVec 32 := Scalar.subi v16 v18
  let v20 : BitVec 1 := Scalar.cmpi .ne v14 v19
  let v21 : BitVec 32 := Scalar.remsi v5 c1024_i32
  let c0_i32_6 : BitVec 32 := 0#32
  let v22 : BitVec 1 := Scalar.cmpi .ne v21 c0_i32_6
  let v23 : BitVec 1 := Scalar.andi v20 v22
  let v9 : BitVec 32 := Scalar.divsi v5 c1024_i32
  let c1_i32 : BitVec 32 := 1#32
  let v24 : BitVec 32 := Scalar.subi v9 c1_i32
  let v25 : BitVec 32 := Scalar.select v23 v24 v9
  let c1024_i32_23 : BitVec 32 := 1024#32
  let v52 : BitVec 32 := Scalar.muli v25 c1024_i32_23
  let v53 : BitVec 32 := v52
  let v54 : Index := Scalar.indexCast v53
  let c0_24 : Index := 0#32
  ![v54.toNat, 0]
def k0_mult4 (v5 : BitVec 32) : BitVec 32 :=
  let c256_i32 : BitVec 32 := 256#32
  let v52 : BitVec 32 := Scalar.subi v5 c256_i32
  v52
def k0_cond4 (v5 : BitVec 32) : BitVec 1 :=
  let c0_i32_2 : BitVec 32 := 0#32
  let v10 : BitVec 1 := Scalar.cmpi .sgt v5 c0_i32_2
  let v11 : BitVec 32 := Scalar.extui v10
  let c0_i32_3 : BitVec 32 := 0#32
  let v12 : BitVec 1 := Scalar.cmpi .slt v5 c0_i32_3
  let v13 : BitVec 32 := Scalar.extui v12
  let v14 : BitVec 32 := Scalar.subi v11 v13
  let c1024_i32 : BitVec 32 := 1024#32
  let c0_i32_4 : BitVec 32 := 0#32
  let v15 : BitVec 1 := Scalar.cmpi .sgt c1024_i32 c0_i32_4
  let v16 : BitVec 32 := Scalar.extui v15
  let c0_i32_5 : BitVec 32 := 0#32
  let v17 : BitVec 1 := Scalar.cmpi .slt c1024_i32 c0_i32_5
  let v18 : BitVec 32 := Scalar.extui v17
  let v19 : BitVec 32 := Scalar.subi v16 v18
  let v20 : BitVec 1 := Scalar.cmpi .ne v14 v19
  let v21 : BitVec 32 := Scalar.remsi v5 c1024_i32
  let c0_i32_6 : BitVec 32 := 0#32
  let v22 : BitVec 1 := Scalar.cmpi .ne v21 c0_i32_6
  let v23 : BitVec 1 := Scalar.andi v20 v22
  let v9 : BitVec 32 := Scalar.divsi v5 c1024_i32
  let c1_i32 : BitVec 32 := 1#32
  let v24 : BitVec 32 := Scalar.subi v9 c1_i32
  let v25 : BitVec 32 := Scalar.select v23 v24 v9
  let c1024_i32_12 : BitVec 32 := 1024#32
  let v31 : BitVec 32 := Scalar.muli v25 c1024_i32_12
  let v32 : BitVec 32 := Scalar.subi v5 v31
  let c512_i32_14 : BitVec 32 := 512#32
  let c0_i32_15 : BitVec 32 := 0#32
  let v36 : BitVec 1 := Scalar.cmpi .eq c512_i32_14 c0_i32_15
  let c1_i32_16 : BitVec 32 := 1#32
  let v37 : BitVec 32 := Scalar.select v36 c1_i32_16 c512_i32_14
  let v38 : BitVec 32 := Scalar.remsi v32 v37
  let c0_i32_18 : BitVec 32 := 0#32
  let v40 : BitVec 1 := Scalar.cmpi .slt v38 c0_i32_18
  let c0_i32_19 : BitVec 32 := 0#32
  let v41 : BitVec 1 := Scalar.cmpi .slt v37 c0_i32_19
  let v42 : BitVec 1 := Scalar.xori v40 v41
  let c0_i32_17 : BitVec 32 := 0#32
  let v39 : BitVec 1 := Scalar.cmpi .ne v38 c0_i32_17
  let v43 : BitVec 1 := Scalar.andi v42 v39
  let v44 : BitVec 32 := Scalar.addi v38 v37
  let v45 : BitVec 32 := Scalar.select v43 v44 v38
  let c0_i32_20 : BitVec 32 := 0#32
  let v46 : BitVec 1 := Scalar.cmpi .ne v45 c0_i32_20
  let v47 : BitVec 32 := Scalar.extui v46
  let c0_i32_21 : BitVec 32 := 0#32
  let v48 : BitVec 1 := Scalar.cmpi .ne v47 c0_i32_21
  v48

def k0_off6 (v5 : BitVec 32) : Fin 2 → Nat :=
  let c256_i32 : BitVec 32 := 256#32
  let v52 : BitVec 32 := Scalar.subi v5 c256_i32
  let v53 : BitVec 32 := v52
  let v54 : Index := Scalar.indexCast v53
  let c0_23 : Index := 0#32
  ![v54.toNat, 0]
def k0_cond5 (i : grid0.Coords) : BitVec 1 :=
  let arg1 : BitVec 32 := BitVec.ofNat 32 (i 1).val
  let c21_i32 : BitVec 32 := 21#32
  let v49 : BitVec 1 := Scalar.cmpi .eq arg1 c21_i32
  let v50 : BitVec 32 := Scalar.extui v49
  let c0_i32_22 : BitVec 32 := 0#32
  let v51 : BitVec 1 := Scalar.cmpi .ne v50 c0_i32_22
  v51

@[reducible] def k0_t3_loop (v5 : BitVec 32) : Scf.Loop 32 :=
  let c0_i32_31 : BitVec 32 := 0#32
  let c0_i32_24 : BitVec 32 := 0#32
  let v53 : BitVec 1 := Scalar.cmpi .sgt v5 c0_i32_24
  let v54 : BitVec 32 := Scalar.extui v53
  let c0_i32_25 : BitVec 32 := 0#32
  let v55 : BitVec 1 := Scalar.cmpi .slt v5 c0_i32_25
  let v56 : BitVec 32 := Scalar.extui v55
  let v57 : BitVec 32 := Scalar.subi v54 v56
  let c1024_i32_23 : BitVec 32 := 1024#32
  let c0_i32_26 : BitVec 32 := 0#32
  let v58 : BitVec 1 := Scalar.cmpi .sgt c1024_i32_23 c0_i32_26
  let v59 : BitVec 32 := Scalar.extui v58
  let c0_i32_27 : BitVec 32 := 0#32
  let v60 : BitVec 1 := Scalar.cmpi .slt c1024_i32_23 c0_i32_27
  let v61 : BitVec 32 := Scalar.extui v60
  let v62 : BitVec 32 := Scalar.subi v59 v61
  let v63 : BitVec 1 := Scalar.cmpi .ne v57 v62
  let v64 : BitVec 32 := Scalar.remsi v5 c1024_i32_23
  let c0_i32_28 : BitVec 32 := 0#32
  let v65 : BitVec 1 := Scalar.cmpi .ne v64 c0_i32_28
  let v66 : BitVec 1 := Scalar.andi v63 v65
  let v52 : BitVec 32 := Scalar.divsi v5 c1024_i32_23
  let c1_i32_29 : BitVec 32 := 1#32
  let v67 : BitVec 32 := Scalar.subi v52 c1_i32_29
  let v68 : BitVec 32 := Scalar.select v66 v67 v52
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_33 : BitVec 32 := 1#32
  ⟨c0_i32_31, v73, c1_i32_33⟩
def k0_mult5 (v5 : BitVec 32) (k0_t3 : Fin (k0_t3_loop v5).trips) : BitVec 32 :=
  let c0_i32_31 : BitVec 32 := 0#32
  let c1_i32_33 : BitVec 32 := 1#32
  let arg12 : BitVec 32 := Scf.iv c0_i32_31 c1_i32_33 k0_t3
  let c1024_i32_46 : BitVec 32 := 1024#32
  let v92 : BitVec 32 := Scalar.muli arg12 c1024_i32_46
  v92
def k0_off7 (v5 : BitVec 32) (k0_t3 : Fin (k0_t3_loop v5).trips) : Fin 2 → Nat :=
  let c0_i32_31 : BitVec 32 := 0#32
  let c1_i32_33 : BitVec 32 := 1#32
  let arg12 : BitVec 32 := Scf.iv c0_i32_31 c1_i32_33 k0_t3
  let c1024_i32_46 : BitVec 32 := 1024#32
  let v92 : BitVec 32 := Scalar.muli arg12 c1024_i32_46
  let v93 : BitVec 32 := v92
  let v94 : Index := Scalar.indexCast v93
  let c0_47 : Index := 0#32
  ![v94.toNat, 0]
def k0_off8 (v5 : BitVec 32) (k0_t3 : Fin (k0_t3_loop v5).trips) : Fin 2 → Nat :=
  let c0_i32_31 : BitVec 32 := 0#32
  let c1_i32_33 : BitVec 32 := 1#32
  let arg12 : BitVec 32 := Scf.iv c0_i32_31 c1_i32_33 k0_t3
  let c1024_i32_46 : BitVec 32 := 1024#32
  let v92 : BitVec 32 := Scalar.muli arg12 c1024_i32_46
  let v93 : BitVec 32 := v92
  let v96 : Index := Scalar.indexCast v93
  let c0_48 : Index := 0#32
  ![v96.toNat, 0]
@[reducible] def k0_t4_loop (v5 : BitVec 32) : Scf.Loop 32 :=
  let c0_i32_31 : BitVec 32 := 0#32
  let c0_i32_24 : BitVec 32 := 0#32
  let v53 : BitVec 1 := Scalar.cmpi .sgt v5 c0_i32_24
  let v54 : BitVec 32 := Scalar.extui v53
  let c0_i32_25 : BitVec 32 := 0#32
  let v55 : BitVec 1 := Scalar.cmpi .slt v5 c0_i32_25
  let v56 : BitVec 32 := Scalar.extui v55
  let v57 : BitVec 32 := Scalar.subi v54 v56
  let c1024_i32_23 : BitVec 32 := 1024#32
  let c0_i32_26 : BitVec 32 := 0#32
  let v58 : BitVec 1 := Scalar.cmpi .sgt c1024_i32_23 c0_i32_26
  let v59 : BitVec 32 := Scalar.extui v58
  let c0_i32_27 : BitVec 32 := 0#32
  let v60 : BitVec 1 := Scalar.cmpi .slt c1024_i32_23 c0_i32_27
  let v61 : BitVec 32 := Scalar.extui v60
  let v62 : BitVec 32 := Scalar.subi v59 v61
  let v63 : BitVec 1 := Scalar.cmpi .ne v57 v62
  let v64 : BitVec 32 := Scalar.remsi v5 c1024_i32_23
  let c0_i32_28 : BitVec 32 := 0#32
  let v65 : BitVec 1 := Scalar.cmpi .ne v64 c0_i32_28
  let v66 : BitVec 1 := Scalar.andi v63 v65
  let v52 : BitVec 32 := Scalar.divsi v5 c1024_i32_23
  let c1_i32_29 : BitVec 32 := 1#32
  let v67 : BitVec 32 := Scalar.subi v52 c1_i32_29
  let v68 : BitVec 32 := Scalar.select v66 v67 v52
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let v70 : BitVec 32 := Scalar.addi c0_i32_31 v69
  let c1_i32_34 : BitVec 32 := 1#32
  ⟨v73, v70, c1_i32_34⟩
def k0_mult6 (v5 : BitVec 32) (k0_t4 : Fin (k0_t4_loop v5).trips) : BitVec 32 :=
  let c0_i32_31 : BitVec 32 := 0#32
  let c0_i32_24 : BitVec 32 := 0#32
  let v53 : BitVec 1 := Scalar.cmpi .sgt v5 c0_i32_24
  let v54 : BitVec 32 := Scalar.extui v53
  let c0_i32_25 : BitVec 32 := 0#32
  let v55 : BitVec 1 := Scalar.cmpi .slt v5 c0_i32_25
  let v56 : BitVec 32 := Scalar.extui v55
  let v57 : BitVec 32 := Scalar.subi v54 v56
  let c1024_i32_23 : BitVec 32 := 1024#32
  let c0_i32_26 : BitVec 32 := 0#32
  let v58 : BitVec 1 := Scalar.cmpi .sgt c1024_i32_23 c0_i32_26
  let v59 : BitVec 32 := Scalar.extui v58
  let c0_i32_27 : BitVec 32 := 0#32
  let v60 : BitVec 1 := Scalar.cmpi .slt c1024_i32_23 c0_i32_27
  let v61 : BitVec 32 := Scalar.extui v60
  let v62 : BitVec 32 := Scalar.subi v59 v61
  let v63 : BitVec 1 := Scalar.cmpi .ne v57 v62
  let v64 : BitVec 32 := Scalar.remsi v5 c1024_i32_23
  let c0_i32_28 : BitVec 32 := 0#32
  let v65 : BitVec 1 := Scalar.cmpi .ne v64 c0_i32_28
  let v66 : BitVec 1 := Scalar.andi v63 v65
  let v52 : BitVec 32 := Scalar.divsi v5 c1024_i32_23
  let c1_i32_29 : BitVec 32 := 1#32
  let v67 : BitVec 32 := Scalar.subi v52 c1_i32_29
  let v68 : BitVec 32 := Scalar.select v66 v67 v52
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg12 : BitVec 32 := Scf.iv v73 c1_i32_34 k0_t4
  let c1024_i32_46 : BitVec 32 := 1024#32
  let v92 : BitVec 32 := Scalar.muli arg12 c1024_i32_46
  v92
def k0_off9 (v5 : BitVec 32) (k0_t4 : Fin (k0_t4_loop v5).trips) : Fin 2 → Nat :=
  let c0_i32_31 : BitVec 32 := 0#32
  let c0_i32_24 : BitVec 32 := 0#32
  let v53 : BitVec 1 := Scalar.cmpi .sgt v5 c0_i32_24
  let v54 : BitVec 32 := Scalar.extui v53
  let c0_i32_25 : BitVec 32 := 0#32
  let v55 : BitVec 1 := Scalar.cmpi .slt v5 c0_i32_25
  let v56 : BitVec 32 := Scalar.extui v55
  let v57 : BitVec 32 := Scalar.subi v54 v56
  let c1024_i32_23 : BitVec 32 := 1024#32
  let c0_i32_26 : BitVec 32 := 0#32
  let v58 : BitVec 1 := Scalar.cmpi .sgt c1024_i32_23 c0_i32_26
  let v59 : BitVec 32 := Scalar.extui v58
  let c0_i32_27 : BitVec 32 := 0#32
  let v60 : BitVec 1 := Scalar.cmpi .slt c1024_i32_23 c0_i32_27
  let v61 : BitVec 32 := Scalar.extui v60
  let v62 : BitVec 32 := Scalar.subi v59 v61
  let v63 : BitVec 1 := Scalar.cmpi .ne v57 v62
  let v64 : BitVec 32 := Scalar.remsi v5 c1024_i32_23
  let c0_i32_28 : BitVec 32 := 0#32
  let v65 : BitVec 1 := Scalar.cmpi .ne v64 c0_i32_28
  let v66 : BitVec 1 := Scalar.andi v63 v65
  let v52 : BitVec 32 := Scalar.divsi v5 c1024_i32_23
  let c1_i32_29 : BitVec 32 := 1#32
  let v67 : BitVec 32 := Scalar.subi v52 c1_i32_29
  let v68 : BitVec 32 := Scalar.select v66 v67 v52
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg12 : BitVec 32 := Scf.iv v73 c1_i32_34 k0_t4
  let c1024_i32_46 : BitVec 32 := 1024#32
  let v92 : BitVec 32 := Scalar.muli arg12 c1024_i32_46
  let v93 : BitVec 32 := v92
  let v94 : Index := Scalar.indexCast v93
  let c0_47 : Index := 0#32
  ![v94.toNat, 0]
def k0_off10 (v5 : BitVec 32) (k0_t4 : Fin (k0_t4_loop v5).trips) : Fin 2 → Nat :=
  let c0_i32_31 : BitVec 32 := 0#32
  let c0_i32_24 : BitVec 32 := 0#32
  let v53 : BitVec 1 := Scalar.cmpi .sgt v5 c0_i32_24
  let v54 : BitVec 32 := Scalar.extui v53
  let c0_i32_25 : BitVec 32 := 0#32
  let v55 : BitVec 1 := Scalar.cmpi .slt v5 c0_i32_25
  let v56 : BitVec 32 := Scalar.extui v55
  let v57 : BitVec 32 := Scalar.subi v54 v56
  let c1024_i32_23 : BitVec 32 := 1024#32
  let c0_i32_26 : BitVec 32 := 0#32
  let v58 : BitVec 1 := Scalar.cmpi .sgt c1024_i32_23 c0_i32_26
  let v59 : BitVec 32 := Scalar.extui v58
  let c0_i32_27 : BitVec 32 := 0#32
  let v60 : BitVec 1 := Scalar.cmpi .slt c1024_i32_23 c0_i32_27
  let v61 : BitVec 32 := Scalar.extui v60
  let v62 : BitVec 32 := Scalar.subi v59 v61
  let v63 : BitVec 1 := Scalar.cmpi .ne v57 v62
  let v64 : BitVec 32 := Scalar.remsi v5 c1024_i32_23
  let c0_i32_28 : BitVec 32 := 0#32
  let v65 : BitVec 1 := Scalar.cmpi .ne v64 c0_i32_28
  let v66 : BitVec 1 := Scalar.andi v63 v65
  let v52 : BitVec 32 := Scalar.divsi v5 c1024_i32_23
  let c1_i32_29 : BitVec 32 := 1#32
  let v67 : BitVec 32 := Scalar.subi v52 c1_i32_29
  let v68 : BitVec 32 := Scalar.select v66 v67 v52
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg12 : BitVec 32 := Scf.iv v73 c1_i32_34 k0_t4
  let c1024_i32_46 : BitVec 32 := 1024#32
  let v92 : BitVec 32 := Scalar.muli arg12 c1024_i32_46
  let v93 : BitVec 32 := v92
  let v96 : Index := Scalar.indexCast v93
  let c0_48 : Index := 0#32
  ![v96.toNat, 0]
def k0_mult7 (v5 : BitVec 32) : BitVec 32 :=
  let c0_i32_24 : BitVec 32 := 0#32
  let v53 : BitVec 1 := Scalar.cmpi .sgt v5 c0_i32_24
  let v54 : BitVec 32 := Scalar.extui v53
  let c0_i32_25 : BitVec 32 := 0#32
  let v55 : BitVec 1 := Scalar.cmpi .slt v5 c0_i32_25
  let v56 : BitVec 32 := Scalar.extui v55
  let v57 : BitVec 32 := Scalar.subi v54 v56
  let c1024_i32_23 : BitVec 32 := 1024#32
  let c0_i32_26 : BitVec 32 := 0#32
  let v58 : BitVec 1 := Scalar.cmpi .sgt c1024_i32_23 c0_i32_26
  let v59 : BitVec 32 := Scalar.extui v58
  let c0_i32_27 : BitVec 32 := 0#32
  let v60 : BitVec 1 := Scalar.cmpi .slt c1024_i32_23 c0_i32_27
  let v61 : BitVec 32 := Scalar.extui v60
  let v62 : BitVec 32 := Scalar.subi v59 v61
  let v63 : BitVec 1 := Scalar.cmpi .ne v57 v62
  let v64 : BitVec 32 := Scalar.remsi v5 c1024_i32_23
  let c0_i32_28 : BitVec 32 := 0#32
  let v65 : BitVec 1 := Scalar.cmpi .ne v64 c0_i32_28
  let v66 : BitVec 1 := Scalar.andi v63 v65
  let v52 : BitVec 32 := Scalar.divsi v5 c1024_i32_23
  let c1_i32_29 : BitVec 32 := 1#32
  let v67 : BitVec 32 := Scalar.subi v52 c1_i32_29
  let v68 : BitVec 32 := Scalar.select v66 v67 v52
  let c1024_i32_46 : BitVec 32 := 1024#32
  let v92 : BitVec 32 := Scalar.muli v68 c1024_i32_46
  v92
def k0_cond6 (v5 : BitVec 32) : BitVec 1 :=
  let c0_i32_24 : BitVec 32 := 0#32
  let v53 : BitVec 1 := Scalar.cmpi .sgt v5 c0_i32_24
  let v54 : BitVec 32 := Scalar.extui v53
  let c0_i32_25 : BitVec 32 := 0#32
  let v55 : BitVec 1 := Scalar.cmpi .slt v5 c0_i32_25
  let v56 : BitVec 32 := Scalar.extui v55
  let v57 : BitVec 32 := Scalar.subi v54 v56
  let c1024_i32_23 : BitVec 32 := 1024#32
  let c0_i32_26 : BitVec 32 := 0#32
  let v58 : BitVec 1 := Scalar.cmpi .sgt c1024_i32_23 c0_i32_26
  let v59 : BitVec 32 := Scalar.extui v58
  let c0_i32_27 : BitVec 32 := 0#32
  let v60 : BitVec 1 := Scalar.cmpi .slt c1024_i32_23 c0_i32_27
  let v61 : BitVec 32 := Scalar.extui v60
  let v62 : BitVec 32 := Scalar.subi v59 v61
  let v63 : BitVec 1 := Scalar.cmpi .ne v57 v62
  let v64 : BitVec 32 := Scalar.remsi v5 c1024_i32_23
  let c0_i32_28 : BitVec 32 := 0#32
  let v65 : BitVec 1 := Scalar.cmpi .ne v64 c0_i32_28
  let v66 : BitVec 1 := Scalar.andi v63 v65
  let v52 : BitVec 32 := Scalar.divsi v5 c1024_i32_23
  let c1_i32_29 : BitVec 32 := 1#32
  let v67 : BitVec 32 := Scalar.subi v52 c1_i32_29
  let v68 : BitVec 32 := Scalar.select v66 v67 v52
  let c1024_i32_35 : BitVec 32 := 1024#32
  let v74 : BitVec 32 := Scalar.muli v68 c1024_i32_35
  let v75 : BitVec 32 := Scalar.subi v5 v74
  let c512_i32_36 : BitVec 32 := 512#32
  let v76 : BitVec 1 := Scalar.cmpi .sge v75 c512_i32_36
  let v77 : BitVec 32 := Scalar.extui v76
  let c0_i32_37 : BitVec 32 := 0#32
  let v78 : BitVec 1 := Scalar.cmpi .ne v77 c0_i32_37
  v78

def k0_off11 (v5 : BitVec 32) : Fin 2 → Nat :=
  let c0_i32_24 : BitVec 32 := 0#32
  let v53 : BitVec 1 := Scalar.cmpi .sgt v5 c0_i32_24
  let v54 : BitVec 32 := Scalar.extui v53
  let c0_i32_25 : BitVec 32 := 0#32
  let v55 : BitVec 1 := Scalar.cmpi .slt v5 c0_i32_25
  let v56 : BitVec 32 := Scalar.extui v55
  let v57 : BitVec 32 := Scalar.subi v54 v56
  let c1024_i32_23 : BitVec 32 := 1024#32
  let c0_i32_26 : BitVec 32 := 0#32
  let v58 : BitVec 1 := Scalar.cmpi .sgt c1024_i32_23 c0_i32_26
  let v59 : BitVec 32 := Scalar.extui v58
  let c0_i32_27 : BitVec 32 := 0#32
  let v60 : BitVec 1 := Scalar.cmpi .slt c1024_i32_23 c0_i32_27
  let v61 : BitVec 32 := Scalar.extui v60
  let v62 : BitVec 32 := Scalar.subi v59 v61
  let v63 : BitVec 1 := Scalar.cmpi .ne v57 v62
  let v64 : BitVec 32 := Scalar.remsi v5 c1024_i32_23
  let c0_i32_28 : BitVec 32 := 0#32
  let v65 : BitVec 1 := Scalar.cmpi .ne v64 c0_i32_28
  let v66 : BitVec 1 := Scalar.andi v63 v65
  let v52 : BitVec 32 := Scalar.divsi v5 c1024_i32_23
  let c1_i32_29 : BitVec 32 := 1#32
  let v67 : BitVec 32 := Scalar.subi v52 c1_i32_29
  let v68 : BitVec 32 := Scalar.select v66 v67 v52
  let c1024_i32_46 : BitVec 32 := 1024#32
  let v92 : BitVec 32 := Scalar.muli v68 c1024_i32_46
  let v93 : BitVec 32 := v92
  let v94 : Index := Scalar.indexCast v93
  let c0_47 : Index := 0#32
  ![v94.toNat, 0]
def k0_off12 (v5 : BitVec 32) : Fin 2 → Nat :=
  let c0_i32_24 : BitVec 32 := 0#32
  let v53 : BitVec 1 := Scalar.cmpi .sgt v5 c0_i32_24
  let v54 : BitVec 32 := Scalar.extui v53
  let c0_i32_25 : BitVec 32 := 0#32
  let v55 : BitVec 1 := Scalar.cmpi .slt v5 c0_i32_25
  let v56 : BitVec 32 := Scalar.extui v55
  let v57 : BitVec 32 := Scalar.subi v54 v56
  let c1024_i32_23 : BitVec 32 := 1024#32
  let c0_i32_26 : BitVec 32 := 0#32
  let v58 : BitVec 1 := Scalar.cmpi .sgt c1024_i32_23 c0_i32_26
  let v59 : BitVec 32 := Scalar.extui v58
  let c0_i32_27 : BitVec 32 := 0#32
  let v60 : BitVec 1 := Scalar.cmpi .slt c1024_i32_23 c0_i32_27
  let v61 : BitVec 32 := Scalar.extui v60
  let v62 : BitVec 32 := Scalar.subi v59 v61
  let v63 : BitVec 1 := Scalar.cmpi .ne v57 v62
  let v64 : BitVec 32 := Scalar.remsi v5 c1024_i32_23
  let c0_i32_28 : BitVec 32 := 0#32
  let v65 : BitVec 1 := Scalar.cmpi .ne v64 c0_i32_28
  let v66 : BitVec 1 := Scalar.andi v63 v65
  let v52 : BitVec 32 := Scalar.divsi v5 c1024_i32_23
  let c1_i32_29 : BitVec 32 := 1#32
  let v67 : BitVec 32 := Scalar.subi v52 c1_i32_29
  let v68 : BitVec 32 := Scalar.select v66 v67 v52
  let c1024_i32_46 : BitVec 32 := 1024#32
  let v92 : BitVec 32 := Scalar.muli v68 c1024_i32_46
  let v93 : BitVec 32 := v92
  let v96 : Index := Scalar.indexCast v93
  let c0_48 : Index := 0#32
  ![v96.toNat, 0]
def k0_mult8 (v5 : BitVec 32) : BitVec 32 :=
  let c256_i32 : BitVec 32 := 256#32
  let v92 : BitVec 32 := Scalar.subi v5 c256_i32
  v92
def k0_cond7 (v5 : BitVec 32) : BitVec 1 :=
  let c0_i32_24 : BitVec 32 := 0#32
  let v53 : BitVec 1 := Scalar.cmpi .sgt v5 c0_i32_24
  let v54 : BitVec 32 := Scalar.extui v53
  let c0_i32_25 : BitVec 32 := 0#32
  let v55 : BitVec 1 := Scalar.cmpi .slt v5 c0_i32_25
  let v56 : BitVec 32 := Scalar.extui v55
  let v57 : BitVec 32 := Scalar.subi v54 v56
  let c1024_i32_23 : BitVec 32 := 1024#32
  let c0_i32_26 : BitVec 32 := 0#32
  let v58 : BitVec 1 := Scalar.cmpi .sgt c1024_i32_23 c0_i32_26
  let v59 : BitVec 32 := Scalar.extui v58
  let c0_i32_27 : BitVec 32 := 0#32
  let v60 : BitVec 1 := Scalar.cmpi .slt c1024_i32_23 c0_i32_27
  let v61 : BitVec 32 := Scalar.extui v60
  let v62 : BitVec 32 := Scalar.subi v59 v61
  let v63 : BitVec 1 := Scalar.cmpi .ne v57 v62
  let v64 : BitVec 32 := Scalar.remsi v5 c1024_i32_23
  let c0_i32_28 : BitVec 32 := 0#32
  let v65 : BitVec 1 := Scalar.cmpi .ne v64 c0_i32_28
  let v66 : BitVec 1 := Scalar.andi v63 v65
  let v52 : BitVec 32 := Scalar.divsi v5 c1024_i32_23
  let c1_i32_29 : BitVec 32 := 1#32
  let v67 : BitVec 32 := Scalar.subi v52 c1_i32_29
  let v68 : BitVec 32 := Scalar.select v66 v67 v52
  let c1024_i32_35 : BitVec 32 := 1024#32
  let v74 : BitVec 32 := Scalar.muli v68 c1024_i32_35
  let v75 : BitVec 32 := Scalar.subi v5 v74
  let c512_i32_38 : BitVec 32 := 512#32
  let c0_i32_39 : BitVec 32 := 0#32
  let v79 : BitVec 1 := Scalar.cmpi .eq c512_i32_38 c0_i32_39
  let c1_i32_40 : BitVec 32 := 1#32
  let v80 : BitVec 32 := Scalar.select v79 c1_i32_40 c512_i32_38
  let v81 : BitVec 32 := Scalar.remsi v75 v80
  let c0_i32_42 : BitVec 32 := 0#32
  let v83 : BitVec 1 := Scalar.cmpi .slt v81 c0_i32_42
  let c0_i32_43 : BitVec 32 := 0#32
  let v84 : BitVec 1 := Scalar.cmpi .slt v80 c0_i32_43
  let v85 : BitVec 1 := Scalar.xori v83 v84
  let c0_i32_41 : BitVec 32 := 0#32
  let v82 : BitVec 1 := Scalar.cmpi .ne v81 c0_i32_41
  let v86 : BitVec 1 := Scalar.andi v85 v82
  let v87 : BitVec 32 := Scalar.addi v81 v80
  let v88 : BitVec 32 := Scalar.select v86 v87 v81
  let c0_i32_44 : BitVec 32 := 0#32
  let v89 : BitVec 1 := Scalar.cmpi .ne v88 c0_i32_44
  let v90 : BitVec 32 := Scalar.extui v89
  let c0_i32_45 : BitVec 32 := 0#32
  let v91 : BitVec 1 := Scalar.cmpi .ne v90 c0_i32_45
  v91

def k0_off13 (v5 : BitVec 32) : Fin 2 → Nat :=
  let c256_i32 : BitVec 32 := 256#32
  let v92 : BitVec 32 := Scalar.subi v5 c256_i32
  let v93 : BitVec 32 := v92
  let v94 : Index := Scalar.indexCast v93
  let c0_46 : Index := 0#32
  ![v94.toNat, 0]
def k0_off14 (v5 : BitVec 32) : Fin 2 → Nat :=
  let c256_i32 : BitVec 32 := 256#32
  let v92 : BitVec 32 := Scalar.subi v5 c256_i32
  let v93 : BitVec 32 := v92
  let v96 : Index := Scalar.indexCast v93
  let c0_47 : Index := 0#32
  ![v96.toNat, 0]

def k0_chk1 (i : grid0.Coords) (v0 : BitVec 32) (v5 : BitVec 32) : Prop :=
  (∀ (k0_h1 : k0_cond1 i v0 = 1#1), (k0_t1_loop v5).OK) ∧
  (∀ k0_t1 : Fin (k0_t1_loop v5).trips, ∀ (k0_h1 : k0_cond1 i v0 = 1#1), 1024 ∣ (k0_mult1 v5 k0_t1).toNat) ∧
  (∀ k0_t1 : Fin (k0_t1_loop v5).trips, ∀ (k0_h1 : k0_cond1 i v0 = 1#1), ∀ a, (k0_off3 v5 k0_t1) a + S1024x2048.size a ≤ S2304x2048.size a) ∧
  (∀ (k0_h1 : k0_cond1 i v0 = 1#1), (k0_t2_loop v5).OK) ∧
  (∀ k0_t2 : Fin (k0_t2_loop v5).trips, ∀ (k0_h1 : k0_cond1 i v0 = 1#1), 1024 ∣ (k0_mult2 v5 k0_t2).toNat) ∧
  (∀ k0_t2 : Fin (k0_t2_loop v5).trips, ∀ (k0_h1 : k0_cond1 i v0 = 1#1), ∀ a, (k0_off4 v5 k0_t2) a + S1024x2048.size a ≤ S2304x2048.size a) ∧
  (∀ (k0_h1 : k0_cond1 i v0 = 1#1), ∀ (k0_h3 : k0_cond3 v5 = 1#1), 256 ∣ (k0_mult3 v5).toNat) ∧
  (∀ (k0_h1 : k0_cond1 i v0 = 1#1), ∀ (k0_h3 : k0_cond3 v5 = 1#1), ∀ a, (k0_off5 v5) a + S512x2048.size a ≤ S2304x2048.size a) ∧
  (∀ (k0_h1 : k0_cond1 i v0 = 1#1), ∀ (k0_h4 : k0_cond4 v5 = 1#1), 256 ∣ (k0_mult4 v5).toNat) ∧
  (∀ (k0_h1 : k0_cond1 i v0 = 1#1), ∀ (k0_h4 : k0_cond4 v5 = 1#1), ∀ a, (k0_off6 v5) a + S256x2048.size a ≤ S2304x2048.size a) ∧
  (∀ (k0_h1 : k0_cond1 i v0 = 1#1), ∀ (k0_h5 : k0_cond5 i = 1#1), (k0_t3_loop v5).OK) ∧
  (∀ k0_t3 : Fin (k0_t3_loop v5).trips, ∀ (k0_h1 : k0_cond1 i v0 = 1#1), ∀ (k0_h5 : k0_cond5 i = 1#1), 1024 ∣ (k0_mult5 v5 k0_t3).toNat) ∧
  (∀ k0_t3 : Fin (k0_t3_loop v5).trips, ∀ (k0_h1 : k0_cond1 i v0 = 1#1), ∀ (k0_h5 : k0_cond5 i = 1#1), ∀ a, (k0_off7 v5 k0_t3) a + S1024x2048.size a ≤ S2304x2048.size a) ∧
  (∀ k0_t3 : Fin (k0_t3_loop v5).trips, ∀ (k0_h1 : k0_cond1 i v0 = 1#1), ∀ (k0_h5 : k0_cond5 i = 1#1), ∀ a, (k0_off8 v5 k0_t3) a + S1024x1.size a ≤ S2304x128.size a) ∧
  (∀ k0_t3 : Fin (k0_t3_loop v5).trips, ∀ (k0_h1 : k0_cond1 i v0 = 1#1), ∀ (k0_h5 : k0_cond5 i = 1#1), ∀ (hinb : ∀ a, (k0_off7 v5 k0_t3) a + S1024x2048.size a ≤ S2304x2048.size a), (Rect.unit (s := S2304x2048) (k0_off7 v5 k0_t3) S1024x2048.size hinb).PackedRows (EltTy.packing .bf16)) ∧
  (∀ (k0_h1 : k0_cond1 i v0 = 1#1), ∀ (k0_h5 : k0_cond5 i = 1#1), (k0_t4_loop v5).OK) ∧
  (∀ k0_t4 : Fin (k0_t4_loop v5).trips, ∀ (k0_h1 : k0_cond1 i v0 = 1#1), ∀ (k0_h5 : k0_cond5 i = 1#1), 1024 ∣ (k0_mult6 v5 k0_t4).toNat) ∧
  (∀ k0_t4 : Fin (k0_t4_loop v5).trips, ∀ (k0_h1 : k0_cond1 i v0 = 1#1), ∀ (k0_h5 : k0_cond5 i = 1#1), ∀ a, (k0_off9 v5 k0_t4) a + S1024x2048.size a ≤ S2304x2048.size a) ∧
  (∀ k0_t4 : Fin (k0_t4_loop v5).trips, ∀ (k0_h1 : k0_cond1 i v0 = 1#1), ∀ (k0_h5 : k0_cond5 i = 1#1), ∀ a, (k0_off10 v5 k0_t4) a + S1024x1.size a ≤ S2304x128.size a) ∧
  (∀ k0_t4 : Fin (k0_t4_loop v5).trips, ∀ (k0_h1 : k0_cond1 i v0 = 1#1), ∀ (k0_h5 : k0_cond5 i = 1#1), ∀ (hinb : ∀ a, (k0_off9 v5 k0_t4) a + S1024x2048.size a ≤ S2304x2048.size a), (Rect.unit (s := S2304x2048) (k0_off9 v5 k0_t4) S1024x2048.size hinb).PackedRows (EltTy.packing .bf16)) ∧
  (∀ (k0_h1 : k0_cond1 i v0 = 1#1), ∀ (k0_h5 : k0_cond5 i = 1#1), ∀ (k0_h6 : k0_cond6 v5 = 1#1), 256 ∣ (k0_mult7 v5).toNat) ∧
  (∀ (k0_h1 : k0_cond1 i v0 = 1#1), ∀ (k0_h5 : k0_cond5 i = 1#1), ∀ (k0_h6 : k0_cond6 v5 = 1#1), ∀ a, (k0_off11 v5) a + S512x2048.size a ≤ S2304x2048.size a) ∧
  (∀ (k0_h1 : k0_cond1 i v0 = 1#1), ∀ (k0_h5 : k0_cond5 i = 1#1), ∀ (k0_h6 : k0_cond6 v5 = 1#1), ∀ a, (k0_off12 v5) a + S512x1.size a ≤ S2304x128.size a) ∧
  (∀ (k0_h1 : k0_cond1 i v0 = 1#1), ∀ (k0_h5 : k0_cond5 i = 1#1), ∀ (k0_h6 : k0_cond6 v5 = 1#1), ∀ (hinb : ∀ a, (k0_off11 v5) a + S512x2048.size a ≤ S2304x2048.size a), (Rect.unit (s := S2304x2048) (k0_off11 v5) S512x2048.size hinb).PackedRows (EltTy.packing .bf16)) ∧
  (∀ (k0_h1 : k0_cond1 i v0 = 1#1), ∀ (k0_h5 : k0_cond5 i = 1#1), ∀ (k0_h7 : k0_cond7 v5 = 1#1), 256 ∣ (k0_mult8 v5).toNat) ∧
  (∀ (k0_h1 : k0_cond1 i v0 = 1#1), ∀ (k0_h5 : k0_cond5 i = 1#1), ∀ (k0_h7 : k0_cond7 v5 = 1#1), ∀ a, (k0_off13 v5) a + S256x2048.size a ≤ S2304x2048.size a) ∧
  (∀ (k0_h1 : k0_cond1 i v0 = 1#1), ∀ (k0_h5 : k0_cond5 i = 1#1), ∀ (k0_h7 : k0_cond7 v5 = 1#1), ∀ a, (k0_off14 v5) a + S256x1.size a ≤ S2304x128.size a) ∧
  (∀ (k0_h1 : k0_cond1 i v0 = 1#1), ∀ (k0_h5 : k0_cond5 i = 1#1), ∀ (k0_h7 : k0_cond7 v5 = 1#1), ∀ (hinb : ∀ a, (k0_off13 v5) a + S256x2048.size a ≤ S2304x2048.size a), (Rect.unit (s := S2304x2048) (k0_off13 v5) S256x2048.size hinb).PackedRows (EltTy.packing .bf16))
theorem k0_t1_ok : ∀ (i : grid0.Coords) (v0 : BitVec 32) (v5 : BitVec 32) (k0_hw1 : k0_chk1 i v0 v5), ∀ (k0_h1 : k0_cond1 i v0 = 1#1), (k0_t1_loop v5).OK := fun i v0 v5 k0_hw1 k0_h1 => k0_hw1.1 k0_h1
theorem k0_mult1_dvd : ∀ (i : grid0.Coords) (v0 : BitVec 32) (v5 : BitVec 32) (k0_hw1 : k0_chk1 i v0 v5) (k0_t1 : Fin (k0_t1_loop v5).trips), ∀ (k0_h1 : k0_cond1 i v0 = 1#1), 1024 ∣ (k0_mult1 v5 k0_t1).toNat := fun i v0 v5 k0_hw1 k0_t1 k0_h1 => k0_hw1.2.1 k0_t1 k0_h1
theorem k0_off3_inb : ∀ (i : grid0.Coords) (v0 : BitVec 32) (v5 : BitVec 32) (k0_hw1 : k0_chk1 i v0 v5) (k0_t1 : Fin (k0_t1_loop v5).trips), ∀ (k0_h1 : k0_cond1 i v0 = 1#1), ∀ a, (k0_off3 v5 k0_t1) a + S1024x2048.size a ≤ S2304x2048.size a := fun i v0 v5 k0_hw1 k0_t1 k0_h1 => k0_hw1.2.2.1 k0_t1 k0_h1
theorem k0_t2_ok : ∀ (i : grid0.Coords) (v0 : BitVec 32) (v5 : BitVec 32) (k0_hw1 : k0_chk1 i v0 v5), ∀ (k0_h1 : k0_cond1 i v0 = 1#1), (k0_t2_loop v5).OK := fun i v0 v5 k0_hw1 k0_h1 => k0_hw1.2.2.2.1 k0_h1
theorem k0_mult2_dvd : ∀ (i : grid0.Coords) (v0 : BitVec 32) (v5 : BitVec 32) (k0_hw1 : k0_chk1 i v0 v5) (k0_t2 : Fin (k0_t2_loop v5).trips), ∀ (k0_h1 : k0_cond1 i v0 = 1#1), 1024 ∣ (k0_mult2 v5 k0_t2).toNat := fun i v0 v5 k0_hw1 k0_t2 k0_h1 => k0_hw1.2.2.2.2.1 k0_t2 k0_h1
theorem k0_off4_inb : ∀ (i : grid0.Coords) (v0 : BitVec 32) (v5 : BitVec 32) (k0_hw1 : k0_chk1 i v0 v5) (k0_t2 : Fin (k0_t2_loop v5).trips), ∀ (k0_h1 : k0_cond1 i v0 = 1#1), ∀ a, (k0_off4 v5 k0_t2) a + S1024x2048.size a ≤ S2304x2048.size a := fun i v0 v5 k0_hw1 k0_t2 k0_h1 => k0_hw1.2.2.2.2.2.1 k0_t2 k0_h1
theorem k0_mult3_dvd : ∀ (i : grid0.Coords) (v0 : BitVec 32) (v5 : BitVec 32) (k0_hw1 : k0_chk1 i v0 v5), ∀ (k0_h1 : k0_cond1 i v0 = 1#1), ∀ (k0_h3 : k0_cond3 v5 = 1#1), 256 ∣ (k0_mult3 v5).toNat := fun i v0 v5 k0_hw1 k0_h1 k0_h3 => k0_hw1.2.2.2.2.2.2.1 k0_h1 k0_h3
theorem k0_off5_inb : ∀ (i : grid0.Coords) (v0 : BitVec 32) (v5 : BitVec 32) (k0_hw1 : k0_chk1 i v0 v5), ∀ (k0_h1 : k0_cond1 i v0 = 1#1), ∀ (k0_h3 : k0_cond3 v5 = 1#1), ∀ a, (k0_off5 v5) a + S512x2048.size a ≤ S2304x2048.size a := fun i v0 v5 k0_hw1 k0_h1 k0_h3 => k0_hw1.2.2.2.2.2.2.2.1 k0_h1 k0_h3
theorem k0_mult4_dvd : ∀ (i : grid0.Coords) (v0 : BitVec 32) (v5 : BitVec 32) (k0_hw1 : k0_chk1 i v0 v5), ∀ (k0_h1 : k0_cond1 i v0 = 1#1), ∀ (k0_h4 : k0_cond4 v5 = 1#1), 256 ∣ (k0_mult4 v5).toNat := fun i v0 v5 k0_hw1 k0_h1 k0_h4 => k0_hw1.2.2.2.2.2.2.2.2.1 k0_h1 k0_h4
theorem k0_off6_inb : ∀ (i : grid0.Coords) (v0 : BitVec 32) (v5 : BitVec 32) (k0_hw1 : k0_chk1 i v0 v5), ∀ (k0_h1 : k0_cond1 i v0 = 1#1), ∀ (k0_h4 : k0_cond4 v5 = 1#1), ∀ a, (k0_off6 v5) a + S256x2048.size a ≤ S2304x2048.size a := fun i v0 v5 k0_hw1 k0_h1 k0_h4 => k0_hw1.2.2.2.2.2.2.2.2.2.1 k0_h1 k0_h4
theorem k0_t3_ok : ∀ (i : grid0.Coords) (v0 : BitVec 32) (v5 : BitVec 32) (k0_hw1 : k0_chk1 i v0 v5), ∀ (k0_h1 : k0_cond1 i v0 = 1#1), ∀ (k0_h5 : k0_cond5 i = 1#1), (k0_t3_loop v5).OK := fun i v0 v5 k0_hw1 k0_h1 k0_h5 => k0_hw1.2.2.2.2.2.2.2.2.2.2.1 k0_h1 k0_h5
theorem k0_mult5_dvd : ∀ (i : grid0.Coords) (v0 : BitVec 32) (v5 : BitVec 32) (k0_hw1 : k0_chk1 i v0 v5) (k0_t3 : Fin (k0_t3_loop v5).trips), ∀ (k0_h1 : k0_cond1 i v0 = 1#1), ∀ (k0_h5 : k0_cond5 i = 1#1), 1024 ∣ (k0_mult5 v5 k0_t3).toNat := fun i v0 v5 k0_hw1 k0_t3 k0_h1 k0_h5 => k0_hw1.2.2.2.2.2.2.2.2.2.2.2.1 k0_t3 k0_h1 k0_h5
theorem k0_off7_inb : ∀ (i : grid0.Coords) (v0 : BitVec 32) (v5 : BitVec 32) (k0_hw1 : k0_chk1 i v0 v5) (k0_t3 : Fin (k0_t3_loop v5).trips), ∀ (k0_h1 : k0_cond1 i v0 = 1#1), ∀ (k0_h5 : k0_cond5 i = 1#1), ∀ a, (k0_off7 v5 k0_t3) a + S1024x2048.size a ≤ S2304x2048.size a := fun i v0 v5 k0_hw1 k0_t3 k0_h1 k0_h5 => k0_hw1.2.2.2.2.2.2.2.2.2.2.2.2.1 k0_t3 k0_h1 k0_h5
theorem k0_off8_inb : ∀ (i : grid0.Coords) (v0 : BitVec 32) (v5 : BitVec 32) (k0_hw1 : k0_chk1 i v0 v5) (k0_t3 : Fin (k0_t3_loop v5).trips), ∀ (k0_h1 : k0_cond1 i v0 = 1#1), ∀ (k0_h5 : k0_cond5 i = 1#1), ∀ a, (k0_off8 v5 k0_t3) a + S1024x1.size a ≤ S2304x128.size a := fun i v0 v5 k0_hw1 k0_t3 k0_h1 k0_h5 => k0_hw1.2.2.2.2.2.2.2.2.2.2.2.2.2.1 k0_t3 k0_h1 k0_h5
theorem k0_off7_packedbf16 : ∀ (i : grid0.Coords) (v0 : BitVec 32) (v5 : BitVec 32) (k0_hw1 : k0_chk1 i v0 v5) (k0_t3 : Fin (k0_t3_loop v5).trips), ∀ (k0_h1 : k0_cond1 i v0 = 1#1), ∀ (k0_h5 : k0_cond5 i = 1#1), (Rect.unit (s := S2304x2048) (k0_off7 v5 k0_t3) S1024x2048.size (k0_off7_inb i v0 v5 k0_hw1 k0_t3 k0_h1 k0_h5)).PackedRows (EltTy.packing .bf16) := fun i v0 v5 k0_hw1 k0_t3 k0_h1 k0_h5 => k0_hw1.2.2.2.2.2.2.2.2.2.2.2.2.2.2.1 k0_t3 k0_h1 k0_h5 (k0_off7_inb i v0 v5 k0_hw1 k0_t3 k0_h1 k0_h5)
theorem k0_t4_ok : ∀ (i : grid0.Coords) (v0 : BitVec 32) (v5 : BitVec 32) (k0_hw1 : k0_chk1 i v0 v5), ∀ (k0_h1 : k0_cond1 i v0 = 1#1), ∀ (k0_h5 : k0_cond5 i = 1#1), (k0_t4_loop v5).OK := fun i v0 v5 k0_hw1 k0_h1 k0_h5 => k0_hw1.2.2.2.2.2.2.2.2.2.2.2.2.2.2.2.1 k0_h1 k0_h5
theorem k0_mult6_dvd : ∀ (i : grid0.Coords) (v0 : BitVec 32) (v5 : BitVec 32) (k0_hw1 : k0_chk1 i v0 v5) (k0_t4 : Fin (k0_t4_loop v5).trips), ∀ (k0_h1 : k0_cond1 i v0 = 1#1), ∀ (k0_h5 : k0_cond5 i = 1#1), 1024 ∣ (k0_mult6 v5 k0_t4).toNat := fun i v0 v5 k0_hw1 k0_t4 k0_h1 k0_h5 => k0_hw1.2.2.2.2.2.2.2.2.2.2.2.2.2.2.2.2.1 k0_t4 k0_h1 k0_h5
theorem k0_off9_inb : ∀ (i : grid0.Coords) (v0 : BitVec 32) (v5 : BitVec 32) (k0_hw1 : k0_chk1 i v0 v5) (k0_t4 : Fin (k0_t4_loop v5).trips), ∀ (k0_h1 : k0_cond1 i v0 = 1#1), ∀ (k0_h5 : k0_cond5 i = 1#1), ∀ a, (k0_off9 v5 k0_t4) a + S1024x2048.size a ≤ S2304x2048.size a := fun i v0 v5 k0_hw1 k0_t4 k0_h1 k0_h5 => k0_hw1.2.2.2.2.2.2.2.2.2.2.2.2.2.2.2.2.2.1 k0_t4 k0_h1 k0_h5
theorem k0_off10_inb : ∀ (i : grid0.Coords) (v0 : BitVec 32) (v5 : BitVec 32) (k0_hw1 : k0_chk1 i v0 v5) (k0_t4 : Fin (k0_t4_loop v5).trips), ∀ (k0_h1 : k0_cond1 i v0 = 1#1), ∀ (k0_h5 : k0_cond5 i = 1#1), ∀ a, (k0_off10 v5 k0_t4) a + S1024x1.size a ≤ S2304x128.size a := fun i v0 v5 k0_hw1 k0_t4 k0_h1 k0_h5 => k0_hw1.2.2.2.2.2.2.2.2.2.2.2.2.2.2.2.2.2.2.1 k0_t4 k0_h1 k0_h5
theorem k0_off9_packedbf16 : ∀ (i : grid0.Coords) (v0 : BitVec 32) (v5 : BitVec 32) (k0_hw1 : k0_chk1 i v0 v5) (k0_t4 : Fin (k0_t4_loop v5).trips), ∀ (k0_h1 : k0_cond1 i v0 = 1#1), ∀ (k0_h5 : k0_cond5 i = 1#1), (Rect.unit (s := S2304x2048) (k0_off9 v5 k0_t4) S1024x2048.size (k0_off9_inb i v0 v5 k0_hw1 k0_t4 k0_h1 k0_h5)).PackedRows (EltTy.packing .bf16) := fun i v0 v5 k0_hw1 k0_t4 k0_h1 k0_h5 => k0_hw1.2.2.2.2.2.2.2.2.2.2.2.2.2.2.2.2.2.2.2.1 k0_t4 k0_h1 k0_h5 (k0_off9_inb i v0 v5 k0_hw1 k0_t4 k0_h1 k0_h5)
theorem k0_mult7_dvd : ∀ (i : grid0.Coords) (v0 : BitVec 32) (v5 : BitVec 32) (k0_hw1 : k0_chk1 i v0 v5), ∀ (k0_h1 : k0_cond1 i v0 = 1#1), ∀ (k0_h5 : k0_cond5 i = 1#1), ∀ (k0_h6 : k0_cond6 v5 = 1#1), 256 ∣ (k0_mult7 v5).toNat := fun i v0 v5 k0_hw1 k0_h1 k0_h5 k0_h6 => k0_hw1.2.2.2.2.2.2.2.2.2.2.2.2.2.2.2.2.2.2.2.2.1 k0_h1 k0_h5 k0_h6
theorem k0_off11_inb : ∀ (i : grid0.Coords) (v0 : BitVec 32) (v5 : BitVec 32) (k0_hw1 : k0_chk1 i v0 v5), ∀ (k0_h1 : k0_cond1 i v0 = 1#1), ∀ (k0_h5 : k0_cond5 i = 1#1), ∀ (k0_h6 : k0_cond6 v5 = 1#1), ∀ a, (k0_off11 v5) a + S512x2048.size a ≤ S2304x2048.size a := fun i v0 v5 k0_hw1 k0_h1 k0_h5 k0_h6 => k0_hw1.2.2.2.2.2.2.2.2.2.2.2.2.2.2.2.2.2.2.2.2.2.1 k0_h1 k0_h5 k0_h6
theorem k0_off12_inb : ∀ (i : grid0.Coords) (v0 : BitVec 32) (v5 : BitVec 32) (k0_hw1 : k0_chk1 i v0 v5), ∀ (k0_h1 : k0_cond1 i v0 = 1#1), ∀ (k0_h5 : k0_cond5 i = 1#1), ∀ (k0_h6 : k0_cond6 v5 = 1#1), ∀ a, (k0_off12 v5) a + S512x1.size a ≤ S2304x128.size a := fun i v0 v5 k0_hw1 k0_h1 k0_h5 k0_h6 => k0_hw1.2.2.2.2.2.2.2.2.2.2.2.2.2.2.2.2.2.2.2.2.2.2.1 k0_h1 k0_h5 k0_h6
theorem k0_off11_packedbf16 : ∀ (i : grid0.Coords) (v0 : BitVec 32) (v5 : BitVec 32) (k0_hw1 : k0_chk1 i v0 v5), ∀ (k0_h1 : k0_cond1 i v0 = 1#1), ∀ (k0_h5 : k0_cond5 i = 1#1), ∀ (k0_h6 : k0_cond6 v5 = 1#1), (Rect.unit (s := S2304x2048) (k0_off11 v5) S512x2048.size (k0_off11_inb i v0 v5 k0_hw1 k0_h1 k0_h5 k0_h6)).PackedRows (EltTy.packing .bf16) := fun i v0 v5 k0_hw1 k0_h1 k0_h5 k0_h6 => k0_hw1.2.2.2.2.2.2.2.2.2.2.2.2.2.2.2.2.2.2.2.2.2.2.2.1 k0_h1 k0_h5 k0_h6 (k0_off11_inb i v0 v5 k0_hw1 k0_h1 k0_h5 k0_h6)
theorem k0_mult8_dvd : ∀ (i : grid0.Coords) (v0 : BitVec 32) (v5 : BitVec 32) (k0_hw1 : k0_chk1 i v0 v5), ∀ (k0_h1 : k0_cond1 i v0 = 1#1), ∀ (k0_h5 : k0_cond5 i = 1#1), ∀ (k0_h7 : k0_cond7 v5 = 1#1), 256 ∣ (k0_mult8 v5).toNat := fun i v0 v5 k0_hw1 k0_h1 k0_h5 k0_h7 => k0_hw1.2.2.2.2.2.2.2.2.2.2.2.2.2.2.2.2.2.2.2.2.2.2.2.2.1 k0_h1 k0_h5 k0_h7
theorem k0_off13_inb : ∀ (i : grid0.Coords) (v0 : BitVec 32) (v5 : BitVec 32) (k0_hw1 : k0_chk1 i v0 v5), ∀ (k0_h1 : k0_cond1 i v0 = 1#1), ∀ (k0_h5 : k0_cond5 i = 1#1), ∀ (k0_h7 : k0_cond7 v5 = 1#1), ∀ a, (k0_off13 v5) a + S256x2048.size a ≤ S2304x2048.size a := fun i v0 v5 k0_hw1 k0_h1 k0_h5 k0_h7 => k0_hw1.2.2.2.2.2.2.2.2.2.2.2.2.2.2.2.2.2.2.2.2.2.2.2.2.2.1 k0_h1 k0_h5 k0_h7
theorem k0_off14_inb : ∀ (i : grid0.Coords) (v0 : BitVec 32) (v5 : BitVec 32) (k0_hw1 : k0_chk1 i v0 v5), ∀ (k0_h1 : k0_cond1 i v0 = 1#1), ∀ (k0_h5 : k0_cond5 i = 1#1), ∀ (k0_h7 : k0_cond7 v5 = 1#1), ∀ a, (k0_off14 v5) a + S256x1.size a ≤ S2304x128.size a := fun i v0 v5 k0_hw1 k0_h1 k0_h5 k0_h7 => k0_hw1.2.2.2.2.2.2.2.2.2.2.2.2.2.2.2.2.2.2.2.2.2.2.2.2.2.2.1 k0_h1 k0_h5 k0_h7
theorem k0_off13_packedbf16 : ∀ (i : grid0.Coords) (v0 : BitVec 32) (v5 : BitVec 32) (k0_hw1 : k0_chk1 i v0 v5), ∀ (k0_h1 : k0_cond1 i v0 = 1#1), ∀ (k0_h5 : k0_cond5 i = 1#1), ∀ (k0_h7 : k0_cond7 v5 = 1#1), (Rect.unit (s := S2304x2048) (k0_off13 v5) S256x2048.size (k0_off13_inb i v0 v5 k0_hw1 k0_h1 k0_h5 k0_h7)).PackedRows (EltTy.packing .bf16) := fun i v0 v5 k0_hw1 k0_h1 k0_h5 k0_h7 => k0_hw1.2.2.2.2.2.2.2.2.2.2.2.2.2.2.2.2.2.2.2.2.2.2.2.2.2.2.2 k0_h1 k0_h5 k0_h7 (k0_off13_inb i v0 v5 k0_hw1 k0_h1 k0_h5 k0_h7)

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S15.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S15) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c21_i32 : BitVec 32 := 21#32
  let v4 : BitVec 32 := Scalar.select v3 arg1 c21_i32
  let c0_i32 : BitVec 32 := 0#32
  let c0_i32_0 : BitVec 32 := 0#32
  let c0_i32_1 : BitVec 32 := 0#32
  ![c0_i32.toNat, v1.toNat, c0_i32_0.toNat, v4.toNat]

def cc0_transform_2 (k0_off1_inb : ∀ i : grid0.Coords, ∀ a, (k0_off1 i) a + S1.size a ≤ S15.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S15) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c21_i32 : BitVec 32 := 21#32
  let v4 : BitVec 32 := Scalar.select v3 arg1 c21_i32
  let c0_i32 : BitVec 32 := 0#32
  let c0_i32_0 : BitVec 32 := 0#32
  let c0_i32_1 : BitVec 32 := 0#32
  ![c0_i32.toNat, v1.toNat, c0_i32_0.toNat, v4.toNat]

def cc0_transform_3 (k0_off1_inb : ∀ i : grid0.Coords, ∀ a, (k0_off1 i) a + S1.size a ≤ S15.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S15) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c21_i32 : BitVec 32 := 21#32
  let v4 : BitVec 32 := Scalar.select v3 arg1 c21_i32
  let c0_i32 : BitVec 32 := 0#32
  let c0_i32_0 : BitVec 32 := 0#32
  let c0_i32_1 : BitVec 32 := 0#32
  ![c0_i32.toNat, v1.toNat, v4.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2304x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2304x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== RefExpertsIdeal.lean ====
abbrev S34560x2048 : Shape := ⟨2, ![34560, 2048]⟩
abbrev S15 : Shape := ⟨1, ![15]⟩
abbrev S1 : Shape := ⟨1, ![1]⟩
abbrev S1x8x2048x5632 : Shape := ⟨4, ![1, 8, 2048, 5632]⟩
abbrev S1x8x5632x2048 : Shape := ⟨4, ![1, 8, 5632, 2048]⟩
abbrev S34560x128 : Shape := ⟨2, ![34560, 128]⟩
abbrev S15x1 : Shape := ⟨2, ![15, 1]⟩
abbrev S15x2304 : Shape := ⟨2, ![15, 2304]⟩
abbrev S34560x1 : Shape := ⟨2, ![34560, 1]⟩
abbrev S_ : Shape := ⟨0, ![]⟩
abbrev S1x1x2048x5632 : Shape := ⟨4, ![1, 1, 2048, 5632]⟩
abbrev S2048x5632 : Shape := ⟨2, ![2048, 5632]⟩
abbrev S34560x5632 : Shape := ⟨2, ![34560, 5632]⟩
abbrev S1x1x5632x2048 : Shape := ⟨4, ![1, 1, 5632, 2048]⟩
abbrev S5632x2048 : Shape := ⟨2, ![5632, 2048]⟩

abbrev nBuf : Space → Nat
  | .hbm => 255
  | .vmem => 0
  | .smem => 0
  | _ => 0

abbrev hbmTy0_0 (i : Nat) : BufTy := match i % 128 with
  | 0 => ⟨S34560x2048, .bf16⟩
  | 1 => ⟨S15, .i32⟩
  | 2 => ⟨S15, .i32⟩
  | 3 => ⟨S1, .i32⟩
  | 4 => ⟨S1x8x2048x5632, .f32⟩
  | 5 => ⟨S1x8x2048x5632, .f32⟩
  | 6 => ⟨S1x8x5632x2048, .f32⟩
  | 7 => ⟨S34560x128, .f32⟩
  | 8 => ⟨S34560x2048, .f32⟩
  | 9 => ⟨S15x1, .i32⟩
  | 10 => ⟨S15x2304, .i32⟩
  | 11 => ⟨S34560x1, .i32⟩
  | 12 => ⟨S_, .f32⟩
  | 13 => ⟨S34560x2048, .f32⟩
  | 14 => ⟨S1x1x2048x5632, .f32⟩
  | 15 => ⟨S2048x5632, .f32⟩
  | 16 => ⟨S34560x5632, .f32⟩
  | 17 => ⟨S34560x5632, .f32⟩
  | 18 => ⟨S34560x5632, .f32⟩
  | 19 => ⟨S_, .f32⟩
  | 20 => ⟨S34560x5632, .f32⟩
  | 21 => ⟨S34560x5632, .f32⟩
  | 22 => ⟨S_, .f32⟩
  | 23 => ⟨S34560x5632, .f32⟩
  | 24 => ⟨S34560x5632, .f32⟩
  | 25 => ⟨S34560x5632, .f32⟩
  | 26 => ⟨S1x1x2048x5632, .f32⟩
  | 27 => ⟨S2048x5632, .f32⟩
  | 28 => ⟨S34560x5632, .f32⟩
  | 29 => ⟨S34560x5632, .f32⟩
  | 30 => ⟨S1x1x5632x2048, .f32⟩
  | 31 => ⟨S5632x2048, .f32⟩
  | 32 => ⟨S34560x2048, .f32⟩
  | 33 => ⟨S_, .i32⟩
  | 34 => ⟨S34560x1, .i32⟩
  | 35 => ⟨S34560x1, .i1⟩
  | 36 => ⟨S34560x1, .f32⟩
  | 37 => ⟨S_, .f32⟩
  | 38 => ⟨S_, .f32⟩
  | 39 => ⟨S34560x1, .f32⟩
  | 40 => ⟨S34560x1, .f32⟩
  | 41 => ⟨S34560x2048, .f32⟩
  | 42 => ⟨S34560x2048, .f32⟩
  | 43 => ⟨S34560x2048, .f32⟩
  | 44 => ⟨S1x1x2048x5632, .f32⟩
  | 45 => ⟨S2048x5632, .f32⟩
  | 46 => ⟨S34560x5632, .f32⟩
  | 47 => ⟨S34560x5632, .f32⟩
  | 48 => ⟨S34560x5632, .f32⟩
  | 49 => ⟨S_, .f32⟩
  | 50 => ⟨S34560x5632, .f32⟩
  | 51 => ⟨S34560x5632, .f32⟩
  | 52 => ⟨S_, .f32⟩
  | 53 => ⟨S34560x5632, .f32⟩
  | 54 => ⟨S34560x5632, .f32⟩
  | 55 => ⟨S34560x5632, .f32⟩
  | 56 => ⟨S1x1x2048x5632, .f32⟩
  | 57 => ⟨S2048x5632, .f32⟩
  | 58 => ⟨S34560x5632, .f32⟩
  | 59 => ⟨S34560x5632, .f32⟩
  | 60 => ⟨S1x1x5632x2048, .f32⟩
  | 61 => ⟨S5632x2048, .f32⟩
  | 62 => ⟨S34560x2048, .f32⟩
  | 63 => ⟨S_, .i32⟩
  | 64 => ⟨S34560x1, .i32⟩
  | 65 => ⟨S34560x1, .i1⟩
  | 66 => ⟨S34560x1, .f32⟩
  | 67 => ⟨S_, .f32⟩
  | 68 => ⟨S_, .f32⟩
  | 69 => ⟨S34560x1, .f32⟩
  | 70 => ⟨S34560x1, .f32⟩
  | 71 => ⟨S34560x2048, .f32⟩
  | 72 => ⟨S34560x2048, .f32⟩
  | 73 => ⟨S34560x2048, .f32⟩
  | 74 => ⟨S1x1x2048x5632, .f32⟩
  | 75 => ⟨S2048x5632, .f32⟩
  | 76 => ⟨S34560x5632, .f32⟩
  | 77 => ⟨S34560x5632, .f32⟩
  | 78 => ⟨S34560x5632, .f32⟩
  | 79 => ⟨S_, .f32⟩
  | 80 => ⟨S34560x5632, .f32⟩
  | 81 => ⟨S34560x5632, .f32⟩
  | 82 => ⟨S_, .f32⟩
  | 83 => ⟨S34560x5632, .f32⟩
  | 84 => ⟨S34560x5632, .f32⟩
  | 85 => ⟨S34560x5632, .f32⟩
  | 86 => ⟨S1x1x2048x5632, .f32⟩
  | 87 => ⟨S2048x5632, .f32⟩
  | 88 => ⟨S34560x5632, .f32⟩
  | 89 => ⟨S34560x5632, .f32⟩
  | 90 => ⟨S1x1x5632x2048, .f32⟩
  | 91 => ⟨S5632x2048, .f32⟩
  | 92 => ⟨S34560x2048, .f32⟩
  | 93 => ⟨S_, .i32⟩
  | 94 => ⟨S34560x1, .i32⟩
  | 95 => ⟨S34560x1, .i1⟩
  | 96 => ⟨S34560x1, .f32⟩
  | 97 => ⟨S_, .f32⟩
  | 98 => ⟨S_, .f32⟩
  | 99 => ⟨S34560x1, .f32⟩
  | 100 => ⟨S34560x1, .f32⟩
  | 101 => ⟨S34560x2048, .f32⟩
  | 102 => ⟨S34560x2048, .f32⟩
  | 103 => ⟨S34560x2048, .f32⟩
  | 104 => ⟨S1x1x2048x5632, .f32⟩
  | 105 => ⟨S2048x5632, .f32⟩
  | 106 => ⟨S34560x5632, .f32⟩
  | 107 => ⟨S34560x5632, .f32⟩
  | 108 => ⟨S34560x5632, .f32⟩
  | 109 => ⟨S_, .f32⟩
  | 110 => ⟨S34560x5632, .f32⟩
  | 111 => ⟨S34560x5632, .f32⟩
  | 112 => ⟨S_, .f32⟩
  | 113 => ⟨S34560x5632, .f32⟩
  | 114 => ⟨S34560x5632, .f32⟩
  | 115 => ⟨S34560x5632, .f32⟩
  | 116 => ⟨S1x1x2048x5632, .f32⟩
  | 117 => ⟨S2048x5632, .f32⟩
  | 118 => ⟨S34560x5632, .f32⟩
  | 119 => ⟨S34560x5632, .f32⟩
  | 120 => ⟨S1x1x5632x2048, .f32⟩
  | 121 => ⟨S5632x2048, .f32⟩
  | 122 => ⟨S34560x2048, .f32⟩
  | 123 => ⟨S_, .i32⟩
  | 124 => ⟨S34560x1, .i32⟩
  | 125 => ⟨S34560x1, .i1⟩
  | 126 => ⟨S34560x1, .f32⟩
  | 127 => ⟨S_, .f32⟩
  | _ => ⟨S34560x2048, .bf16⟩

abbrev hbmTy0_1 (i : Nat) : BufTy := match i % 128 with
  | 0 => ⟨S_, .f32⟩
  | 1 => ⟨S34560x1, .f32⟩
  | 2 => ⟨S34560x1, .f32⟩
  | 3 => ⟨S34560x2048, .f32⟩
  | 4 => ⟨S34560x2048, .f32⟩
  | 5 => ⟨S34560x2048, .f32⟩
  | 6 => ⟨S1x1x2048x5632, .f32⟩
  | 7 => ⟨S2048x5632, .f32⟩
  | 8 => ⟨S34560x5632, .f32⟩
  | 9 => ⟨S34560x5632, .f32⟩
  | 10 => ⟨S34560x5632, .f32⟩
  | 11 => ⟨S_, .f32⟩
  | 12 => ⟨S34560x5632, .f32⟩
  | 13 => ⟨S34560x5632, .f32⟩
  | 14 => ⟨S_, .f32⟩
  | 15 => ⟨S34560x5632, .f32⟩
  | 16 => ⟨S34560x5632, .f32⟩
  | 17 => ⟨S34560x5632, .f32⟩
  | 18 => ⟨S1x1x2048x5632, .f32⟩
  | 19 => ⟨S2048x5632, .f32⟩
  | 20 => ⟨S34560x5632, .f32⟩
  | 21 => ⟨S34560x5632, .f32⟩
  | 22 => ⟨S1x1x5632x2048, .f32⟩
  | 23 => ⟨S5632x2048, .f32⟩
  | 24 => ⟨S34560x2048, .f32⟩
  | 25 => ⟨S_, .i32⟩
  | 26 => ⟨S34560x1, .i32⟩
  | 27 => ⟨S34560x1, .i1⟩
  | 28 => ⟨S34560x1, .f32⟩
  | 29 => ⟨S_, .f32⟩
  | 30 => ⟨S_, .f32⟩
  | 31 => ⟨S34560x1, .f32⟩
  | 32 => ⟨S34560x1, .f32⟩
  | 33 => ⟨S34560x2048, .f32⟩
  | 34 => ⟨S34560x2048, .f32⟩
  | 35 => ⟨S34560x2048, .f32⟩
  | 36 => ⟨S1x1x2048x5632, .f32⟩
  | 37 => ⟨S2048x5632, .f32⟩
  | 38 => ⟨S34560x5632, .f32⟩
  | 39 => ⟨S34560x5632, .f32⟩
  | 40 => ⟨S34560x5632, .f32⟩
  | 41 => ⟨S_, .f32⟩
  | 42 => ⟨S34560x5632, .f32⟩
  | 43 => ⟨S34560x5632, .f32⟩
  | 44 => ⟨S_, .f32⟩
  | 45 => ⟨S34560x5632, .f32⟩
  | 46 => ⟨S34560x5632, .f32⟩
  | 47 => ⟨S34560x5632, .f32⟩
  | 48 => ⟨S1x1x2048x5632, .f32⟩
  | 49 => ⟨S2048x5632, .f32⟩
  | 50 => ⟨S34560x5632, .f32⟩
  | 51 => ⟨S34560x5632, .f32⟩
  | 52 => ⟨S1x1x5632x2048, .f32⟩
  | 53 => ⟨S5632x2048, .f32⟩
  | 54 => ⟨S34560x2048, .f32⟩
  | 55 => ⟨S_, .i32⟩
  | 56 => ⟨S34560x1, .i32⟩
  | 57 => ⟨S34560x1, .i1⟩
  | 58 => ⟨S34560x1, .f32⟩
  | 59 => ⟨S_, .f32⟩
  | 60 => ⟨S_, .f32⟩
  | 61 => ⟨S34560x1, .f32⟩
  | 62 => ⟨S34560x1, .f32⟩
  | 63 => ⟨S34560x2048, .f32⟩
  | 64 => ⟨S34560x2048, .f32⟩
  | 65 => ⟨S34560x2048, .f32⟩
  | 66 => ⟨S1x1x2048x5632, .f32⟩
  | 67 => ⟨S2048x5632, .f32⟩
  | 68 => ⟨S34560x5632, .f32⟩
  | 69 => ⟨S34560x5632, .f32⟩
  | 70 => ⟨S34560x5632, .f32⟩
  | 71 => ⟨S_, .f32⟩
  | 72 => ⟨S34560x5632, .f32⟩
  | 73 => ⟨S34560x5632, .f32⟩
  | 74 => ⟨S_, .f32⟩
  | 75 => ⟨S34560x5632, .f32⟩
  | 76 => ⟨S34560x5632, .f32⟩
  | 77 => ⟨S34560x5632, .f32⟩
  | 78 => ⟨S1x1x2048x5632, .f32⟩
  | 79 => ⟨S2048x5632, .f32⟩
  | 80 => ⟨S34560x5632, .f32⟩
  | 81 => ⟨S34560x5632, .f32⟩
  | 82 => ⟨S1x1x5632x2048, .f32⟩
  | 83 => ⟨S5632x2048, .f32⟩
  | 84 => ⟨S34560x2048, .f32⟩
  | 85 => ⟨S_, .i32⟩
  | 86 => ⟨S34560x1, .i32⟩
  | 87 => ⟨S34560x1, .i1⟩
  | 88 => ⟨S34560x1, .f32⟩
  | 89 => ⟨S_, .f32⟩
  | 90 => ⟨S_, .f32⟩
  | 91 => ⟨S34560x1, .f32⟩
  | 92 => ⟨S34560x1, .f32⟩
  | 93 => ⟨S34560x2048, .f32⟩
  | 94 => ⟨S34560x2048, .f32⟩
  | 95 => ⟨S34560x2048, .f32⟩
  | 96 => ⟨S1x1x2048x5632, .f32⟩
  | 97 => ⟨S2048x5632, .f32⟩
  | 98 => ⟨S34560x5632, .f32⟩
  | 99 => ⟨S34560x5632, .f32⟩
  | 100 => ⟨S34560x5632, .f32⟩
  | 101 => ⟨S_, .f32⟩
  | 102 => ⟨S34560x5632, .f32⟩
  | 103 => ⟨S34560x5632, .f32⟩
  | 104 => ⟨S_, .f32⟩
  | 105 => ⟨S34560x5632, .f32⟩
  | 106 => ⟨S34560x5632, .f32⟩
  | 107 => ⟨S34560x5632, .f32⟩
  | 108 => ⟨S1x1x2048x5632, .f32⟩
  | 109 => ⟨S2048x5632, .f32⟩
  | 110 => ⟨S34560x5632, .f32⟩
  | 111 => ⟨S34560x5632, .f32⟩
  | 112 => ⟨S1x1x5632x2048, .f32⟩
  | 113 => ⟨S5632x2048, .f32⟩
  | 114 => ⟨S34560x2048, .f32⟩
  | 115 => ⟨S_, .i32⟩
  | 116 => ⟨S34560x1, .i32⟩
  | 117 => ⟨S34560x1, .i1⟩
  | 118 => ⟨S34560x1, .f32⟩
  | 119 => ⟨S_, .f32⟩
  | 120 => ⟨S_, .f32⟩
  | 121 => ⟨S34560x1, .f32⟩
  | 122 => ⟨S34560x1, .f32⟩
  | 123 => ⟨S34560x2048, .f32⟩
  | 124 => ⟨S34560x2048, .f32⟩
  | 125 => ⟨S34560x2048, .f32⟩
  | 126 => ⟨S34560x2048, .bf16⟩
  | _ => ⟨S34560x2048, .bf16⟩

abbrev hbmTy (i : Nat) : BufTy := match i / 128 with
  | 0 => hbmTy0_0 i
  | 1 => hbmTy0_1 i
  | _ => ⟨S34560x2048, .bf16⟩

abbrev bufTy : (tb : Table) → Fin (tcTables nBuf tb) → BufTy
  | .hbm, ⟨i, _⟩ => hbmTy i
  | _, _ => ⟨S34560x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call2_v0 : Ref sig .tc := ⟨.hbm, 47, rfl⟩
abbrev main_call2_v1 : Ref sig .tc := ⟨.hbm, 48, rfl⟩
abbrev main_call2_cst : Ref sig .tc := ⟨.hbm, 49, rfl⟩
abbrev main_call2_v2 : Ref sig .tc := ⟨.hbm, 50, rfl⟩
abbrev main_call2_v3 : Ref sig .tc := ⟨.hbm, 51, rfl⟩
abbrev main_call2_cst_0 : Ref sig .tc := ⟨.hbm, 52, rfl⟩
abbrev main_call2_v4 : Ref sig .tc := ⟨.hbm, 53, rfl⟩
abbrev main_call2_v5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_1 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_2 : Ref sig .tc := ⟨.hbm, 67, rfl⟩
abbrev main_call3_v0 : Ref sig .tc := ⟨.hbm, 68, rfl⟩
abbrev main_call3_v1 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_call4_v0 : Ref sig .tc := ⟨.hbm, 77, rfl⟩
abbrev main_call4_v1 : Ref sig .tc := ⟨.hbm, 78, rfl⟩
abbrev main_call4_cst : Ref sig .tc := ⟨.hbm, 79, rfl⟩
abbrev main_call4_v2 : Ref sig .tc := ⟨.hbm, 80, rfl⟩
abbrev main_call4_v3 : Ref sig .tc := ⟨.hbm, 81, rfl⟩
abbrev main_call4_cst_0 : Ref sig .tc := ⟨.hbm, 82, rfl⟩
abbrev main_call4_v4 : Ref sig .tc := ⟨.hbm, 83, rfl⟩
abbrev main_call4_v5 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_c_3 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_4 : Ref sig .tc := ⟨.hbm, 97, rfl⟩
abbrev main_call5_v0 : Ref sig .tc := ⟨.hbm, 98, rfl⟩
abbrev main_call5_v1 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_call6_v0 : Ref sig .tc := ⟨.hbm, 107, rfl⟩
abbrev main_call6_v1 : Ref sig .tc := ⟨.hbm, 108, rfl⟩
abbrev main_call6_cst : Ref sig .tc := ⟨.hbm, 109, rfl⟩
abbrev main_call6_v2 : Ref sig .tc := ⟨.hbm, 110, rfl⟩
abbrev main_call6_v3 : Ref sig .tc := ⟨.hbm, 111, rfl⟩
abbrev main_call6_cst_0 : Ref sig .tc := ⟨.hbm, 112, rfl⟩
abbrev main_call6_v4 : Ref sig .tc := ⟨.hbm, 113, rfl⟩
abbrev main_call6_v5 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_c_5 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_cst_6 : Ref sig .tc := ⟨.hbm, 127, rfl⟩
abbrev main_call7_v0 : Ref sig .tc := ⟨.hbm, 128, rfl⟩
abbrev main_call7_v1 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_call8_v0 : Ref sig .tc := ⟨.hbm, 137, rfl⟩
abbrev main_call8_v1 : Ref sig .tc := ⟨.hbm, 138, rfl⟩
abbrev main_call8_cst : Ref sig .tc := ⟨.hbm, 139, rfl⟩
abbrev main_call8_v2 : Ref sig .tc := ⟨.hbm, 140, rfl⟩
abbrev main_call8_v3 : Ref sig .tc := ⟨.hbm, 141, rfl⟩
abbrev main_call8_cst_0 : Ref sig .tc := ⟨.hbm, 142, rfl⟩
abbrev main_call8_v4 : Ref sig .tc := ⟨.hbm, 143, rfl⟩
abbrev main_call8_v5 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_c_7 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_8 : Ref sig .tc := ⟨.hbm, 157, rfl⟩
abbrev main_call9_v0 : Ref sig .tc := ⟨.hbm, 158, rfl⟩
abbrev main_call9_v1 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_call10_v0 : Ref sig .tc := ⟨.hbm, 167, rfl⟩
abbrev main_call10_v1 : Ref sig .tc := ⟨.hbm, 168, rfl⟩
abbrev main_call10_cst : Ref sig .tc := ⟨.hbm, 169, rfl⟩
abbrev main_call10_v2 : Ref sig .tc := ⟨.hbm, 170, rfl⟩
abbrev main_call10_v3 : Ref sig .tc := ⟨.hbm, 171, rfl⟩
abbrev main_call10_cst_0 : Ref sig .tc := ⟨.hbm, 172, rfl⟩
abbrev main_call10_v4 : Ref sig .tc := ⟨.hbm, 173, rfl⟩
abbrev main_call10_v5 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_c_9 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_cst_10 : Ref sig .tc := ⟨.hbm, 187, rfl⟩
abbrev main_call11_v0 : Ref sig .tc := ⟨.hbm, 188, rfl⟩
abbrev main_call11_v1 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_call12_v0 : Ref sig .tc := ⟨.hbm, 197, rfl⟩
abbrev main_call12_v1 : Ref sig .tc := ⟨.hbm, 198, rfl⟩
abbrev main_call12_cst : Ref sig .tc := ⟨.hbm, 199, rfl⟩
abbrev main_call12_v2 : Ref sig .tc := ⟨.hbm, 200, rfl⟩
abbrev main_call12_v3 : Ref sig .tc := ⟨.hbm, 201, rfl⟩
abbrev main_call12_cst_0 : Ref sig .tc := ⟨.hbm, 202, rfl⟩
abbrev main_call12_v4 : Ref sig .tc := ⟨.hbm, 203, rfl⟩
abbrev main_call12_v5 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_c_11 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_cst_12 : Ref sig .tc := ⟨.hbm, 217, rfl⟩
abbrev main_call13_v0 : Ref sig .tc := ⟨.hbm, 218, rfl⟩
abbrev main_call13_v1 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_call14_v0 : Ref sig .tc := ⟨.hbm, 227, rfl⟩
abbrev main_call14_v1 : Ref sig .tc := ⟨.hbm, 228, rfl⟩
abbrev main_call14_cst : Ref sig .tc := ⟨.hbm, 229, rfl⟩
abbrev main_call14_v2 : Ref sig .tc := ⟨.hbm, 230, rfl⟩
abbrev main_call14_v3 : Ref sig .tc := ⟨.hbm, 231, rfl⟩
abbrev main_call14_cst_0 : Ref sig .tc := ⟨.hbm, 232, rfl⟩
abbrev main_call14_v4 : Ref sig .tc := ⟨.hbm, 233, rfl⟩
abbrev main_call14_v5 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_c_13 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_cst_14 : Ref sig .tc := ⟨.hbm, 247, rfl⟩
abbrev main_call15_v0 : Ref sig .tc := ⟨.hbm, 248, rfl⟩
abbrev main_call15_v1 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩

abbrev nD : Nat := 1
abbrev τ : Topo := Topo.v7x

variable {F : FTy → Type} [FloatOps F]
-- ==== Combine.lean ====
abbrev S34560x2048 : Shape := ⟨2, ![34560, 2048]⟩
abbrev S8192x1 : Shape := ⟨2, ![8192, 1]⟩
abbrev S8192x2048 : Shape := ⟨2, ![8192, 2048]⟩
abbrev S96x1x2048 : Shape := ⟨3, ![96, 1, 2048]⟩
abbrev S1x2048 : Shape := ⟨2, ![1, 2048]⟩
abbrev S128 : Shape := ⟨1, ![128]⟩
abbrev S256x2048 : Shape := ⟨2, ![256, 2048]⟩
abbrev S1 : Shape := ⟨1, ![1]⟩
abbrev S1024x1 : Shape := ⟨2, ![1024, 1]⟩
abbrev S1024x2048 : Shape := ⟨2, ![1024, 2048]⟩
abbrev S1x1x2048 : Shape := ⟨3, ![1, 1, 2048]⟩
abbrev S1024x256 : Shape := ⟨2, ![1024, 256]⟩
abbrev S128x2048 : Shape := ⟨2, ![128, 2048]⟩
abbrev S128x1 : Shape := ⟨2, ![128, 1]⟩

abbrev nBuf : Space → Nat
  | .hbm => 8
  | .vmem => 15
  | .smem => 5
  | _ => 0

abbrev bufTy : (tb : Table) → Fin (tcTables nBuf tb) → BufTy
  | .hbm, ⟨0, _⟩ => ⟨S34560x2048, .bf16⟩
  | .hbm, ⟨1, _⟩ => ⟨S8192x1, .i32⟩
  | .hbm, ⟨2, _⟩ => ⟨S8192x1, .i32⟩
  | .hbm, ⟨3, _⟩ => ⟨S8192x2048, .f32⟩
  | .hbm, ⟨4, _⟩ => ⟨S96x1x2048, .f32⟩
  | .hbm, ⟨5, _⟩ => ⟨S1x2048, .f32⟩
  | .hbm, ⟨6, _⟩ => ⟨S1x2048, .f32⟩
  | .hbm, ⟨7, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S1024x1, .i32⟩
  | .local _ .vmem, ⟨3, _⟩ => ⟨S1024x1, .i32⟩
  | .local _ .vmem, ⟨4, _⟩ => ⟨S1024x1, .i32⟩
  | .local _ .vmem, ⟨5, _⟩ => ⟨S1024x1, .i32⟩
  | .local _ .vmem, ⟨6, _⟩ => ⟨S1024x2048, .f32⟩
  | .local _ .vmem, ⟨7, _⟩ => ⟨S1024x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S1x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .f32⟩
  | .local _ .smem, ⟨0, _⟩ => ⟨S128, .i32⟩
  | .local _ .smem, ⟨1, _⟩ => ⟨S128, .i32⟩
  | .local _ .smem, ⟨2, _⟩ => ⟨S128, .i32⟩
  | .local _ .smem, ⟨3, _⟩ => ⟨S128, .i32⟩
  | .local _ .smem, ⟨4, _⟩ => ⟨S128, .i32⟩
  | _, _ => ⟨S34560x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_arg7 : Ref sig .tc := ⟨.smem, 0, rfl⟩
abbrev main_arg8 : Ref sig .tc := ⟨.smem, 1, rfl⟩
abbrev main_arg9 : Ref sig .tc := ⟨.smem, 2, rfl⟩
abbrev main_arg10 : Ref sig .tc := ⟨.smem, 3, rfl⟩
abbrev main_arg11 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

abbrev pre0 : Pipeline.Prefetch sig := ⟨5, ![main_arg7.idx, main_arg8.idx, main_arg9.idx, main_arg10.idx, main_arg11.idx], fun | 0 => main_arg7.names | 1 => main_arg8.names | 2 => main_arg9.names | 3 => main_arg10.names | 4 => main_arg11.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let v15 : Index := Scalar.indexCast arg0
  ![v15.toNat]
def k0_off4 (i : grid0.Coords) : Fin 1 → Nat :=
  let arg0 : BitVec 32 := BitVec.ofNat 32 (i 0).val
  let v10 : Index := Scalar.indexCast arg0
  ![v10.toNat]
@[reducible] def k0_t1_loop : Scf.Loop 32 :=
  let c0_i32_4 : BitVec 32 := 0#32
  let c8_i32 : BitVec 32 := 8#32
  let v15 : BitVec 32 := Scalar.addi c0_i32_4 c8_i32
  let c1_i32_5 : BitVec 32 := 1#32
  ⟨c0_i32_4, v15, c1_i32_5⟩
def k0_mult1 (k0_t1 : Fin k0_t1_loop.trips) : BitVec 32 :=
  let c0_i32_4 : BitVec 32 := 0#32
  let c1_i32_5 : BitVec 32 := 1#32
  let arg15 : BitVec 32 := Scf.iv c0_i32_4 c1_i32_5 k0_t1
  let c128_i32 : BitVec 32 := 128#32
  let v16 : BitVec 32 := Scalar.muli arg15 c128_i32
  v16
def k0_off5 (k0_t1 : Fin k0_t1_loop.trips) : Fin 2 → Nat :=
  let c0_i32_4 : BitVec 32 := 0#32
  let c1_i32_5 : BitVec 32 := 1#32
  let arg15 : BitVec 32 := Scf.iv c0_i32_4 c1_i32_5 k0_t1
  let c128_i32 : BitVec 32 := 128#32
  let v16 : BitVec 32 := Scalar.muli arg15 c128_i32
  let v17 : BitVec 32 := v16
  let v18 : Index := Scalar.indexCast v17
  let c0 : Index := 0#32
  ![v18.toNat, 0]
def k0_cond3 (v11 : BitVec 32) : BitVec 1 :=
  let c1_i32_2 : BitVec 32 := 1#32
  let v12 : BitVec 1 := Scalar.cmpi .eq v11 c1_i32_2
  let v13 : BitVec 32 := Scalar.extui v12
  let c0_i32_3 : BitVec 32 := 0#32
  let v14 : BitVec 1 := Scalar.cmpi .ne v13 c0_i32_3
  v14

def cc0_transform_0 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S128) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c6_i32 : BitVec 32 := 6#32
  let v19 : BitVec 32 := Scalar.muli v18 c6_i32
  let c48_i32 : BitVec 32 := 48#32
  let v20 : BitVec 32 := Scalar.addi c48_i32 v19
  let c5_i32 : BitVec 32 := 5#32
  let v21 : BitVec 32 := Scalar.addi v20 c5_i32
  let c0_i32_4 : BitVec 32 := 0#32
  let c0_i32_5 : BitVec 32 := 0#32
  let c0_i32_6 : BitVec 32 := 0#32
  ![v21.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefCombineIdeal.lean ====
abbrev S34560x2048 : Shape := ⟨2, ![34560, 2048]⟩
abbrev S8192x1 : Shape := ⟨2, ![8192, 1]⟩
abbrev S8192x2048 : Shape := ⟨2, ![8192, 2048]⟩
abbrev S96x1x2048 : Shape := ⟨3, ![96, 1, 2048]⟩
abbrev S1x2048 : Shape := ⟨2, ![1, 2048]⟩
abbrev S128 : Shape := ⟨1, ![128]⟩
abbrev S8192 : Shape := ⟨1, ![8192]⟩
abbrev S2x8x6x2048 : Shape := ⟨4, ![2, 8, 6, 2048]⟩
abbrev S1x2x1x2048 : Shape := ⟨4, ![1, 2, 1, 2048]⟩
abbrev S2x2048 : Shape := ⟨2, ![2, 2048]⟩
abbrev S2x1x2048 : Shape := ⟨3, ![2, 1, 2048]⟩
abbrev S2x4096x2048 : Shape := ⟨3, ![2, 4096, 2048]⟩
abbrev S_ : Shape := ⟨0, ![]⟩
abbrev S2048 : Shape := ⟨1, ![2048]⟩

abbrev nBuf : Space → Nat
  | .hbm => 62
  | .vmem => 0
  | .smem => 0
  | _ => 0

abbrev bufTy : (tb : Table) → Fin (tcTables nBuf tb) → BufTy
  | .hbm, ⟨0, _⟩ => ⟨S34560x2048, .bf16⟩
  | .hbm, ⟨1, _⟩ => ⟨S8192x1, .i32⟩
  | .hbm, ⟨2, _⟩ => ⟨S8192x1, .i32⟩
  | .hbm, ⟨3, _⟩ => ⟨S8192x2048, .f32⟩
  | .hbm, ⟨4, _⟩ => ⟨S96x1x2048, .f32⟩
  | .hbm, ⟨5, _⟩ => ⟨S1x2048, .f32⟩
  | .hbm, ⟨6, _⟩ => ⟨S1x2048, .f32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S128, .i32⟩
  | .hbm, ⟨11, _⟩ => ⟨S128, .i32⟩
  | .hbm, ⟨12, _⟩ => ⟨S34560x2048, .f32⟩
  | .hbm, ⟨13, _⟩ => ⟨S8192, .i32⟩
  | .hbm, ⟨14, _⟩ => ⟨S8192x1, .i32⟩
  | .hbm, ⟨15, _⟩ => ⟨S8192x2048, .f32⟩
  | .hbm, ⟨16, _⟩ => ⟨S8192, .i32⟩
  | .hbm, ⟨17, _⟩ => ⟨S8192x1, .i32⟩
  | .hbm, ⟨18, _⟩ => ⟨S8192x2048, .f32⟩
  | .hbm, ⟨19, _⟩ => ⟨S8192x2048, .f32⟩
  | .hbm, ⟨20, _⟩ => ⟨S2x8x6x2048, .f32⟩
  | .hbm, ⟨21, _⟩ => ⟨S1x2x1x2048, .f32⟩
  | .hbm, ⟨22, _⟩ => ⟨S2x2048, .f32⟩
  | .hbm, ⟨23, _⟩ => ⟨S2x1x2048, .f32⟩
  | .hbm, ⟨24, _⟩ => ⟨S2x4096x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S1x2048, .f32⟩
  | .hbm, ⟨57, _⟩ => ⟨S8192x2048, .f32⟩
  | .hbm, ⟨58, _⟩ => ⟨S8192x2048, .f32⟩
  | .hbm, ⟨59, _⟩ => ⟨S1x2048, .f32⟩
  | .hbm, ⟨60, _⟩ => ⟨S8192x2048, .f32⟩
  | .hbm, ⟨61, _⟩ => ⟨S8192x2048, .f32⟩
  | _, _ => ⟨S34560x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Proof.Products.lean ====
/-
  One block of a projection, as arithmetic: a `[M,K] × [N,K]ᵀ` product started at the zero block is, entry by entry, the
  plain sum of products over the contracted axis. Every projection program multiplies a block of activations by a block
  of transposed weight rows this way, so the fact is stated once, for any extents.
-/
module

public import Idealize.ShloMosaic.Lib.MatmulPlain
public import Idealize.ShloMosaic.Lib.ValueIdxCore

@[expose] public section

namespace Cert.Products

open Idealize.ShloMosaic Idealize.ShloMosaic.ValueIdx
open scoped BigOperators

/-- The offsets of a whole two-axis block are all zero. -/
theorem zeros2 : (![0, 0] : Fin 2 → Nat) = fun _ => 0 := funext fun a => by fin_cases a <;> rfl
/-- The offsets of a whole three-axis block are all zero. -/
theorem zeros3 : (![0, 0, 0] : Fin 3 → Nat) = fun _ => 0 := funext fun a => by fin_cases a <;> rfl

/-- The word `0x00000000` is the number zero. -/
theorem zero_word : (Scalar.ofBits (F := Ideal) .f32 0x00000000#32) = (0 : EReal) := by
  exact Ideal.ofBits_zero_f32

/-- The product of a block by a transposed block, started at zero, read at row `r` and column `c`. -/
theorem rows_by_rows {M K N : ℕ} {φ₁ φ₂ : FTy} (prec : Option ContractPrecision)
    (x : FVec Ideal ⟨2, ![M, K]⟩ φ₁) (y : FVec Ideal ⟨2, ![N, K]⟩ φ₂) (r : Fin M) (c : Fin N) :
    matmul (DotDims.transposedRhs M K N) prec x y (constant ⟨2, ![M, N]⟩ .f32 0x00000000#32) (ix2 r c)
      = ∑ k : Fin K, x (ix2 r k) * y (ix2 c k) := by
  refine (Ideal.matmul_transposedRhs_apply prec x y _ r c).trans ?_
  show Scalar.ofBits (F := Ideal) .f32 0x00000000#32 + _ = _
  rw [zero_word, zero_add]

/-- One entry of the joined input projection: row `r` of the activations times column `j` of the first layer's weights. -/
noncomputable def column (h : FVec Ideal ⟨2, ![8704, 2048]⟩ .bf16) (w : FVec Ideal ⟨3, ![2, 2048, 15392]⟩ .f32) (r : Fin 8704) (j : Fin 15392) : EReal :=
  ∑ k : Fin 2048, h (ix2 r k) * w (ix3 0 k j)

/-- A block product is that entry, when its left row is row `R` of the activations and its right row is weight column `J`. -/
theorem rows_by_rows_eq_column {M N : ℕ} (x : FVec Ideal ⟨2, ![M, 2048]⟩ .bf16) (y : FVec Ideal ⟨2, ![N, 2048]⟩ .bf16)
    (h : FVec Ideal ⟨2, ![8704, 2048]⟩ .bf16) (w : FVec Ideal ⟨3, ![2, 2048, 15392]⟩ .f32)
    (r : Fin M) (c : Fin N) (R : Fin 8704) (J : Fin 15392)
    (hx : ∀ k, x (ix2 r k) = h (ix2 R k)) (hy : ∀ k, y (ix2 c k) = w (ix3 0 k J)) :
    matmul (DotDims.transposedRhs M 2048 N) none x y (constant ⟨2, ![M, N]⟩ .f32 0x00000000#32) (ix2 r c) = column h w R J :=
  (rows_by_rows none x y r c).trans (Finset.sum_congr rfl fun k _ => by rw [hx, hy])

end Cert.Products
-- ==== Proof.ProjInBlocks.lean ====
/-
  The first projection (6144 columns): what its program leaves in the result array.

  The grid is 6 tiles of 1024 weight columns by 8 tiles of 1088 rows, the row tiles running inside a column tile. The
  first point of a column tile rounds the tile of transposed weights to bf16 into the scratch (over the extended reals
  the rounding is the identity); the other seven points reuse it. So after point `n` the scratch holds the weights of
  column tile `n / 8`, the output block is row tile `n % 8` times that tile, and the array is the product, entry by entry.
-/
module

public import proofs.«01_k».proof.Proof.Gen.ProjInIdeal.Value
public import proofs.«01_k».proof.Proof.Products
public import Idealize.ShloMosaic.Lib.Tactic
public import Idealize.ShloMosaic.Lib.ValueLayout

@[expose] public section

noncomputable section

namespace Cert.ProjInIdeal.Blocks

open Cert.ProjInIdeal Cert.ProjInIdeal.Gen Cert.ProjInIdeal.Value Cert.Products
open Idealize.ShloMosaic Idealize.ShloMosaic.TcCoe Idealize.ShloMosaic.ValueIdx Idealize.SL.Sem
open scoped BigOperators

variable (m : (ℓ : Loc nD τ sig) → Buf (Elt Ideal) ℓ)

/-! ## One point -/

/-- A weight block as the matrix the product takes: its leading unit axis dropped, rounded (the identity here). -/
abbrev rows (x1 : Vec Ideal S1x1024x2048 .f32) : Vec Ideal S1024x2048 .bf16 :=
  truncf (F := Ideal) .bf16 (shapeCast S1024x2048 x1 shapeCasts_S1x1024x2048_S1024x2048) bitsLt_bf16_f32

/-- The first point of a column tile leaves the weight block in the scratch. -/
theorem scratch_first (c : Dev nD) (i : grid0.Coords) (a2 : Memref sig .tc .vmem S1088x2048 .bf16) (h2 : a2.IsWhole)
    (a3 : Memref sig .tc .vmem S1x1024x2048 .f32) (h3 : a3.IsWhole) (a4 : Memref sig .tc .vmem S1088x1024 .f32) (h4 : a4.IsWhole)
    (a5 : Memref sig .tc .vmem S1024x2048 .bf16) (h5 : a5.IsWhole) (hc : cond0_0 i)
    (x0 : Vec Ideal S1088x2048 .bf16) (x1 : Vec Ideal S1x1024x2048 .f32) :
    sout0_A_0 c i a2 h2 a3 h3 a4 h4 a5 h5 hc x0 x1 = rows x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero zeros2]
  unfold k0_pay1
  simp only [View.readAt_eq_ld, h3.read_unread, View.ld_unit_zero (S := S1x1024x2048) zeros3, shapeCast_self]

/-- … and the product of the row block by it in the output block. -/
theorem out_first (c : Dev nD) (i : grid0.Coords) (a2 : Memref sig .tc .vmem S1088x2048 .bf16) (h2 : a2.IsWhole)
    (a3 : Memref sig .tc .vmem S1x1024x2048 .f32) (h3 : a3.IsWhole) (a4 : Memref sig .tc .vmem S1088x1024 .f32) (h4 : a4.IsWhole)
    (a5 : Memref sig .tc .vmem S1024x2048 .bf16) (h5 : a5.IsWhole) (hc : cond0_0 i)
    (x0 : Vec Ideal S1088x2048 .bf16) (x1 : Vec Ideal S1x1024x2048 .f32) :
    out0_A_2 c i a2 h2 a3 h3 a4 h4 a5 h5 hc x0 x1 = k0_pay2 x0 (rows x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero zeros2, View.readCov_unit_zero (S := S1024x2048) _ zeros2]
  unfold k0_pay1
  simp only [View.readAt_eq_ld, h2.read_unread, h3.read_unread, View.ld_unit_zero (S := S1088x2048) zeros2,
    View.ld_unit_zero (S := S1x1024x2048) zeros3, shapeCast_self]

/-- A later point multiplies its row block by what the scratch holds. -/
theorem out_later (c : Dev nD) (i : grid0.Coords) (a2 : Memref sig .tc .vmem S1088x2048 .bf16) (h2 : a2.IsWhole)
    (a3 : Memref sig .tc .vmem S1x1024x2048 .f32) (h3 : a3.IsWhole) (a4 : Memref sig .tc .vmem S1088x1024 .f32) (h4 : a4.IsWhole)
    (a5 : Memref sig .tc .vmem S1024x2048 .bf16) (h5 : a5.IsWhole) (hc : ¬cond0_0 i)
    (x0 : Vec Ideal S1088x2048 .bf16) (x1 : Vec Ideal S1x1024x2048 .f32) (s : Vec Ideal S1024x2048 .bf16) :
    out0_B_2 c i a2 h2 a3 h3 a4 h4 a5 h5 hc x0 x1 s = k0_pay2 x0 s := by
  unfold out0_B_2
  rw [View.read_writes_eq_canon _ _ _ (cover0_B_2 c i a2 h2 a3 h3 a4 h4 a5 h5 hc x0 x1 s)]
  unfold kernelRun0_B
  dsimp only
  rw [View.canon_unit_zero zeros2]
  simp only [View.readAt_eq_ld, h2.read_unread, h5.read_unread, View.ld_unit_zero (S := S1088x2048) zeros2,
    View.ld_unit_zero (S := S1024x2048) zeros2]

/-! ## The blocks the windows read -/

/-- The row window moves by whole row tiles; the weight window's element offsets move by whole column tiles, from the
    first column of this projection. -/
theorem offsets : ∀ t : Fin cfg0.N, win0_0.index t (0 : Fin 2) = t.val % 8 ∧ win0_0.index t (1 : Fin 2) = 0
    ∧ win0_1.index t (0 : Fin 3) = 0 ∧ win0_1.index t (1 : Fin 3) = 1024 * (t.val / 8) ∧ win0_1.index t (2 : Fin 3) = 0 :=
  (by decide +kernel : ∀ t : Fin grid0.N, win0_0.index t (0 : Fin 2) = t.val % 8 ∧ win0_0.index t (1 : Fin 2) = 0
    ∧ win0_1.index t (0 : Fin 3) = 0 ∧ win0_1.index t (1 : Fin 3) = 1024 * (t.val / 8) ∧ win0_1.index t (2 : Fin 3) = 0)

/-- The program transposes the weights before the call. -/
theorem weights_entry (c : Dev nD) (l : Fin 2) (j : Fin 15392) (k : Fin 2048) :
    V m c main_v0 (ix3 l j k) = m ((c : Thread nD τ).loc main_arg1) (ix3 l k j) := by
  show StableHlo.after hostOps0 (fun b => m (c, b)) main_v0 (ix3 l j k) = _
  simp only [hostOps0, StableHlo.after_cons, StableHlo.after_nil, StableHlo.unary_result']
  exact transpose_ix3_021_apply _ _ l j k

/-- The row block at point `t`: rows `1088·(t % 8) …` of the activations. -/
theorem row_block (c : Dev nD) (t : Fin cfg0.N) (r : Fin 1088) (k : Fin 2048) (hr : 1088 * (t.val % 8) + r.val < 8704) :
    (iblk m c 0 t : Vec Ideal S1088x2048 .bf16) (ix2 r k) = m ((c : Thread nD τ).loc main_arg0) (ix2 ⟨1088 * (t.val % 8) + r.val, hr⟩ k) := by
  obtain ⟨e0, e1, -⟩ := offsets t
  unfold iblk
  rw [View.read_apply]
  show V m c main_arg0 _ = _
  rw [V_main_arg0]
  congr 1
  funext a
  apply Fin.ext
  match a with
  | ⟨0, _⟩ => show win0_0.index t 0 * 1088 + 1 * r.val = 1088 * (t.val % 8) + r.val; rw [e0]; omega
  | ⟨1, _⟩ => show win0_0.index t 1 * 2048 + 1 * k.val = k.val; rw [e1]; omega

/-- The weight block at point `t`, as the product takes it: row `j` is weight column `1024·(t / 8) + j`. -/
theorem weight_block (c : Dev nD) (t : Fin cfg0.N) (j : Fin 1024) (k : Fin 2048) (hj : 1024 * (t.val / 8) + j.val < 15392) :
    rows (iblk m c 1 t) (ix2 j k) = m ((c : Thread nD τ).loc main_arg1) (ix3 0 k ⟨1024 * (t.val / 8) + j.val, hj⟩) := by
  obtain ⟨-, -, e0, e1, e2⟩ := offsets t
  have hs : rows (iblk m c 1 t) (ix2 j k) = (iblk m c 1 t : Vec Ideal S1x1024x2048 .f32) (ix3 0 j k) := by
    show shapeCast S1024x2048 (iblk m c 1 t) shapeCasts_S1x1024x2048_S1024x2048 (ix2 j k) = _
    exact shapeCast_1ab_ab_apply _ _ j k
  rw [hs, ← weights_entry m c 0]
  unfold iblk
  rw [View.read_apply]
  show V m c main_v0 _ = _
  congr 1
  funext a
  apply Fin.ext
  match a with
  | ⟨0, _⟩ => show win0_1.index t 0 + 1 * 0 = 0; rw [e0]
  | ⟨1, _⟩ => show win0_1.index t 1 + 1 * j.val = 1024 * (t.val / 8) + j.val; rw [e1]; omega
  | ⟨2, _⟩ => show win0_1.index t 2 + 1 * k.val = k.val; rw [e2]; omega

/-! ## The state after each point, and the array -/

/-- After point `n` the scratch holds the weights of column tile `n / 8`: stored at the tile's first point, kept since. -/
theorem scratch_after (c : Dev nD) : ∀ (n : ℕ) (h : n < cfg0.N) (j : Fin 1024) (k : Fin 2048) (hj : 1024 * (n / 8) + j.val < 15392),
    (outsAt0 m c n h).2 (ix2 j k) = m ((c : Thread nD τ).loc main_arg1) (ix3 0 k ⟨1024 * (n / 8) + j.val, hj⟩) := by
  intro n
  induction n with
  | zero =>
    intro h j k hj
    rw [outsAt0_A m c ⟨0, h⟩ rfl]
    dsimp only
    rw [scratch_first]
    exact weight_block m c ⟨0, h⟩ j k hj
  | succ n ih =>
    intro h j k hj
    by_cases h0 : (n + 1) % 8 = 0
    · rw [outsAt0_A m c ⟨n + 1, h⟩ h0]
      dsimp only
      rw [scratch_first]
      exact weight_block m c ⟨n + 1, h⟩ j k hj
    · rw [outsAt0_B m c ⟨n + 1, h⟩ h0]
      have e : (n + 1) / 8 = n / 8 := by omega
      refine (ih (Nat.lt_of_succ_lt h) j k (by omega)).trans ?_
      simp only [e]

/-- Every point's output block is its row block times what the scratch holds after it. -/
theorem out_after (c : Dev nD) (t : Fin cfg0.N) :
    (outsAt0 m c t.val t.isLt).1 = k0_pay2 (iblk m c 0 t) (outsAt0 m c t.val t.isLt).2 := by
  by_cases h0 : t.val % 8 = 0
  · rw [outsAt0_A m c t h0]
    dsimp only
    rw [out_first, scratch_first]
  · rw [outsAt0_B m c t h0]
    dsimp only
    rw [out_later]
    rfl

/-- The result array, entry by entry: the activations' row times the weights' column. -/
theorem array (c : Dev nD) (i : S8704x6144.Idx) :
    G2 m c i = column (m ((c : Thread nD τ).loc main_arg0)) (m ((c : Thread nD τ).loc main_arg1)) (i 0)
      ⟨(i 1).val, lt_trans (i 1).isLt (by decide)⟩ := by
  have hN : cfg0.N = 48 := N_0
  have h0 : (i 0).val < 8704 := (i 0).isLt
  have h1 : (i 1).val < 6144 := (i 1).isLt
  have hp : pt2Of i < cfg0.N := by rw [hN]; dsimp only [pt2Of, run2Of]; omega
  have hmod : pt2Of i % 8 = (i 0).val / 1088 := by dsimp only [pt2Of, run2Of]; omega
  have hdiv : pt2Of i / 8 = (i 1).val / 1024 := by dsimp only [pt2Of, run2Of]; omega
  unfold G2
  rw [dif_pos hp, ← outsAt0_sweep m c (pt2Of i) hp, out_after m c ⟨pt2Of i, hp⟩]
  have hl : loc2Of i = ix2 ⟨(i 0).val % 1088, Nat.mod_lt _ (by decide)⟩ ⟨(i 1).val % 1024, Nat.mod_lt _ (by decide)⟩ := eq_ix2 _
  rw [hl]
  refine rows_by_rows_eq_column (iblk m c 0 ⟨pt2Of i, hp⟩) (outsAt0 m c (pt2Of i) hp).2 _ _ _ _ _ _ (fun k => ?_) (fun k => ?_)
  · rw [row_block m c ⟨pt2Of i, hp⟩ _ k (by dsimp only; omega)]
    congr 2
    apply Fin.ext; dsimp only; omega
  · rw [scratch_after m c (pt2Of i) hp _ k (by dsimp only; omega)]
    congr 2
    apply Fin.ext; dsimp only; omega

end Cert.ProjInIdeal.Blocks

end
-- ==== Proof.ProjDecayBlocks.lean ====
/-
  The decay projection (128 columns from column 6144): what its program leaves in the result array.

  The grid is one tile of 128 weight columns by 8 tiles of 1088 rows. The first point rounds the transposed weights to
  bf16 into the scratch (over the extended reals the rounding is the identity); the other seven points reuse it. So the
  scratch holds these columns' weights after every point, and each output block is its row tile times them.
-/
module

public import proofs.«01_k».proof.Proof.Gen.ProjDecayIdeal.Value
public import proofs.«01_k».proof.Proof.Products
public import Idealize.ShloMosaic.Lib.Tactic
public import Idealize.ShloMosaic.Lib.ValueLayout

@[expose] public section

noncomputable section

namespace Cert.ProjDecayIdeal.Blocks

open Cert.ProjDecayIdeal Cert.ProjDecayIdeal.Gen Cert.ProjDecayIdeal.Value Cert.Products
open Idealize.ShloMosaic Idealize.ShloMosaic.TcCoe Idealize.ShloMosaic.ValueIdx Idealize.SL.Sem
open scoped BigOperators

variable (m : (ℓ : Loc nD τ sig) → Buf (Elt Ideal) ℓ)

/-! ## One point -/

/-- A weight block as the matrix the product takes: its leading unit axis dropped, rounded (the identity here). -/
abbrev rows (x1 : Vec Ideal S1x128x2048 .f32) : Vec Ideal S128x2048 .bf16 :=
  truncf (F := Ideal) .bf16 (shapeCast S128x2048 x1 shapeCasts_S1x128x2048_S128x2048) bitsLt_bf16_f32

/-- The first point of a column tile leaves the weight block in the scratch. -/
theorem scratch_first (c : Dev nD) (i : grid0.Coords) (a2 : Memref sig .tc .vmem S1088x2048 .bf16) (h2 : a2.IsWhole)
    (a3 : Memref sig .tc .vmem S1x128x2048 .f32) (h3 : a3.IsWhole) (a4 : Memref sig .tc .vmem S1088x128 .f32) (h4 : a4.IsWhole)
    (a5 : Memref sig .tc .vmem S128x2048 .bf16) (h5 : a5.IsWhole) (hc : cond0_0 i)
    (x0 : Vec Ideal S1088x2048 .bf16) (x1 : Vec Ideal S1x128x2048 .f32) :
    sout0_A_0 c i a2 h2 a3 h3 a4 h4 a5 h5 hc x0 x1 = rows x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero zeros2]
  unfold k0_pay1
  simp only [View.readAt_eq_ld, h3.read_unread, View.ld_unit_zero (S := S1x128x2048) zeros3, shapeCast_self]

/-- … and the product of the row block by it in the output block. -/
theorem out_first (c : Dev nD) (i : grid0.Coords) (a2 : Memref sig .tc .vmem S1088x2048 .bf16) (h2 : a2.IsWhole)
    (a3 : Memref sig .tc .vmem S1x128x2048 .f32) (h3 : a3.IsWhole) (a4 : Memref sig .tc .vmem S1088x128 .f32) (h4 : a4.IsWhole)
    (a5 : Memref sig .tc .vmem S128x2048 .bf16) (h5 : a5.IsWhole) (hc : cond0_0 i)
    (x0 : Vec Ideal S1088x2048 .bf16) (x1 : Vec Ideal S1x128x2048 .f32) :
    out0_A_2 c i a2 h2 a3 h3 a4 h4 a5 h5 hc x0 x1 = k0_pay2 x0 (rows x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero zeros2, View.readCov_unit_zero (S := S128x2048) _ zeros2]
  unfold k0_pay1
  simp only [View.readAt_eq_ld, h2.read_unread, h3.read_unread, View.ld_unit_zero (S := S1088x2048) zeros2,
    View.ld_unit_zero (S := S1x128x2048) zeros3, shapeCast_self]

/-- A later point multiplies its row block by what the scratch holds. -/
theorem out_later (c : Dev nD) (i : grid0.Coords) (a2 : Memref sig .tc .vmem S1088x2048 .bf16) (h2 : a2.IsWhole)
    (a3 : Memref sig .tc .vmem S1x128x2048 .f32) (h3 : a3.IsWhole) (a4 : Memref sig .tc .vmem S1088x128 .f32) (h4 : a4.IsWhole)
    (a5 : Memref sig .tc .vmem S128x2048 .bf16) (h5 : a5.IsWhole) (hc : ¬cond0_0 i)
    (x0 : Vec Ideal S1088x2048 .bf16) (x1 : Vec Ideal S1x128x2048 .f32) (s : Vec Ideal S128x2048 .bf16) :
    out0_B_2 c i a2 h2 a3 h3 a4 h4 a5 h5 hc x0 x1 s = k0_pay2 x0 s := by
  unfold out0_B_2
  rw [View.read_writes_eq_canon _ _ _ (cover0_B_2 c i a2 h2 a3 h3 a4 h4 a5 h5 hc x0 x1 s)]
  unfold kernelRun0_B
  dsimp only
  rw [View.canon_unit_zero zeros2]
  simp only [View.readAt_eq_ld, h2.read_unread, h5.read_unread, View.ld_unit_zero (S := S1088x2048) zeros2,
    View.ld_unit_zero (S := S128x2048) zeros2]

/-! ## The blocks the windows read -/

/-- The row window moves by whole row tiles; the weight window's element offsets move by whole column tiles, from the
    first column of this projection. -/
theorem offsets : ∀ t : Fin cfg0.N, win0_0.index t (0 : Fin 2) = t.val % 8 ∧ win0_0.index t (1 : Fin 2) = 0
    ∧ win0_1.index t (0 : Fin 3) = 0 ∧ win0_1.index t (1 : Fin 3) = 6144 + 128 * (t.val / 8) ∧ win0_1.index t (2 : Fin 3) = 0 :=
  (by decide +kernel : ∀ t : Fin grid0.N, win0_0.index t (0 : Fin 2) = t.val % 8 ∧ win0_0.index t (1 : Fin 2) = 0
    ∧ win0_1.index t (0 : Fin 3) = 0 ∧ win0_1.index t (1 : Fin 3) = 6144 + 128 * (t.val / 8) ∧ win0_1.index t (2 : Fin 3) = 0)

/-- The program transposes the weights before the call. -/
theorem weights_entry (c : Dev nD) (l : Fin 2) (j : Fin 15392) (k : Fin 2048) :
    V m c main_v0 (ix3 l j k) = m ((c : Thread nD τ).loc main_arg1) (ix3 l k j) := by
  show StableHlo.after hostOps0 (fun b => m (c, b)) main_v0 (ix3 l j k) = _
  simp only [hostOps0, StableHlo.after_cons, StableHlo.after_nil, StableHlo.unary_result']
  exact transpose_ix3_021_apply _ _ l j k

/-- The row block at point `t`: rows `1088·(t % 8) …` of the activations. -/
theorem row_block (c : Dev nD) (t : Fin cfg0.N) (r : Fin 1088) (k : Fin 2048) (hr : 1088 * (t.val % 8) + r.val < 8704) :
    (iblk m c 0 t : Vec Ideal S1088x2048 .bf16) (ix2 r k) = m ((c : Thread nD τ).loc main_arg0) (ix2 ⟨1088 * (t.val % 8) + r.val, hr⟩ k) := by
  obtain ⟨e0, e1, -⟩ := offsets t
  unfold iblk
  rw [View.read_apply]
  show V m c main_arg0 _ = _
  rw [V_main_arg0]
  congr 1
  funext a
  apply Fin.ext
  match a with
  | ⟨0, _⟩ => show win0_0.index t 0 * 1088 + 1 * r.val = 1088 * (t.val % 8) + r.val; rw [e0]; omega
  | ⟨1, _⟩ => show win0_0.index t 1 * 2048 + 1 * k.val = k.val; rw [e1]; omega

/-- The weight block at point `t`, as the product takes it: row `j` is weight column `6144 + 128·(t / 8) + j`. -/
theorem weight_block (c : Dev nD) (t : Fin cfg0.N) (j : Fin 128) (k : Fin 2048) (hj : 6144 + 128 * (t.val / 8) + j.val < 15392) :
    rows (iblk m c 1 t) (ix2 j k) = m ((c : Thread nD τ).loc main_arg1) (ix3 0 k ⟨6144 + 128 * (t.val / 8) + j.val, hj⟩) := by
  obtain ⟨-, -, e0, e1, e2⟩ := offsets t
  have hs : rows (iblk m c 1 t) (ix2 j k) = (iblk m c 1 t : Vec Ideal S1x128x2048 .f32) (ix3 0 j k) := by
    show shapeCast S128x2048 (iblk m c 1 t) shapeCasts_S1x128x2048_S128x2048 (ix2 j k) = _
    exact shapeCast_1ab_ab_apply _ _ j k
  rw [hs, ← weights_entry m c 0]
  unfold iblk
  rw [View.read_apply]
  show V m c main_v0 _ = _
  congr 1
  funext a
  apply Fin.ext
  match a with
  | ⟨0, _⟩ => show win0_1.index t 0 + 1 * 0 = 0; rw [e0]
  | ⟨1, _⟩ => show win0_1.index t 1 + 1 * j.val = 6144 + 128 * (t.val / 8) + j.val; rw [e1]; omega
  | ⟨2, _⟩ => show win0_1.index t 2 + 1 * k.val = k.val; rw [e2]; omega

/-! ## The state after each point, and the array -/

/-- After point `n` the scratch holds the weights of column tile `n / 8`: stored at the tile's first point, kept since. -/
theorem scratch_after (c : Dev nD) : ∀ (n : ℕ) (h : n < cfg0.N) (j : Fin 128) (k : Fin 2048) (hj : 6144 + 128 * (n / 8) + j.val < 15392),
    (outsAt0 m c n h).2 (ix2 j k) = m ((c : Thread nD τ).loc main_arg1) (ix3 0 k ⟨6144 + 128 * (n / 8) + j.val, hj⟩) := by
  intro n
  induction n with
  | zero =>
    intro h j k hj
    rw [outsAt0_A m c ⟨0, h⟩ rfl]
    dsimp only
    rw [scratch_first]
    exact weight_block m c ⟨0, h⟩ j k hj
  | succ n ih =>
    intro h j k hj
    by_cases h0 : (n + 1) % 8 = 0
    · rw [outsAt0_A m c ⟨n + 1, h⟩ h0]
      dsimp only
      rw [scratch_first]
      exact weight_block m c ⟨n + 1, h⟩ j k hj
    · rw [outsAt0_B m c ⟨n + 1, h⟩ h0]
      have e : (n + 1) / 8 = n / 8 := by omega
      refine (ih (Nat.lt_of_succ_lt h) j k (by omega)).trans ?_
      simp only [e]

/-- Every point's output block is its row block times what the scratch holds after it. -/
theorem out_after (c : Dev nD) (t : Fin cfg0.N) :
    (outsAt0 m c t.val t.isLt).1 = k0_pay2 (iblk m c 0 t) (outsAt0 m c t.val t.isLt).2 := by
  by_cases h0 : t.val % 8 = 0
  · rw [outsAt0_A m c t h0]
    dsimp only
    rw [out_first, scratch_first]
  · rw [outsAt0_B m c t h0]
    dsimp only
    rw [out_later]
    rfl

/-- The result array, entry by entry: the activations' row times the weights' column. -/
theorem array (c : Dev nD) (i : S8704x128.Idx) :
    G2 m c i = column (m ((c : Thread nD τ).loc main_arg0)) (m ((c : Thread nD τ).loc main_arg1)) (i 0)
      ⟨6144 + (i 1).val, by have h1 : (i 1).val < 128 := (i 1).isLt; omega⟩ := by
  have hN : cfg0.N = 8 := N_0
  have h0 : (i 0).val < 8704 := (i 0).isLt
  have h1 : (i 1).val < 128 := (i 1).isLt
  have hp : pt2Of i < cfg0.N := by rw [hN]; dsimp only [pt2Of, run2Of]; omega
  have hmod : pt2Of i % 8 = (i 0).val / 1088 := by dsimp only [pt2Of, run2Of]; omega
  have hdiv : pt2Of i / 8 = (i 1).val / 128 := by dsimp only [pt2Of, run2Of]; omega
  unfold G2
  rw [dif_pos hp, ← outsAt0_sweep m c (pt2Of i) hp, out_after m c ⟨pt2Of i, hp⟩]
  have hl : loc2Of i = ix2 ⟨(i 0).val % 1088, Nat.mod_lt _ (by decide)⟩ ⟨(i 1).val % 128, Nat.mod_lt _ (by decide)⟩ := eq_ix2 _
  rw [hl]
  refine rows_by_rows_eq_column (iblk m c 0 ⟨pt2Of i, hp⟩) (outsAt0 m c (pt2Of i) hp).2 _ _ _ _ _ _ (fun k => ?_) (fun k => ?_)
  · rw [row_block m c ⟨pt2Of i, hp⟩ _ k (by dsimp only; omega)]
    congr 2
    apply Fin.ext; dsimp only; omega
  · rw [scratch_after m c (pt2Of i) hp _ k (by dsimp only; omega)]
    congr 2
    apply Fin.ext; dsimp only; omega

end Cert.ProjDecayIdeal.Blocks

end
-- ==== Proof.ProjNaBlocks.lean ====
/-
  The attention projection (3072 columns from column 6176, the first 1024 scaled): what its program leaves in the result array.

  The grid is 3 tiles of 1024 weight columns by 8 tiles of 1088 rows, the row tiles running inside a column tile. The
  first point of a column tile rounds the tile of transposed weights to bf16 into the scratch (over the extended reals
  the rounding is the identity); the other seven points reuse it. So after point `n` the scratch holds the weights of
  column tile `n / 8`, and the output block is row tile `n % 8` times that tile, scaled when the column tile is the first
  (the queries). The array is the product, entry by entry, its first 1024 columns times the scale, the others times one.
-/
module

public import proofs.«01_k».proof.Proof.Gen.ProjNaIdeal.Value
public import proofs.«01_k».proof.Proof.Products
public import Idealize.ShloMosaic.Lib.Tactic
public import Idealize.ShloMosaic.Lib.IdealHost
public import Idealize.ShloMosaic.Lib.ValueLayout

@[expose] public section

noncomputable section

namespace Cert.ProjNaIdeal.Blocks

open Cert.ProjNaIdeal Cert.ProjNaIdeal.Gen Cert.ProjNaIdeal.Value Cert.Products
open Idealize.ShloMosaic Idealize.ShloMosaic.TcCoe Idealize.ShloMosaic.ValueIdx Idealize.SL.Sem
open scoped BigOperators

variable (m : (ℓ : Loc nD τ sig) → Buf (Elt Ideal) ℓ)

/-! ## One point -/

/-- A weight block as the matrix the product takes: its leading unit axis dropped, rounded (the identity here). -/
abbrev rows (x1 : Vec Ideal S1x1024x2048 .f32) : Vec Ideal S1024x2048 .bf16 :=
  truncf (F := Ideal) .bf16 (shapeCast S1024x2048 x1 shapeCasts_S1x1024x2048_S1024x2048) bitsLt_bf16_f32

/-- The first point of a column tile leaves the weight block in the scratch. -/
theorem scratch_first (c : Dev nD) (i : grid0.Coords) (a2 : Memref sig .tc .vmem S1088x2048 .bf16) (h2 : a2.IsWhole)
    (a3 : Memref sig .tc .vmem S1x1024x2048 .f32) (h3 : a3.IsWhole) (a4 : Memref sig .tc .vmem S1088x1024 .bf16) (h4 : a4.IsWhole)
    (a5 : Memref sig .tc .vmem S1024x2048 .bf16) (h5 : a5.IsWhole) (hc : cond0_0 i)
    (x0 : Vec Ideal S1088x2048 .bf16) (x1 : Vec Ideal S1x1024x2048 .f32) :
    sout0_A_0 c i a2 h2 a3 h3 a4 h4 a5 h5 hc x0 x1 = rows x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero zeros2]
  unfold k0_pay1
  simp only [View.readAt_eq_ld, h3.read_unread, View.ld_unit_zero (S := S1x1024x2048) zeros3, shapeCast_self]

/-- … and the product of the row block by it in the output block. -/
theorem out_first (c : Dev nD) (i : grid0.Coords) (a2 : Memref sig .tc .vmem S1088x2048 .bf16) (h2 : a2.IsWhole)
    (a3 : Memref sig .tc .vmem S1x1024x2048 .f32) (h3 : a3.IsWhole) (a4 : Memref sig .tc .vmem S1088x1024 .bf16) (h4 : a4.IsWhole)
    (a5 : Memref sig .tc .vmem S1024x2048 .bf16) (h5 : a5.IsWhole) (hc : cond0_0 i)
    (x0 : Vec Ideal S1088x2048 .bf16) (x1 : Vec Ideal S1x1024x2048 .f32) :
    out0_A_2 c i a2 h2 a3 h3 a4 h4 a5 h5 hc x0 x1 = k0_pay2 i x0 (rows x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero zeros2, View.readCov_unit_zero (S := S1024x2048) _ zeros2]
  unfold k0_pay1
  simp only [View.readAt_eq_ld, h2.read_unread, h3.read_unread, View.ld_unit_zero (S := S1088x2048) zeros2,
    View.ld_unit_zero (S := S1x1024x2048) zeros3, shapeCast_self]

/-- A later point multiplies its row block by what the scratch holds. -/
theorem out_later (c : Dev nD) (i : grid0.Coords) (a2 : Memref sig .tc .vmem S1088x2048 .bf16) (h2 : a2.IsWhole)
    (a3 : Memref sig .tc .vmem S1x1024x2048 .f32) (h3 : a3.IsWhole) (a4 : Memref sig .tc .vmem S1088x1024 .bf16) (h4 : a4.IsWhole)
    (a5 : Memref sig .tc .vmem S1024x2048 .bf16) (h5 : a5.IsWhole) (hc : ¬cond0_0 i)
    (x0 : Vec Ideal S1088x2048 .bf16) (x1 : Vec Ideal S1x1024x2048 .f32) (s : Vec Ideal S1024x2048 .bf16) :
    out0_B_2 c i a2 h2 a3 h3 a4 h4 a5 h5 hc x0 x1 s = k0_pay2 i x0 s := by
  unfold out0_B_2
  rw [View.read_writes_eq_canon _ _ _ (cover0_B_2 c i a2 h2 a3 h3 a4 h4 a5 h5 hc x0 x1 s)]
  unfold kernelRun0_B
  dsimp only
  rw [View.canon_unit_zero zeros2]
  simp only [View.readAt_eq_ld, h2.read_unread, h5.read_unread, View.ld_unit_zero (S := S1088x2048) zeros2,
    View.ld_unit_zero (S := S1024x2048) zeros2]

/-! ## The blocks the windows read -/

/-- The row window moves by whole row tiles; the weight window's element offsets move by whole column tiles, from the
    first column of this projection. -/
theorem offsets : ∀ t : Fin cfg0.N, win0_0.index t (0 : Fin 2) = t.val % 8 ∧ win0_0.index t (1 : Fin 2) = 0
    ∧ win0_1.index t (0 : Fin 3) = 0 ∧ win0_1.index t (1 : Fin 3) = 6176 + 1024 * (t.val / 8) ∧ win0_1.index t (2 : Fin 3) = 0 :=
  (by decide +kernel : ∀ t : Fin grid0.N, win0_0.index t (0 : Fin 2) = t.val % 8 ∧ win0_0.index t (1 : Fin 2) = 0
    ∧ win0_1.index t (0 : Fin 3) = 0 ∧ win0_1.index t (1 : Fin 3) = 6176 + 1024 * (t.val / 8) ∧ win0_1.index t (2 : Fin 3) = 0)

/-- The program transposes the weights before the call. -/
theorem weights_entry (c : Dev nD) (l : Fin 2) (j : Fin 15392) (k : Fin 2048) :
    V m c main_v0 (ix3 l j k) = m ((c : Thread nD τ).loc main_arg1) (ix3 l k j) := by
  show StableHlo.after hostOps0 (fun b => m (c, b)) main_v0 (ix3 l j k) = _
  simp only [hostOps0, StableHlo.after_cons, StableHlo.after_nil, StableHlo.unary_result']
  exact transpose_ix3_021_apply _ _ l j k

/-- The row block at point `t`: rows `1088·(t % 8) …` of the activations. -/
theorem row_block (c : Dev nD) (t : Fin cfg0.N) (r : Fin 1088) (k : Fin 2048) (hr : 1088 * (t.val % 8) + r.val < 8704) :
    (iblk m c 0 t : Vec Ideal S1088x2048 .bf16) (ix2 r k) = m ((c : Thread nD τ).loc main_arg0) (ix2 ⟨1088 * (t.val % 8) + r.val, hr⟩ k) := by
  obtain ⟨e0, e1, -⟩ := offsets t
  unfold iblk
  rw [View.read_apply]
  show V m c main_arg0 _ = _
  rw [V_main_arg0]
  congr 1
  funext a
  apply Fin.ext
  match a with
  | ⟨0, _⟩ => show win0_0.index t 0 * 1088 + 1 * r.val = 1088 * (t.val % 8) + r.val; rw [e0]; omega
  | ⟨1, _⟩ => show win0_0.index t 1 * 2048 + 1 * k.val = k.val; rw [e1]; omega

/-- The weight block at point `t`, as the product takes it: row `j` is weight column `6176 + 1024·(t / 8) + j`. -/
theorem weight_block (c : Dev nD) (t : Fin cfg0.N) (j : Fin 1024) (k : Fin 2048) (hj : 6176 + 1024 * (t.val / 8) + j.val < 15392) :
    rows (iblk m c 1 t) (ix2 j k) = m ((c : Thread nD τ).loc main_arg1) (ix3 0 k ⟨6176 + 1024 * (t.val / 8) + j.val, hj⟩) := by
  obtain ⟨-, -, e0, e1, e2⟩ := offsets t
  have hs : rows (iblk m c 1 t) (ix2 j k) = (iblk m c 1 t : Vec Ideal S1x1024x2048 .f32) (ix3 0 j k) := by
    show shapeCast S1024x2048 (iblk m c 1 t) shapeCasts_S1x1024x2048_S1024x2048 (ix2 j k) = _
    exact shapeCast_1ab_ab_apply _ _ j k
  rw [hs, ← weights_entry m c 0]
  unfold iblk
  rw [View.read_apply]
  show V m c main_v0 _ = _
  congr 1
  funext a
  apply Fin.ext
  match a with
  | ⟨0, _⟩ => show win0_1.index t 0 + 1 * 0 = 0; rw [e0]
  | ⟨1, _⟩ => show win0_1.index t 1 + 1 * j.val = 6176 + 1024 * (t.val / 8) + j.val; rw [e1]; omega
  | ⟨2, _⟩ => show win0_1.index t 2 + 1 * k.val = k.val; rw [e2]; omega

/-! ## The state after each point, and the array -/

/-- After point `n` the scratch holds the weights of column tile `n / 8`: stored at the tile's first point, kept since. -/
theorem scratch_after (c : Dev nD) : ∀ (n : ℕ) (h : n < cfg0.N) (j : Fin 1024) (k : Fin 2048) (hj : 6176 + 1024 * (n / 8) + j.val < 15392),
    (outsAt0 m c n h).2 (ix2 j k) = m ((c : Thread nD τ).loc main_arg1) (ix3 0 k ⟨6176 + 1024 * (n / 8) + j.val, hj⟩) := by
  intro n
  induction n with
  | zero =>
    intro h j k hj
    rw [outsAt0_A m c ⟨0, h⟩ rfl]
    dsimp only
    rw [scratch_first]
    exact weight_block m c ⟨0, h⟩ j k hj
  | succ n ih =>
    intro h j k hj
    by_cases h0 : (n + 1) % 8 = 0
    · rw [outsAt0_A m c ⟨n + 1, h⟩ h0]
      dsimp only
      rw [scratch_first]
      exact weight_block m c ⟨n + 1, h⟩ j k hj
    · rw [outsAt0_B m c ⟨n + 1, h⟩ h0]
      have e : (n + 1) / 8 = n / 8 := by omega
      refine (ih (Nat.lt_of_succ_lt h) j k (by omega)).trans ?_
      simp only [e]

/-- Every point's output block is its row block times what the scratch holds after it. -/
theorem out_after (c : Dev nD) (t : Fin cfg0.N) :
    (outsAt0 m c t.val t.isLt).1 = k0_pay2 (grid0.coords t) (iblk m c 0 t) (outsAt0 m c t.val t.isLt).2 := by
  by_cases h0 : t.val % 8 = 0
  · rw [outsAt0_A m c t h0]
    dsimp only
    rw [out_first, scratch_first]
  · rw [outsAt0_B m c t h0]
    dsimp only
    rw [out_later]
    rfl

/-- What a column tile is multiplied by: the scale of the queries for the first, one for the others. -/
abbrev tileScale (i : grid0.Coords) : Ideal .f32 :=
  Scalar.select (Scalar.cmpi .eq (BitVec.ofNat 32 (i 0).val) 0#32) (Scalar.ofBits (F := Ideal) .f32 0x3DB504F3#32) (Scalar.ofBits .f32 0x3F800000#32)

/-- The first column tile's points are the first eight. -/
theorem tileScale_eq : ∀ t : Fin cfg0.N, Scalar.cmpi .eq (BitVec.ofNat 32 (grid0.coords t 0).val) 0#32 = if t.val < 8 then 1#1 else 0#1 :=
  (by decide +kernel : ∀ t : Fin grid0.N, Scalar.cmpi .eq (BitVec.ofNat 32 (grid0.coords t 0).val) 0#32 = if t.val < 8 then 1#1 else 0#1)

/-- The result array, entry by entry: the activations' row times the weights' column, times the column's scale. -/
theorem array (c : Dev nD) (i : S8704x3072.Idx) :
    G2 m c i = column (m ((c : Thread nD τ).loc main_arg0)) (m ((c : Thread nD τ).loc main_arg1)) (i 0)
      ⟨6176 + (i 1).val, by have h1 : (i 1).val < 3072 := (i 1).isLt; omega⟩
      * (if (i 1).val < 1024 then Ideal.ofBits .f32 0x3DB504F3#32 else 1) := by
  have hN : cfg0.N = 24 := N_0
  have h0 : (i 0).val < 8704 := (i 0).isLt
  have h1 : (i 1).val < 3072 := (i 1).isLt
  have hp : pt2Of i < cfg0.N := by rw [hN]; dsimp only [pt2Of, run2Of]; omega
  have hmod : pt2Of i % 8 = (i 0).val / 1088 := by dsimp only [pt2Of, run2Of]; omega
  have hdiv : pt2Of i / 8 = (i 1).val / 1024 := by dsimp only [pt2Of, run2Of]; omega
  unfold G2
  rw [dif_pos hp, ← outsAt0_sweep m c (pt2Of i) hp, out_after m c ⟨pt2Of i, hp⟩]
  have hl : loc2Of i = ix2 ⟨(i 0).val % 1088, Nat.mod_lt _ (by decide)⟩ ⟨(i 1).val % 1024, Nat.mod_lt _ (by decide)⟩ := eq_ix2 _
  rw [hl]
  have hsc : tileScale (grid0.coords ⟨pt2Of i, hp⟩) = if (i 1).val < 1024 then Ideal.ofBits .f32 0x3DB504F3#32 else 1 := by
    unfold tileScale
    rw [tileScale_eq]
    by_cases hq : (i 1).val < 1024
    · rw [if_pos hq, if_pos (by dsimp only; omega)]; rfl
    · rw [if_neg hq, if_neg (by dsimp only; omega)]; exact Ideal.ofBits_one_f32
  rw [← hsc]
  refine congrArg (· * tileScale (grid0.coords ⟨pt2Of i, hp⟩)) ?_
  refine rows_by_rows_eq_column (iblk m c 0 ⟨pt2Of i, hp⟩) (outsAt0 m c (pt2Of i) hp).2 _ _ _ _ _ _ (fun k => ?_) (fun k => ?_)
  · rw [row_block m c ⟨pt2Of i, hp⟩ _ k (by dsimp only; omega)]
    congr 2
    apply Fin.ext; dsimp only; omega
  · rw [scratch_after m c (pt2Of i) hp _ k (by dsimp only; omega)]
    congr 2
    apply Fin.ext; dsimp only; omega

end Cert.ProjNaIdeal.Blocks

end
-- ==== Proof.ProjGatesBlocks.lean ====
/-
  The gates' projection (6144 columns from column 9248): what its program leaves in the result array.

  The grid is 6 tiles of 1024 weight columns by 8 tiles of 1088 rows, the row tiles running inside a column tile. The
  first point of a column tile rounds the tile of transposed weights to bf16 into the scratch (over the extended reals
  the rounding is the identity); the other seven points reuse it. So after point `n` the scratch holds the weights of
  column tile `n / 8`, the output block is row tile `n % 8` times that tile, and the array is the product, entry by entry.
-/
module

public import proofs.«01_k».proof.Proof.Gen.ProjGatesIdeal.Value
public import proofs.«01_k».proof.Proof.Products
public import Idealize.ShloMosaic.Lib.Tactic
public import Idealize.ShloMosaic.Lib.ValueLayout

@[expose] public section

noncomputable section

namespace Cert.ProjGatesIdeal.Blocks

open Cert.ProjGatesIdeal Cert.ProjGatesIdeal.Gen Cert.ProjGatesIdeal.Value Cert.Products
open Idealize.ShloMosaic Idealize.ShloMosaic.TcCoe Idealize.ShloMosaic.ValueIdx Idealize.SL.Sem
open scoped BigOperators

variable (m : (ℓ : Loc nD τ sig) → Buf (Elt Ideal) ℓ)

/-! ## One point -/

/-- A weight block as the matrix the product takes: its leading unit axis dropped, rounded (the identity here). -/
abbrev rows (x1 : Vec Ideal S1x1024x2048 .f32) : Vec Ideal S1024x2048 .bf16 :=
  truncf (F := Ideal) .bf16 (shapeCast S1024x2048 x1 shapeCasts_S1x1024x2048_S1024x2048) bitsLt_bf16_f32

/-- The first point of a column tile leaves the weight block in the scratch. -/
theorem scratch_first (c : Dev nD) (i : grid0.Coords) (a2 : Memref sig .tc .vmem S1088x2048 .bf16) (h2 : a2.IsWhole)
    (a3 : Memref sig .tc .vmem S1x1024x2048 .f32) (h3 : a3.IsWhole) (a4 : Memref sig .tc .vmem S1088x1024 .f32) (h4 : a4.IsWhole)
    (a5 : Memref sig .tc .vmem S1024x2048 .bf16) (h5 : a5.IsWhole) (hc : cond0_0 i)
    (x0 : Vec Ideal S1088x2048 .bf16) (x1 : Vec Ideal S1x1024x2048 .f32) :
    sout0_A_0 c i a2 h2 a3 h3 a4 h4 a5 h5 hc x0 x1 = rows x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero zeros2]
  unfold k0_pay1
  simp only [View.readAt_eq_ld, h3.read_unread, View.ld_unit_zero (S := S1x1024x2048) zeros3, shapeCast_self]

/-- … and the product of the row block by it in the output block. -/
theorem out_first (c : Dev nD) (i : grid0.Coords) (a2 : Memref sig .tc .vmem S1088x2048 .bf16) (h2 : a2.IsWhole)
    (a3 : Memref sig .tc .vmem S1x1024x2048 .f32) (h3 : a3.IsWhole) (a4 : Memref sig .tc .vmem S1088x1024 .f32) (h4 : a4.IsWhole)
    (a5 : Memref sig .tc .vmem S1024x2048 .bf16) (h5 : a5.IsWhole) (hc : cond0_0 i)
    (x0 : Vec Ideal S1088x2048 .bf16) (x1 : Vec Ideal S1x1024x2048 .f32) :
    out0_A_2 c i a2 h2 a3 h3 a4 h4 a5 h5 hc x0 x1 = k0_pay2 x0 (rows x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero zeros2, View.readCov_unit_zero (S := S1024x2048) _ zeros2]
  unfold k0_pay1
  simp only [View.readAt_eq_ld, h2.read_unread, h3.read_unread, View.ld_unit_zero (S := S1088x2048) zeros2,
    View.ld_unit_zero (S := S1x1024x2048) zeros3, shapeCast_self]

/-- A later point multiplies its row block by what the scratch holds. -/
theorem out_later (c : Dev nD) (i : grid0.Coords) (a2 : Memref sig .tc .vmem S1088x2048 .bf16) (h2 : a2.IsWhole)
    (a3 : Memref sig .tc .vmem S1x1024x2048 .f32) (h3 : a3.IsWhole) (a4 : Memref sig .tc .vmem S1088x1024 .f32) (h4 : a4.IsWhole)
    (a5 : Memref sig .tc .vmem S1024x2048 .bf16) (h5 : a5.IsWhole) (hc : ¬cond0_0 i)
    (x0 : Vec Ideal S1088x2048 .bf16) (x1 : Vec Ideal S1x1024x2048 .f32) (s : Vec Ideal S1024x2048 .bf16) :
    out0_B_2 c i a2 h2 a3 h3 a4 h4 a5 h5 hc x0 x1 s = k0_pay2 x0 s := by
  unfold out0_B_2
  rw [View.read_writes_eq_canon _ _ _ (cover0_B_2 c i a2 h2 a3 h3 a4 h4 a5 h5 hc x0 x1 s)]
  unfold kernelRun0_B
  dsimp only
  rw [View.canon_unit_zero zeros2]
  simp only [View.readAt_eq_ld, h2.read_unread, h5.read_unread, View.ld_unit_zero (S := S1088x2048) zeros2,
    View.ld_unit_zero (S := S1024x2048) zeros2]

/-! ## The blocks the windows read -/

/-- The row window moves by whole row tiles; the weight window's element offsets move by whole column tiles, from the
    first column of this projection. -/
theorem offsets : ∀ t : Fin cfg0.N, win0_0.index t (0 : Fin 2) = t.val % 8 ∧ win0_0.index t (1 : Fin 2) = 0
    ∧ win0_1.index t (0 : Fin 3) = 0 ∧ win0_1.index t (1 : Fin 3) = 9248 + 1024 * (t.val / 8) ∧ win0_1.index t (2 : Fin 3) = 0 :=
  (by decide +kernel : ∀ t : Fin grid0.N, win0_0.index t (0 : Fin 2) = t.val % 8 ∧ win0_0.index t (1 : Fin 2) = 0
    ∧ win0_1.index t (0 : Fin 3) = 0 ∧ win0_1.index t (1 : Fin 3) = 9248 + 1024 * (t.val / 8) ∧ win0_1.index t (2 : Fin 3) = 0)

/-- The program transposes the weights before the call. -/
theorem weights_entry (c : Dev nD) (l : Fin 2) (j : Fin 15392) (k : Fin 2048) :
    V m c main_v0 (ix3 l j k) = m ((c : Thread nD τ).loc main_arg1) (ix3 l k j) := by
  show StableHlo.after hostOps0 (fun b => m (c, b)) main_v0 (ix3 l j k) = _
  simp only [hostOps0, StableHlo.after_cons, StableHlo.after_nil, StableHlo.unary_result']
  exact transpose_ix3_021_apply _ _ l j k

/-- The row block at point `t`: rows `1088·(t % 8) …` of the activations. -/
theorem row_block (c : Dev nD) (t : Fin cfg0.N) (r : Fin 1088) (k : Fin 2048) (hr : 1088 * (t.val % 8) + r.val < 8704) :
    (iblk m c 0 t : Vec Ideal S1088x2048 .bf16) (ix2 r k) = m ((c : Thread nD τ).loc main_arg0) (ix2 ⟨1088 * (t.val % 8) + r.val, hr⟩ k) := by
  obtain ⟨e0, e1, -⟩ := offsets t
  unfold iblk
  rw [View.read_apply]
  show V m c main_arg0 _ = _
  rw [V_main_arg0]
  congr 1
  funext a
  apply Fin.ext
  match a with
  | ⟨0, _⟩ => show win0_0.index t 0 * 1088 + 1 * r.val = 1088 * (t.val % 8) + r.val; rw [e0]; omega
  | ⟨1, _⟩ => show win0_0.index t 1 * 2048 + 1 * k.val = k.val; rw [e1]; omega

/-- The weight block at point `t`, as the product takes it: row `j` is weight column `9248 + 1024·(t / 8) + j`. -/
theorem weight_block (c : Dev nD) (t : Fin cfg0.N) (j : Fin 1024) (k : Fin 2048) (hj : 9248 + 1024 * (t.val / 8) + j.val < 15392) :
    rows (iblk m c 1 t) (ix2 j k) = m ((c : Thread nD τ).loc main_arg1) (ix3 0 k ⟨9248 + 1024 * (t.val / 8) + j.val, hj⟩) := by
  obtain ⟨-, -, e0, e1, e2⟩ := offsets t
  have hs : rows (iblk m c 1 t) (ix2 j k) = (iblk m c 1 t : Vec Ideal S1x1024x2048 .f32) (ix3 0 j k) := by
    show shapeCast S1024x2048 (iblk m c 1 t) shapeCasts_S1x1024x2048_S1024x2048 (ix2 j k) = _
    exact shapeCast_1ab_ab_apply _ _ j k
  rw [hs, ← weights_entry m c 0]
  unfold iblk
  rw [View.read_apply]
  show V m c main_v0 _ = _
  congr 1
  funext a
  apply Fin.ext
  match a with
  | ⟨0, _⟩ => show win0_1.index t 0 + 1 * 0 = 0; rw [e0]
  | ⟨1, _⟩ => show win0_1.index t 1 + 1 * j.val = 9248 + 1024 * (t.val / 8) + j.val; rw [e1]; omega
  | ⟨2, _⟩ => show win0_1.index t 2 + 1 * k.val = k.val; rw [e2]; omega

/-! ## The state after each point, and the array -/

/-- After point `n` the scratch holds the weights of column tile `n / 8`: stored at the tile's first point, kept since. -/
theorem scratch_after (c : Dev nD) : ∀ (n : ℕ) (h : n < cfg0.N) (j : Fin 1024) (k : Fin 2048) (hj : 9248 + 1024 * (n / 8) + j.val < 15392),
    (outsAt0 m c n h).2 (ix2 j k) = m ((c : Thread nD τ).loc main_arg1) (ix3 0 k ⟨9248 + 1024 * (n / 8) + j.val, hj⟩) := by
  intro n
  induction n with
  | zero =>
    intro h j k hj
    rw [outsAt0_A m c ⟨0, h⟩ rfl]
    dsimp only
    rw [scratch_first]
    exact weight_block m c ⟨0, h⟩ j k hj
  | succ n ih =>
    intro h j k hj
    by_cases h0 : (n + 1) % 8 = 0
    · rw [outsAt0_A m c ⟨n + 1, h⟩ h0]
      dsimp only
      rw [scratch_first]
      exact weight_block m c ⟨n + 1, h⟩ j k hj
    · rw [outsAt0_B m c ⟨n + 1, h⟩ h0]
      have e : (n + 1) / 8 = n / 8 := by omega
      refine (ih (Nat.lt_of_succ_lt h) j k (by omega)).trans ?_
      simp only [e]

/-- Every point's output block is its row block times what the scratch holds after it. -/
theorem out_after (c : Dev nD) (t : Fin cfg0.N) :
    (outsAt0 m c t.val t.isLt).1 = k0_pay2 (iblk m c 0 t) (outsAt0 m c t.val t.isLt).2 := by
  by_cases h0 : t.val % 8 = 0
  · rw [outsAt0_A m c t h0]
    dsimp only
    rw [out_first, scratch_first]
  · rw [outsAt0_B m c t h0]
    dsimp only
    rw [out_later]
    rfl

/-- The result array, entry by entry: the activations' row times the weights' column. -/
theorem array (c : Dev nD) (i : S8704x6144.Idx) :
    G2 m c i = column (m ((c : Thread nD τ).loc main_arg0)) (m ((c : Thread nD τ).loc main_arg1)) (i 0)
      ⟨9248 + (i 1).val, by have h1 : (i 1).val < 6144 := (i 1).isLt; omega⟩ := by
  have hN : cfg0.N = 48 := N_0
  have h0 : (i 0).val < 8704 := (i 0).isLt
  have h1 : (i 1).val < 6144 := (i 1).isLt
  have hp : pt2Of i < cfg0.N := by rw [hN]; dsimp only [pt2Of, run2Of]; omega
  have hmod : pt2Of i % 8 = (i 0).val / 1088 := by dsimp only [pt2Of, run2Of]; omega
  have hdiv : pt2Of i / 8 = (i 1).val / 1024 := by dsimp only [pt2Of, run2Of]; omega
  unfold G2
  rw [dif_pos hp, ← outsAt0_sweep m c (pt2Of i) hp, out_after m c ⟨pt2Of i, hp⟩]
  have hl : loc2Of i = ix2 ⟨(i 0).val % 1088, Nat.mod_lt _ (by decide)⟩ ⟨(i 1).val % 1024, Nat.mod_lt _ (by decide)⟩ := eq_ix2 _
  rw [hl]
  refine rows_by_rows_eq_column (iblk m c 0 ⟨pt2Of i, hp⟩) (outsAt0 m c (pt2Of i) hp).2 _ _ _ _ _ _ (fun k => ?_) (fun k => ?_)
  · rw [row_block m c ⟨pt2Of i, hp⟩ _ k (by dsimp only; omega)]
    congr 2
    apply Fin.ext; dsimp only; omega
  · rw [scratch_after m c (pt2Of i) hp _ k (by dsimp only; omega)]
    congr 2
    apply Fin.ext; dsimp only; omega

end Cert.ProjGatesIdeal.Blocks

end
-- ==== Proof.ExpertsBody.lean ====
/- The experts' kernel at one point of its grid: what the point's run makes of the accumulator and of the
   block of results, as functions of what they held. -/
module

public import proofs.«01_k».proof.Proof.Gen.ExpertsIdeal.Loops
public import Idealize.ShloMosaic.Lib.Exec
public import Idealize.ShloMosaic.Lib.Tactic
public import Idealize.ShloMosaic.Lib.Pipeline.Kit

@[expose] public section

set_option maxRecDepth 16384
set_option maxHeartbeats 1000000

noncomputable section

namespace Cert.ExpertsIdeal.Body

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Whether a point is the first of its tile of slots, as the kernel asks it. -/
abbrev first (i : grid0.Coords) : Prop := Scalar.cmpi .ne (Scalar.extui (Scalar.cmpi .eq (BitVec.ofNat 32 (i 1).val) 0#32) : BitVec 32) 0#32 = 1#1

/-- The accumulator a tile of slots starts from: cleared at the tile's first point. -/
def start (i : grid0.Coords) (arg11 : Memref sig .tc .vmem S2304x2048 .f32) (f : BufTy.Contents (Elt F) arg11.view.ty) :
    BufTy.Contents (Elt F) arg11.view.ty :=
  if first i then arg11.view.writes (Elt F) arg11.view.junk [⟨Rect.unit (s := S2304x2048) ![0, 0] S2304x2048.size inb_S2304x2048_S2304x2048_0_0, k0_pay6 (F := F)⟩] else f

/-- The accumulator after the chunks of 1024 rows. -/
def loops (c : Dev nD) (i : grid0.Coords) (arg2 : Memref sig .tc .smem S15 .i32) (harg2 : arg2.IsWhole) (arg3 : Memref sig .tc .smem S15 .i32) (harg3 : arg3.IsWhole) (arg4 : Memref sig .tc .smem S1 .i32) (harg4 : arg4.IsWhole) (arg5 : Memref sig .tc .vmem S2304x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S2304x128 .f32) (harg9 : arg9.IsWhole) (arg10 : Memref sig .tc .vmem S2304x2048 .bf16) (harg10 : arg10.IsWhole) (arg11 : Memref sig .tc .vmem S2304x2048 .f32) (harg11 : arg11.IsWhole) (v0 : Elt F .i32) (h1 : k0_cond1 i v0 = 1#1) (v5 : Elt F .i32) (hw : k0_chk1 i v0 v5)
    (X5 : BufTy.Contents (Elt F) arg5.view.ty)
    (X6 : BufTy.Contents (Elt F) arg6.view.ty)
    (X7 : BufTy.Contents (Elt F) arg7.view.ty)
    (X8 : BufTy.Contents (Elt F) arg8.view.ty)
    (f : BufTy.Contents (Elt F) arg11.view.ty) : BufTy.Contents (Elt F) arg11.view.ty :=
  arg11.view.writes (Elt F) (arg11.view.writes (Elt F) f (pb_k0_t1 (F := F) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) v0 h1 v5 hw X5 X6 X7 X8 f (k0_t1_loop v5).trips))
    (pb_k0_t2 (F := F) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) v0 h1 v5 hw X5 X6 X7 X8 (arg11.view.writes (Elt F) f (pb_k0_t1 (F := F) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) v0 h1 v5 hw X5 X6 X7 X8 f (k0_t1_loop v5).trips)) (k0_t2_loop v5).trips)

/-- The accumulator after the chunk of 512 rows, where there is one. -/
def half (c : Dev nD) (i : grid0.Coords) (arg2 : Memref sig .tc .smem S15 .i32) (harg2 : arg2.IsWhole) (arg3 : Memref sig .tc .smem S15 .i32) (harg3 : arg3.IsWhole) (arg4 : Memref sig .tc .smem S1 .i32) (harg4 : arg4.IsWhole) (arg5 : Memref sig .tc .vmem S2304x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S2304x128 .f32) (harg9 : arg9.IsWhole) (arg10 : Memref sig .tc .vmem S2304x2048 .bf16) (harg10 : arg10.IsWhole) (arg11 : Memref sig .tc .vmem S2304x2048 .f32) (harg11 : arg11.IsWhole) (v0 : Elt F .i32) (h1 : k0_cond1 i v0 = 1#1) (v5 : Elt F .i32) (hw : k0_chk1 i v0 v5)
    (X5 : BufTy.Contents (Elt F) arg5.view.ty)
    (X6 : BufTy.Contents (Elt F) arg6.view.ty)
    (X7 : BufTy.Contents (Elt F) arg7.view.ty)
    (X8 : BufTy.Contents (Elt F) arg8.view.ty)
    (g : BufTy.Contents (Elt F) arg11.view.ty) : BufTy.Contents (Elt F) arg11.view.ty :=
  if h3 : k0_cond3 v5 = 1#1 then arg11.view.writes (Elt F) g
    [⟨Rect.unit (s := S2304x2048) (k0_off5 v5) S512x2048.size (k0_off5_inb i v0 v5 hw h1 h3), k0_pay9
      (arg5.view.readAt (Elt F) (Rect.unit (s := S2304x2048) (k0_off5 v5) S512x2048.size (k0_off5_inb i v0 v5 hw h1 h3)).toLoadRect X5)
      (arg6.view.readAt (Elt F) (Rect.unit (s := S1x1x2048x256) ![0, 0, 0, 0] S1x1x2048x256.size inb_S1x1x2048x256_S1x1x2048x256_0_0_0_0).toLoadRect X6)
      (arg7.view.readAt (Elt F) (Rect.unit (s := S1x1x2048x256) ![0, 0, 0, 0] S1x1x2048x256.size inb_S1x1x2048x256_S1x1x2048x256_0_0_0_0).toLoadRect X7)
      (arg11.view.readAt (Elt F) (Rect.unit (s := S2304x2048) (k0_off5 v5) S512x2048.size (k0_off5_inb i v0 v5 hw h1 h3)).toLoadRect g)
      (arg8.view.readAt (Elt F) (Rect.unit (s := S1x1x256x2048) ![0, 0, 0, 0] S1x1x256x2048.size inb_S1x1x256x2048_S1x1x256x2048_0_0_0_0).toLoadRect X8)⟩] else g

/-- The accumulator after the chunk of 256 rows, where there is one. -/
def quarter (c : Dev nD) (i : grid0.Coords) (arg2 : Memref sig .tc .smem S15 .i32) (harg2 : arg2.IsWhole) (arg3 : Memref sig .tc .smem S15 .i32) (harg3 : arg3.IsWhole) (arg4 : Memref sig .tc .smem S1 .i32) (harg4 : arg4.IsWhole) (arg5 : Memref sig .tc .vmem S2304x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S2304x128 .f32) (harg9 : arg9.IsWhole) (arg10 : Memref sig .tc .vmem S2304x2048 .bf16) (harg10 : arg10.IsWhole) (arg11 : Memref sig .tc .vmem S2304x2048 .f32) (harg11 : arg11.IsWhole) (v0 : Elt F .i32) (h1 : k0_cond1 i v0 = 1#1) (v5 : Elt F .i32) (hw : k0_chk1 i v0 v5)
    (X5 : BufTy.Contents (Elt F) arg5.view.ty)
    (X6 : BufTy.Contents (Elt F) arg6.view.ty)
    (X7 : BufTy.Contents (Elt F) arg7.view.ty)
    (X8 : BufTy.Contents (Elt F) arg8.view.ty)
    (g : BufTy.Contents (Elt F) arg11.view.ty) : BufTy.Contents (Elt F) arg11.view.ty :=
  if h4 : k0_cond4 v5 = 1#1 then arg11.view.writes (Elt F) g
    [⟨Rect.unit (s := S2304x2048) (k0_off6 v5) S256x2048.size (k0_off6_inb i v0 v5 hw h1 h4), k0_pay1
      (arg5.view.readAt (Elt F) (Rect.unit (s := S2304x2048) (k0_off6 v5) S256x2048.size (k0_off6_inb i v0 v5 hw h1 h4)).toLoadRect X5)
      (arg6.view.readAt (Elt F) (Rect.unit (s := S1x1x2048x256) ![0, 0, 0, 0] S1x1x2048x256.size inb_S1x1x2048x256_S1x1x2048x256_0_0_0_0).toLoadRect X6)
      (arg7.view.readAt (Elt F) (Rect.unit (s := S1x1x2048x256) ![0, 0, 0, 0] S1x1x2048x256.size inb_S1x1x2048x256_S1x1x2048x256_0_0_0_0).toLoadRect X7)
      (arg11.view.readAt (Elt F) (Rect.unit (s := S2304x2048) (k0_off6 v5) S256x2048.size (k0_off6_inb i v0 v5 hw h1 h4)).toLoadRect g)
      (arg8.view.readAt (Elt F) (Rect.unit (s := S1x1x256x2048) ![0, 0, 0, 0] S1x1x256x2048.size inb_S1x1x256x2048_S1x1x256x2048_0_0_0_0).toLoadRect X8)⟩] else g

/-- The block of results after the chunks of 1024 rows. -/
def emits (c : Dev nD) (i : grid0.Coords) (arg2 : Memref sig .tc .smem S15 .i32) (harg2 : arg2.IsWhole) (arg3 : Memref sig .tc .smem S15 .i32) (harg3 : arg3.IsWhole) (arg4 : Memref sig .tc .smem S1 .i32) (harg4 : arg4.IsWhole) (arg5 : Memref sig .tc .vmem S2304x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S2304x128 .f32) (harg9 : arg9.IsWhole) (arg10 : Memref sig .tc .vmem S2304x2048 .bf16) (harg10 : arg10.IsWhole) (arg11 : Memref sig .tc .vmem S2304x2048 .f32) (harg11 : arg11.IsWhole) (v0 : Elt F .i32) (h1 : k0_cond1 i v0 = 1#1) (v5 : Elt F .i32) (hw : k0_chk1 i v0 v5) (h5 : k0_cond5 i = 1#1)
    (X9 : BufTy.Contents (Elt F) arg9.view.ty) (X11 : BufTy.Contents (Elt F) arg11.view.ty)
    (g : BufTy.Contents (Elt F) arg10.view.ty) : BufTy.Contents (Elt F) arg10.view.ty :=
  arg10.view.writes (Elt F) (arg10.view.writes (Elt F) g (pb_k0_t3 (F := F) Variants.none c none i arg2 harg2 arg3 harg3 arg4 harg4 arg5 harg5 arg6 harg6 arg7 harg7 arg8 harg8 arg9 harg9 arg10 harg10 arg11 harg11 v0 h1 v5 hw h5 X9 X11 (k0_t3_loop v5).trips))
    (pb_k0_t4 (F := F) Variants.none c none i arg2 harg2 arg3 harg3 arg4 harg4 arg5 harg5 arg6 harg6 arg7 harg7 arg8 harg8 arg9 harg9 arg10 harg10 arg11 harg11 v0 h1 v5 hw h5 X9 X11 (k0_t4_loop v5).trips)

/-- The block of results after the chunk of 512 rows, where there is one. -/
def emitHalf (c : Dev nD) (i : grid0.Coords) (arg2 : Memref sig .tc .smem S15 .i32) (harg2 : arg2.IsWhole) (arg3 : Memref sig .tc .smem S15 .i32) (harg3 : arg3.IsWhole) (arg4 : Memref sig .tc .smem S1 .i32) (harg4 : arg4.IsWhole) (arg5 : Memref sig .tc .vmem S2304x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S2304x128 .f32) (harg9 : arg9.IsWhole) (arg10 : Memref sig .tc .vmem S2304x2048 .bf16) (harg10 : arg10.IsWhole) (arg11 : Memref sig .tc .vmem S2304x2048 .f32) (harg11 : arg11.IsWhole) (v0 : Elt F .i32) (h1 : k0_cond1 i v0 = 1#1) (v5 : Elt F .i32) (hw : k0_chk1 i v0 v5) (h5 : k0_cond5 i = 1#1)
    (X9 : BufTy.Contents (Elt F) arg9.view.ty) (X11 : BufTy.Contents (Elt F) arg11.view.ty)
    (g : BufTy.Contents (Elt F) arg10.view.ty) : BufTy.Contents (Elt F) arg10.view.ty :=
  if h6 : k0_cond6 v5 = 1#1 then arg10.view.writes (Elt F) g
    [⟨Rect.unit (s := S2304x2048) (k0_off11 v5) S512x2048.size (k0_off11_inb i v0 v5 hw h1 h5 h6), k0_pay5
      (arg11.view.readAt (Elt F) (Rect.unit (s := S2304x2048) (k0_off11 v5) S512x2048.size (k0_off11_inb i v0 v5 hw h1 h5 h6)).toLoadRect X11)
      (arg9.view.readAt (Elt F) (Rect.unit (s := S2304x128) (k0_off12 v5) S512x1.size (k0_off12_inb i v0 v5 hw h1 h5 h6)).toLoadRect X9)⟩] else g

/-- The block of results after the chunk of 256 rows, where there is one. -/
def emitQuarter (c : Dev nD) (i : grid0.Coords) (arg2 : Memref sig .tc .smem S15 .i32) (harg2 : arg2.IsWhole) (arg3 : Memref sig .tc .smem S15 .i32) (harg3 : arg3.IsWhole) (arg4 : Memref sig .tc .smem S1 .i32) (harg4 : arg4.IsWhole) (arg5 : Memref sig .tc .vmem S2304x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S2304x128 .f32) (harg9 : arg9.IsWhole) (arg10 : Memref sig .tc .vmem S2304x2048 .bf16) (harg10 : arg10.IsWhole) (arg11 : Memref sig .tc .vmem S2304x2048 .f32) (harg11 : arg11.IsWhole) (v0 : Elt F .i32) (h1 : k0_cond1 i v0 = 1#1) (v5 : Elt F .i32) (hw : k0_chk1 i v0 v5) (h5 : k0_cond5 i = 1#1)
    (X9 : BufTy.Contents (Elt F) arg9.view.ty) (X11 : BufTy.Contents (Elt F) arg11.view.ty)
    (g : BufTy.Contents (Elt F) arg10.view.ty) : BufTy.Contents (Elt F) arg10.view.ty :=
  if h7 : k0_cond7 v5 = 1#1 then arg10.view.writes (Elt F) g
    [⟨Rect.unit (s := S2304x2048) (k0_off13 v5) S256x2048.size (k0_off13_inb i v0 v5 hw h1 h5 h7), k0_pay2
      (arg11.view.readAt (Elt F) (Rect.unit (s := S2304x2048) (k0_off13 v5) S256x2048.size (k0_off13_inb i v0 v5 hw h1 h5 h7)).toLoadRect X11)
      (arg9.view.readAt (Elt F) (Rect.unit (s := S2304x128) (k0_off14 v5) S256x1.size (k0_off14_inb i v0 v5 hw h1 h5 h7)).toLoadRect X9)⟩] else g

/-- What a point that computes leaves in the accumulator. -/
def acc (c : Dev nD) (i : grid0.Coords) (arg2 : Memref sig .tc .smem S15 .i32) (harg2 : arg2.IsWhole) (arg3 : Memref sig .tc .smem S15 .i32) (harg3 : arg3.IsWhole) (arg4 : Memref sig .tc .smem S1 .i32) (harg4 : arg4.IsWhole) (arg5 : Memref sig .tc .vmem S2304x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S2304x128 .f32) (harg9 : arg9.IsWhole) (arg10 : Memref sig .tc .vmem S2304x2048 .bf16) (harg10 : arg10.IsWhole) (arg11 : Memref sig .tc .vmem S2304x2048 .f32) (harg11 : arg11.IsWhole) (v0 : Elt F .i32) (h1 : k0_cond1 i v0 = 1#1) (v5 : Elt F .i32) (hw : k0_chk1 i v0 v5)
    (X5 : BufTy.Contents (Elt F) arg5.view.ty)
    (X6 : BufTy.Contents (Elt F) arg6.view.ty)
    (X7 : BufTy.Contents (Elt F) arg7.view.ty)
    (X8 : BufTy.Contents (Elt F) arg8.view.ty)
    (f : BufTy.Contents (Elt F) arg11.view.ty) : BufTy.Contents (Elt F) arg11.view.ty :=
  quarter c i arg2 harg2 arg3 harg3 arg4 harg4 arg5 harg5 arg6 harg6 arg7 harg7 arg8 harg8 arg9 harg9 arg10 harg10 arg11 harg11 v0 h1 v5 hw X5 X6 X7 X8 (half c i arg2 harg2 arg3 harg3 arg4 harg4 arg5 harg5 arg6 harg6 arg7 harg7 arg8 harg8 arg9 harg9 arg10 harg10 arg11 harg11 v0 h1 v5 hw X5 X6 X7 X8 (loops c i arg2 harg2 arg3 harg3 arg4 harg4 arg5 harg5 arg6 harg6 arg7 harg7 arg8 harg8 arg9 harg9 arg10 harg10 arg11 harg11 v0 h1 v5 hw X5 X6 X7 X8 (start i arg11 f)))

/-- What a point that computes leaves in the block of results: the tile's last point writes the rows there are. -/
def out (c : Dev nD) (i : grid0.Coords) (arg2 : Memref sig .tc .smem S15 .i32) (harg2 : arg2.IsWhole) (arg3 : Memref sig .tc .smem S15 .i32) (harg3 : arg3.IsWhole) (arg4 : Memref sig .tc .smem S1 .i32) (harg4 : arg4.IsWhole) (arg5 : Memref sig .tc .vmem S2304x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S2304x128 .f32) (harg9 : arg9.IsWhole) (arg10 : Memref sig .tc .vmem S2304x2048 .bf16) (harg10 : arg10.IsWhole) (arg11 : Memref sig .tc .vmem S2304x2048 .f32) (harg11 : arg11.IsWhole) (v0 : Elt F .i32) (h1 : k0_cond1 i v0 = 1#1) (v5 : Elt F .i32) (hw : k0_chk1 i v0 v5)
    (X9 : BufTy.Contents (Elt F) arg9.view.ty) (X11 : BufTy.Contents (Elt F) arg11.view.ty)
    (g : BufTy.Contents (Elt F) arg10.view.ty) : BufTy.Contents (Elt F) arg10.view.ty :=
  if h5 : k0_cond5 i = 1#1 then emitQuarter c i arg2 harg2 arg3 harg3 arg4 harg4 arg5 harg5 arg6 harg6 arg7 harg7 arg8 harg8 arg9 harg9 arg10 harg10 arg11 harg11 v0 h1 v5 hw h5 X9 X11 (emitHalf c i arg2 harg2 arg3 harg3 arg4 harg4 arg5 harg5 arg6 harg6 arg7 harg7 arg8 harg8 arg9 harg9 arg10 harg10 arg11 harg11 v0 h1 v5 hw h5 X9 X11 (emits c i arg2 harg2 arg3 harg3 arg4 harg4 arg5 harg5 arg6 harg6 arg7 harg7 arg8 harg8 arg9 harg9 arg10 harg10 arg11 harg11 v0 h1 v5 hw h5 X9 X11 g)) else g

/-- The first stretch of the kernel: clear, the chunks of 1024 rows, the chunk of 512. -/
theorem part2 (c : Dev nD) (i : grid0.Coords) (arg2 : Memref sig .tc .smem S15 .i32) (harg2 : arg2.IsWhole) (arg3 : Memref sig .tc .smem S15 .i32) (harg3 : arg3.IsWhole) (arg4 : Memref sig .tc .smem S1 .i32) (harg4 : arg4.IsWhole) (arg5 : Memref sig .tc .vmem S2304x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S2304x128 .f32) (harg9 : arg9.IsWhole) (arg10 : Memref sig .tc .vmem S2304x2048 .bf16) (harg10 : arg10.IsWhole) (arg11 : Memref sig .tc .vmem S2304x2048 .f32) (harg11 : arg11.IsWhole)
    (v0 : Elt F .i32) (h1 : k0_cond1 i v0 = 1#1) (v5 : Elt F .i32) (hw : k0_chk1 i v0 v5)
    (X3 : BufTy.Contents (Elt F) arg3.view.ty)
    (X5 : BufTy.Contents (Elt F) arg5.view.ty)
    (X6 : BufTy.Contents (Elt F) arg6.view.ty)
    (X7 : BufTy.Contents (Elt F) arg7.view.ty)
    (X8 : BufTy.Contents (Elt F) arg8.view.ty)
    (f : BufTy.Contents (Elt F) arg11.view.ty)
    (hv5 : arg3.view.readAt (Elt F) (Rect.unit (s := S15) (k0_off2 i) S1.size (k0_off2_inb i)).toLoadRect X3 (Shape.Idx.first (numel1_S1.symm ▸ Nat.one_pos)) = v5)
    (E : Set ℕ) (K : (Σ' (v5 : Elt F .i32) (_ : k0_chk1 i v0 v5) (_ : BitVec 32), BitVec 32) → sProp 𝕄) :
    iprop((arg3.view.loc (c : Thread nD τ) ↦{fullShare.right} X3)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7) ∗ (arg8.view.loc (c : Thread nD τ) ↦[arg8.view.set]{fullShare} X8)
      ∗ (arg11.view.loc (c : Thread nD τ) ↦[arg11.view.set]{fullShare} f)
      ∗ (∀ w37 w38, iprop((arg3.view.loc (c : Thread nD τ) ↦{fullShare.right} X3)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7) ∗ (arg8.view.loc (c : Thread nD τ) ↦[arg8.view.set]{fullShare} X8)
      ∗ (∃ g, ⌜g = half c i arg2 harg2 arg3 harg3 arg4 harg4 arg5 harg5 arg6 harg6 arg7 harg7 arg8 harg8 arg9 harg9 arg10 harg10 arg11 harg11 v0 h1 v5 hw X5 X6 X7 X8 (loops c i arg2 harg2 arg3 harg3 arg4 harg4 arg5 harg5 arg6 harg6 arg7 harg7 arg8 harg8 arg9 harg9 arg10 harg10 arg11 harg11 v0 h1 v5 hw X5 X6 X7 X8 (start i arg11 f))⌝ ∗ (arg11.view.loc (c : Thread nD τ) ↦[arg11.view.set]{fullShare} g))) -∗ K ⟨v5, hw, w37, w38⟩))
    ⊢ wp frame (wpE (defs₀ (F := F)) Variants.none c none) E
        (k0_part2 i arg2 harg2 arg3 harg3 arg4 harg4 arg5 harg5 arg6 harg6 arg7 harg7 arg8 harg8 arg9 harg9 arg10 harg10 arg11 harg11 (BitVec.ofNat 32 (i 0).val) (BitVec.ofNat 32 (i 1).val) v0 h1) K := by
  by_cases hinit : first i <;> by_cases h3 : k0_cond3 v5 = 1#1 <;>
  · rw [k0_part2_eq_skeleton]; unfold k0_part2_skel
    iintro ⟨H3, H5, H6, H7, H8, H11, Hk⟩
    sl_exec (disch := first | sl_exact hinit | sl_exact h3 | sl_exact hw)
    first
      | rw [show part2.sl.r i arg3 X3 = v5 from hv5]
      | rw [show part2.sl.r_1 i arg3 X3 = v5 from hv5]
      | rw [show part2.sl.r_2 i arg3 X3 = v5 from hv5]
      | rw [show part2.sl.r_3 i arg3 X3 = v5 from hv5]
    sl_exec (disch := first | sl_exact hinit | sl_exact h3 | sl_exact hw)
    sl_step
    iapply Hk
    isplitl [H3]; · iexact H3
    isplitl [H5]; · iexact H5
    isplitl [H6]; · iexact H6
    isplitl [H7]; · iexact H7
    isplitl [H8]; · iexact H8
    iexists _; isplitr; swap; · iexact H11
    ipureintro
    unfold half loops start
    first | rw [dif_pos h3] | rw [dif_neg h3]
    first | rw [if_pos hinit] | rw [if_neg hinit]
    sl_unfold_words
    simp only [View.writes_append, View.writes_cons, View.writes_nil]
    try rfl

/-- The stretch that writes results: the chunks of 1024 rows, the chunk of 512. -/
theorem part1 (c : Dev nD) (i : grid0.Coords) (arg2 : Memref sig .tc .smem S15 .i32) (harg2 : arg2.IsWhole) (arg3 : Memref sig .tc .smem S15 .i32) (harg3 : arg3.IsWhole) (arg4 : Memref sig .tc .smem S1 .i32) (harg4 : arg4.IsWhole) (arg5 : Memref sig .tc .vmem S2304x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S2304x128 .f32) (harg9 : arg9.IsWhole) (arg10 : Memref sig .tc .vmem S2304x2048 .bf16) (harg10 : arg10.IsWhole) (arg11 : Memref sig .tc .vmem S2304x2048 .f32) (harg11 : arg11.IsWhole)
    (v0 : Elt F .i32) (h1 : k0_cond1 i v0 = 1#1) (v5 : Elt F .i32) (hw : k0_chk1 i v0 v5) (h5 : k0_cond5 i = 1#1)
    (X9 : BufTy.Contents (Elt F) arg9.view.ty) (X11 : BufTy.Contents (Elt F) arg11.view.ty)
    (g : BufTy.Contents (Elt F) arg10.view.ty)
    (E : Set ℕ) (K : (Σ' (_ : BitVec 32) (_ : BitVec 1), BitVec 32) → sProp 𝕄) :
    iprop((arg9.view.loc (c : Thread nD τ) ↦[arg9.view.set]{fullShare} X9) ∗ (arg10.view.loc (c : Thread nD τ) ↦[arg10.view.set]{fullShare} g) ∗ (arg11.view.loc (c : Thread nD τ) ↦[arg11.view.set]{fullShare} X11)
      ∗ (∀ w, iprop((arg9.view.loc (c : Thread nD τ) ↦[arg9.view.set]{fullShare} X9)
      ∗ (∃ y, ⌜y = emitHalf c i arg2 harg2 arg3 harg3 arg4 harg4 arg5 harg5 arg6 harg6 arg7 harg7 arg8 harg8 arg9 harg9 arg10 harg10 arg11 harg11 v0 h1 v5 hw h5 X9 X11 (emits c i arg2 harg2 arg3 harg3 arg4 harg4 arg5 harg5 arg6 harg6 arg7 harg7 arg8 harg8 arg9 harg9 arg10 harg10 arg11 harg11 v0 h1 v5 hw h5 X9 X11 g)⌝ ∗ (arg10.view.loc (c : Thread nD τ) ↦[arg10.view.set]{fullShare} y)) ∗ (arg11.view.loc (c : Thread nD τ) ↦[arg11.view.set]{fullShare} X11)) -∗ K w))
    ⊢ wp frame (wpE (defs₀ (F := F)) Variants.none c none) E
        (k0_part1 i arg2 harg2 arg3 harg3 arg4 harg4 arg5 harg5 arg6 harg6 arg7 harg7 arg8 harg8 arg9 harg9 arg10 harg10 arg11 harg11 v0 h1 v5 hw h5) K := by
  by_cases h6 : k0_cond6 v5 = 1#1 <;>
  · rw [k0_part1_eq_skeleton]; unfold k0_part1_skel
    iintro ⟨H9, H10, H11, Hk⟩
    sl_exec (disch := first | sl_exact h6)
    sl_step
    iapply Hk
    isplitl [H9]; · iexact H9
    isplitr [H11]; swap; · iexact H11
    iexists _; isplitr; swap; · iexact H10
    ipureintro
    unfold emitHalf emits
    first | rw [dif_pos h6] | rw [dif_neg h6]
    sl_unfold_words
    simp only [View.writes_append, View.writes_cons, View.writes_nil]
    try rfl

/-- Where a tile of slots is in use, a point's run leaves `acc` in the accumulator and `out` in the block of results. -/
theorem body_used (c : Dev nD) (i : grid0.Coords) (arg2 : Memref sig .tc .smem S15 .i32) (harg2 : arg2.IsWhole) (arg3 : Memref sig .tc .smem S15 .i32) (harg3 : arg3.IsWhole) (arg4 : Memref sig .tc .smem S1 .i32) (harg4 : arg4.IsWhole) (arg5 : Memref sig .tc .vmem S2304x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S2304x128 .f32) (harg9 : arg9.IsWhole) (arg10 : Memref sig .tc .vmem S2304x2048 .bf16) (harg10 : arg10.IsWhole) (arg11 : Memref sig .tc .vmem S2304x2048 .f32) (harg11 : arg11.IsWhole)
    (v0 : Elt F .i32) (h1 : k0_cond1 i v0 = 1#1) (v5 : Elt F .i32) (hw : k0_chk1 i v0 v5)
    (X3 : BufTy.Contents (Elt F) arg3.view.ty) (X4 : BufTy.Contents (Elt F) arg4.view.ty)
    (X5 : BufTy.Contents (Elt F) arg5.view.ty)
    (X6 : BufTy.Contents (Elt F) arg6.view.ty)
    (X7 : BufTy.Contents (Elt F) arg7.view.ty)
    (X8 : BufTy.Contents (Elt F) arg8.view.ty)
    (X9 : BufTy.Contents (Elt F) arg9.view.ty)
    (f : BufTy.Contents (Elt F) arg11.view.ty) (g : BufTy.Contents (Elt F) arg10.view.ty)
    (hv0 : arg4.view.readAt (Elt F) (Rect.unit (s := S1) ![0] S1.size inb_S1_S1_0).toLoadRect X4 (Shape.Idx.first (numel1_S1.symm ▸ Nat.one_pos)) = v0)
    (hv5 : arg3.view.readAt (Elt F) (Rect.unit (s := S15) (k0_off2 i) S1.size (k0_off2_inb i)).toLoadRect X3 (Shape.Idx.first (numel1_S1.symm ▸ Nat.one_pos)) = v5)
    (E : Set ℕ) (K : PUnit → sProp 𝕄) :
    iprop((arg3.view.loc (c : Thread nD τ) ↦{fullShare.right} X3) ∗ (arg4.view.loc (c : Thread nD τ) ↦{fullShare.right} X4)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7) ∗ (arg8.view.loc (c : Thread nD τ) ↦[arg8.view.set]{fullShare} X8)
      ∗ (arg9.view.loc (c : Thread nD τ) ↦[arg9.view.set]{fullShare} X9) ∗ (arg10.view.loc (c : Thread nD τ) ↦[arg10.view.set]{fullShare} g) ∗ (arg11.view.loc (c : Thread nD τ) ↦[arg11.view.set]{fullShare} f)
      ∗ (iprop((arg3.view.loc (c : Thread nD τ) ↦{fullShare.right} X3) ∗ (arg4.view.loc (c : Thread nD τ) ↦{fullShare.right} X4)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7) ∗ (arg8.view.loc (c : Thread nD τ) ↦[arg8.view.set]{fullShare} X8)
      ∗ (arg9.view.loc (c : Thread nD τ) ↦[arg9.view.set]{fullShare} X9)
      ∗ (∃ y, ⌜y = out c i arg2 harg2 arg3 harg3 arg4 harg4 arg5 harg5 arg6 harg6 arg7 harg7 arg8 harg8 arg9 harg9 arg10 harg10 arg11 harg11 v0 h1 v5 hw X9 (acc c i arg2 harg2 arg3 harg3 arg4 harg4 arg5 harg5 arg6 harg6 arg7 harg7 arg8 harg8 arg9 harg9 arg10 harg10 arg11 harg11 v0 h1 v5 hw X5 X6 X7 X8 f) g⌝ ∗ (arg10.view.loc (c : Thread nD τ) ↦[arg10.view.set]{fullShare} y))
      ∗ (∃ y, ⌜y = acc c i arg2 harg2 arg3 harg3 arg4 harg4 arg5 harg5 arg6 harg6 arg7 harg7 arg8 harg8 arg9 harg9 arg10 harg10 arg11 harg11 v0 h1 v5 hw X5 X6 X7 X8 f⌝ ∗ (arg11.view.loc (c : Thread nD τ) ↦[arg11.view.set]{fullShare} y))) -∗ K PUnit.unit))
    ⊢ wp frame (wpE (defs₀ (F := F)) Variants.none c none) E
        (cc0_moe_experts i arg2 harg2 arg3 harg3 arg4 harg4 arg5 harg5 arg6 harg6 arg7 harg7 arg8 harg8 arg9 harg9 arg10 harg10 arg11 harg11) K := by
  rw [cc0_moe_experts_eq_skeleton]; unfold cc0_moe_experts_skel
  iintro ⟨H3, H4, H5, H6, H7, H8, H9, H10, H11, Hk⟩
  set_option sl_exec.stopBefore "k0_part2" in
  sl_exec (disch := first | sl_exact h1)
  rw [show body_used.sl.r arg4 X4 = v0 from hv0, dif_pos h1, wp_bind]
  iapply (part2 c i arg2 harg2 arg3 harg3 arg4 harg4 arg5 harg5 arg6 harg6 arg7 harg7 arg8 harg8 arg9 harg9 arg10 harg10 arg11 harg11 v0 h1 v5 hw X3 X5 X6 X7 X8 f hv5)
  isplitl [H3]; · iexact H3
  isplitl [H5]; · iexact H5
  isplitl [H6]; · iexact H6
  isplitl [H7]; · iexact H7
  isplitl [H8]; · iexact H8
  isplitl [H11]; · iexact H11
  iintro %w37 %w38 ⟨H3, H5, H6, H7, H8, ⟨%f2, %hf2, H11⟩⟩
  by_cases h5 : k0_cond5 i = 1#1
  · by_cases h4 : k0_cond4 v5 = 1#1 <;>
    · have h7 := h4
      first | change k0_cond7 v5 = 1#1 at h7 | change ¬ k0_cond7 v5 = 1#1 at h7
      set_option sl_exec.stopBefore "k0_part1" in
      sl_exec (disch := first | sl_exact h4 | sl_exact h5)
      rw [wp_bind]
      iapply (part1 c i arg2 harg2 arg3 harg3 arg4 harg4 arg5 harg5 arg6 harg6 arg7 harg7 arg8 harg8 arg9 harg9 arg10 harg10 arg11 harg11 v0 h1 v5 hw h5 X9 _ g)
      isplitl [H9]; · iexact H9
      isplitl [H10]; · iexact H10
      isplitl [H11]; · iexact H11
      iintro %w ⟨H9, ⟨%f3, %hf3, H10⟩, H11⟩
      sl_exec (disch := first | sl_exact h7)
      sl_step
      iapply Hk
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · iexists _; isplitr; swap; · iexact H10
        ipureintro
        unfold out acc quarter emitQuarter
        rw [dif_pos h5]
        first | rw [dif_pos h4] | rw [dif_neg h4]
        first | rw [dif_pos h7] | rw [dif_neg h7]
        subst hf3 hf2
        sl_unfold_words
        simp only [View.writes_append, View.writes_cons, View.writes_nil]
        try with_reducible rfl
      · iexists _; isplitr; swap; · iexact H11
        ipureintro
        unfold acc quarter
        first | rw [dif_pos h4] | rw [dif_neg h4]
        subst hf3 hf2
        sl_unfold_words
        simp only [View.writes_append, View.writes_cons, View.writes_nil]
        try with_reducible rfl
  · by_cases h4 : k0_cond4 v5 = 1#1 <;>
    · sl_exec (disch := first | sl_exact h4 | sl_exact h5)
      sl_step
      iapply Hk
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · iexists _; isplitr; swap; · iexact H10
        ipureintro
        unfold out
        rw [dif_neg h5]
      · iexists _; isplitr; swap; · iexact H11
        ipureintro
        unfold acc quarter
        first | rw [dif_pos h4] | rw [dif_neg h4]
        subst hf2
        sl_unfold_words
        simp only [View.writes_append, View.writes_cons, View.writes_nil]
        try with_reducible rfl

/-- Where a tile of slots is not in use, a point's run changes nothing. -/
theorem body_unused (c : Dev nD) (i : grid0.Coords) (arg2 : Memref sig .tc .smem S15 .i32) (harg2 : arg2.IsWhole) (arg3 : Memref sig .tc .smem S15 .i32) (harg3 : arg3.IsWhole) (arg4 : Memref sig .tc .smem S1 .i32) (harg4 : arg4.IsWhole) (arg5 : Memref sig .tc .vmem S2304x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S2304x128 .f32) (harg9 : arg9.IsWhole) (arg10 : Memref sig .tc .vmem S2304x2048 .bf16) (harg10 : arg10.IsWhole) (arg11 : Memref sig .tc .vmem S2304x2048 .f32) (harg11 : arg11.IsWhole)
    (v0 : Elt F .i32) (h1 : ¬ k0_cond1 i v0 = 1#1)
    (X4 : BufTy.Contents (Elt F) arg4.view.ty)
    (hv0 : arg4.view.readAt (Elt F) (Rect.unit (s := S1) ![0] S1.size inb_S1_S1_0).toLoadRect X4 (Shape.Idx.first (numel1_S1.symm ▸ Nat.one_pos)) = v0)
    (E : Set ℕ) (K : PUnit → sProp 𝕄) :
    iprop((arg4.view.loc (c : Thread nD τ) ↦{fullShare.right} X4) ∗ ((arg4.view.loc (c : Thread nD τ) ↦{fullShare.right} X4) -∗ K PUnit.unit))
    ⊢ wp frame (wpE (defs₀ (F := F)) Variants.none c none) E
        (cc0_moe_experts i arg2 harg2 arg3 harg3 arg4 harg4 arg5 harg5 arg6 harg6 arg7 harg7 arg8 harg8 arg9 harg9 arg10 harg10 arg11 harg11) K := by
  rw [cc0_moe_experts_eq_skeleton]; unfold cc0_moe_experts_skel
  iintro ⟨H4, Hk⟩
  set_option sl_exec.stopBefore "k0_part2" in
  sl_exec (disch := first | sl_exact h1)
  rw [show body_unused.sl.r arg4 X4 = v0 from hv0, dif_neg h1]
  sl_step
  iapply Hk
  iexact H4

end Cert.ExpertsIdeal.Body

end
-- ==== Proof.ExpertsRun.lean ====
/- The experts' call as the launch runs it: the tables it reads, the proof data of its pipeline, and its run
   from one step's relation between what the accumulator and the block of results hold before and after. -/
module

public import proofs.«01_k».proof.Proof.ExpertsBody
public import proofs.«01_k».proof.Proof.Gen.ExpertsIdeal.Launch
public import Idealize.ShloMosaic.Lib.Pipeline.DatRel
public import Idealize.ShloMosaic.Lib.Pipeline.ArrRel
public import Idealize.ShloMosaic.Lib.Pipeline.FrameBody
public import Idealize.ShloMosaic.Lib.Claim

@[expose] public section

set_option maxRecDepth 16384

noncomputable section

namespace Cert.ExpertsIdeal.Body

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the call starts from -/

/-- A buffer of a core as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The three tables: the expert of each tile of slots, its rows, the number of tiles in use. -/
def tbl : pre0.Contents (Elt F) := fun j => V m (0 : Dev nD) (pre0.ref j)

theorem tables (c : Dev nD) (j : Fin 3) : V m c (pre0.ref j) = tbl m j := by
  obtain rfl : c = 0 := Subsingleton.elim _ _; rfl

variable (hO : ok0 (F := F) (tbl m))

abbrev adm : (pcfg0 (F := F)).Adm := ⟨tbl m, hO⟩
abbrev cfgM : Pipeline.Cfg sig Λ₀ := cfg0 (adm m hO)

abbrev tbM0_0 : Memref sig .tc .smem S15 .i32 := Memref.whole main_arg1
abbrev htbM0_0 : tbM0_0.IsWhole := Memref.isWhole_whole _
abbrev tbM0_1 : Memref sig .tc .smem S15 .i32 := Memref.whole main_arg2
abbrev htbM0_1 : tbM0_1.IsWhole := Memref.isWhole_whole _
abbrev tbM0_2 : Memref sig .tc .smem S1 .i32 := Memref.whole main_arg3
abbrev htbM0_2 : tbM0_2.IsWhole := Memref.isWhole_whole _
abbrev scM0_0 : Memref sig .tc .vmem S2304x2048 .f32 := Memref.whole cc0_scratch0
abbrev hscM0_0 : scM0_0.IsWhole := Memref.isWhole_whole _

/-- The staging buffers the windows are on at a point. -/
abbrev st0_0 (t : Fin (cfgM m hO).N) := ((cfgM m hO).win 0).stage ((cfgM m hO).slots t 0)
theorem hst0_0 (t : Fin (cfgM m hO).N) : (st0_0 m hO t).IsWhole := hstage0_0 (((cfgM m hO).slots t 0).cast nbuf0_0)
abbrev st0_1 (t : Fin (cfgM m hO).N) := ((cfgM m hO).win 1).stage ((cfgM m hO).slots t 1)
theorem hst0_1 (t : Fin (cfgM m hO).N) : (st0_1 m hO t).IsWhole := hstage0_1 (((cfgM m hO).slots t 1).cast nbuf0_1)
abbrev st0_2 (t : Fin (cfgM m hO).N) := ((cfgM m hO).win 2).stage ((cfgM m hO).slots t 2)
theorem hst0_2 (t : Fin (cfgM m hO).N) : (st0_2 m hO t).IsWhole := hstage0_2 (((cfgM m hO).slots t 2).cast nbuf0_2)
abbrev st0_3 (t : Fin (cfgM m hO).N) := ((cfgM m hO).win 3).stage ((cfgM m hO).slots t 3)
theorem hst0_3 (t : Fin (cfgM m hO).N) : (st0_3 m hO t).IsWhole := hstage0_3 (((cfgM m hO).slots t 3).cast nbuf0_3)
abbrev st0_4 (t : Fin (cfgM m hO).N) := ((cfgM m hO).win 4).stage ((cfgM m hO).slots t 4)
theorem hst0_4 (t : Fin (cfgM m hO).N) : (st0_4 m hO t).IsWhole := hstage0_4 (((cfgM m hO).slots t 4).cast nbuf0_4)
abbrev st0_5 (t : Fin (cfgM m hO).N) := ((cfgM m hO).win 5).stage ((cfgM m hO).slots t 5)
theorem hst0_5 (t : Fin (cfgM m hO).N) : (st0_5 m hO t).IsWhole := hstage0_5 (((cfgM m hO).slots t 5).cast nbuf0_5)

/-- A table held at half of the full share: the pipeline keeps the other half. -/
abbrev tbPt0 (c : Dev nD) {S : Shape} {e : EltTy} (M : Memref sig .tc .smem S e) (f : Buf (Elt F) (M.view.loc (c : Thread nD τ))) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The number of tiles in use, as the kernel reads it. -/
def used : BitVec 32 :=
  tbM0_2.view.readAt (Elt F) (Rect.unit (s := S1) ![0] S1.size inb_S1_S1_0).toLoadRect (tbl m 2) (Shape.Idx.first (numel1_S1.symm ▸ Nat.one_pos))

/-- The rows of a point's tile, as the kernel reads them. -/
def rowsAt (i : grid0.Coords) : BitVec 32 :=
  tbM0_1.view.readAt (Elt F) (Rect.unit (s := S15) (k0_off2 i) S1.size (k0_off2_inb i)).toLoadRect (tbl m 1) (Shape.Idx.first (numel1_S1.symm ▸ Nat.one_pos))

/-- A window's block of its array at a point. -/
def iblk (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The proof data -/

variable (Acc : ℕ → Vec F S2304x2048 .f32 → Prop)
variable (Out : Fin (cfgM m hO).N → Vec F S2304x2048 .bf16 → Prop)

/-- What holds between points: the accumulator meets `Acc`, the tables are held. -/
def inv (c : Dev nD) (n : ℕ) : sProp 𝕄 :=
  iprop((∃ v, ⌜Acc n v⌝ ∗ owns (c : Thread nD τ) scM0_0 fullShare v) ∗ (∃ r, prngReg c r)
    ∗ tbPt0 c tbM0_0 (tbl m 0) ∗ tbPt0 c tbM0_1 (tbl m 1) ∗ tbPt0 c tbM0_2 (tbl m 2))

/-- The proof data: the arrays as launched, every input's block in place. -/
def dat (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
  Φ t := inv m Acc c t.val
  q _ := fullShare
  owed _ := 0

theorem A_eq (c : Dev nD) (w : Fin (cfgM m hO).W) : (dat m hO Acc c).A w = V m c (Pipeline.arrRef spec0 w) := by
  dsimp only [dat]

theorem after_0 (c : Dev nD) (t : Fin (cfgM m hO).N) : (dat m hO Acc c).after 0 t = iblk m hO c 0 t := rfl
theorem after_1 (c : Dev nD) (t : Fin (cfgM m hO).N) : (dat m hO Acc c).after 1 t = iblk m hO c 1 t := rfl
theorem after_2 (c : Dev nD) (t : Fin (cfgM m hO).N) : (dat m hO Acc c).after 2 t = iblk m hO c 2 t := rfl
theorem after_3 (c : Dev nD) (t : Fin (cfgM m hO).N) : (dat m hO Acc c).after 3 t = iblk m hO c 3 t := rfl
theorem after_4 (c : Dev nD) (t : Fin (cfgM m hO).N) : (dat m hO Acc c).after 4 t = iblk m hO c 4 t := rfl

/-- Window 0 holds its block of the array at every point. -/
theorem before_0 (c : Dev nD) (t : Fin (cfgM m hO).N) (d) : (dat m hO Acc c).before 0 t d = iblk m hO c 0 t :=
  ((dat m hO Acc c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Window 1 holds its block of the array at every point. -/
theorem before_1 (c : Dev nD) (t : Fin (cfgM m hO).N) (d) : (dat m hO Acc c).before 1 t d = iblk m hO c 1 t :=
  ((dat m hO Acc c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Window 2 holds its block of the array at every point. -/
theorem before_2 (c : Dev nD) (t : Fin (cfgM m hO).N) (d) : (dat m hO Acc c).before 2 t d = iblk m hO c 2 t :=
  ((dat m hO Acc c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- Window 3 holds its block of the array at every point. -/
theorem before_3 (c : Dev nD) (t : Fin (cfgM m hO).N) (d) : (dat m hO Acc c).before 3 t d = iblk m hO c 3 t :=
  ((dat m hO Acc c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
/-- Window 4 holds its block of the array at every point. -/
theorem before_4 (c : Dev nD) (t : Fin (cfgM m hO).N) (d) : (dat m hO Acc c).before 4 t d = iblk m hO c 4 t :=
  ((dat m hO Acc c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

theorem phi_succ (c : Dev nD) (t : Fin (cfgM m hO).N) : (dat m hO Acc c).Φ t.succ = inv m Acc c (t.val + 1) := by
  dsimp only [dat]; rw [Fin.val_succ]

theorem phi_castSucc (c : Dev nD) (t : Fin (cfgM m hO).N) : (dat m hO Acc c).Φ t.castSucc = inv m Acc c t.val := by
  dsimp only [dat]; rw [Fin.val_castSucc]

/-- The window whose contents are stated by a relation: the results. -/
def marked : Fin (cfgM m hO).W → Bool := fun w => decide (w.val = 5)

/-- The relation of the results' block after a point. -/
def rel : (w : Fin (cfgM m hO).W) → (t : Fin (cfgM m hO).N) → (((cfgM m hO).win w).block.Idx → Elt F ((cfgM m hO).win w).elt) → Prop
  | ⟨5, _⟩, t, X => Out t X
  | _, _, _ => True

/-- What the block of results may hold before a point: at the first point, and after a block was written back, anything. -/
def Before (t : Fin (cfgM m hO).N) (Y : Vec F S2304x2048 .bf16) : Prop :=
  t.val = 0 ∨ ∃ ht : t.val - 1 < (cfgM m hO).N, ((cfgM m hO).win 5).flush ⟨t.val - 1, ht⟩ = true ∨ Out ⟨t.val - 1, ht⟩ Y

theorem before_of_finds (c : Dev nD) (t : Fin (cfgM m hO).N) (Y) (h : ((dat m hO Acc c).toRRel (marked m hO) (rel m hO Out)).Finds 5 t Y) :
    Before m hO Out t Y := by
  by_cases ht : t.val = 0
  · exact .inl ht
  · refine .inr ⟨Nat.lt_of_le_of_lt (Nat.sub_le _ _) t.isLt, ?_⟩
    rcases (RDat.finds_of_pos ((dat m hO Acc c).toRRel (marked m hO) (rel m hO Out)) (w := 5) (t := t) (by rfl) ht Y).mp h with h | h
    · exact .inl h
    · exact .inr (Dat.toRRel_leaves (Rl := rel m hO Out) (fgt := marked m hO) (w := 5) (dat m hO Acc c) rfl h)

/-- One step of the call: how a point's run carries the accumulator's relation and the results' block's. -/
structure Steps : Prop where
  chk : ∀ i : grid0.Coords, k0_chk1 i (used m) (rowsAt m i)
  init : ∀ v, Acc 0 v
  run : ∀ (c : Dev nD) (t : Fin (cfgM m hO).N) (h1 : k0_cond1 (grid0.coords t) (used m) = 1#1) X5 X6 X7 X8 X9 f g,
    (st0_0 m hO t).view.read (Elt F) X5 = iblk m hO c 0 t → (st0_1 m hO t).view.read (Elt F) X6 = iblk m hO c 1 t →
    (st0_2 m hO t).view.read (Elt F) X7 = iblk m hO c 2 t → (st0_3 m hO t).view.read (Elt F) X8 = iblk m hO c 3 t →
    (st0_4 m hO t).view.read (Elt F) X9 = iblk m hO c 4 t →
    Acc t.val (scM0_0.view.read (Elt F) f) → Before m hO Out t ((st0_5 m hO t).view.read (Elt F) g) →
    Acc (t.val + 1) (scM0_0.view.read (Elt F) (acc c (grid0.coords t) tbM0_0 htbM0_0 tbM0_1 htbM0_1 tbM0_2 htbM0_2 (st0_0 m hO t) (hst0_0 m hO t) (st0_1 m hO t) (hst0_1 m hO t) (st0_2 m hO t) (hst0_2 m hO t) (st0_3 m hO t) (hst0_3 m hO t) (st0_4 m hO t) (hst0_4 m hO t) (st0_5 m hO t) (hst0_5 m hO t) scM0_0 hscM0_0 (used m) h1 (rowsAt m (grid0.coords t)) (chk (grid0.coords t)) X5 X6 X7 X8 f))
    ∧ Out t ((st0_5 m hO t).view.read (Elt F) (out c (grid0.coords t) tbM0_0 htbM0_0 tbM0_1 htbM0_1 tbM0_2 htbM0_2 (st0_0 m hO t) (hst0_0 m hO t) (st0_1 m hO t) (hst0_1 m hO t) (st0_2 m hO t) (hst0_2 m hO t) (st0_3 m hO t) (hst0_3 m hO t) (st0_4 m hO t) (hst0_4 m hO t) (st0_5 m hO t) (hst0_5 m hO t) scM0_0 hscM0_0 (used m) h1 (rowsAt m (grid0.coords t)) (chk (grid0.coords t)) X9
        (acc c (grid0.coords t) tbM0_0 htbM0_0 tbM0_1 htbM0_1 tbM0_2 htbM0_2 (st0_0 m hO t) (hst0_0 m hO t) (st0_1 m hO t) (hst0_1 m hO t) (st0_2 m hO t) (hst0_2 m hO t) (st0_3 m hO t) (hst0_3 m hO t) (st0_4 m hO t) (hst0_4 m hO t) (st0_5 m hO t) (hst0_5 m hO t) scM0_0 hscM0_0 (used m) h1 (rowsAt m (grid0.coords t)) (chk (grid0.coords t)) X5 X6 X7 X8 f) g))
  skip : ∀ (t : Fin (cfgM m hO).N), ¬ k0_cond1 (grid0.coords t) (used m) = 1#1 → ∀ v Y,
    Acc t.val v → Before m hO Out t Y → Acc (t.val + 1) v ∧ Out t Y

/-! ## The body's obligation -/

/-- The body at a point. -/
abbrev bodyAt0 (t : Fin (cfgM m hO).N) : Prog (TpuEff nD τ sig (Elt F) Λ₀ .tc) PUnit :=
  cc0_moe_experts (grid0.coords t) tbM0_0 htbM0_0 tbM0_1 htbM0_1 tbM0_2 htbM0_2 (st0_0 m hO t) (hst0_0 m hO t) (st0_1 m hO t) (hst0_1 m hO t) (st0_2 m hO t) (hst0_2 m hO t) (st0_3 m hO t) (hst0_3 m hO t) (st0_4 m hO t) (hst0_4 m hO t) (st0_5 m hO t) (hst0_5 m hO t) scM0_0 hscM0_0

def bodyPre (c : Dev nD) (t : Fin (cfgM m hO).N) : sProp 𝕄 :=
  iprop((dat m hO Acc c).Φ t.castSucc ∗ (dat m hO Acc c).owesAt () t.castSucc
    ∗ (∃ d, owns (c : Thread nD τ) (st0_0 m hO t) fullShare ((dat m hO Acc c).before 0 t d))
    ∗ (∃ d, owns (c : Thread nD τ) (st0_1 m hO t) fullShare ((dat m hO Acc c).before 1 t d))
    ∗ (∃ d, owns (c : Thread nD τ) (st0_2 m hO t) fullShare ((dat m hO Acc c).before 2 t d))
    ∗ (∃ d, owns (c : Thread nD τ) (st0_3 m hO t) fullShare ((dat m hO Acc c).before 3 t d))
    ∗ (∃ d, owns (c : Thread nD τ) (st0_4 m hO t) fullShare ((dat m hO Acc c).before 4 t d))
    ∗ (∃ Y, ⌜((dat m hO Acc c).toRRel (marked m hO) (rel m hO Out)).Finds 5 t Y⌝ ∗ owns (c : Thread nD τ) (st0_5 m hO t) fullShare Y))

def bodyPost (c : Dev nD) (t : Fin (cfgM m hO).N) : sProp 𝕄 :=
  iprop((dat m hO Acc c).Φ t.succ ∗ (dat m hO Acc c).owesAt () t.succ
    ∗ owns (c : Thread nD τ) (st0_0 m hO t) fullShare ((dat m hO Acc c).after 0 t)
    ∗ owns (c : Thread nD τ) (st0_1 m hO t) fullShare ((dat m hO Acc c).after 1 t)
    ∗ owns (c : Thread nD τ) (st0_2 m hO t) fullShare ((dat m hO Acc c).after 2 t)
    ∗ owns (c : Thread nD τ) (st0_3 m hO t) fullShare ((dat m hO Acc c).after 3 t)
    ∗ owns (c : Thread nD τ) (st0_4 m hO t) fullShare ((dat m hO Acc c).after 4 t)
    ∗ (∃ X, ⌜rel m hO Out 5 t X⌝ ∗ owns (c : Thread nD τ) (st0_5 m hO t) fullShare X))

variable {m hO Acc Out} (S : Steps m hO Acc Out)
include S

set_option maxHeartbeats 400000 in
/-- The body at any point, of the step's relation. -/
theorem sound_body (c : Dev nD) (t : Fin (cfgM m hO).N) :
    bodyPre m hO Acc Out c t ⊢ wp frame (wpE (defs₀ (F := F)) Variants.none c none) Set.univ (bodyAt0 m hO t) (fun _ => bodyPost m hO Acc Out c t) := by
  unfold bodyPre bodyPost bodyAt0
  simp only [before_0, before_1, before_2, before_3, before_4]
  rw [show (dat m hO Acc c).owesAt () t.succ = (dat m hO Acc c).owesAt () t.castSucc from rfl,
    after_0, after_1, after_2, after_3, after_4, phi_succ, phi_castSucc]
  unfold inv
  by_cases h1 : k0_cond1 (grid0.coords t) (used m) = 1#1
  · unfold owns
    iintro ⟨⟨⟨%v, %hv, ⟨%f, %hf, HS⟩⟩, Hg, T0, T1, T2⟩, Ho, ⟨%d0, ⟨%X5, %h5, H5⟩⟩, ⟨%d1, ⟨%X6, %h6, H6⟩⟩, ⟨%d2, ⟨%X7, %h7, H7⟩⟩, ⟨%d3, ⟨%X8, %h8, H8⟩⟩, ⟨%d4, ⟨%X9, %h9, H9⟩⟩, ⟨%Y, %hY, ⟨%g, %hg, H10⟩⟩⟩
    have hstep := S.run c t h1 X5 X6 X7 X8 X9 f g h5 h6 h7 h8 h9 (by rw [hf]; exact hv) (by rw [hg]; exact before_of_finds m hO Acc Out c t Y hY)
    iapply (body_used c (grid0.coords t) tbM0_0 htbM0_0 tbM0_1 htbM0_1 tbM0_2 htbM0_2 (st0_0 m hO t) (hst0_0 m hO t) (st0_1 m hO t) (hst0_1 m hO t) (st0_2 m hO t) (hst0_2 m hO t) (st0_3 m hO t) (hst0_3 m hO t) (st0_4 m hO t) (hst0_4 m hO t) (st0_5 m hO t) (hst0_5 m hO t) scM0_0 hscM0_0 (used m) h1 (rowsAt m (grid0.coords t)) (S.chk (grid0.coords t)) (tbl m 1) (tbl m 2) X5 X6 X7 X8 X9 f g rfl rfl Set.univ _)
    isplitl [T1]; · iexact T1
    isplitl [T2]; · iexact T2
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨T1, T2, H5, H6, H7, H8, H9, ⟨%y, %hy, H10⟩, ⟨%z, %hz, HS⟩⟩
    isplitl [HS Hg T0 T1 T2]
    · isplitl [HS]
      · iexists _; isplitr; swap
        · iexists _; isplitr; swap; · iexact HS
          ipureintro; rfl
        ipureintro; rw [hz]; exact hstep.1
      isplitl [Hg]; · iexact Hg
      isplitl [T0]; · iexact T0
      isplitl [T1]; · iexact T1
      iexact T2
    isplitl [Ho]; · iexact Ho
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists _; isplitr; swap; · iexact H9
      ipureintro; exact h9
    iexists _; isplitr; swap
    · iexists _; isplitr; swap; · iexact H10
      ipureintro; rfl
    ipureintro; rw [hy]; exact hstep.2
  · iintro ⟨⟨⟨%v, %hv, HS⟩, Hg, T0, T1, T2⟩, Ho, ⟨%d0, H5⟩, ⟨%d1, H6⟩, ⟨%d2, H7⟩, ⟨%d3, H8⟩, ⟨%d4, H9⟩, ⟨%Y, %hY, H10⟩⟩
    have hstep := S.skip t h1 v Y hv (before_of_finds m hO Acc Out c t Y hY)
    iapply (body_unused c (grid0.coords t) tbM0_0 htbM0_0 tbM0_1 htbM0_1 tbM0_2 htbM0_2 (st0_0 m hO t) (hst0_0 m hO t) (st0_1 m hO t) (hst0_1 m hO t) (st0_2 m hO t) (hst0_2 m hO t) (st0_3 m hO t) (hst0_3 m hO t) (st0_4 m hO t) (hst0_4 m hO t) (st0_5 m hO t) (hst0_5 m hO t) scM0_0 hscM0_0 (used m) h1 (tbl m 2) rfl Set.univ _)
    isplitl [T2]; · iexact T2
    iintro T2
    isplitl [HS Hg T0 T1 T2]
    · isplitl [HS]
      · iexists _; isplitr; swap; · iexact HS
        ipureintro; exact hstep.1
      isplitl [Hg]; · iexact Hg
      isplitl [T0]; · iexact T0
      isplitl [T1]; · iexact T1
      iexact T2
    isplitl [Ho]; · iexact Ho
    isplitl [H5]; · iexact H5
    isplitl [H6]; · iexact H6
    isplitl [H7]; · iexact H7
    isplitl [H8]; · iexact H8
    isplitl [H9]; · iexact H9
    iexists _; isplitr; swap; · iexact H10
    ipureintro; exact hstep.2

omit S in
/-- The body the pipeline calls is the body at the point's buffers. -/
theorem defs₀_row (t : Fin (cfgM m hO).N) :
    defs₀ (F := F) .tc (cfgM m hO).body ((cfgM m hO).bodyArgs t ((cfgM m hO).slots t)) = bodyAt0 m hO t := by
  unfold defs₀; rw [Defs.onTc_tc]; rfl

theorem body_obligation (c : Dev nD) : BodyObligationRel (dat m hO Acc c) (defs₀ (F := F)) Variants.none () Set.univ (marked m hO) (rel m hO Out) := fun t => by
  rw [bigSep_W0, bigSep_W0, defs₀_row]
  exact triple_restated (sound_body S c t) rfl .rfl fun _ => .rfl

theorem hin (c : Dev nD) : iprop(Pipeline.ΦA spec0 c ∗ Pipeline.ΦT pre0 (tbl m) c) ⊢ ((dat m hO Acc c).toRRel (marked m hO) (rel m hO Out)).Φ 0 := by
  rw [show ((dat m hO Acc c).toRRel (marked m hO) (rel m hO Out)).Φ 0 = inv m Acc c 0 from rfl, PhiA0_eq, PhiT0_eq]
  unfold inv
  iintro ⟨⟨⟨%d, HS⟩, Hg⟩, T0, T1, T2⟩
  isplitl [HS]
  · iexists d; isplitr; swap; · iexact HS
    ipureintro; exact S.init d
  isplitl [Hg]; · iexact Hg
  isplitl [T0]; · iexact T0
  isplitl [T1]; · iexact T1
  iexact T2

omit S in
theorem hout (c : Dev nD) : ((dat m hO Acc c).toRRel (marked m hO) (rel m hO Out)).Φ (Fin.last (cfgM m hO).N) ⊢ Pipeline.ΦA spec0 c := by
  rw [show ((dat m hO Acc c).toRRel (marked m hO) (rel m hO Out)).Φ (Fin.last (cfgM m hO).N) = inv m Acc c (Fin.last (cfgM m hO).N).val from rfl, PhiA0_eq]
  unfold inv
  iintro ⟨⟨%v, %hv, HS⟩, Hg, T0, T1, T2⟩
  isplitl [HS]
  · iexists v; iexact HS
  iexact Hg

/-! ## The run -/

/-- The arrays after the run, by the relations. -/
abbrev Post (r : PUnit × MemSt nD τ sig (Elt F)) : Prop :=
  RDat.FramePost (cfgM m hO) (fun c => (dat m hO Acc c).toRRel (marked m hO) (rel m hO Out)) (V m) r

set_option backward.isDefEq.respectTransparency.types false in
/-- The call runs, and ends with every counter at zero. -/
theorem run_main : θ_run defs (onTc (τ := τ) (main (F := F))) (s₀ m ρ) (fun r => Post (m := m) (hO := hO) (Acc := Acc) (Out := Out) r ∧ r.2.sem = fun _ => 0) :=
  RDat.θ_run_frameP_track (Q' := _) pcfgs (fun _ => adm m hO) (0 : Fin 1) launch0 defs₀ Variants.none
    (fun c => (dat m hO Acc c).toRRel (marked m hO) (rel m hO Out)) m ρ main
    (hbody := fun c => (body_obligation S c).toRRel) (hshare := fun c w => by rw [Dat.toRRel_share]; exact (dat m hO Acc c).share_full (fun _ => rfl) w)
    (howed := fun _ _ => rfl) (V := V m) (hmain := hmain m Variants.none) (hA := fun _ _ => rfl)
    (hpf := fun c k => tables m c k) (hin := fun c => hin S c) (hout := fun c => hout c)

end Cert.ExpertsIdeal.Body

end
-- ==== Proof.ExpertsWords.lean ====
/- The integer tables of the experts' call: what its precondition says of them, and from that the two
   things the call needs of them — every block its index maps name lies inside its array, and every
   tile of rows the body names lies inside the block. -/
module

public import Idealize.ShloMosaic.Lib.ReduceAll
public import proofs.«01_k».proof.Defs
public import proofs.«01_k».proof.Proof.Gen.Pre_planned
public import proofs.«01_k».proof.Proof.ExpertsRun

@[expose] public section

noncomputable section

namespace Cert.ExpertsIdeal.Body

open Idealize.ShloMosaic Idealize.ShloMosaic.TcCoe
open Cert.ExpertsIdeal Cert.ExpertsIdeal.Gen

variable {F : FTy → Type} [FloatOps F]

/-! ## The rows of a tile: a multiple of 256, at most 2304 -/

/-- The ten words a tile's number of rows can be. -/
def word (k : Fin 10) : BitVec 32 := BitVec.ofNat 32 (256 * k.val)

/-- At any of them the loops have a meaning and every piece of the tile lies inside the block. -/
theorem chk_word (i : grid0.Coords) (v0 : BitVec 32) (k : Fin 10) : k0_chk1 i v0 (word k) :=
  ⟨fun _ => by revert k; decide,
   fun t _ => by revert k; decide,
   fun t _ => by revert k; decide,
   fun _ => by revert k; decide,
   fun t _ => by revert k; decide,
   fun t _ => by revert k; decide,
   fun _ => by revert k; decide,
   fun _ => by revert k; decide,
   fun _ => by revert k; decide,
   fun _ => by revert k; decide,
   fun _ _ => by revert k; decide,
   fun t _ _ => by revert k; decide,
   fun t _ _ => by revert k; decide,
   fun t _ _ => by revert k; decide,
   fun t _ _ h => Affine.packed_dvd (by decide) (by clear h; revert k; decide) (by decide),
   fun _ _ => by revert k; decide,
   fun t _ _ => by revert k; decide,
   fun t _ _ => by revert k; decide,
   fun t _ _ => by revert k; decide,
   fun t _ _ h => Affine.packed_dvd (by decide) (by clear h; revert k; decide) (by decide),
   fun _ _ => by revert k; decide,
   fun _ _ => by revert k; decide,
   fun _ _ => by revert k; decide,
   fun _ _ h6 h => Affine.packed_dvd (by decide) (by clear h; revert k; decide) (by decide),
   fun _ _ => by revert k; decide,
   fun _ _ => by revert k; decide,
   fun _ _ => by revert k; decide,
   fun _ _ h7 h => Affine.packed_dvd (by decide) (by clear h; revert k; decide) (by decide)⟩

/-! ## The precondition, word by word -/

/-- What the precondition says of the three tables. -/
structure Planned (e rows : Fin 15 → BitVec 32) (n : BitVec 32) : Prop where
  expert : ∀ s, (e s).toNat < 8
  rows : ∀ s, ∃ k : Fin 10, rows s = word k
  lo : 1 ≤ n.toNat
  hi : n.toNat ≤ 15

theorem expert_lt (x : BitVec 32) (h0 : (0#32).sle x = true) (h8 : x.slt 8#32 = true) : x.toNat < 8 := by
  simp only [BitVec.sle_eq_decide, BitVec.slt_eq_decide, decide_eq_true_eq] at h0 h8
  have := BitVec.toInt_eq_toNat_cond x
  simp at h0 h8; split at this <;> omega

theorem used_le (x : BitVec 32) (h0 : (1#32).sle x = true) (h8 : x.sle 15#32 = true) : 1 ≤ x.toNat ∧ x.toNat ≤ 15 := by
  simp only [BitVec.sle_eq_decide, decide_eq_true_eq] at h0 h8
  have := BitVec.toInt_eq_toNat_cond x
  simp at h0 h8; split at this <;> omega

theorem rows_word (x : BitVec 32) (h0 : (0#32).sle x = true) (h1 : x.sle 2304#32 = true) (h2 : x &&& 255#32 = 0#32) :
    ∃ k : Fin 10, x = word k := by
  simp only [BitVec.sle_eq_decide, decide_eq_true_eq] at h0 h1
  have hx := BitVec.toInt_eq_toNat_cond x
  have hm : x.toNat % 256 = 0 := by
    have h3 := congrArg BitVec.toNat h2
    rw [BitVec.toNat_and] at h3
    exact (Nat.and_two_pow_sub_one_eq_mod x.toNat 8).symm.trans h3
  have hle : x.toNat ≤ 2304 := by simp at h0 h1; split at hx <;> omega
  refine ⟨⟨x.toNat / 256, by omega⟩, ?_⟩
  apply BitVec.eq_of_toNat_eq
  simp only [word, BitVec.toNat_ofNat]
  omega

theorem ofBool_one (p : Bool) : BitVec.ofBool p = 1#1 ↔ p = true := by cases p <;> decide

instance : Subsingleton Cert.Pre_planned.S_.Idx := ⟨fun a b => funext fun i => i.elim0⟩

theorem and_one (a b : BitVec 1) : a &&& b = 1#1 ↔ a = 1#1 ∧ b = 1#1 := by
  revert a b; decide

variable (m : (ℓ : Loc nD τ sig) → Buf (Elt F) ℓ)

/-- The precondition of a launch memory. -/
def Planned.Of : Prop :=
  ∀ c : Dev nD, Cert.Pre_planned.fn (F := F) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) = (fun _ => 1#1)

/-- The index of a table's entry. -/
def at15 (s : Fin 15) : S15.Idx := fun a => ⟨s.val, by match a with | ⟨0, _⟩ => exact s.isLt⟩
def at1 : S1.Idx := fun a => ⟨0, by match a with | ⟨0, _⟩ => exact Nat.one_pos⟩

/-- The three tables of a launch memory. -/
def expertOf (s : Fin 15) : BitVec 32 := tbl m 0 (at15 s)
def rowsOf (s : Fin 15) : BitVec 32 := tbl m 1 (at15 s)
def usedOf : BitVec 32 := tbl m 2 at1

theorem planned (h : Planned.Of m) : Planned (expertOf m) (rowsOf m) (usedOf m) := by
  have e := congrFun (h 0) (fun a => a.elim0)
  simp only [Cert.Pre_planned.fn, Cert.Pre_planned.fn_part1, andi, IntOp.andi, and_one] at e
  obtain ⟨⟨e1, e2⟩, e3⟩ := e
  have a1 := fun s : Fin 15 => Host.reduce_andi_all _ _ _ _ _ e1 (at15 s)
  have a2 := fun s : Fin 15 => Host.reduce_andi_all _ _ _ _ _ e2 (at15 s)
  have a3 := Host.reduce_andi_all _ _ _ _ _ e3 at1
  simp only [andi, IntOp.andi, and_one, cmpi, IntOp.cmpi, ofBool_one, broadcastInDim, constantI, beq_iff_eq] at a1 a2 a3
  exact ⟨fun s => expert_lt _ (a1 s).1 (a1 s).2, fun s => rows_word _ (a2 s).1.1 (a2 s).1.2 (a2 s).2,
    (used_le _ a3.1 a3.2).1, (used_le _ a3.1 a3.2).2⟩

/-! ## The words the call reads -/

theorem s15_ext (x : S15.Idx) (s : Fin 15) (h : (x 0).val = s.val) : x = at15 s := by
  funext a
  match a with
  | ⟨0, _⟩ => exact Fin.ext h

theorem s1_ext (x y : S1.Idx) : x = y := by
  funext a
  match a with
  | ⟨0, _⟩ => exact Subsingleton.elim (α := Fin 1) _ _

theorem off1_val : ∀ i : Fin 15, (Scalar.indexCast (BitVec.ofNat 32 i.val) : BitVec 32).toNat = i.val := by decide

theorem used_eq : used m = usedOf m := by
  show tbl m 2 _ = tbl m 2 _
  exact congrArg (tbl m 2) (s1_ext _ _)

theorem rowsAt_eq (i : grid0.Coords) : rowsAt m i = rowsOf m (i 0) := by
  show tbl m 1 _ = tbl m 1 _
  refine congrArg (tbl m 1) (s15_ext _ _ ?_)
  exact off1_val (i 0)

theorem chk_of (h : Planned.Of m) (i : grid0.Coords) : k0_chk1 i (used m) (rowsAt m i) := by
  obtain ⟨k, hk⟩ := (planned m h).rows (i 0)
  rw [rowsAt_eq, hk]
  exact chk_word i _ k

/-! ## The blocks -/

/-- The tile a point's row windows lie at: its own, or the last used one. -/
def tile (n s : ℕ) : ℕ := min s (n - 1)

theorem minsi_val (s : Fin 15) (n : BitVec 32) (h1 : 1 ≤ n.toNat) (h2 : n.toNat ≤ 15) :
    (Scalar.minsi (BitVec.ofNat 32 s.val) (Scalar.subi n 1#32)).toNat = tile n.toNat s.val := by
  obtain ⟨k, rfl⟩ : ∃ k : Fin 15, n = BitVec.ofNat 32 (k.val + 1) :=
    ⟨⟨n.toNat - 1, by omega⟩, by apply BitVec.eq_of_toNat_eq; simp only [BitVec.toNat_ofNat]; omega⟩
  clear h1 h2; revert s k; decide

theorem slt_val (s : Fin 15) (n : BitVec 32) (h1 : 1 ≤ n.toNat) (h2 : n.toNat ≤ 15) :
    Scalar.cmpi .slt (BitVec.ofNat 32 s.val) n = BitVec.ofBool (decide (s.val < n.toNat)) := by
  obtain ⟨k, rfl⟩ : ∃ k : Fin 15, n = BitVec.ofNat 32 (k.val + 1) :=
    ⟨⟨n.toNat - 1, by omega⟩, by apply BitVec.eq_of_toNat_eq; simp only [BitVec.toNat_ofNat]; omega⟩
  clear h1 h2; revert s k; decide

/-- The feature tile a point's weight windows lie at: its own, or the last one past the used tiles. -/
def feature (n s j : ℕ) : ℕ := if s < n then j else 21

theorem select_val (s : Fin 15) (j : Fin 22) (n : BitVec 32) (h1 : 1 ≤ n.toNat) (h2 : n.toNat ≤ 15) :
    (Scalar.select (Scalar.cmpi .slt (BitVec.ofNat 32 s.val) n) (BitVec.ofNat 32 j.val) 21#32).toNat = feature n.toNat s.val j.val := by
  rw [slt_val s n h1 h2]
  unfold feature
  by_cases h : s.val < n.toNat
  · simp only [h, decide_true, if_true]
    show (BitVec.ofNat 32 j.val).toNat = _
    have := j.isLt
    simp only [BitVec.toNat_ofNat]; omega
  · simp only [h, decide_false, if_false]
    rfl

theorem pf0_at (i : grid0.Coords) (o : Fin 1 → ℕ) (ho : o 0 = (i 0).val) (hb) :
    (tbl m).at 0 (Rect.unit (s := S15) o S1.size hb) numel1_S1 = expertOf m (i 0) := by
  show tbl m 0 _ = tbl m 0 _
  refine congrArg (tbl m 0) (s15_ext _ _ ?_)
  exact ho

theorem pf2_at (hb) : (tbl m).at 2 (Rect.unit (s := S1) ![0] S1.size hb) numel1_S1 = usedOf m := by
  show tbl m 2 _ = tbl m 2 _
  exact congrArg (tbl m 2) (s1_ext _ _)

theorem tile_eq (P : Planned (expertOf m) (rowsOf m) (usedOf m)) (i : grid0.Coords) (hb) :
    (Scalar.minsi (BitVec.ofNat 32 (i 0).val) (Scalar.subi ((tbl m).at 2 (Rect.unit (s := S1) ![0] S1.size hb) numel1_S1) 1#32)).toNat
      = tile (usedOf m).toNat (i 0).val :=
  (congrArg (fun n : BitVec 32 => (Scalar.minsi (BitVec.ofNat 32 (i 0).val) (Scalar.subi n 1#32)).toNat) (pf2_at m hb)).trans
    (minsi_val (i 0) _ P.lo P.hi)

theorem feature_eq (P : Planned (expertOf m) (rowsOf m) (usedOf m)) (i : grid0.Coords) (hb) :
    (Scalar.select (Scalar.cmpi .slt (BitVec.ofNat 32 (i 0).val) ((tbl m).at 2 (Rect.unit (s := S1) ![0] S1.size hb) numel1_S1))
        (BitVec.ofNat 32 (i 1).val) 21#32).toNat = feature (usedOf m).toNat (i 0).val (i 1).val :=
  (congrArg (fun n : BitVec 32 => (Scalar.select (Scalar.cmpi .slt (BitVec.ofNat 32 (i 0).val) n) (BitVec.ofNat 32 (i 1).val) 21#32).toNat)
    (pf2_at m hb)).trans (select_val (i 0) (i 1) _ P.lo P.hi)

theorem map0 (P : Planned (expertOf m) (rowsOf m) (usedOf m)) (i : grid0.Coords) :
    cc0_transform_0 inb_S1_S1_0 numel1_S1 (tbl m) i = ![tile (usedOf m).toNat (i 0).val, 0] := by
  funext a
  fin_cases a
  · exact tile_eq m P i _
  · rfl

theorem map4 (P : Planned (expertOf m) (rowsOf m) (usedOf m)) (i : grid0.Coords) :
    cc0_transform_4 inb_S1_S1_0 numel1_S1 (tbl m) i = ![tile (usedOf m).toNat (i 0).val, 0] := by
  funext a
  fin_cases a
  · exact tile_eq m P i _
  · rfl

theorem map5 (P : Planned (expertOf m) (rowsOf m) (usedOf m)) (i : grid0.Coords) :
    cc0_transform_5 inb_S1_S1_0 numel1_S1 (tbl m) i = ![tile (usedOf m).toNat (i 0).val, 0] := by
  funext a
  fin_cases a
  · exact tile_eq m P i _
  · rfl

theorem map1 (P : Planned (expertOf m) (rowsOf m) (usedOf m)) (i : grid0.Coords) :
    cc0_transform_1 k0_off1_inb numel1_S1 inb_S1_S1_0 (tbl m) i
      = ![0, (expertOf m (i 0)).toNat, 0, feature (usedOf m).toNat (i 0).val (i 1).val] := by
  funext a
  fin_cases a
  · rfl
  · exact congrArg BitVec.toNat (pf0_at m i _ (off1_val (i 0)) _)
  · rfl
  · exact feature_eq m P i _

theorem map2 (P : Planned (expertOf m) (rowsOf m) (usedOf m)) (i : grid0.Coords) :
    cc0_transform_2 k0_off1_inb numel1_S1 inb_S1_S1_0 (tbl m) i
      = ![0, (expertOf m (i 0)).toNat, 0, feature (usedOf m).toNat (i 0).val (i 1).val] := by
  funext a
  fin_cases a
  · rfl
  · exact congrArg BitVec.toNat (pf0_at m i _ (off1_val (i 0)) _)
  · rfl
  · exact feature_eq m P i _

theorem map3 (P : Planned (expertOf m) (rowsOf m) (usedOf m)) (i : grid0.Coords) :
    cc0_transform_3 k0_off1_inb numel1_S1 inb_S1_S1_0 (tbl m) i
      = ![0, (expertOf m (i 0)).toNat, feature (usedOf m).toNat (i 0).val (i 1).val, 0] := by
  funext a
  fin_cases a
  · rfl
  · exact congrArg BitVec.toNat (pf0_at m i _ (off1_val (i 0)) _)
  · exact feature_eq m P i _
  · rfl

theorem rows_inb (n s : ℕ) (hs : s < 15) (w : ℕ) : ∀ a : Fin 2, ((![tile n s, 0] : Fin 2 → ℕ) a + 1) * (![2304, w] : Fin 2 → ℕ) a ≤ (![34560, w] : Fin 2 → ℕ) a := by
  have : tile n s ≤ s := Nat.min_le_left _ _
  intro a
  fin_cases a
  · show (tile n s + 1) * 2304 ≤ 34560; omega
  · show (0 + 1) * w ≤ w; omega

theorem feature_lt (n s j : ℕ) (hj : j < 22) : feature n s j < 22 := by unfold feature; split <;> omega

theorem in_inb (e f : ℕ) (he : e < 8) (hf : f < 22) : ∀ a : Fin 4, ((![0, e, 0, f] : Fin 4 → ℕ) a + 1) * (![1, 1, 2048, 256] : Fin 4 → ℕ) a ≤ (![1, 8, 2048, 5632] : Fin 4 → ℕ) a := by
  intro a
  fin_cases a
  · show (0 + 1) * 1 ≤ 1; omega
  · show (e + 1) * 1 ≤ 8; omega
  · show (0 + 1) * 2048 ≤ 2048; omega
  · show (f + 1) * 256 ≤ 5632; omega

theorem out_inb (e f : ℕ) (he : e < 8) (hf : f < 22) : ∀ a : Fin 4, ((![0, e, f, 0] : Fin 4 → ℕ) a + 1) * (![1, 1, 256, 2048] : Fin 4 → ℕ) a ≤ (![1, 8, 5632, 2048] : Fin 4 → ℕ) a := by
  intro a
  fin_cases a
  · show (0 + 1) * 1 ≤ 1; omega
  · show (e + 1) * 1 ≤ 8; omega
  · show (f + 1) * 256 ≤ 5632; omega
  · show (0 + 1) * 2048 ≤ 2048; omega

/-- Every block lies inside its array. -/
theorem ok_of (h : Planned.Of m) : ok0 (F := F) (tbl m) := by
  have P := planned m h
  refine ⟨fun i => ⟨?_, .inr (Affine.block_words_dvd (of_decide_eq_true rfl) (by decide))⟩, fun i => ⟨?_, .inl rfl⟩,
    fun i => ⟨?_, .inl rfl⟩, fun i => ⟨?_, .inl rfl⟩, fun i => ⟨?_, .inl rfl⟩,
    fun i => ⟨?_, .inr (Affine.block_words_dvd (of_decide_eq_true rfl) (by decide))⟩⟩
  · rw [map0 m P]; exact rows_inb _ _ (i 0).isLt 2048
  · rw [map1 m P]; exact in_inb _ _ (P.expert _) (feature_lt _ _ _ (i 1).isLt)
  · rw [map2 m P]; exact in_inb _ _ (P.expert _) (feature_lt _ _ _ (i 1).isLt)
  · rw [map3 m P]; exact out_inb _ _ (P.expert _) (feature_lt _ _ _ (i 1).isLt)
  · rw [map4 m P]; exact rows_inb _ _ (i 0).isLt 128
  · rw [map5 m P]; exact rows_inb _ _ (i 0).isLt 2048

end Cert.ExpertsIdeal.Body

end
-- ==== Proof.ExpertsTile.lean ====
/- One chunk of rows of a tile of slots, as arithmetic: what a chunk adds to the accumulator for one tile of 256
   features, what it writes as results, and how a write of some rows of a block is read back. -/
module

public import proofs.«01_k».proof.Proof.Gen.ExpertsIdeal.Skeleton
public import proofs.«01_k».proof.Proof.Products
public import Idealize.ShloMosaic.Lib.Tactic
public import Idealize.ShloMosaic.Lib.ValueLayout
public import Idealize.ShloMosaic.Lib.Writes
public import Idealize.ShloMosaic.Lib.ValueIdx
public import Idealize.ShloMosaic.Lib.Pointwise.ElementwiseCore

@[expose] public section

noncomputable section

namespace Cert.ExpertsIdeal.Tile

open Cert.ExpertsIdeal Cert.ExpertsIdeal.Gen Cert.Products
open Idealize.ShloMosaic Idealize.ShloMosaic.TcCoe Idealize.ShloMosaic.ValueIdx
open scoped BigOperators

/-! ## The arithmetic of a chunk -/

/-- The product of a block by a block, started at zero, read at row `r` and column `c`. -/
theorem rows_by_columns {M K N : ℕ} {φ₁ φ₂ : FTy} (x : FVec Ideal ⟨2, ![M, K]⟩ φ₁) (y : FVec Ideal ⟨2, ![K, N]⟩ φ₂) (r : Fin M) (c : Fin N) :
    matmul (DotDims.plain M K N) none x y (constant ⟨2, ![M, N]⟩ .f32 0x00000000#32) (ix2 r c)
      = ∑ k : Fin K, x (ix2 r k) * y (ix2 k c) := by
  refine (Ideal.matmul_plain_apply none x y _ r c).trans ?_
  show Scalar.ofBits (F := Ideal) .f32 0x00000000#32 + _ = _
  rw [zero_word, zero_add]

/-- Two leading unit axes dropped. -/
theorem drop_units {a b : ℕ} (x : FVec Ideal ⟨4, ![1, 1, a, b]⟩ .f32) (h : (⟨4, ![1, 1, a, b]⟩ : Shape).ShapeCasts ⟨2, ![a, b]⟩) (i : Fin a) (j : Fin b) :
    shapeCast ⟨2, ![a, b]⟩ x h (ix2 i j) = x (ix4 0 0 i j) :=
  shapeCast_apply x h _ _ (by
    rw [Shape.rowMajor_val_four, Shape.rowMajor_val_two]
    show ((0 * 1 + 0) * a + i.val) * b + j.val = i.val * b + j.val
    simp only [Nat.zero_mul, Nat.zero_add])

/-- The gated feature `f` of a row: SiLU of its gate times its up-projection. -/
def feature {K N : ℕ} (x : Fin K → EReal) (wg wu : Fin K → Fin N → EReal) (f : Fin N) : EReal :=
  (∑ k, x k * wg k f) * Ideal.logistic (∑ k, x k * wg k f) * ∑ k, x k * wu k f

/-- What a row adds to column `d` of its output for some features. -/
def share {K N D : ℕ} (x : Fin K → EReal) (wg wu : Fin K → Fin N → EReal) (wd : Fin N → Fin D → EReal) (d : Fin D) : EReal :=
  ∑ f, feature x wg wu f * wd f d

theorem share_congr {K N D : ℕ} (x : Fin K → EReal) {wg wg' wu wu' : Fin K → Fin N → EReal} {wd wd' : Fin N → Fin D → EReal}
    (hg : ∀ k f, wg k f = wg' k f) (hu : ∀ k f, wu k f = wu' k f) (hd : ∀ f d, wd f d = wd' f d) (d : Fin D) : share x wg wu wd d = share x wg' wu' wd' d := by
  rw [show wg = wg' from funext fun k => funext (hg k), show wu = wu' from funext fun k => funext (hu k), show wd = wd' from funext fun k => funext (hd k)]

/-- A block of weights as a matrix. -/
abbrev mat {a b : ℕ} (w : FVec Ideal ⟨4, ![1, 1, a, b]⟩ .f32) (i : Fin a) (j : Fin b) : EReal := w (ix4 0 0 i j)

/-- One chunk of rows: the accumulator's rows, and the output of the gated features of the rows of `x`. -/
theorem chunk {M K N D : ℕ} (x : FVec Ideal ⟨2, ![M, K]⟩ .bf16) (wg wu : FVec Ideal ⟨2, ![K, N]⟩ .bf16) (wd : FVec Ideal ⟨2, ![N, D]⟩ .bf16)
    (a : FVec Ideal ⟨2, ![M, D]⟩ .f32) (hb : FTy.bf16.bits < FTy.f32.bits) (r : Fin M) (d : Fin D) :
    addf a (matmul (DotDims.plain M N D) none
        (truncf .bf16 (mulf
          (mulf (matmul (DotDims.plain M K N) none x wg (constant ⟨2, ![M, N]⟩ .f32 0x00000000#32))
            (logistic (matmul (DotDims.plain M K N) none x wg (constant ⟨2, ![M, N]⟩ .f32 0x00000000#32))))
          (matmul (DotDims.plain M K N) none x wu (constant ⟨2, ![M, N]⟩ .f32 0x00000000#32))) hb)
        wd (constant ⟨2, ![M, D]⟩ .f32 0x00000000#32)) (ix2 r d)
      = a (ix2 r d) + share (fun k => x (ix2 r k)) (fun k f => wg (ix2 k f)) (fun k f => wu (ix2 k f)) (fun f c => wd (ix2 f c)) d := by
  rw [ValueIdx.addf_apply, rows_by_columns]
  refine congrArg (fun z : EReal => a (ix2 r d) + z) (Finset.sum_congr rfl fun f _ => ?_)
  rw [ValueIdx.truncf_apply, ValueIdx.mulf_apply, ValueIdx.mulf_apply, Idealize.ShloMosaic.logistic_apply, rows_by_columns, rows_by_columns]
  rfl

theorem pay1_apply (x wg wu a wd) (r : Fin 256) (d : Fin 2048) : k0_pay1 (F := Ideal) x wg wu a wd (ix2 r d)
    = a (ix2 r d) + share (fun k => x (ix2 r k)) (mat wg) (mat wu) (mat wd) d := by
  unfold k0_pay1
  simp only [shapeCast_self]
  refine (chunk x _ _ _ a _ r d).trans (congrArg (fun z : EReal => a (ix2 r d) + z) ?_)
  exact share_congr _ (fun k f => drop_units wg _ k f) (fun k f => drop_units wu _ k f) (fun f c => drop_units wd _ f c) d

theorem pay7_apply (x wg wu a wd) (r : Fin 1024) (d : Fin 2048) : k0_pay7 (F := Ideal) x wg wu a wd (ix2 r d)
    = a (ix2 r d) + share (fun k => x (ix2 r k)) (mat wg) (mat wu) (mat wd) d := by
  unfold k0_pay7
  simp only [shapeCast_self]
  refine (chunk x _ _ _ a _ r d).trans (congrArg (fun z : EReal => a (ix2 r d) + z) ?_)
  exact share_congr _ (fun k f => drop_units wg _ k f) (fun k f => drop_units wu _ k f) (fun f c => drop_units wd _ f c) d

theorem pay9_apply (x wg wu a wd) (r : Fin 512) (d : Fin 2048) : k0_pay9 (F := Ideal) x wg wu a wd (ix2 r d)
    = a (ix2 r d) + share (fun k => x (ix2 r k)) (mat wg) (mat wu) (mat wd) d := by
  unfold k0_pay9
  simp only [shapeCast_self]
  refine (chunk x _ _ _ a _ r d).trans (congrArg (fun z : EReal => a (ix2 r d) + z) ?_)
  exact share_congr _ (fun k f => drop_units wg _ k f) (fun k f => drop_units wu _ k f) (fun f c => drop_units wd _ f c) d

theorem pay6_apply (y : S2304x2048.Idx) : k0_pay6 (F := Ideal) y = (0 : EReal) := by
  unfold k0_pay6
  simp only [shapeCast_self]
  exact zero_word

/-- One weight per row, applied to a whole row. -/
theorem weigh {M : ℕ} (a : FVec Ideal ⟨2, ![M, 2048]⟩ .f32) (w : FVec Ideal ⟨2, ![M, 1]⟩ .f32) (h : (⟨2, ![M, 1]⟩ : Shape).Broadcasts ⟨2, ![M, 2048]⟩) (hb)
    (r : Fin M) (d : Fin 2048) : truncf (F := Ideal) .bf16 (mulf (F := Ideal) a (broadcastTo ⟨2, ![M, 2048]⟩ w h)) hb (ix2 r d) = a (ix2 r d) * w (ix2 r 0) := by
  refine congrArg (a (ix2 r d) * ·) (broadcastTo_apply w h (ix2 r d) (ix2 r 0) fun ax => ?_)
  match ax with
  | ⟨0, _⟩ =>
    show r.val = if M = 1 then 0 else r.val
    split
    · have := r.isLt; omega
    · rfl
  | ⟨1, _⟩ => rfl

theorem pay2_apply (a w) (r : Fin 256) (d : Fin 2048) : k0_pay2 (F := Ideal) a w (ix2 r d) = a (ix2 r d) * w (ix2 r 0) := weigh a w _ _ r d
theorem pay3_apply (a w) (r : Fin 1024) (d : Fin 2048) : k0_pay3 (F := Ideal) a w (ix2 r d) = a (ix2 r d) * w (ix2 r 0) := weigh a w _ _ r d
theorem pay5_apply (a w) (r : Fin 512) (d : Fin 2048) : k0_pay5 (F := Ideal) a w (ix2 r d) = a (ix2 r d) * w (ix2 r 0) := weigh a w _ _ r d

/-! ## Some rows of a block, written and read back -/

section
variable {Val : EltTy → Type} {sig' : RefSig} {κ : Kind} {sp : Space} {e : EltTy} (v : View sig' κ sp S2304x2048 e) (f : v.ty.Contents Val)

theorem read_rows_hit {h : ℕ} {off : Fin 2 → ℕ} (hb : ∀ a, off a + (⟨2, ![h, 2048]⟩ : Shape).size a ≤ S2304x2048.size a) (h1 : off 1 = 0)
    (w : (⟨2, ![h, 2048]⟩ : Shape).Idx → Val e) (L : List (View.Piece Val S2304x2048 e)) (x : (⟨2, ![h, 2048]⟩ : Shape).Idx) (y : S2304x2048.Idx)
    (e0 : (y 0).val = off 0 + (x 0).val) (e1 : (y 1).val = (x 1).val) :
    v.read Val (v.writes Val f (⟨Rect.unit (s := S2304x2048) off (⟨2, ![h, 2048]⟩ : Shape).size hb, w⟩ :: L)) y = w x :=
  View.read_writes_cons_hit_of_coords v f (Rect.unit (s := S2304x2048) off (⟨2, ![h, 2048]⟩ : Shape).size hb) w L x y fun a => by
    match a with
    | ⟨0, _⟩ => show (y 0).val = off 0 + 1 * (x 0).val; omega
    | ⟨1, _⟩ => show (y 1).val = off 1 + 1 * (x 1).val; omega

theorem read_rows_miss {h : ℕ} {off : Fin 2 → ℕ} (hb : ∀ a, off a + (⟨2, ![h, 2048]⟩ : Shape).size a ≤ S2304x2048.size a)
    (w : (⟨2, ![h, 2048]⟩ : Shape).Idx → Val e) (L : List (View.Piece Val S2304x2048 e)) (y : S2304x2048.Idx)
    (e0 : ¬(off 0 ≤ (y 0).val ∧ (y 0).val < off 0 + h)) :
    v.read Val (v.writes Val f (⟨Rect.unit (s := S2304x2048) off (⟨2, ![h, 2048]⟩ : Shape).size hb, w⟩ :: L)) y = v.read Val (v.writes Val f L) y :=
  View.read_writes_cons_miss_of_axis v f _ L y (0 : Fin 2) (off 0) h rfl rfl rfl (by omega)

theorem readAt_rows {h n : ℕ} {u : View sig' κ sp ⟨2, ![2304, n]⟩ e} (g : u.ty.Contents Val) {m : ℕ} {off : Fin 2 → ℕ}
    (hb : ∀ a, off a + (⟨2, ![h, m]⟩ : Shape).size a ≤ (⟨2, ![2304, n]⟩ : Shape).size a) (x : (⟨2, ![h, m]⟩ : Shape).Idx) (y : (⟨2, ![2304, n]⟩ : Shape).Idx)
    (e0 : (y 0).val = off 0 + (x 0).val) (e1 : (y 1).val = off 1 + (x 1).val) :
    u.readAt Val (Rect.unit (s := ⟨2, ![2304, n]⟩) off (⟨2, ![h, m]⟩ : Shape).size hb).toLoadRect g x = u.read Val g y := by
  rw [View.readAt_apply]
  refine congrArg (u.read Val g) ((Rect.unit (s := ⟨2, ![2304, n]⟩) off (⟨2, ![h, m]⟩ : Shape).size hb).emb_eq_of_coords x y fun a => ?_)
  match a with
  | ⟨0, _⟩ => show (y 0).val = off 0 + 1 * (x 0).val; omega
  | ⟨1, _⟩ => show (y 1).val = off 1 + 1 * (x 1).val; omega
end

end Cert.ExpertsIdeal.Tile

end
-- ==== Proof.ExpertsPoint.lean ====
/- One point of the experts' call over the extended reals: the rows of the tile's accumulator grow by the point's
   256 features, and at the tile's last point the rows, weighed, are the results. -/
module

public import proofs.«01_k».proof.Proof.ExpertsBody
public import proofs.«01_k».proof.Proof.ExpertsWords
public import proofs.«01_k».proof.Proof.ExpertsTile

@[expose] public section

set_option maxRecDepth 16384

noncomputable section

namespace Cert.ExpertsIdeal.Tile

open Cert.ExpertsIdeal Cert.ExpertsIdeal.Gen Cert.ExpertsIdeal.Body
open Idealize.ShloMosaic Idealize.ShloMosaic.TcCoe Idealize.ShloMosaic.ValueIdx
open scoped BigOperators

/-! ## Rows that have grown, rows that are written -/

/-- The first `n` rows of `g` are those of `f` with `P` added; the others are those of `f`. -/
def Grown (f g : Vec Ideal S2304x2048 .f32) (n : ℕ) (P : Fin 2304 → Fin 2048 → EReal) : Prop :=
  ∀ r d, g (ix2 r d) = if r.val < n then (f (ix2 r d) + P r d : EReal) else f (ix2 r d)

/-- The first `n` rows of `g` are `Q`. -/
def Shown (g : Vec Ideal S2304x2048 .bf16) (n : ℕ) (Q : Fin 2304 → Fin 2048 → EReal) : Prop :=
  ∀ r d, r.val < n → g (ix2 r d) = Q r d

section
variable {sig' : RefSig} {κ : Kind} {sp : Space}

theorem grow (v : View sig' κ sp S2304x2048 .f32) (f : Vec Ideal S2304x2048 .f32) (g : v.ty.Contents (Elt Ideal)) (P : Fin 2304 → Fin 2048 → EReal)
    {h n : ℕ} {off : Fin 2 → ℕ} (hb : ∀ a, off a + (⟨2, ![h, 2048]⟩ : Shape).size a ≤ S2304x2048.size a) (h0 : off 0 = n) (h1 : off 1 = 0)
    (w : FVec Ideal ⟨2, ![h, 2048]⟩ .f32) (hg : Grown f (v.read (Elt Ideal) g) n P)
    (hw : ∀ (x : Fin h) (r : Fin 2304) (d : Fin 2048), r.val = off 0 + x.val → w (ix2 x d) = (v.read (Elt Ideal) g (ix2 r d) + P r d : EReal)) :
    Grown f (v.read (Elt Ideal) (v.writes (Elt Ideal) g [⟨Rect.unit (s := S2304x2048) off (⟨2, ![h, 2048]⟩ : Shape).size hb, w⟩])) (n + h) P := by
  intro r d
  by_cases hr : off 0 ≤ r.val ∧ r.val < off 0 + h
  · have hx : r.val - off 0 < h := by omega
    rw [read_rows_hit v g hb h1 w [] (ix2 ⟨r.val - off 0, hx⟩ d) (ix2 r d) (by show r.val = off 0 + (r.val - off 0); omega) rfl,
      hw ⟨r.val - off 0, hx⟩ r d (by show r.val = off 0 + (r.val - off 0); omega), hg r d, if_neg (by omega), if_pos (by omega)]
  · rw [read_rows_miss v g hb w [] (ix2 r d) hr, View.writes_nil, hg r d]
    by_cases hn : r.val < n
    · rw [if_pos hn, if_pos (by omega)]
    · rw [if_neg hn, if_neg (by omega)]

theorem shows (v : View sig' κ sp S2304x2048 .bf16) (g : v.ty.Contents (Elt Ideal)) (Q : Fin 2304 → Fin 2048 → EReal)
    {h n : ℕ} {off : Fin 2 → ℕ} (hb : ∀ a, off a + (⟨2, ![h, 2048]⟩ : Shape).size a ≤ S2304x2048.size a) (h0 : off 0 = n) (h1 : off 1 = 0)
    (w : FVec Ideal ⟨2, ![h, 2048]⟩ .bf16) (hg : Shown (v.read (Elt Ideal) g) n Q)
    (hw : ∀ (x : Fin h) (r : Fin 2304) (d : Fin 2048), r.val = off 0 + x.val → w (ix2 x d) = Q r d) :
    Shown (v.read (Elt Ideal) (v.writes (Elt Ideal) g [⟨Rect.unit (s := S2304x2048) off (⟨2, ![h, 2048]⟩ : Shape).size hb, w⟩])) (n + h) Q := by
  intro r d hn
  by_cases hr : off 0 ≤ r.val ∧ r.val < off 0 + h
  · have hx : r.val - off 0 < h := by omega
    rw [read_rows_hit v g hb h1 w [] (ix2 ⟨r.val - off 0, hx⟩ d) (ix2 r d) (by show r.val = off 0 + (r.val - off 0); omega) rfl,
      hw ⟨r.val - off 0, hx⟩ r d (by show r.val = off 0 + (r.val - off 0); omega)]
  · rw [read_rows_miss v g hb w [] (ix2 r d) hr, View.writes_nil]
    exact hg r d (by omega)

theorem zeros4 : (![0, 0, 0, 0] : Fin 4 → ℕ) = fun _ => 0 := by decide

/-- A block of weights read whole. -/
theorem whole_up (v : View sig' κ sp S1x1x2048x256 .f32) (X : v.ty.Contents (Elt Ideal)) :
    v.readAt (Elt Ideal) (Rect.unit (s := S1x1x2048x256) ![0, 0, 0, 0] S1x1x2048x256.size inb_S1x1x2048x256_S1x1x2048x256_0_0_0_0).toLoadRect X = v.read (Elt Ideal) X := by
  rw [View.readAt_eq_ld]; exact View.ld_unit_zero (S := S1x1x2048x256) zeros4 _ _

theorem whole_down (v : View sig' κ sp S1x1x256x2048 .f32) (X : v.ty.Contents (Elt Ideal)) :
    v.readAt (Elt Ideal) (Rect.unit (s := S1x1x256x2048) ![0, 0, 0, 0] S1x1x256x2048.size inb_S1x1x256x2048_S1x1x256x2048_0_0_0_0).toLoadRect X = v.read (Elt Ideal) X := by
  rw [View.readAt_eq_ld]; exact View.ld_unit_zero (S := S1x1x256x2048) zeros4 _ _

end

/-! ## Where the chunks lie -/

theorem trips1 (k : Fin 10) : (k0_t1_loop (word k)).trips = k.val / 4 := by revert k; decide
theorem trips2 (k : Fin 10) : (k0_t2_loop (word k)).trips = 0 := by revert k; decide
theorem trips3 (k : Fin 10) : (k0_t3_loop (word k)).trips = k.val / 4 := by revert k; decide
theorem trips4 (k : Fin 10) : (k0_t4_loop (word k)).trips = 0 := by revert k; decide
theorem off3_at (k : Fin 10) : ∀ t : Fin (k0_t1_loop (word k)).trips, k0_off3 (word k) t 0 = 1024 * t.val ∧ k0_off3 (word k) t 1 = 0 := by revert k; decide
theorem off7_at (k : Fin 10) : ∀ t : Fin (k0_t3_loop (word k)).trips, k0_off7 (word k) t 0 = 1024 * t.val ∧ k0_off7 (word k) t 1 = 0 := by revert k; decide
theorem off8_at (k : Fin 10) : ∀ t : Fin (k0_t3_loop (word k)).trips, k0_off8 (word k) t 0 = 1024 * t.val ∧ k0_off8 (word k) t 1 = 0 := by revert k; decide
theorem cond3_at (k : Fin 10) : k0_cond3 (word k) = 1#1 ↔ 2 ≤ k.val % 4 := by revert k; decide
theorem cond4_at (k : Fin 10) : k0_cond4 (word k) = 1#1 ↔ k.val % 2 = 1 := by revert k; decide
theorem cond6_at (k : Fin 10) : k0_cond6 (word k) = 1#1 ↔ 2 ≤ k.val % 4 := by revert k; decide
theorem cond7_at (k : Fin 10) : k0_cond7 (word k) = 1#1 ↔ k.val % 2 = 1 := by revert k; decide
theorem off5_at (k : Fin 10) : 2 ≤ k.val % 4 → k0_off5 (word k) 0 = 1024 * (k.val / 4) ∧ k0_off5 (word k) 1 = 0 := by revert k; decide
theorem off11_at (k : Fin 10) : 2 ≤ k.val % 4 → k0_off11 (word k) 0 = 1024 * (k.val / 4) ∧ k0_off11 (word k) 1 = 0 := by revert k; decide
theorem off12_at (k : Fin 10) : 2 ≤ k.val % 4 → k0_off12 (word k) 0 = 1024 * (k.val / 4) ∧ k0_off12 (word k) 1 = 0 := by revert k; decide
theorem off6_at (k : Fin 10) : k.val % 2 = 1 → k0_off6 (word k) 0 = 512 * (k.val / 2) ∧ k0_off6 (word k) 1 = 0 := by revert k; decide
theorem off13_at (k : Fin 10) : k.val % 2 = 1 → k0_off13 (word k) 0 = 512 * (k.val / 2) ∧ k0_off13 (word k) 1 = 0 := by revert k; decide
theorem off14_at (k : Fin 10) : k.val % 2 = 1 → k0_off14 (word k) 0 = 512 * (k.val / 2) ∧ k0_off14 (word k) 1 = 0 := by revert k; decide

/-- The tile's last point is the one that writes the results. -/
theorem last_iff (i : grid0.Coords) : k0_cond5 i = 1#1 ↔ (i 1).val = 21 := by
  have key : ∀ j : Fin 22, (Scalar.cmpi .ne (Scalar.extui (Scalar.cmpi .eq (BitVec.ofNat 32 j.val) 21#32) : BitVec 32) 0#32 : BitVec 1) = 1#1 ↔ j.val = 21 := by decide
  exact key (i 1)

/-- The tile's first point is the one that clears the accumulator. -/
theorem first_iff (i : grid0.Coords) : first i ↔ (i 1).val = 0 := by
  have key : ∀ j : Fin 22, (Scalar.cmpi .ne (Scalar.extui (Scalar.cmpi .eq (BitVec.ofNat 32 j.val) 0#32) : BitVec 32) 0#32 : BitVec 1) = 1#1 ↔ j.val = 0 := by decide
  exact key (i 1)

/-! ## The point -/

variable (c : Dev nD) (i : grid0.Coords) (arg2 : Memref sig .tc .smem S15 .i32) (harg2 : arg2.IsWhole) (arg3 : Memref sig .tc .smem S15 .i32) (harg3 : arg3.IsWhole) (arg4 : Memref sig .tc .smem S1 .i32) (harg4 : arg4.IsWhole) (arg5 : Memref sig .tc .vmem S2304x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S2304x128 .f32) (harg9 : arg9.IsWhole) (arg10 : Memref sig .tc .vmem S2304x2048 .bf16) (harg10 : arg10.IsWhole) (arg11 : Memref sig .tc .vmem S2304x2048 .f32) (harg11 : arg11.IsWhole)
  (v0 : Elt Ideal .i32) (h1 : k0_cond1 i v0 = 1#1) (k : Fin 10) (hw : k0_chk1 i v0 (word k))
  (X5 : BufTy.Contents (Elt Ideal) arg5.view.ty) (X6 : BufTy.Contents (Elt Ideal) arg6.view.ty)
  (X7 : BufTy.Contents (Elt Ideal) arg7.view.ty) (X8 : BufTy.Contents (Elt Ideal) arg8.view.ty)
  (X9 : BufTy.Contents (Elt Ideal) arg9.view.ty) (X11 : BufTy.Contents (Elt Ideal) arg11.view.ty)
  (f : BufTy.Contents (Elt Ideal) arg11.view.ty)

/-- What a point adds to row `r` of a tile with rows `x` and blocks of weights `wg`, `wu`, `wd`. -/
def adds (x : Vec Ideal S2304x2048 .bf16) (wg wu : Vec Ideal S1x1x2048x256 .f32) (wd : Vec Ideal S1x1x256x2048 .f32) (r : Fin 2304) (d : Fin 2048) : EReal :=
  share (fun q => (x (ix2 r q) : EReal)) (mat wg) (mat wu) (mat wd) d

/-- The results of a tile with accumulator `a` and weights `w` of its rows. -/
def weighs (a : Vec Ideal S2304x2048 .f32) (w : Vec Ideal S2304x128 .f32) (r : Fin 2304) (d : Fin 2048) : EReal :=
  (a (ix2 r d) : EReal) * w (ix2 r 0)

/-- One chunk's payload adds to the rows it covers. -/
theorem chunk_grows {h : ℕ} {off : Fin 2 → ℕ} (hb : ∀ a, off a + (⟨2, ![h, 2048]⟩ : Shape).size a ≤ S2304x2048.size a) (h1 : off 1 = 0)
    (g : BufTy.Contents (Elt Ideal) arg11.view.ty)
    (pay : Vec Ideal ⟨2, ![h, 2048]⟩ .bf16 → Vec Ideal S1x1x2048x256 .f32 → Vec Ideal S1x1x2048x256 .f32 → Vec Ideal ⟨2, ![h, 2048]⟩ .f32 → Vec Ideal S1x1x256x2048 .f32 → FVec Ideal ⟨2, ![h, 2048]⟩ .f32)
    (hp : ∀ x wg wu a wd (r : Fin h) (d : Fin 2048), pay x wg wu a wd (ix2 r d) = (a (ix2 r d) + share (fun q => x (ix2 r q)) (mat wg) (mat wu) (mat wd) d : EReal))
    (x : Fin h) (r : Fin 2304) (d : Fin 2048) (hr : r.val = off 0 + x.val) :
    pay (arg5.view.readAt (Elt Ideal) (Rect.unit (s := S2304x2048) off (⟨2, ![h, 2048]⟩ : Shape).size hb).toLoadRect X5)
      (arg6.view.readAt (Elt Ideal) (Rect.unit (s := S1x1x2048x256) ![0, 0, 0, 0] S1x1x2048x256.size inb_S1x1x2048x256_S1x1x2048x256_0_0_0_0).toLoadRect X6)
      (arg7.view.readAt (Elt Ideal) (Rect.unit (s := S1x1x2048x256) ![0, 0, 0, 0] S1x1x2048x256.size inb_S1x1x2048x256_S1x1x2048x256_0_0_0_0).toLoadRect X7)
      (arg11.view.readAt (Elt Ideal) (Rect.unit (s := S2304x2048) off (⟨2, ![h, 2048]⟩ : Shape).size hb).toLoadRect g)
      (arg8.view.readAt (Elt Ideal) (Rect.unit (s := S1x1x256x2048) ![0, 0, 0, 0] S1x1x256x2048.size inb_S1x1x256x2048_S1x1x256x2048_0_0_0_0).toLoadRect X8) (ix2 x d)
      = (arg11.view.read (Elt Ideal) g (ix2 r d) + adds (arg5.view.read (Elt Ideal) X5) (arg6.view.read (Elt Ideal) X6) (arg7.view.read (Elt Ideal) X7) (arg8.view.read (Elt Ideal) X8) r d : EReal) := by
  rw [hp, whole_up, whole_up, whole_down]
  have e11 := readAt_rows (u := arg11.view) g hb (ix2 x d) (ix2 r d) hr (by show d.val = off 1 + d.val; omega)
  have e5 : ∀ q : Fin 2048, _ := fun q => readAt_rows (u := arg5.view) X5 hb (ix2 x q) (ix2 r q) hr (by show q.val = off 1 + q.val; omega)
  refine congr (congrArg (fun p q : EReal => p + q) e11) ?_
  exact congrArg (fun z => share z _ _ _ d) (funext e5)

/-- One chunk's payload weighs the rows it covers. -/
theorem chunk_shows {h : ℕ} {off off' : Fin 2 → ℕ} (hb : ∀ a, off a + (⟨2, ![h, 2048]⟩ : Shape).size a ≤ S2304x2048.size a)
    (hb' : ∀ a, off' a + (⟨2, ![h, 1]⟩ : Shape).size a ≤ S2304x128.size a) (h1 : off 1 = 0) (h1' : off' 1 = 0) (h0 : off' 0 = off 0)
    (pay : Vec Ideal ⟨2, ![h, 2048]⟩ .f32 → Vec Ideal ⟨2, ![h, 1]⟩ .f32 → FVec Ideal ⟨2, ![h, 2048]⟩ .bf16)
    (hp : ∀ a w (r : Fin h) (d : Fin 2048), pay a w (ix2 r d) = (a (ix2 r d) * w (ix2 r 0) : EReal))
    (x : Fin h) (r : Fin 2304) (d : Fin 2048) (hr : r.val = off 0 + x.val) :
    pay (arg11.view.readAt (Elt Ideal) (Rect.unit (s := S2304x2048) off (⟨2, ![h, 2048]⟩ : Shape).size hb).toLoadRect X11)
      (arg9.view.readAt (Elt Ideal) (Rect.unit (s := S2304x128) off' (⟨2, ![h, 1]⟩ : Shape).size hb').toLoadRect X9) (ix2 x d)
      = weighs (arg11.view.read (Elt Ideal) X11) (arg9.view.read (Elt Ideal) X9) r d := by
  rw [hp]
  have e11 := readAt_rows (u := arg11.view) X11 hb (ix2 x d) (ix2 r d) hr (by show d.val = off 1 + d.val; omega)
  have e9 := readAt_rows (u := arg9.view) X9 hb' (ix2 x 0) (ix2 r 0) (by show r.val = off' 0 + x.val; omega) (by show 0 = off' 1 + 0; omega)
  exact congr (congrArg (fun p q : EReal => p * q) e11) e9

theorem trip1 (t : Fin (k0_t1_loop (word k)).trips) (g : BufTy.Contents (Elt Ideal) arg11.view.ty) :
    tripL_k0_t1 (F := Ideal) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) v0 h1 (word k) hw X5 X6 X7 X8 t g
      = [⟨Rect.unit (s := S2304x2048) (k0_off3 (word k) t) S1024x2048.size (k0_off3_inb i v0 (word k) hw t h1), k0_pay7
      (arg5.view.readAt (Elt Ideal) (Rect.unit (s := S2304x2048) (k0_off3 (word k) t) S1024x2048.size (k0_off3_inb i v0 (word k) hw t h1)).toLoadRect X5)
      (arg6.view.readAt (Elt Ideal) (Rect.unit (s := S1x1x2048x256) ![0, 0, 0, 0] S1x1x2048x256.size inb_S1x1x2048x256_S1x1x2048x256_0_0_0_0).toLoadRect X6)
      (arg7.view.readAt (Elt Ideal) (Rect.unit (s := S1x1x2048x256) ![0, 0, 0, 0] S1x1x2048x256.size inb_S1x1x2048x256_S1x1x2048x256_0_0_0_0).toLoadRect X7)
      (arg11.view.readAt (Elt Ideal) (Rect.unit (s := S2304x2048) (k0_off3 (word k) t) S1024x2048.size (k0_off3_inb i v0 (word k) hw t h1)).toLoadRect g)
      (arg8.view.readAt (Elt Ideal) (Rect.unit (s := S1x1x256x2048) ![0, 0, 0, 0] S1x1x256x2048.size inb_S1x1x256x2048_S1x1x256x2048_0_0_0_0).toLoadRect X8)⟩] := by
  unfold tripL_k0_t1 trip_k0_t1; rfl

theorem trip3 (h5 : k0_cond5 i = 1#1) (t : Fin (k0_t3_loop (word k)).trips) :
    tripL_k0_t3 (F := Ideal) Variants.none c none i arg2 harg2 arg3 harg3 arg4 harg4 arg5 harg5 arg6 harg6 arg7 harg7 arg8 harg8 arg9 harg9 arg10 harg10 arg11 harg11 v0 h1 (word k) hw h5 X9 X11 t
      = [⟨Rect.unit (s := S2304x2048) (k0_off7 (word k) t) S1024x2048.size (k0_off7_inb i v0 (word k) hw t h1 h5), k0_pay3
      (arg11.view.readAt (Elt Ideal) (Rect.unit (s := S2304x2048) (k0_off7 (word k) t) S1024x2048.size (k0_off7_inb i v0 (word k) hw t h1 h5)).toLoadRect X11)
      (arg9.view.readAt (Elt Ideal) (Rect.unit (s := S2304x128) (k0_off8 (word k) t) S1024x1.size (k0_off8_inb i v0 (word k) hw t h1 h5)).toLoadRect X9)⟩] := by
  unfold tripL_k0_t3 trip_k0_t3; rfl

theorem grown_pb (n : ℕ) (hn : n ≤ (k0_t1_loop (word k)).trips) :
    Grown (arg11.view.read (Elt Ideal) f) (arg11.view.read (Elt Ideal) (arg11.view.writes (Elt Ideal) f (pb_k0_t1 (F := Ideal) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) v0 h1 (word k) hw X5 X6 X7 X8 f n)))
      (1024 * n) (adds (arg5.view.read (Elt Ideal) X5) (arg6.view.read (Elt Ideal) X6) (arg7.view.read (Elt Ideal) X7) (arg8.view.read (Elt Ideal) X8)) := by
  induction n with
  | zero => intro r d; rw [if_neg (by omega)]; rfl
  | succ n ih =>
    have e := pb_k0_t1_succ (F := Ideal) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) v0 h1 (word k) hw X5 X6 X7 X8 f ⟨n, hn⟩
    dsimp only at e
    rw [e, View.writes_append, trip1, Nat.mul_add, Nat.mul_one]
    have o := off3_at k ⟨n, hn⟩
    exact grow arg11.view _ _ _ _ o.1 o.2 _ (ih (Nat.le_of_succ_le hn)) (chunk_grows arg5 arg6 arg7 arg8 arg11 X5 X6 X7 X8 _ o.2 _ _ pay7_apply)

theorem grown_loops : Grown (arg11.view.read (Elt Ideal) f) (arg11.view.read (Elt Ideal) (loops (F := Ideal) c i arg2 harg2 arg3 harg3 arg4 harg4 arg5 harg5 arg6 harg6 arg7 harg7 arg8 harg8 arg9 harg9 arg10 harg10 arg11 harg11 v0 h1 (word k) hw X5 X6 X7 X8 f))
      (1024 * (k.val / 4)) (adds (arg5.view.read (Elt Ideal) X5) (arg6.view.read (Elt Ideal) X6) (arg7.view.read (Elt Ideal) X7) (arg8.view.read (Elt Ideal) X8)) := by
  unfold loops
  rw [trips2, trips1]
  exact grown_pb c i arg2 harg2 arg3 harg3 arg4 harg4 arg5 harg5 arg6 harg6 arg7 harg7 arg8 harg8 arg9 harg9 arg10 harg10 arg11 harg11 v0 h1 k hw X5 X6 X7 X8 f (k.val / 4) (trips1 k).ge

theorem grown_half (g : BufTy.Contents (Elt Ideal) arg11.view.ty) (b : Vec Ideal S2304x2048 .f32)
    (hg : Grown b (arg11.view.read (Elt Ideal) g) (1024 * (k.val / 4)) (adds (arg5.view.read (Elt Ideal) X5) (arg6.view.read (Elt Ideal) X6) (arg7.view.read (Elt Ideal) X7) (arg8.view.read (Elt Ideal) X8))) :
    Grown b (arg11.view.read (Elt Ideal) (half (F := Ideal) c i arg2 harg2 arg3 harg3 arg4 harg4 arg5 harg5 arg6 harg6 arg7 harg7 arg8 harg8 arg9 harg9 arg10 harg10 arg11 harg11 v0 h1 (word k) hw X5 X6 X7 X8 g)) (512 * (k.val / 2))
      (adds (arg5.view.read (Elt Ideal) X5) (arg6.view.read (Elt Ideal) X6) (arg7.view.read (Elt Ideal) X7) (arg8.view.read (Elt Ideal) X8)) := by
  unfold half
  split
  · rename_i h3
    have hk := (cond3_at k).mp h3
    have o := off5_at k hk
    rw [show 512 * (k.val / 2) = 1024 * (k.val / 4) + 512 by omega]
    exact grow arg11.view b g _ (k0_off5_inb i v0 (word k) hw h1 h3) o.1 o.2 _ hg (chunk_grows arg5 arg6 arg7 arg8 arg11 X5 X6 X7 X8 _ o.2 _ _ pay9_apply)
  · rename_i h3
    have hk : ¬ 2 ≤ k.val % 4 := fun h => h3 ((cond3_at k).mpr h)
    rwa [show 1024 * (k.val / 4) = 512 * (k.val / 2) by omega] at hg

theorem grown_quarter (g : BufTy.Contents (Elt Ideal) arg11.view.ty) (b : Vec Ideal S2304x2048 .f32)
    (hg : Grown b (arg11.view.read (Elt Ideal) g) (512 * (k.val / 2)) (adds (arg5.view.read (Elt Ideal) X5) (arg6.view.read (Elt Ideal) X6) (arg7.view.read (Elt Ideal) X7) (arg8.view.read (Elt Ideal) X8))) :
    Grown b (arg11.view.read (Elt Ideal) (quarter (F := Ideal) c i arg2 harg2 arg3 harg3 arg4 harg4 arg5 harg5 arg6 harg6 arg7 harg7 arg8 harg8 arg9 harg9 arg10 harg10 arg11 harg11 v0 h1 (word k) hw X5 X6 X7 X8 g)) (256 * k.val)
      (adds (arg5.view.read (Elt Ideal) X5) (arg6.view.read (Elt Ideal) X6) (arg7.view.read (Elt Ideal) X7) (arg8.view.read (Elt Ideal) X8)) := by
  unfold quarter
  split
  · rename_i h3
    have hk := (cond4_at k).mp h3
    have o := off6_at k hk
    rw [show 256 * k.val = 512 * (k.val / 2) + 256 by omega]
    exact grow arg11.view b g _ (k0_off6_inb i v0 (word k) hw h1 h3) o.1 o.2 _ hg (chunk_grows arg5 arg6 arg7 arg8 arg11 X5 X6 X7 X8 _ o.2 _ _ pay1_apply)
  · rename_i h3
    have hk : ¬ k.val % 2 = 1 := fun h => h3 ((cond4_at k).mpr h)
    rwa [show 512 * (k.val / 2) = 256 * k.val by omega] at hg

/-- What the accumulator starts a point from: zero at the tile's first point. -/
theorem start_read (y : S2304x2048.Idx) : arg11.view.read (Elt Ideal) (start (F := Ideal) i arg11 f) y = if (i 1).val = 0 then (0 : EReal) else arg11.view.read (Elt Ideal) f y := by
  unfold start
  by_cases h : first i
  · rw [if_pos h, if_pos ((first_iff i).mp h), ← pay6_apply y]
    exact read_rows_hit (Val := Elt Ideal) (e := .f32) arg11.view _ inb_S2304x2048_S2304x2048_0_0 rfl (k0_pay6 (F := Ideal)) [] y y (Nat.zero_add _).symm rfl
  · rw [if_neg h, if_neg fun e => h ((first_iff i).mpr e)]

/-- The accumulator after a point, row by row. -/
theorem acc_read (r : Fin 2304) (d : Fin 2048) (hr : r.val < 256 * k.val) :
    arg11.view.read (Elt Ideal) (acc (F := Ideal) c i arg2 harg2 arg3 harg3 arg4 harg4 arg5 harg5 arg6 harg6 arg7 harg7 arg8 harg8 arg9 harg9 arg10 harg10 arg11 harg11 v0 h1 (word k) hw X5 X6 X7 X8 f) (ix2 r d)
      = ((if (i 1).val = 0 then 0 else arg11.view.read (Elt Ideal) f (ix2 r d) : EReal)
          + adds (arg5.view.read (Elt Ideal) X5) (arg6.view.read (Elt Ideal) X6) (arg7.view.read (Elt Ideal) X7) (arg8.view.read (Elt Ideal) X8) r d : EReal) := by
  have := grown_quarter c i arg2 harg2 arg3 harg3 arg4 harg4 arg5 harg5 arg6 harg6 arg7 harg7 arg8 harg8 arg9 harg9 arg10 harg10 arg11 harg11 v0 h1 k hw X5 X6 X7 X8 _ _ (grown_half c i arg2 harg2 arg3 harg3 arg4 harg4 arg5 harg5 arg6 harg6 arg7 harg7 arg8 harg8 arg9 harg9 arg10 harg10 arg11 harg11 v0 h1 k hw X5 X6 X7 X8 _ _ (grown_loops c i arg2 harg2 arg3 harg3 arg4 harg4 arg5 harg5 arg6 harg6 arg7 harg7 arg8 harg8 arg9 harg9 arg10 harg10 arg11 harg11 v0 h1 k hw X5 X6 X7 X8 (start i arg11 f))) r d
  rw [if_pos hr, start_read] at this
  exact this

theorem shown_pb (h5 : k0_cond5 i = 1#1) (g : BufTy.Contents (Elt Ideal) arg10.view.ty) (n : ℕ) (hn : n ≤ (k0_t3_loop (word k)).trips) :
    Shown (arg10.view.read (Elt Ideal) (arg10.view.writes (Elt Ideal) g (pb_k0_t3 (F := Ideal) Variants.none c none i arg2 harg2 arg3 harg3 arg4 harg4 arg5 harg5 arg6 harg6 arg7 harg7 arg8 harg8 arg9 harg9 arg10 harg10 arg11 harg11 v0 h1 (word k) hw h5 X9 X11 n)))
      (1024 * n) (weighs (arg11.view.read (Elt Ideal) X11) (arg9.view.read (Elt Ideal) X9)) := by
  induction n with
  | zero => intro r d h; exact absurd h (by omega)
  | succ n ih =>
    have e := pb_k0_t3_succ (F := Ideal) Variants.none c none i arg2 harg2 arg3 harg3 arg4 harg4 arg5 harg5 arg6 harg6 arg7 harg7 arg8 harg8 arg9 harg9 arg10 harg10 arg11 harg11 v0 h1 (word k) hw h5 X9 X11 ⟨n, hn⟩
    dsimp only at e
    rw [e, View.writes_append, trip3, Nat.mul_add, Nat.mul_one]
    have o := off7_at k ⟨n, hn⟩
    have o' := off8_at k ⟨n, hn⟩
    exact shows arg10.view _ _ _ o.1 o.2 _ (ih (Nat.le_of_succ_le hn)) (chunk_shows arg9 arg11 X9 X11 _ _ o.2 o'.2 (o'.1.trans o.1.symm) _ pay3_apply)

theorem shown_half (h5 : k0_cond5 i = 1#1) (g : BufTy.Contents (Elt Ideal) arg10.view.ty)
    (hg : Shown (arg10.view.read (Elt Ideal) g) (1024 * (k.val / 4)) (weighs (arg11.view.read (Elt Ideal) X11) (arg9.view.read (Elt Ideal) X9))) :
    Shown (arg10.view.read (Elt Ideal) (emitHalf (F := Ideal) c i arg2 harg2 arg3 harg3 arg4 harg4 arg5 harg5 arg6 harg6 arg7 harg7 arg8 harg8 arg9 harg9 arg10 harg10 arg11 harg11 v0 h1 (word k) hw h5 X9 X11 g)) (512 * (k.val / 2)) (weighs (arg11.view.read (Elt Ideal) X11) (arg9.view.read (Elt Ideal) X9)) := by
  unfold emitHalf
  split
  · rename_i h3
    have hk := (cond6_at k).mp h3
    have o := off11_at k hk
    have o' := off12_at k hk
    rw [show 512 * (k.val / 2) = 1024 * (k.val / 4) + 512 by omega]
    exact shows arg10.view g _ (k0_off11_inb i v0 (word k) hw h1 h5 h3) o.1 o.2 _ hg (chunk_shows arg9 arg11 X9 X11 _ (k0_off12_inb i v0 (word k) hw h1 h5 h3) o.2 o'.2 (o'.1.trans o.1.symm) _ pay5_apply)
  · rename_i h3
    have hk : ¬ 2 ≤ k.val % 4 := fun h => h3 ((cond6_at k).mpr h)
    rwa [show 1024 * (k.val / 4) = 512 * (k.val / 2) by omega] at hg

theorem shown_quarter (h5 : k0_cond5 i = 1#1) (g : BufTy.Contents (Elt Ideal) arg10.view.ty)
    (hg : Shown (arg10.view.read (Elt Ideal) g) (512 * (k.val / 2)) (weighs (arg11.view.read (Elt Ideal) X11) (arg9.view.read (Elt Ideal) X9))) :
    Shown (arg10.view.read (Elt Ideal) (emitQuarter (F := Ideal) c i arg2 harg2 arg3 harg3 arg4 harg4 arg5 harg5 arg6 harg6 arg7 harg7 arg8 harg8 arg9 harg9 arg10 harg10 arg11 harg11 v0 h1 (word k) hw h5 X9 X11 g)) (256 * k.val) (weighs (arg11.view.read (Elt Ideal) X11) (arg9.view.read (Elt Ideal) X9)) := by
  unfold emitQuarter
  split
  · rename_i h3
    have hk := (cond7_at k).mp h3
    have o := off13_at k hk
    have o' := off14_at k hk
    rw [show 256 * k.val = 512 * (k.val / 2) + 256 by omega]
    exact shows arg10.view g _ (k0_off13_inb i v0 (word k) hw h1 h5 h3) o.1 o.2 _ hg (chunk_shows arg9 arg11 X9 X11 _ (k0_off14_inb i v0 (word k) hw h1 h5 h3) o.2 o'.2 (o'.1.trans o.1.symm) _ pay2_apply)
  · rename_i h3
    have hk : ¬ k.val % 2 = 1 := fun h => h3 ((cond7_at k).mpr h)
    rwa [show 512 * (k.val / 2) = 256 * k.val by omega] at hg

/-- The results a tile's last point leaves, row by row. -/
theorem out_read (hj : (i 1).val = 21) (g : BufTy.Contents (Elt Ideal) arg10.view.ty) :
    Shown (arg10.view.read (Elt Ideal) (out (F := Ideal) c i arg2 harg2 arg3 harg3 arg4 harg4 arg5 harg5 arg6 harg6 arg7 harg7 arg8 harg8 arg9 harg9 arg10 harg10 arg11 harg11 v0 h1 (word k) hw X9 X11 g)) (256 * k.val) (weighs (arg11.view.read (Elt Ideal) X11) (arg9.view.read (Elt Ideal) X9)) := by
  have h5 := (last_iff i).mpr hj
  unfold out
  rw [dif_pos h5]
  refine shown_quarter c i arg2 harg2 arg3 harg3 arg4 harg4 arg5 harg5 arg6 harg6 arg7 harg7 arg8 harg8 arg9 harg9 arg10 harg10 arg11 harg11 v0 h1 k hw X9 X11 h5 _ (shown_half c i arg2 harg2 arg3 harg3 arg4 harg4 arg5 harg5 arg6 harg6 arg7 harg7 arg8 harg8 arg9 harg9 arg10 harg10 arg11 harg11 v0 h1 k hw X9 X11 h5 _ ?_)
  unfold emits
  rw [trips4, trips3]
  exact shown_pb c i arg2 harg2 arg3 harg3 arg4 harg4 arg5 harg5 arg6 harg6 arg7 harg7 arg8 harg8 arg9 harg9 arg10 harg10 arg11 harg11 v0 h1 k hw X9 X11 h5 g (k.val / 4) (trips3 k).ge

theorem toNat_word (k : Fin 10) : (word k).toNat = 256 * k.val := by revert k; decide

/-- The accumulator after a point whose tile has `v5` rows. -/
theorem acc_rows (v5 : BitVec 32) (hv : ∃ k, v5 = word k) (hw : k0_chk1 i v0 v5) (r : Fin 2304) (d : Fin 2048) (hr : r.val < v5.toNat) :
    arg11.view.read (Elt Ideal) (acc (F := Ideal) c i arg2 harg2 arg3 harg3 arg4 harg4 arg5 harg5 arg6 harg6 arg7 harg7 arg8 harg8 arg9 harg9 arg10 harg10 arg11 harg11 v0 h1 v5 hw X5 X6 X7 X8 f) (ix2 r d)
      = ((if (i 1).val = 0 then 0 else arg11.view.read (Elt Ideal) f (ix2 r d) : EReal)
          + adds (arg5.view.read (Elt Ideal) X5) (arg6.view.read (Elt Ideal) X6) (arg7.view.read (Elt Ideal) X7) (arg8.view.read (Elt Ideal) X8) r d : EReal) := by
  obtain ⟨k, rfl⟩ := hv
  rw [toNat_word] at hr
  exact acc_read c i arg2 harg2 arg3 harg3 arg4 harg4 arg5 harg5 arg6 harg6 arg7 harg7 arg8 harg8 arg9 harg9 arg10 harg10 arg11 harg11 v0 h1 k hw X5 X6 X7 X8 f r d hr

/-- The results after the last point of a tile with `v5` rows. -/
theorem out_rows (v5 : BitVec 32) (hv : ∃ k, v5 = word k) (hw : k0_chk1 i v0 v5) (hj : (i 1).val = 21) (g : BufTy.Contents (Elt Ideal) arg10.view.ty) (r : Fin 2304) (d : Fin 2048) (hr : r.val < v5.toNat) :
    arg10.view.read (Elt Ideal) (out (F := Ideal) c i arg2 harg2 arg3 harg3 arg4 harg4 arg5 harg5 arg6 harg6 arg7 harg7 arg8 harg8 arg9 harg9 arg10 harg10 arg11 harg11 v0 h1 v5 hw X9 X11 g) (ix2 r d)
      = weighs (arg11.view.read (Elt Ideal) X11) (arg9.view.read (Elt Ideal) X9) r d := by
  obtain ⟨k, rfl⟩ := hv
  rw [toNat_word] at hr
  exact out_read c i arg2 harg2 arg3 harg3 arg4 harg4 arg5 harg5 arg6 harg6 arg7 harg7 arg8 harg8 arg9 harg9 arg10 harg10 arg11 harg11 v0 h1 k hw X9 X11 hj g r d hr

end Cert.ExpertsIdeal.Tile

end
-- ==== Proof.ExpertsFrame.lean ====
/- The experts' call runs on every launch its precondition admits, and its arguments end unchanged. -/
module

public import proofs.«01_k».proof.Proof.ExpertsWords

@[expose] public section

noncomputable section

namespace Cert.ExpertsIdeal.Body

open Idealize.ShloMosaic Idealize.ShloMosaic.TcCoe
open Cert.ExpertsIdeal Cert.ExpertsIdeal.Gen
open Idealize.SL.Sem
open Idealize.ShloMosaic.Pipeline (Dat RDat)

variable {F : FTy → Type} [FloatOps F]
variable (m : (ℓ : Loc nD τ sig) → Buf (Elt F) ℓ) (ρ : Dev nD → PrngReg)

/-- Every argument of a core holds what it was launched with. -/
def Kept (r : PUnit × MemSt nD τ sig (Elt F)) (c : Dev nD) : Prop :=
  r.2.mem (c.tc.loc main_arg0) = m (c.tc.loc main_arg0) ∧ r.2.mem (c.tc.loc main_arg1) = m (c.tc.loc main_arg1)
  ∧ r.2.mem (c.tc.loc main_arg2) = m (c.tc.loc main_arg2) ∧ r.2.mem (c.tc.loc main_arg3) = m (c.tc.loc main_arg3)
  ∧ r.2.mem (c.tc.loc main_arg4) = m (c.tc.loc main_arg4) ∧ r.2.mem (c.tc.loc main_arg5) = m (c.tc.loc main_arg5)
  ∧ r.2.mem (c.tc.loc main_arg6) = m (c.tc.loc main_arg6) ∧ r.2.mem (c.tc.loc main_arg7) = m (c.tc.loc main_arg7)

variable {m}
variable {hO : ok0 (F := F) (tbl m)} {Acc : ℕ → Vec F S2304x2048 .f32 → Prop}
  {Out : Fin (cfgM m hO).N → Vec F S2304x2048 .bf16 → Prop}

set_option backward.isDefEq.respectTransparency.types false in
theorem kept {r : PUnit × MemSt nD τ sig (Elt F)} (h : Post (m := m) (hO := hO) (Acc := Acc) (Out := Out) r) (c : Dev nD) : Kept m r c :=
  ⟨RDat.FramePost.arr_in h c 0 rfl, (h c).2 main_arg1 (by decide : main_arg1 ∈ Pipeline.restRefs sig spec0), (h c).2 main_arg2 (by decide : main_arg2 ∈ Pipeline.restRefs sig spec0), (h c).2 main_arg3 (by decide : main_arg3 ∈ Pipeline.restRefs sig spec0),
    RDat.FramePost.arr_in h c 1 rfl, RDat.FramePost.arr_in h c 2 rfl, RDat.FramePost.arr_in h c 3 rfl, RDat.FramePost.arr_in h c 4 rfl⟩

/-- With nothing claimed of the values, every step of the body is a step. -/
theorem steps_any (h : Planned.Of m) : Steps m (ok_of m h) (fun _ _ => True) (fun _ _ => True) :=
  ⟨chk_of m h, fun _ => trivial, fun _ _ _ _ _ _ _ _ _ _ _ _ _ _ _ _ _ => ⟨trivial, trivial⟩, fun _ _ _ _ _ _ => ⟨trivial, trivial⟩⟩

theorem frame (h : Planned.Of m) : θ_run defs (onTc (τ := τ) (main (F := F))) ⟨m, fun _ => 0, ρ⟩
    (fun r => (∀ c : Dev nD, Kept m r c) ∧ r.2.sem = fun _ => 0) :=
  (θ_run defs _ _).mono (fun _ hr => ⟨fun c => kept hr.1 c, hr.2⟩) (run_main ρ (steps_any h))

end Cert.ExpertsIdeal.Body

end
-- ==== Proof.ExpertsBlocks.lean ====
/- The experts' call point by point over the extended reals: the numbers it computes, and which blocks the
   windows read. -/
module

public import proofs.«01_k».proof.Proof.ExpertsPoint
public import proofs.«01_k».proof.Proof.ExpertsFrame
public import Idealize.ShloMosaic.Lib.Pipeline.Value

@[expose] public section

set_option maxRecDepth 16384

noncomputable section

namespace Cert.ExpertsIdeal.Tile

open Cert.ExpertsIdeal Cert.ExpertsIdeal.Gen Cert.ExpertsIdeal.Body
open Idealize.ShloMosaic Idealize.ShloMosaic.TcCoe Idealize.ShloMosaic.ValueIdx
open Idealize.SL.Sem
open Idealize.ShloMosaic.Pipeline (Dat RDat)
open scoped BigOperators

/-! ## The numbers -/

/-- Row `r` of tile `s`, among all the slots. -/
def slot (s : Fin 15) (r : Fin 2304) : Fin 34560 := ⟨2304 * s.val + r.val, by omega⟩
/-- Feature `f` of feature tile `j`, among all the features. -/
def column (j : Fin 22) (f : Fin 256) : Fin 5632 := ⟨256 * j.val + f.val, by omega⟩

/-- What one feature tile of expert `e` adds to a slot's output. -/
def part (hs : FVec Ideal S34560x2048 .bf16) (wg wu : FVec Ideal S1x8x2048x5632 .f32) (wd : FVec Ideal S1x8x5632x2048 .f32)
    (e : Fin 8) (p : Fin 34560) (d : Fin 2048) (j : Fin 22) : EReal :=
  share (fun q => hs (ix2 p q)) (fun q f => wg (ix4 0 e q (column j f))) (fun q f => wu (ix4 0 e q (column j f)))
    (fun f c => wd (ix4 0 e (column j f) c)) d

/-- What the first `n` feature tiles add. -/
def parts (hs : FVec Ideal S34560x2048 .bf16) (wg wu : FVec Ideal S1x8x2048x5632 .f32) (wd : FVec Ideal S1x8x5632x2048 .f32)
    (e : Fin 8) (p : Fin 34560) (d : Fin 2048) (n : ℕ) : EReal :=
  ∑ j ∈ Finset.range n, if h : j < 22 then part hs wg wu wd e p d ⟨j, h⟩ else 0

theorem parts_zero (hs wg wu wd e p d) : parts hs wg wu wd e p d 0 = 0 := rfl

theorem parts_succ (hs wg wu wd e p d) (n : ℕ) (h : n < 22) :
    parts hs wg wu wd e p d (n + 1) = parts hs wg wu wd e p d n + part hs wg wu wd e p d ⟨n, h⟩ := by
  unfold parts
  rw [Finset.sum_range_succ, dif_pos h]

/-- All the feature tiles together are all the features. -/
theorem parts_all (hs wg wu wd e p d) : parts hs wg wu wd e p d 22
    = share (fun q => hs (ix2 p q)) (fun q (f : Fin 5632) => wg (ix4 0 e q f)) (fun q f => wu (ix4 0 e q f)) (fun f c => wd (ix4 0 e f c)) d := by
  unfold parts
  rw [Finset.sum_range]
  refine (Finset.sum_congr rfl fun j _ => dif_pos j.isLt).trans ?_
  unfold part share
  rw [← Fintype.sum_prod_type']
  refine Fintype.sum_equiv (finProdFinEquiv (m := 22) (n := 256)) _ _ fun x => ?_
  have e : column x.1 x.2 = (finProdFinEquiv x : Fin (22 * 256)) := Fin.ext (Nat.add_comm _ _)
  exact congrArg (fun f : Fin 5632 => feature (fun q => hs (ix2 p q)) (fun q (f : Fin 5632) => wg (ix4 0 _ q f)) (fun q f => wu (ix4 0 _ q f)) f * wd (ix4 0 _ f d)) e

theorem words_in {a a' b b' : ℕ} (ha : a = a') (hb : b = b') : (![0, a, 0, b] : Fin 4 → ℕ) = ![0, a', 0, b'] := by rw [ha, hb]
theorem words_out {a a' b b' : ℕ} (ha : a = a') (hb : b = b') : (![0, a, b, 0] : Fin 4 → ℕ) = ![0, a', b', 0] := by rw [ha, hb]

variable (m : (ℓ : Loc nD τ sig) → Buf (Elt Ideal) ℓ)

/-- The expert of a tile. -/
def owner (s : Fin 15) : Fin 8 := ⟨(expertOf m s).toNat % 8, Nat.mod_lt _ (by decide)⟩

/-- A tile's sums over its first `n` feature tiles. -/
def sums (c : Dev nD) (s : Fin 15) (n : ℕ) (r : Fin 2304) (d : Fin 2048) : EReal :=
  parts (m (c.tc.loc main_arg0)) (m (c.tc.loc main_arg4)) (m (c.tc.loc main_arg5)) (m (c.tc.loc main_arg6)) (owner m s) (slot s r) d n

/-- A slot's result: its sum over all the features, weighed. -/
def result (c : Dev nD) (s : Fin 15) (r : Fin 2304) (d : Fin 2048) : EReal :=
  sums m c s 22 r d * (m (c.tc.loc main_arg7) : FVec Ideal S34560x128 .f32) (ix2 (slot s r) 0)

/-- The accumulator holds tile `s`'s sums over its first `n` feature tiles, in the tile's rows. -/
def Sums (s : Fin 15) (n : ℕ) (v : Vec Ideal S2304x2048 .f32) : Prop :=
  ∀ (c : Dev nD) (r : Fin 2304) (d : Fin 2048), r.val < (rowsOf m s).toNat → v (ix2 r d) = sums m c s n r d

/-- The block holds tile `s`'s results, in the tile's rows. -/
def Results (s : Fin 15) (Y : Vec Ideal S2304x2048 .bf16) : Prop :=
  ∀ (c : Dev nD) (r : Fin 2304) (d : Fin 2048), r.val < (rowsOf m s).toNat → Y (ix2 r d) = result m c s r d

/-! ## The points -/

theorem coords_at : ∀ t : Fin grid0.N, (grid0.coords t 0).val = t.val / 22 ∧ (grid0.coords t 1).val = t.val % 22 := by decide +kernel

variable (P : Planned (expertOf m) (rowsOf m) (usedOf m)) (hO : ok0 (F := Ideal) (tbl m))
include P

theorem used_iff (i : grid0.Coords) : k0_cond1 i (used m) = 1#1 ↔ (i 0).val < (usedOf m).toNat := by
  have key : ∀ b : Bool, (Scalar.cmpi .ne (Scalar.extui (BitVec.ofBool b) : BitVec 32) 0#32 : BitVec 1) = 1#1 ↔ b = true := by decide
  rw [used_eq]
  show (Scalar.cmpi .ne (Scalar.extui (Scalar.cmpi .slt (BitVec.ofNat 32 (i 0).val) (usedOf m)) : BitVec 32) 0#32 : BitVec 1) = 1#1 ↔ _
  rw [slt_val (i 0) _ P.lo P.hi, key, decide_eq_true_eq]

theorem owner_val (s : Fin 15) : (owner m s).val = (expertOf m s).toNat := Nat.mod_eq_of_lt (P.expert s)

theorem tile_lt (s : Fin 15) : tile (usedOf m).toNat s.val < 15 := by
  have := Nat.min_le_left s.val ((usedOf m).toNat - 1)
  unfold tile; omega

/-- The block of rows at a point. -/
theorem rows_at (c : Dev nD) (t : Fin (cfgM m hO).N) (r : Fin 2304) (q : Fin 2048) :
    (iblk m hO c 0 t : Vec Ideal S2304x2048 .bf16) (ix2 r q)
      = m (c.tc.loc main_arg0) (ix2 (slot ⟨tile (usedOf m).toNat (grid0.coords t 0).val, tile_lt m P _⟩ r) q) := by
  have e := map0 m P (grid0.coords t)
  unfold iblk
  refine (View.read_apply _ _).trans ?_
  show V m c main_arg0 _ = _
  show m _ _ = m _ _
  congr 1
  funext a
  apply Fin.ext
  match a with
  | ⟨0, _⟩ => show cc0_transform_0 inb_S1_S1_0 numel1_S1 (tbl m) (grid0.coords t) 0 * 2304 + 1 * r.val = _; rw [e]; show tile _ _ * 2304 + 1 * r.val = 2304 * tile _ _ + r.val; omega
  | ⟨1, _⟩ => show cc0_transform_0 inb_S1_S1_0 numel1_S1 (tbl m) (grid0.coords t) 1 * 2048 + 1 * q.val = q.val; rw [e]; show 0 * 2048 + 1 * q.val = q.val; omega

/-- The block of the slots' weights at a point. -/
theorem scales_at (c : Dev nD) (t : Fin (cfgM m hO).N) (r : Fin 2304) (q : Fin 128) :
    (iblk m hO c 4 t : Vec Ideal S2304x128 .f32) (ix2 r q)
      = m (c.tc.loc main_arg7) (ix2 (slot ⟨tile (usedOf m).toNat (grid0.coords t 0).val, tile_lt m P _⟩ r) q) := by
  have e := map4 m P (grid0.coords t)
  unfold iblk
  refine (View.read_apply _ _).trans ?_
  show V m c main_arg7 _ = _
  show m _ _ = m _ _
  congr 1
  funext a
  apply Fin.ext
  match a with
  | ⟨0, _⟩ => show cc0_transform_4 inb_S1_S1_0 numel1_S1 (tbl m) (grid0.coords t) 0 * 2304 + 1 * r.val = _; rw [e]; show tile _ _ * 2304 + 1 * r.val = 2304 * tile _ _ + r.val; omega
  | ⟨1, _⟩ => show cc0_transform_4 inb_S1_S1_0 numel1_S1 (tbl m) (grid0.coords t) 1 * 128 + 1 * q.val = q.val; rw [e]; show 0 * 128 + 1 * q.val = q.val; omega

theorem gates_at (c : Dev nD) (t : Fin (cfgM m hO).N) (hs : (grid0.coords t 0).val < (usedOf m).toNat) (q : Fin 2048) (f : Fin 256) :
    mat (iblk m hO c 1 t : Vec Ideal S1x1x2048x256 .f32) q f
      = (m (c.tc.loc main_arg4) : FVec Ideal S1x8x2048x5632 .f32) (ix4 0 (owner m (grid0.coords t 0)) q (column (grid0.coords t 1) f)) := by
  have e := (map1 m P (grid0.coords t)).trans (words_in (owner_val m P (grid0.coords t 0)).symm (if_pos hs))
  unfold mat iblk
  refine (View.read_apply _ _).trans ?_
  show V m c main_arg4 _ = _
  show m _ _ = m _ _
  congr 1
  funext a
  apply Fin.ext
  match a with
  | ⟨0, _⟩ => show cc0_transform_1 k0_off1_inb numel1_S1 inb_S1_S1_0 (tbl m) (grid0.coords t) 0 * 1 + 1 * 0 = 0; rw [e]; rfl
  | ⟨1, _⟩ => show cc0_transform_1 k0_off1_inb numel1_S1 inb_S1_S1_0 (tbl m) (grid0.coords t) 1 * 1 + 1 * 0 = (owner m (grid0.coords t 0)).val; rw [e]; show (owner m _).val * 1 + 1 * 0 = _; omega
  | ⟨2, _⟩ => show cc0_transform_1 k0_off1_inb numel1_S1 inb_S1_S1_0 (tbl m) (grid0.coords t) 2 * 2048 + 1 * q.val = q.val; rw [e]; show 0 * 2048 + 1 * q.val = q.val; omega
  | ⟨3, _⟩ => show cc0_transform_1 k0_off1_inb numel1_S1 inb_S1_S1_0 (tbl m) (grid0.coords t) 3 * 256 + 1 * f.val = _; rw [e]; show (grid0.coords t 1).val * 256 + 1 * f.val = 256 * (grid0.coords t 1).val + f.val; omega

theorem ups_at (c : Dev nD) (t : Fin (cfgM m hO).N) (hs : (grid0.coords t 0).val < (usedOf m).toNat) (q : Fin 2048) (f : Fin 256) :
    mat (iblk m hO c 2 t : Vec Ideal S1x1x2048x256 .f32) q f
      = (m (c.tc.loc main_arg5) : FVec Ideal S1x8x2048x5632 .f32) (ix4 0 (owner m (grid0.coords t 0)) q (column (grid0.coords t 1) f)) := by
  have e := (map2 m P (grid0.coords t)).trans (words_in (owner_val m P (grid0.coords t 0)).symm (if_pos hs))
  unfold mat iblk
  refine (View.read_apply _ _).trans ?_
  show V m c main_arg5 _ = _
  show m _ _ = m _ _
  congr 1
  funext a
  apply Fin.ext
  match a with
  | ⟨0, _⟩ => show cc0_transform_2 k0_off1_inb numel1_S1 inb_S1_S1_0 (tbl m) (grid0.coords t) 0 * 1 + 1 * 0 = 0; rw [e]; rfl
  | ⟨1, _⟩ => show cc0_transform_2 k0_off1_inb numel1_S1 inb_S1_S1_0 (tbl m) (grid0.coords t) 1 * 1 + 1 * 0 = (owner m (grid0.coords t 0)).val; rw [e]; show (owner m _).val * 1 + 1 * 0 = _; omega
  | ⟨2, _⟩ => show cc0_transform_2 k0_off1_inb numel1_S1 inb_S1_S1_0 (tbl m) (grid0.coords t) 2 * 2048 + 1 * q.val = q.val; rw [e]; show 0 * 2048 + 1 * q.val = q.val; omega
  | ⟨3, _⟩ => show cc0_transform_2 k0_off1_inb numel1_S1 inb_S1_S1_0 (tbl m) (grid0.coords t) 3 * 256 + 1 * f.val = _; rw [e]; show (grid0.coords t 1).val * 256 + 1 * f.val = 256 * (grid0.coords t 1).val + f.val; omega

theorem downs_at (c : Dev nD) (t : Fin (cfgM m hO).N) (hs : (grid0.coords t 0).val < (usedOf m).toNat) (f : Fin 256) (d : Fin 2048) :
    mat (iblk m hO c 3 t : Vec Ideal S1x1x256x2048 .f32) f d
      = (m (c.tc.loc main_arg6) : FVec Ideal S1x8x5632x2048 .f32) (ix4 0 (owner m (grid0.coords t 0)) (column (grid0.coords t 1) f) d) := by
  have e := (map3 m P (grid0.coords t)).trans (words_out (owner_val m P (grid0.coords t 0)).symm (if_pos hs))
  unfold mat iblk
  refine (View.read_apply _ _).trans ?_
  show V m c main_arg6 _ = _
  show m _ _ = m _ _
  congr 1
  funext a
  apply Fin.ext
  match a with
  | ⟨0, _⟩ => show cc0_transform_3 k0_off1_inb numel1_S1 inb_S1_S1_0 (tbl m) (grid0.coords t) 0 * 1 + 1 * 0 = 0; rw [e]; rfl
  | ⟨1, _⟩ => show cc0_transform_3 k0_off1_inb numel1_S1 inb_S1_S1_0 (tbl m) (grid0.coords t) 1 * 1 + 1 * 0 = (owner m (grid0.coords t 0)).val; rw [e]; show (owner m _).val * 1 + 1 * 0 = _; omega
  | ⟨2, _⟩ => show cc0_transform_3 k0_off1_inb numel1_S1 inb_S1_S1_0 (tbl m) (grid0.coords t) 2 * 256 + 1 * f.val = _; rw [e]; show (grid0.coords t 1).val * 256 + 1 * f.val = 256 * (grid0.coords t 1).val + f.val; omega
  | ⟨3, _⟩ => show cc0_transform_3 k0_off1_inb numel1_S1 inb_S1_S1_0 (tbl m) (grid0.coords t) 3 * 2048 + 1 * d.val = d.val; rw [e]; show 0 * 2048 + 1 * d.val = d.val; omega

theorem own_tile (t : Fin (cfgM m hO).N) (hs : (grid0.coords t 0).val < (usedOf m).toNat) :
    (⟨tile (usedOf m).toNat (grid0.coords t 0).val, tile_lt m P _⟩ : Fin 15) = grid0.coords t 0 :=
  Fin.ext (Nat.min_eq_left (by omega))

/-- What a point in use adds is its feature tile's part. -/
theorem adds_at (c : Dev nD) (t : Fin (cfgM m hO).N) (hs : (grid0.coords t 0).val < (usedOf m).toNat) (r : Fin 2304) (d : Fin 2048) :
    adds (iblk m hO c 0 t) (iblk m hO c 1 t) (iblk m hO c 2 t) (iblk m hO c 3 t) r d
      = part (m (c.tc.loc main_arg0)) (m (c.tc.loc main_arg4)) (m (c.tc.loc main_arg5)) (m (c.tc.loc main_arg6)) (owner m (grid0.coords t 0))
          (slot (grid0.coords t 0) r) d (grid0.coords t 1) := by
  unfold adds part
  rw [show (fun q => ((iblk m hO c 0 t : Vec Ideal S2304x2048 .bf16) (ix2 r q) : EReal)) = fun q => (m (c.tc.loc main_arg0) : FVec Ideal S34560x2048 .bf16) (ix2 (slot (grid0.coords t 0) r) q) from
    funext fun q => (rows_at m P hO c t r q).trans (by rw [own_tile m P hO t hs])]
  exact share_congr _ (gates_at m P hO c t hs) (ups_at m P hO c t hs) (downs_at m P hO c t hs) d

end Cert.ExpertsIdeal.Tile

end
-- ==== Proof.ExpertsSteps.lean ====
/- The experts' call point by point over the extended reals: what the accumulator and the block of results hold after each
   point, and the array the call leaves. -/
module

public import proofs.«01_k».proof.Proof.ExpertsBlocks

@[expose] public section

set_option maxRecDepth 16384

noncomputable section

namespace Cert.ExpertsIdeal.Tile

open Cert.ExpertsIdeal Cert.ExpertsIdeal.Gen Cert.ExpertsIdeal.Body
open Idealize.ShloMosaic Idealize.ShloMosaic.TcCoe Idealize.ShloMosaic.ValueIdx
open Idealize.SL.Sem
open Idealize.ShloMosaic.Pipeline (Dat RDat Window)
open scoped BigOperators

variable (m : (ℓ : Loc nD τ sig) → Buf (Elt Ideal) ℓ)
variable (P : Planned (expertOf m) (rowsOf m) (usedOf m)) (hO : ok0 (F := Ideal) (tbl m))

/-- What the accumulator holds before point `n`: inside a tile in use, the tile's sums so far. -/
def Acc (n : ℕ) (v : Vec Ideal S2304x2048 .f32) : Prop :=
  n % 22 ≠ 0 → ∀ s : Fin 15, s.val = n / 22 → s.val < (usedOf m).toNat → Sums m s (n % 22) v

/-- What the block of results holds after a point: from a tile's last point on, and past the tiles in use, the results. -/
def Out (t : Fin (cfgM m hO).N) (Y : Vec Ideal S2304x2048 .bf16) : Prop :=
  ∀ s : Fin 15, s.val = tile (usedOf m).toNat (t.val / 22) → (t.val / 22 < (usedOf m).toNat → t.val % 22 = 21) → Results m s Y

omit m P hO in
theorem adds_congr {x x' wg wg' wu wu' wd wd'} (h0 : x = x') (h1 : wg = wg') (h2 : wu = wu') (h3 : wd = wd') (r : Fin 2304) (d : Fin 2048) :
    adds x wg wu wd r d = adds x' wg' wu' wd' r d := by subst h0; subst h1; subst h2; subst h3; rfl

include P

theorem place (t : Fin (cfgM m hO).N) : ((cfgM m hO).win 5).index t = ![tile (usedOf m).toNat (t.val / 22), 0] :=
  (map5 m P (grid0.coords t)).trans (by rw [(coords_at t).1])

/-- The block of results is written back at the last point, and where the next point's block is another one. -/
theorem flush_iff (t : Fin (cfgM m hO).N) :
    ((cfgM m hO).win 5).flush t = true ↔ t.val + 1 = 330 ∨ (t.val + 1 < 330 ∧ tile (usedOf m).toNat ((t.val + 1) / 22) ≠ tile (usedOf m).toNat (t.val / 22)) := by
  have hN : (cfgM m hO).grid.N = 330 := N_0
  have hout : ((cfgM m hO).win 5).isOut = true := rfl
  unfold Window.flush
  rw [hout, Bool.true_and, Bool.or_eq_true, decide_eq_true_eq, decide_eq_true_eq]
  refine or_congr ⟨fun h => h.trans hN, fun h => h.trans hN.symm⟩ ⟨?_, ?_⟩
  · rintro ⟨h, hne⟩
    refine ⟨Nat.lt_of_lt_of_eq h hN, fun e => hne ?_⟩
    rw [place m P hO ⟨t.val + 1, h⟩, place m P hO t, e]
  · rintro ⟨h, hne⟩
    have h' : t.val + 1 < (cfgM m hO).grid.N := Nat.lt_of_lt_of_eq h hN.symm
    refine ⟨h', fun e => hne ?_⟩
    rw [place m P hO ⟨t.val + 1, h'⟩, place m P hO t] at e
    exact congrFun e 0

theorem has_rows (i : grid0.Coords) : ∃ k, rowsAt m i = word k := by
  obtain ⟨k, hk⟩ := P.rows (i 0)
  exact ⟨k, (rowsAt_eq m i).trans hk⟩

theorem steps (hchk : ∀ i : grid0.Coords, k0_chk1 i (used m) (rowsAt m i)) : Steps m hO (Acc m) (Out m hO) where
  chk := hchk
  init := fun v h => absurd rfl h
  run := by
    intro c t h1 X5 X6 X7 X8 X9 f g e5 e6 e7 e8 e9 hA hB
    obtain ⟨hc0, hc1⟩ := coords_at t
    have hs : (grid0.coords t 0).val < (usedOf m).toNat := (used_iff m P _).mp h1
    have hj : (grid0.coords t 1).val < 22 := (grid0.coords t 1).isLt
    have hacc := fun (r : Fin 2304) (d : Fin 2048) (hr : r.val < (rowsAt m (grid0.coords t)).toNat) =>
      acc_rows c (grid0.coords t) tbM0_0 htbM0_0 tbM0_1 htbM0_1 tbM0_2 htbM0_2 (st0_0 m hO t) (hst0_0 m hO t) (st0_1 m hO t) (hst0_1 m hO t) (st0_2 m hO t) (hst0_2 m hO t) (st0_3 m hO t) (hst0_3 m hO t) (st0_4 m hO t) (hst0_4 m hO t) (st0_5 m hO t) (hst0_5 m hO t) scM0_0 hscM0_0 (used m) h1 X5 X6 X7 X8 f (rowsAt m (grid0.coords t)) (has_rows m P _) (hchk _) r d hr
    have hout := fun (hl : (grid0.coords t 1).val = 21) X11 (r : Fin 2304) (d : Fin 2048) (hr : r.val < (rowsAt m (grid0.coords t)).toNat) =>
      out_rows c (grid0.coords t) tbM0_0 htbM0_0 tbM0_1 htbM0_1 tbM0_2 htbM0_2 (st0_0 m hO t) (hst0_0 m hO t) (st0_1 m hO t) (hst0_1 m hO t) (st0_2 m hO t) (hst0_2 m hO t) (st0_3 m hO t) (hst0_3 m hO t) (st0_4 m hO t) (hst0_4 m hO t) (st0_5 m hO t) (hst0_5 m hO t) scM0_0 hscM0_0 (used m) h1 X9 X11 (rowsAt m (grid0.coords t)) (has_rows m P _) (hchk _) hl g r d hr
    have hsum : Sums m (grid0.coords t 0) (t.val % 22 + 1) (scM0_0.view.read (Elt Ideal) (acc c (grid0.coords t) tbM0_0 htbM0_0 tbM0_1 htbM0_1 tbM0_2 htbM0_2 (st0_0 m hO t) (hst0_0 m hO t) (st0_1 m hO t) (hst0_1 m hO t) (st0_2 m hO t) (hst0_2 m hO t) (st0_3 m hO t) (hst0_3 m hO t) (st0_4 m hO t) (hst0_4 m hO t) (st0_5 m hO t) (hst0_5 m hO t) scM0_0 hscM0_0 (used m) h1 (rowsAt m (grid0.coords t)) (hchk _) X5 X6 X7 X8 f)) := by
      intro c' r d hr
      obtain rfl : c' = c := Subsingleton.elim _ _
      refine (hacc r d (by rw [rowsAt_eq]; exact hr)).trans ?_
      refine (congrArg (fun z : EReal => _ + z) ((adds_congr e5 e6 e7 e8 r d).trans (adds_at m P hO c' t hs r d))).trans ?_
      unfold sums
      rw [parts_succ _ _ _ _ _ _ _ _ (by omega : t.val % 22 < 22)]
      have hcol : grid0.coords t 1 = (⟨t.val % 22, by omega⟩ : Fin 22) := Fin.ext hc1
      rw [hcol]
      refine congrArg (fun z : EReal => z + _) ?_
      by_cases h0 : t.val % 22 = 0
      · rw [if_pos h0, h0, parts_zero]
      · rw [if_neg h0]
        exact hA h0 (grid0.coords t 0) hc0 hs c' r d hr
    refine ⟨fun hne s hs' hlt => ?_, fun s hs' hl => ?_⟩
    · have es : s = grid0.coords t 0 := Fin.ext (by rw [hc0]; omega)
      have en : (t.val + 1) % 22 = t.val % 22 + 1 := by omega
      rw [es, en]; exact hsum
    · have hn : t.val / 22 < (usedOf m).toNat := by rw [← hc0]; exact hs
      have h21 := hl hn
      have es : s = grid0.coords t 0 := Fin.ext (by rw [hs', hc0]; exact Nat.min_eq_left (by omega))
      subst es
      intro c' r d hr
      obtain rfl : c' = c := Subsingleton.elim _ _
      refine (hout (by rw [hc1]; exact h21) _ r d (by rw [rowsAt_eq]; exact hr)).trans ?_
      unfold weighs result
      rw [hsum c' r d hr, h21]
      refine congrArg (fun z : EReal => sums m c' (grid0.coords t 0) 22 r d * z) ((congrFun e9 (ix2 r 0)).trans ((scales_at m P hO c' t r 0).trans ?_))
      rw [own_tile m P hO t hs]
  skip := by
    intro t h1 v Y hA hB
    obtain ⟨hc0, hc1⟩ := coords_at t
    have hN : (cfgM m hO).grid.N = 330 := N_0
    have ht : t.val < 330 := hN ▸ t.isLt
    have hs : ¬ t.val / 22 < (usedOf m).toNat := fun h => h1 ((used_iff m P _).mpr (by rw [hc0]; exact h))
    have hlo := P.lo
    refine ⟨fun hne s hs' hlt => absurd hlt (by omega), fun s hs' _ => ?_⟩
    have hp : tile (usedOf m).toNat ((t.val - 1) / 22) = tile (usedOf m).toNat (t.val / 22) := by unfold tile; omega
    rcases hB with h0 | ⟨ht', hf | ho⟩
    · omega
    · rcases (flush_iff m P hO _).mp hf with h | ⟨-, h⟩
      · have h : t.val - 1 + 1 = 330 := h
        omega
      · exact absurd (by show tile _ ((t.val - 1 + 1) / 22) = tile _ ((t.val - 1) / 22); rw [hp, show t.val - 1 + 1 = t.val by omega]) h
    · exact ho s (hs'.trans hp.symm) (fun h => by have h : (t.val - 1) / 22 < (usedOf m).toNat := h; show (t.val - 1) % 22 = 21; omega)

omit P in
/-- Where an entry of the block of results lies in the array. -/
theorem lies (t : Fin (cfgM m hO).N) (P : Planned (expertOf m) (rowsOf m) (usedOf m)) (y : S2304x2048.Idx) (i : S34560x2048.Idx)
    (h : (((cfgM m hO).win 5).blk t).view.emb y = i) : (i 0).val = 2304 * tile (usedOf m).toNat (t.val / 22) + (y 0).val ∧ (i 1).val = (y 1).val := by
  have e := map5 m P (grid0.coords t)
  rw [(coords_at t).1] at e
  refine ⟨?_, ?_⟩
  · rw [← h]
    show cc0_transform_5 inb_S1_S1_0 numel1_S1 (tbl m) (grid0.coords t) 0 * 2304 + 1 * (y 0).val = _
    rw [e]; show tile _ _ * 2304 + 1 * (y 0).val = _; omega
  · rw [← h]
    show cc0_transform_5 inb_S1_S1_0 numel1_S1 (tbl m) (grid0.coords t) 1 * 2048 + 1 * (y 1).val = _
    rw [e]; show 0 * 2048 + 1 * (y 1).val = _; omega

omit P in
theorem covered (t : Fin (cfgM m hO).N) (P : Planned (expertOf m) (rowsOf m) (usedOf m)) (s : Fin 15) (p : Fin 2304) (d : Fin 2048) (h : s.val = tile (usedOf m).toNat (t.val / 22)) :
    ix2 (slot s p) d ∈ (((cfgM m hO).win 5).blk t).view.set := by
  have e : (((cfgM m hO).win 5).blk t).view.emb (ix2 p d : S2304x2048.Idx) = ix2 (slot s p) d := by
    obtain ⟨h0, h1⟩ := lies m hO t P (ix2 p d) _ rfl
    funext a; apply Fin.ext
    match a with
    | ⟨0, _⟩ => exact h0.trans (by rw [← h]; rfl)
    | ⟨1, _⟩ => exact h1
  rw [← e]
  exact View.emb_mem_set _ _

variable {m hO}

/-- The array the call leaves: in the rows of the tiles in use, the slots' results. -/
theorem array {r : PUnit × MemSt nD τ sig (Elt Ideal)} (h : Post (m := m) (hO := hO) (Acc := Acc m) (Out := Out m hO) r) (c : Dev nD)
    (s : Fin 15) (hs : s.val < (usedOf m).toNat) (p : Fin 2304) (d : Fin 2048) (hp : p.val < (rowsOf m s).toNat) :
    (r.2.mem (c.tc.loc main_v0) : FVec Ideal S34560x2048 .bf16) (ix2 (slot s p) d) = result m c s p d := by
  obtain ⟨after, hL, hA⟩ := RDat.FramePost.exists_exact h c
  have hN : (cfgM m hO).grid.N = 330 := N_0
  have hlo := P.lo
  have hhi := P.hi
  refine (congrFun (hA 5) (ix2 (slot s p) d)).trans ?_
  have key := Dat.arrAt_forall_of_flushed (((dat m hO (Acc m) c).toRRel (marked m hO) (rel m hO (Out m hO))).withAfter after) 5
    (fun i v => ∀ (s : Fin 15) (p : Fin 2304) (d : Fin 2048), (i : S34560x2048.Idx) = ix2 (slot s p) d → s.val < (usedOf m).toNat → p.val < (rowsOf m s).toNat → (v : EReal) = result m c s p d)
    (fun t hf (y : S2304x2048.Idx) s p d hi hs hp => by
      obtain ⟨h0, h1⟩ := lies m hO t P y _ hi
      have hy : (y 0).val < 2304 := (y 0).isLt
      have h0 : 2304 * s.val + p.val = 2304 * tile (usedOf m).toNat (t.val / 22) + (y 0).val := h0
      have h1 : d.val = (y 1).val := h1
      have es : s.val = tile (usedOf m).toNat (t.val / 22) := by omega
      have ho : Out m hO t (after 5 t) := Dat.toRRel_leaves (Rl := rel m hO (Out m hO)) (fgt := marked m hO) (w := 5) (dat m hO (Acc m) c) rfl (hL 5 t hf)
      have ht : t.val < 330 := hN ▸ t.isLt
      have hl : t.val / 22 < (usedOf m).toNat → t.val % 22 = 21 := fun hlt => by
        rcases (flush_iff m P hO t).mp hf with h | ⟨-, h⟩
        · omega
        · unfold tile at h; omega
      have ey : y = ix2 p d := by
        funext a; apply Fin.ext
        match a with
        | ⟨0, _⟩ => show (y 0).val = p.val; omega
        | ⟨1, _⟩ => exact h1.symm
      refine (cast_eq _ _).trans ?_
      refine Eq.trans ?_ (ho s es hl c p d hp)
      exact congrArg (after 5 t : S2304x2048.Idx → EReal) ey) (cfgM m hO).N
  have hs15 := s.isLt
  obtain ⟨t, hf, et⟩ : ∃ t : Fin (cfgM m hO).N, ((cfgM m hO).win 5).flush t = true ∧ s.val = tile (usedOf m).toNat (t.val / 22) := by
    by_cases hl : s.val + 1 < (usedOf m).toNat
    · refine ⟨⟨22 * s.val + 21, Nat.lt_of_lt_of_eq (by omega : _ < 330) hN.symm⟩, (flush_iff m P hO _).mpr (.inr ⟨by show 22 * s.val + 21 + 1 < 330; omega, ?_⟩), ?_⟩
      · show tile _ ((22 * s.val + 21 + 1) / 22) ≠ tile _ ((22 * s.val + 21) / 22)
        unfold tile; omega
      · show s.val = tile _ ((22 * s.val + 21) / 22)
        unfold tile; omega
    · refine ⟨⟨329, Nat.lt_of_lt_of_eq (by omega : _ < 330) hN.symm⟩, (flush_iff m P hO _).mpr (.inl rfl), ?_⟩
      show s.val = tile _ (329 / 22)
      unfold tile; omega
  exact key t _ t.isLt hf (covered m hO t P s p d et) s p d rfl hs hp

end Cert.ExpertsIdeal.Tile

end
-- ==== Proof.ExpertsReference.lean ====
/- What the reference of the experts leaves in its result array: entry by entry, the output of the slot's own expert
   times the slot's weight. The reference runs all eight experts over every slot and adds each with the slot's weight
   where the expert owns the slot and zero elsewhere; over the extended reals zero times anything is zero, so the sum of
   eight is the one term of the owner. -/
module

public import proofs.«01_k».proof.Proof.Gen.RefExpertsIdeal.Run
public import proofs.«01_k».proof.Proof.ExpertsTile
public import Idealize.ShloMosaic.Lib.StackMember
public import Idealize.ShloMosaic.Lib.IdealHost
public import Idealize.ShloMosaic.Lib.Pipeline.Value

@[expose] public section

set_option maxRecDepth 16384

noncomputable section

namespace Cert.RefExpertsIdeal.Entry

open Cert.RefExpertsIdeal Cert.RefExpertsIdeal.Gen Cert.RefExpertsIdeal.Value
open Cert.ExpertsIdeal.Tile (share drop_units feature)
open Idealize.ShloMosaic Idealize.ShloMosaic.TcCoe Idealize.ShloMosaic.ValueIdx
open Idealize.SL.Sem
open scoped BigOperators

/-- One expert's matrix, out of the eight. -/
theorem member {a b : ℕ} (k : ℕ) (hk : k < 8) (w : FVec Ideal ⟨4, ![1, 8, a, b]⟩ .f32)
    (hs : (⟨4, ![1, 8, a, b]⟩ : Shape).Slices ![0, k, 0, 0] ⟨4, ![1, 1, a, b]⟩) (hc) (i : Fin a) (j : Fin b) :
    shapeCast ⟨2, ![a, b]⟩ (extractStridedSlice ⟨4, ![1, 1, a, b]⟩ ![0, k, 0, 0] w hs) hc (ix2 i j) = w (ix4 0 ⟨k, hk⟩ i j) :=
  (drop_units _ hc i j).trans (extractStridedSlice_apply _ w hs _ _ fun ax => by
    match ax with
    | ⟨0, _⟩ => rfl
    | ⟨1, _⟩ => rfl
    | ⟨2, _⟩ => exact (Nat.zero_add _).symm
    | ⟨3, _⟩ => exact (Nat.zero_add _).symm)

/-- The gated features of the rows of `x`, multiplied by the down-projection. -/
theorem gated {M K N D : ℕ} (x : FVec Ideal ⟨2, ![M, K]⟩ .f32) (wg wu : FVec Ideal ⟨2, ![K, N]⟩ .f32) (wd : FVec Ideal ⟨2, ![N, D]⟩ .f32)
    (one : FVec Ideal ⟨2, ![M, N]⟩ .f32) (h1 : ∀ i, one i = (1 : EReal)) (r : Fin M) (d : Fin D) :
    Host.dotGeneral (DotDims.plain M N D) none
        (mulf (mulf (Host.dotGeneral (DotDims.plain M K N) none x wg)
          (Host.divf one (addf one (Host.exp (Host.negf (Host.dotGeneral (DotDims.plain M K N) none x wg))))))
          (Host.dotGeneral (DotDims.plain M K N) none x wu)) wd (ix2 r d)
      = share (fun k => x (ix2 r k)) (fun k f => wg (ix2 k f)) (fun k f => wu (ix2 k f)) (fun f c => wd (ix2 f c)) d := by
  refine (StackMember.dotGeneral_plain_apply none _ wd r d).trans (Finset.sum_congr rfl fun f _ => ?_)
  refine congrArg (fun z : EReal => z * wd (ix2 f d)) ?_
  rw [ValueIdx.mulf_apply, ValueIdx.mulf_apply]
  unfold feature
  rw [← StackMember.dotGeneral_plain_apply none x wg r f, ← StackMember.dotGeneral_plain_apply none x wu r f]
  refine congrArg (fun z : EReal => _ * z * _) ?_
  show Ideal.div (one _) (one _ + Ideal.exp (-_)) = _
  rw [h1]
  rfl

variable (V0 : Valuation τ sig (Elt Ideal))

/-- The arguments as arrays of numbers. -/
abbrev rows : FVec Ideal S34560x2048 .bf16 := V0 (Proc.devRef .tc main_arg0)
abbrev gates : FVec Ideal S1x8x2048x5632 .f32 := V0 (Proc.devRef .tc main_arg4)
abbrev ups : FVec Ideal S1x8x2048x5632 .f32 := V0 (Proc.devRef .tc main_arg5)
abbrev downs : FVec Ideal S1x8x5632x2048 .f32 := V0 (Proc.devRef .tc main_arg6)
abbrev scales : FVec Ideal S34560x128 .f32 := V0 (Proc.devRef .tc main_arg7)
abbrev owners : IVec S34560x1 32 := res_main_v3 V0

/-- What expert `k` adds to the result. -/
def term (k : ℕ) (hg : S1x8x2048x5632.Slices ![0, k, 0, 0] S1x1x2048x5632) (hd : S1x8x5632x2048.Slices ![0, k, 0, 0] S1x1x5632x2048) :
    FVec Ideal S34560x2048 .f32 :=
  mulf (broadcastInDim S34560x2048 ![0, 1] bcast_S34560x1_S34560x2048_0_1
      (select (cmpi .eq (res_main_v3 V0) (broadcastInDim S34560x1 ![] bcast_S_S34560x1 (constantI S_ 32 (BitVec.ofNat 32 k))))
        (extractStridedSlice S34560x1 ![0, 0] (scales V0) slices_S34560x128_S34560x1_0_0)
        (broadcastInDim S34560x1 ![] bcast_S_S34560x1 (id (constant S_ .f32 0x00000000#32)))))
    (Host.dotGeneral dot_S34560x5632_S5632x2048_S34560x2048_1_0_0_1_n_n none
      (mulf (mulf (Host.dotGeneral dot_S34560x2048_S2048x5632_S34560x5632_1_0_0_1_n_n none (extf .f32 (rows V0) bitsLt_bf16_f32)
            (shapeCast _ (extractStridedSlice S1x1x2048x5632 ![0, k, 0, 0] (gates V0) hg) shapeCasts_S1x1x2048x5632_S2048x5632))
          (Host.divf (broadcastInDim S34560x5632 ![] bcast_S_S34560x5632 (constant S_ .f32 0x3F800000#32))
            (addf (broadcastInDim S34560x5632 ![] bcast_S_S34560x5632 (constant S_ .f32 0x3F800000#32))
              (Host.exp (Host.negf (Host.dotGeneral dot_S34560x2048_S2048x5632_S34560x5632_1_0_0_1_n_n none (extf .f32 (rows V0) bitsLt_bf16_f32)
                (shapeCast _ (extractStridedSlice S1x1x2048x5632 ![0, k, 0, 0] (gates V0) hg) shapeCasts_S1x1x2048x5632_S2048x5632)))))))
        (Host.dotGeneral dot_S34560x2048_S2048x5632_S34560x5632_1_0_0_1_n_n none (extf .f32 (rows V0) bitsLt_bf16_f32)
          (shapeCast _ (extractStridedSlice S1x1x2048x5632 ![0, k, 0, 0] (ups V0) hg) shapeCasts_S1x1x2048x5632_S2048x5632)))
      (shapeCast _ (extractStridedSlice S1x1x5632x2048 ![0, k, 0, 0] (downs V0) hd) shapeCasts_S1x1x5632x2048_S5632x2048))

/-- The result is the zero array with the eight experts' terms added in turn. -/
theorem eight : res_main_v148 V0 = addf (addf (addf (addf (addf (addf (addf (addf
      (broadcastInDim S34560x2048 ![] bcast_S_S34560x2048 (constant S_ .f32 0x00000000#32))
      (term V0 0 slices_S1x8x2048x5632_S1x1x2048x5632_0_0_0_0 slices_S1x8x5632x2048_S1x1x5632x2048_0_0_0_0))
      (term V0 1 slices_S1x8x2048x5632_S1x1x2048x5632_0_1_0_0 slices_S1x8x5632x2048_S1x1x5632x2048_0_1_0_0))
      (term V0 2 slices_S1x8x2048x5632_S1x1x2048x5632_0_2_0_0 slices_S1x8x5632x2048_S1x1x5632x2048_0_2_0_0))
      (term V0 3 slices_S1x8x2048x5632_S1x1x2048x5632_0_3_0_0 slices_S1x8x5632x2048_S1x1x5632x2048_0_3_0_0))
      (term V0 4 slices_S1x8x2048x5632_S1x1x2048x5632_0_4_0_0 slices_S1x8x5632x2048_S1x1x5632x2048_0_4_0_0))
      (term V0 5 slices_S1x8x2048x5632_S1x1x2048x5632_0_5_0_0 slices_S1x8x5632x2048_S1x1x5632x2048_0_5_0_0))
      (term V0 6 slices_S1x8x2048x5632_S1x1x2048x5632_0_6_0_0 slices_S1x8x5632x2048_S1x1x5632x2048_0_6_0_0))
      (term V0 7 slices_S1x8x2048x5632_S1x1x2048x5632_0_7_0_0 slices_S1x8x5632x2048_S1x1x5632x2048_0_7_0_0) := by
  unfold res_main_v148 res_main_v76 res_main_v7 res_main_v25 res_main_v43 res_main_v61 res_main_v79 res_main_v97 res_main_v115 res_main_v133 res_main_v0
  rfl

/-- The output of expert `k` for slot `p`. -/
def output (k : Fin 8) (p : Fin 34560) (d : Fin 2048) : EReal :=
  share (fun q => rows V0 (ix2 p q)) (fun q (f : Fin 5632) => gates V0 (ix4 0 k q f)) (fun q f => ups V0 (ix4 0 k q f)) (fun f c => downs V0 (ix4 0 k f c)) d

theorem dot_up : dot_S34560x2048_S2048x5632_S34560x5632_1_0_0_1_n_n = DotDims.plain 34560 2048 5632 := rfl
theorem dot_down : dot_S34560x5632_S5632x2048_S34560x2048_1_0_0_1_n_n = DotDims.plain 34560 5632 2048 := rfl

/-- A column read along a row. -/
theorem along {M D : ℕ} (w : FVec Ideal ⟨2, ![M, 1]⟩ .f32) (h) (p : Fin M) (d : Fin D) :
    broadcastInDim ⟨2, ![M, D]⟩ ![0, 1] h w (ix2 p d) = w (ix2 p 0) :=
  broadcastInDim_apply _ h w _ _ fun a => by
    match a with
    | ⟨0, _⟩ =>
      show p.val = if M = 1 then 0 else p.val
      split
      · have := p.isLt; omega
      · rfl
    | ⟨1, _⟩ => rfl

/-- A choice by the equality of two words. -/
theorem choose_eq (a b : BitVec 32) (x y : EReal) : Scalar.select (Scalar.cmpi .eq a b) x y = if a = b then x else y := by
  by_cases h : a = b
  · rw [if_pos h]; subst h; simp [Scalar.select, Scalar.cmpi, IntOp.cmpi]
  · rw [if_neg h]
    show (if BitVec.ofBool (a == b) = 1#1 then x else y) = y
    rw [beq_eq_false_iff_ne.mpr h]; rfl

theorem term_apply (k : ℕ) (hk : k < 8) (hg hd) (p : Fin 34560) (d : Fin 2048) :
    term V0 k hg hd (ix2 p d) = (if owners V0 (ix2 p 0) = BitVec.ofNat 32 k then scales V0 (ix2 p 0) else 0) * output V0 ⟨k, hk⟩ p d := by
  unfold term
  rw [ValueIdx.mulf_apply, along, dot_up, dot_down]
  refine congrArg₂ (fun a b : EReal => a * b) ?_ ?_
  · show Scalar.select (Scalar.cmpi .eq (owners V0 (ix2 p 0)) (BitVec.ofNat 32 k))
      (extractStridedSlice S34560x1 ![0, 0] (scales V0) slices_S34560x128_S34560x1_0_0 (ix2 p 0)) (Scalar.ofBits (F := Ideal) .f32 0x00000000#32) = _
    rw [Cert.Products.zero_word, extractStridedSlice_apply _ (scales V0) _ (ix2 p 0) (ix2 p 0) (fun ax => by
      match ax with
      | ⟨0, _⟩ => exact (Nat.zero_add _).symm
      | ⟨1, _⟩ => rfl)]
    exact choose_eq _ _ _ _
  · refine (gated _ _ _ _ _ (fun i => Ideal.ofBits_one_f32) p d).trans ?_
    unfold output
    exact Cert.ExpertsIdeal.Tile.share_congr _ (fun q f => member k hk _ hg _ q f) (fun q f => member k hk _ hg _ q f) (fun f c => member k hk _ hd _ f c) d

/-- A slot's entry, where expert `k` owns the slot: the slot's weight times the expert's output. -/
theorem entry (p : Fin 34560) (d : Fin 2048) (k : Fin 8) (h : owners V0 (ix2 p 0) = BitVec.ofNat 32 k.val) :
    res_main_v148 V0 (ix2 p d) = scales V0 (ix2 p 0) * output V0 k p d := by
  have t : ∀ (j : ℕ) (hj : j < 8) (hg hd), term V0 j hg hd (ix2 p d) = if j = k.val then scales V0 (ix2 p 0) * output V0 k p d else 0 := by
    intro j hj hg hd
    rw [term_apply V0 j hj hg hd p d, h]
    have hk := k.isLt
    by_cases e : j = k.val
    · subst e; rw [if_pos rfl, if_pos rfl]
    · rw [if_neg e, if_neg (fun w => e ?_), zero_mul]
      have w := congrArg BitVec.toNat w
      simp only [BitVec.toNat_ofNat] at w
      omega
  rw [eight]
  simp only [ValueIdx.addf_apply]
  rw [t 0 (by decide), t 1 (by decide), t 2 (by decide), t 3 (by decide), t 4 (by decide), t 5 (by decide), t 6 (by decide), t 7 (by decide)]
  have z : (broadcastInDim S34560x2048 ![] bcast_S_S34560x2048 (constant (F := Ideal) S_ .f32 0x00000000#32)) (ix2 p d) = (0 : EReal) := Cert.Products.zero_word
  rw [z]
  generalize scales V0 (ix2 p 0) * output V0 k p d = y
  revert k
  intro k _ _
  fin_cases k <;> simp

/-- The index of a table's entry. -/
def at15 (s : Fin 15) : S15.Idx := fun a => ⟨s.val, by match a with | ⟨0, _⟩ => exact s.isLt⟩

/-- Every slot of a tile is owned by the tile's expert. -/
theorem owners_apply (s : Fin 15) (r : Fin 2304) (p : Fin 34560) (hp : p.val = 2304 * s.val + r.val) :
    owners V0 (ix2 p 0) = (V0 (Proc.devRef .tc main_arg1) : IVec S15 32) (at15 s) := by
  unfold owners res_main_v3
  refine (shapeCast_apply _ _ (ix2 p 0) (ix2 s r) ?_).trans ?_
  · rw [Shape.rowMajor_val_two, Shape.rowMajor_val_two]
    show s.val * 2304 + r.val = p.val * 1 + 0
    omega
  refine (broadcastInDim_apply _ _ _ (ix2 s r) (ix2 s 0) fun a => ?_).trans ?_
  · match a with
    | ⟨0, _⟩ => rfl
    | ⟨1, _⟩ => rfl
  exact broadcastInDim_apply _ _ _ (ix2 s 0) (at15 s) fun a => by
    match a with
    | ⟨0, _⟩ => rfl

end Cert.RefExpertsIdeal.Entry

end
-- ==== Proof.ExpertsValue.lean ====
/- The experts' call and their reference agree on every filled slot: what the mask says of an index, and the equation of
   the two results there. -/
module

public import proofs.«01_k».proof.Proof.ExpertsSteps
public import proofs.«01_k».proof.Proof.ExpertsReference
public import proofs.«01_k».proof.Proof.Gen.On_filled

@[expose] public section

set_option maxRecDepth 16384

noncomputable section

namespace Cert.ExpertsIdeal.Tile

open Cert.ExpertsIdeal Cert.ExpertsIdeal.Gen Cert.ExpertsIdeal.Body
open Idealize.ShloMosaic Idealize.ShloMosaic.TcCoe Idealize.ShloMosaic.ValueIdx
open Idealize.SL.Sem
open scoped BigOperators

/-- Two small words compared as signed numbers. -/
theorem slt_small (a : ℕ) (x : BitVec 32) (ha : a < 2 ^ 31) (hx : x.toNat < 2 ^ 31) (h : Scalar.cmpi .slt (BitVec.ofNat 32 a) x = 1#1) : a < x.toNat := by
  have h : BitVec.ofBool ((BitVec.ofNat 32 a).slt x) = 1#1 := h
  have h : (BitVec.ofNat 32 a).slt x = true := by
    revert h; cases (BitVec.ofNat 32 a).slt x <;> simp
  rw [BitVec.slt_eq_decide, decide_eq_true_eq, BitVec.toInt_eq_toNat_cond, BitVec.toInt_eq_toNat_cond, BitVec.toNat_ofNat] at h
  split at h <;> split at h <;> omega

variable (m : (ℓ : Loc nD τ sig) → Buf (Elt Ideal) ℓ)

/-- The mask at a slot: its tile is in use and its row is one of the tile's. -/
theorem filled (P : Planned (expertOf m) (rowsOf m) (usedOf m)) (c : Dev nD) (s : Fin 15) (r : Fin 2304) (d : Fin 2048)
    (h : Cert.On_filled.fn (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (ix2 (slot s r) d) = 1#1) :
    s.val < (usedOf m).toNat ∧ r.val < (rowsOf m s).toNat := by
  obtain rfl : c = 0 := Subsingleton.elim _ _
  unfold Cert.On_filled.fn at h
  dsimp only at h
  rw [shapeCast_apply _ _ (ix2 (slot s r) d) (ix3 s r d) (by
    rw [Shape.rowMajor_val_three, Shape.rowMajor_val_two]
    show (s.val * 2304 + r.val) * 2048 + d.val = (2304 * s.val + r.val) * 2048 + d.val
    omega)] at h
  obtain ⟨h1, h2⟩ := (and_one _ _).mp h
  have hn := P.hi
  obtain ⟨k, hk⟩ := P.rows s
  have hr : (rowsOf m s).toNat = 256 * k.val := by rw [hk, toNat_word]
  have hk' := k.isLt
  refine ⟨slt_small s.val _ (by have := s.isLt; omega) (by omega) ?_, slt_small r.val _ (by have := r.isLt; omega) (by omega) ?_⟩
  · refine Eq.trans (congrArg (Scalar.cmpi .slt (BitVec.ofNat 32 s.val)) ?_) h1
    exact congrArg (tbl m 2) (s1_ext _ _)
  · refine Eq.trans (congrArg (Scalar.cmpi .slt (BitVec.ofNat 32 r.val)) ?_) h2
    refine Eq.symm ((broadcastInDim_apply _ _ _ (ix3 s r d) (ix3 s 0 0) fun a => ?_).trans ?_)
    · match a with
      | ⟨0, _⟩ => rfl
      | ⟨1, _⟩ => rfl
      | ⟨2, _⟩ => rfl
    exact broadcastInDim_apply _ _ _ (ix3 s 0 0) (at15 s) fun a => by
      match a with
      | ⟨0, _⟩ => rfl

/-- A slot's result is the reference's, when the arguments are the same. -/
theorem agrees (P : Planned (expertOf m) (rowsOf m) (usedOf m)) (c : Dev nD)
    (V0 : Valuation Cert.RefExpertsIdeal.τ Cert.RefExpertsIdeal.sig (Elt Ideal))
    (a0 : Cert.RefExpertsIdeal.Entry.rows V0 = m (c.tc.loc main_arg0))
    (a1 : (V0 (Proc.devRef .tc Cert.RefExpertsIdeal.main_arg1) : IVec S15 32) = m (c.tc.loc main_arg1))
    (a4 : Cert.RefExpertsIdeal.Entry.gates V0 = m (c.tc.loc main_arg4))
    (a5 : Cert.RefExpertsIdeal.Entry.ups V0 = m (c.tc.loc main_arg5))
    (a6 : Cert.RefExpertsIdeal.Entry.downs V0 = m (c.tc.loc main_arg6))
    (a7 : Cert.RefExpertsIdeal.Entry.scales V0 = m (c.tc.loc main_arg7)) (s : Fin 15) (r : Fin 2304) (d : Fin 2048) :
    result m c s r d = Cert.RefExpertsIdeal.Value.res_main_v148 V0 (ix2 (slot s r) d) := by
  have ho : Cert.RefExpertsIdeal.Entry.owners V0 (ix2 (slot s r) 0) = BitVec.ofNat 32 (owner m s).val := by
    rw [Cert.RefExpertsIdeal.Entry.owners_apply V0 s r (slot s r) rfl, a1, owner_val m P s, BitVec.ofNat_toNat, BitVec.setWidth_eq]
    obtain rfl : c = 0 := Subsingleton.elim _ _
    rfl
  rw [Cert.RefExpertsIdeal.Entry.entry V0 (slot s r) d (owner m s) ho]
  unfold result sums Cert.RefExpertsIdeal.Entry.output
  rw [parts_all, a0, a4, a5, a6, a7, mul_comm]

end Cert.ExpertsIdeal.Tile

end
-- ==== Proof.CombinePlan.lean ====
/- The integer tables of the combining call: what its precondition says of them, in plain numbers. -/
module

public import Idealize.ShloMosaic.Lib.ReduceAll
public import Idealize.ShloMosaic.Lib.Pointwise.Index
public import proofs.«01_k».proof.Defs
public import proofs.«01_k».proof.Proof.Gen.Pre_paired

@[expose] public section

noncomputable section

namespace Cert.Combining

open Idealize.ShloMosaic Idealize.ShloMosaic.TcCoe
open Cert.Pre_paired (S_ S8 S128 S1x128 S128x1 S128x128 S8x128 S8192 S8192x1 S8192x128)

variable {F : FTy → Type} [FloatOps F]

/-! ## Words -/

theorem ofBool_one (p : Bool) : BitVec.ofBool p = 1#1 ↔ p = true := by cases p <;> decide
theorem and_one (a b : BitVec 1) : a &&& b = 1#1 ↔ a = 1#1 ∧ b = 1#1 := by revert a b; decide
theorem or_one (a b : BitVec 1) : a ||| b = 1#1 ↔ a = 1#1 ∨ b = 1#1 := by revert a b; decide
theorem not_one (a : BitVec 1) : ~~~a = 1#1 ↔ ¬ a = 1#1 := by revert a; decide

theorem small_toInt (x : BitVec 32) (h : x.toNat < 2 ^ 31) : x.toInt = x.toNat := by
  have := BitVec.toInt_eq_toNat_cond x
  split at this <;> omega

theorem slt_small (x y : BitVec 32) (hx : x.toNat < 2 ^ 31) (hy : y.toNat < 2 ^ 31) : x.slt y = true ↔ x.toNat < y.toNat := by
  rw [BitVec.slt_eq_decide, decide_eq_true_eq, small_toInt x hx, small_toInt y hy]; omega

theorem sle_small (x y : BitVec 32) (hx : x.toNat < 2 ^ 31) (hy : y.toNat < 2 ^ 31) : x.sle y = true ↔ x.toNat ≤ y.toNat := by
  rw [BitVec.sle_eq_decide, decide_eq_true_eq, small_toInt x hx, small_toInt y hy]; omega

/-- A word that is, signed, at least zero and below a small bound is below it. -/
theorem below (x y : BitVec 32) (hy : y.toNat < 2 ^ 31) (h0 : (0#32).sle x = true) (h : x.slt y = true) : x.toNat < y.toNat := by
  have hx : x.toNat < 2 ^ 31 := by
    simp only [BitVec.sle_eq_decide, decide_eq_true_eq] at h0
    have := BitVec.toInt_eq_toNat_cond x
    have hlt := x.isLt
    simp at h0; split at this <;> omega
  exact (slt_small x y hx hy).mp h

/-- A word that is, signed, between two small bounds is between them. -/
theorem between (x lo hi : BitVec 32) (hl : lo.toNat < 2 ^ 31) (hh : hi.toNat < 2 ^ 31) (h0 : lo.sle x = true) (h : x.slt hi = true) :
    lo.toNat ≤ x.toNat ∧ x.toNat < hi.toNat := by
  have hx : x.toNat < 2 ^ 31 := by
    simp only [BitVec.sle_eq_decide, decide_eq_true_eq] at h0
    have := BitVec.toInt_eq_toNat_cond x
    have hlt := x.isLt
    rw [small_toInt lo hl] at h0; split at this <;> omega
  exact ⟨(sle_small lo x hl hx).mp h0, (slt_small x hi hx hh).mp h⟩

theorem num (n : ℕ) (h : n < 2 ^ 32) : (BitVec.ofNat 32 n).toNat = n := by
  rw [BitVec.toNat_ofNat]; exact Nat.mod_eq_of_lt h

/-- A fold by `or` that is one started at one or met a one. -/
theorem foldl_or {ι : Type} (f : ι → BitVec 1) : ∀ (l : List ι) (b : BitVec 1), l.foldl (fun r n => IntOp.ori r (f n)) b = 1#1 → b = 1#1 ∨ ∃ n ∈ l, f n = 1#1
  | [], b, h => .inl h
  | a :: l, b, h => by
    rcases foldl_or f l _ h with h | ⟨n, hn, h⟩
    · rcases (or_one b (f a)).mp h with h | h
      · exact .inl h
      · exact .inr ⟨a, List.mem_cons_self .., h⟩
    · exact .inr ⟨n, List.mem_cons_of_mem _ hn, h⟩

/-- Where a reduction by `or` from zero is one, an element of its line is one. -/
theorem reduce_or {s t u : Shape} {axes : List (Fin s.rank)} (x : s.Idx → BitVec 1) (init : u.Idx → BitVec 1) (h : s.ReducesTo axes t) (hu : 0 < u.numel)
    (h0 : init (Shape.Idx.first hu) = 0#1) (j : t.Idx) (e : Host.reduce IntOp.ori x init h hu j = 1#1) : ∃ i, h.drop i = j ∧ x i = 1#1 := by
  rw [Host.reduce_eq_foldl] at e
  rcases foldl_or x _ _ e with e | ⟨i, hi, e⟩
  · rw [h0] at e; exact absurd e (by decide)
  · rw [List.mem_filter] at hi
    exact ⟨i, by simpa using hi.2, e⟩

/-! ## Places -/

def at128 (p : Fin 128) : S128.Idx := fun a => ⟨p.val, by match a with | ⟨0, _⟩ => exact p.isLt⟩

variable {α : Type}

theorem col1 {n k : ℕ} (h) (x : (⟨2, ![n, 1]⟩ : Shape).Idx → α) (p : Fin n) (q : Fin k) :
    broadcastInDim (⟨2, ![n, k]⟩ : Shape) ![0, 1] h x (ix2 p q) = x (ix2 p (0 : Fin 1)) := by
  refine congrArg x (funext fun a => ?_)
  fin_cases a
  · apply Fin.ext
    have := p.isLt
    by_cases hn : n = 1
    · subst hn; show _ = p.val; simp; try omega
    · show (dite (n = 1) _ _ : Fin n).val = p.val
      exact (congrArg Fin.val (dif_neg hn)).trans rfl
  · exact Subsingleton.elim (α := Fin 1) _ _

theorem row1 {n k : ℕ} (h) (x : (⟨2, ![1, k]⟩ : Shape).Idx → α) (p : Fin n) (q : Fin k) :
    broadcastInDim (⟨2, ![n, k]⟩ : Shape) ![0, 1] h x (ix2 p q) = x (ix2 (0 : Fin 1) q) := by
  refine congrArg x (funext fun a => ?_)
  fin_cases a
  · exact Subsingleton.elim (α := Fin 1) _ _
  · apply Fin.ext
    have := q.isLt
    by_cases hn : k = 1
    · subst hn; show _ = q.val; simp; try omega
    · show (dite (k = 1) _ _ : Fin k).val = q.val
      exact (congrArg Fin.val (dif_neg hn)).trans rfl

theorem col1a (d : Fin 2 → Fin S128x128.rank) (hd : d = ![0, 1]) (h) (x : S128x1.Idx → α) (p : Fin 128) (q : Fin 128) : broadcastInDim S128x128 d h x (ix2 p q) = x (ix2 p (0 : Fin 1)) := by subst hd; exact col1 h x p q
theorem col1b (d : Fin 2 → Fin S8192x128.rank) (hd : d = ![0, 1]) (h) (x : S8192x1.Idx → α) (p : Fin 8192) (q : Fin 128) : broadcastInDim S8192x128 d h x (ix2 p q) = x (ix2 p (0 : Fin 1)) := by subst hd; exact col1 h x p q
theorem row1a (d : Fin 2 → Fin S128x128.rank) (hd : d = ![0, 1]) (h) (x : S1x128.Idx → α) (p : Fin 128) (q : Fin 128) : broadcastInDim S128x128 d h x (ix2 p q) = x (ix2 (0 : Fin 1) q) := by subst hd; exact row1 h x p q
theorem row1b (d : Fin 2 → Fin S8192x128.rank) (hd : d = ![0, 1]) (h) (x : S1x128.Idx → α) (p : Fin 8192) (q : Fin 128) : broadcastInDim S8192x128 d h x (ix2 p q) = x (ix2 (0 : Fin 1) q) := by subst hd; exact row1 h x p q
theorem row1c (d : Fin 2 → Fin S8x128.rank) (hd : d = ![0, 1]) (h) (x : S1x128.Idx → α) (p : Fin 8) (q : Fin 128) : broadcastInDim S8x128 d h x (ix2 p q) = x (ix2 (0 : Fin 1) q) := by subst hd; exact row1 h x p q

theorem col0 (d : Fin 1 → Fin S128x1.rank) (hd : d = ![0]) (h) (x : S128.Idx → α) (p : Fin 128) (z : Fin 1) : broadcastInDim S128x1 d h x (ix2 p z) = x (at128 p) := by
  subst hd; exact congrArg x (funext fun a => by fin_cases a; rfl)

theorem row0 (d : Fin 1 → Fin S1x128.rank) (hd : d = ![1]) (h) (x : S128.Idx → α) (z : Fin 1) (q : Fin 128) : broadcastInDim S1x128 d h x (ix2 z q) = x (at128 q) := by
  subst hd; exact congrArg x (funext fun a => by fin_cases a; rfl)

theorem pair_eta {n k : ℕ} (i : (⟨2, ![n, k]⟩ : Shape).Idx) : i = ix2 (i 0 : Fin n) (i 1 : Fin k) := by
  funext a; fin_cases a <;> rfl

def at8 (e : Fin 8) : S8.Idx := fun a => ⟨e.val, by match a with | ⟨0, _⟩ => exact e.isLt⟩
def at8192 (t : Fin 8192) : S8192.Idx := fun a => ⟨t.val, by match a with | ⟨0, _⟩ => exact t.isLt⟩

theorem drop8 (h : S8x128.ReducesTo [1] S8) (e : Fin 8) (i : S8x128.Idx) (hi : h.drop i = at8 e) : (i 0).val = e.val := congrArg (fun j : S8.Idx => (j 0).val) hi
theorem drop8192 (h : S8192x128.ReducesTo [1] S8192) (t : Fin 8192) (i : S8192x128.Idx) (hi : h.drop i = at8192 t) : (i 0).val = t.val := congrArg (fun j : S8192.Idx => (j 0).val) hi

/-! ## The precondition in numbers -/

/-- What the precondition says of the tables and of the slots of the tokens. -/
structure Paired (tile blk first last valid : Fin 128 → BitVec 32) (sa sb : Fin 8192 → BitVec 32) : Prop where
  tile_lt : ∀ p, (tile p).toNat < 8
  blk_lt : ∀ p, (blk p).toNat < 135
  sorted : ∀ p q : Fin 128, q.val ≤ p.val → (tile q).toNat ≤ (tile p).toNat
  starts : ∀ p q : Fin 128, first p = 1#32 → q.val < p.val → tile p ≠ tile q
  goes_on : ∀ p : Fin 128, first p ≠ 1#32 → p.val ≠ 0 ∧ ∀ q : Fin 128, p.val = q.val + 1 → tile p = tile q
  ends : ∀ p q : Fin 128, last p = 1#32 → p.val < q.val → tile p = tile q → valid q ≠ 1#32
  once : ∀ p q : Fin 128, p ≠ q → valid p = 1#32 → valid q = 1#32 → tile p = tile q → blk p ≠ blk q
  closed : ∀ e : Fin 8, ∃ q, (tile q).toNat = e.val ∧ last q = 1#32
  met_a : ∀ t : Fin 8192, ∃ q, (tile q).toNat = t.val / 1024 ∧ valid q = 1#32 ∧ (blk q).toNat * 256 ≤ (sa t).toNat ∧ (sa t).toNat < (blk q).toNat * 256 + 256
  met_b : ∀ t : Fin 8192, ∃ q, (tile q).toNat = t.val / 1024 ∧ valid q = 1#32 ∧ (blk q).toNat * 256 ≤ (sb t).toNat ∧ (sb t).toNat < (blk q).toNat * 256 + 256
  apart : ∀ t, sa t ≠ sb t

instance : Subsingleton S_.Idx := ⟨fun a b => funext fun i => i.elim0⟩

theorem token (t : Fin 8192) : (IntOp.shrsi .host (BitVec.ofNat 32 t.val) 10#32).toNat = t.val / 1024 := by
  have ht := t.isLt
  have h : (BitVec.ofNat 32 t.val).toNat = t.val := num _ (by omega)
  show (if (10#32).toNat < 32 then (BitVec.ofNat 32 t.val).sshiftRight' 10#32 else _).toNat = _
  rw [if_pos (by decide)]
  show ((BitVec.ofNat 32 t.val).sshiftRight 10).toNat = _
  rw [BitVec.sshiftRight_eq_of_msb_false (by rw [BitVec.msb_eq_decide, decide_eq_false_iff_not, h]; omega), BitVec.toNat_ushiftRight, h, Nat.shiftRight_eq_div_pow]

theorem paired (x0 : FVec F Cert.Pre_paired.S34560x2048 .bf16) (sa sb : IVec S8192x1 32) (x3 x4 x5 x6) (tile blk first last valid : IVec S128 32)
    (h : Cert.Pre_paired.fn (F := F) x0 sa sb x3 x4 x5 x6 tile blk first last valid = fun _ => 1#1) :
    Paired (fun p => tile (at128 p)) (fun p => blk (at128 p)) (fun p => first (at128 p)) (fun p => last (at128 p)) (fun p => valid (at128 p))
      (fun t => sa (ix2 t (0 : Fin 1))) (fun t => sb (ix2 t (0 : Fin 1))) := by
  have e := congrFun h (fun a => a.elim0)
  simp only [Cert.Pre_paired.fn, Cert.Pre_paired.fn_part1, Cert.Pre_paired.fn_part2, Cert.Pre_paired.fn_part3, Cert.Pre_paired.fn_part4, Cert.Pre_paired.fn_part5, Cert.Pre_paired.fn_part6, Cert.Pre_paired.fn_part7] at e
  simp only [andi, IntOp.andi, and_one] at e
  obtain ⟨⟨⟨⟨⟨⟨⟨⟨⟨e1, e2⟩, e3⟩, e4⟩, e5⟩, e6⟩, e7⟩, e8⟩, e9⟩, e10⟩ := e
  have a1 := fun p : Fin 128 => Host.reduce_andi_all _ _ _ _ _ e1 (at128 p)
  have a2 := fun p q : Fin 128 => Host.reduce_andi_all _ _ _ _ _ e2 (ix2 p q)
  have a3 := fun p q : Fin 128 => Host.reduce_andi_all _ _ _ _ _ e3 (ix2 p q)
  have a4 := fun p q : Fin 128 => Host.reduce_andi_all _ _ _ _ _ e4 (ix2 p q)
  have a5 := fun p q : Fin 128 => Host.reduce_andi_all _ _ _ _ _ e5 (ix2 p q)
  have a6 := fun p q : Fin 128 => Host.reduce_andi_all _ _ _ _ _ e6 (ix2 p q)
  have a7 := fun e : Fin 8 => reduce_or _ _ _ _ rfl _ (Host.reduce_andi_all _ _ _ _ _ e7 (at8 e))
  have a8 := fun t : Fin 8192 => reduce_or _ _ _ _ rfl _ (Host.reduce_andi_all _ _ _ _ _ e8 (at8192 t))
  have a9 := fun t : Fin 8192 => reduce_or _ _ _ _ rfl _ (Host.reduce_andi_all _ _ _ _ _ e9 (at8192 t))
  have a10 := fun t : Fin 8192 => Host.reduce_andi_all _ _ _ _ _ e10 (ix2 t (0 : Fin 1))
  clear e1 e2 e3 e4 e5 e6 e7 e8 e9 e10
  have k : ∀ (S : Shape) (h) (w : ℕ) (c : BitVec w) (j), broadcastInDim S ![] h (constantI S_ w c) j = c := fun _ _ _ _ _ => rfl
  have k1 : ∀ (h) (j), broadcastInDim S8192x128 ![] h (constantI S_ 32 10#32) j = 10#32 := fun _ _ => rfl
  simp (disch := exact rfl) only [andi, ori, noti, cmpi, IntOp.andi, IntOp.ori, IntOp.cmpi, and_one, or_one, not_one, ofBool_one, col1a, col1b, row1a, row1b, row1c, Host.shrsi, col0, row0, k, iotaInDim, ix2_0, ix2_1, addi, muli, IntOp.addi, IntOp.muli, beq_iff_eq, bne_iff_ne] at a1 a2 a3 a4 a5 a6 a10
  have w : ∀ p : Fin 128, (BitVec.ofNat 32 p.val).toNat = p.val := fun p => num _ (by omega)
  have w31 : ∀ p : Fin 128, (BitVec.ofNat 32 p.val).toNat < 2 ^ 31 := fun p => by rw [w]; omega
  have tl : ∀ p, (tile (at128 p)).toNat < 8 := fun p => below _ 8#32 (by decide) (a1 p).1.1.1 (a1 p).1.1.2
  have bl : ∀ p, (blk (at128 p)).toNat < 135 := fun p => below _ 135#32 (by decide) (a1 p).1.2 (a1 p).2
  have m1 : ∀ q, (blk (at128 q) * 256#32).toNat = (blk (at128 q)).toNat * 256 := fun q => by
    have := bl q; rw [BitVec.toNat_mul]; show _ * 256 % _ = _; omega
  have m2 : ∀ q, (blk (at128 q) * 256#32 + 256#32).toNat = (blk (at128 q)).toNat * 256 + 256 := fun q => by
    have := bl q; rw [BitVec.toNat_add, m1]; show (_ + 256) % _ = _; omega
  refine ⟨tl, bl, ?_, ?_, ?_, ?_, ?_, ?_, ?_, ?_, a10⟩
  · intro p q hqp
    rcases a2 p q with h | h
    · rw [slt_small _ _ (w31 p) (w31 q), w, w] at h; omega
    · exact (sle_small _ _ (by have := tl q; omega) (by have := tl p; omega)).mp h
  · intro p q hf hqp
    rcases a3 p q with (h | h) | h
    · exact absurd hf h
    · rw [sle_small _ _ (w31 p) (w31 q), w, w] at h; omega
    · exact h
  · intro p hf
    have z := fun q => (a4 p q).resolve_left hf
    refine ⟨fun hp => (z 0).1 (by rw [hp]), fun q hq => ?_⟩
    exact (z q).2.resolve_left fun h => h (by apply BitVec.eq_of_toNat_eq; rw [w, BitVec.toNat_add, w, hq]; have := q.isLt; show _ = (_ + 1) % _; omega)
  · intro p q hl hpq ht
    rcases a5 p q with ((h | h) | h) | h
    · exact absurd hl h
    · rw [sle_small _ _ (w31 q) (w31 p), w, w] at h; omega
    · exact absurd ht h
    · exact h
  · intro p q hpq hp hq ht
    rcases a6 p q with (((h | h) | h) | h) | h
    · exact absurd (Fin.ext ((w p).symm.trans ((congrArg BitVec.toNat h).trans (w q)))) hpq
    · exact absurd hp h
    · exact absurd hq h
    · exact absurd ht h
    · exact h
  · intro e
    obtain ⟨i, hi, h⟩ := a7 e
    have hi := drop8 _ e i hi
    obtain ⟨p, q, rfl⟩ : ∃ (p : Fin 8) (q : Fin 128), i = ix2 p q := ⟨i 0, i 1, pair_eta i⟩
    have hi : p.val = _ := hi
    simp (disch := exact rfl) only [andi, ori, noti, cmpi, IntOp.andi, IntOp.ori, IntOp.cmpi, and_one, or_one, not_one, ofBool_one, col1a, col1b, row1a, row1b, row1c, Host.shrsi, col0, row0, k, iotaInDim, ix2_0, ix2_1, addi, muli, IntOp.addi, IntOp.muli, beq_iff_eq, bne_iff_ne] at h
    refine ⟨q, ?_, h.2⟩
    rw [h.1, ← hi]; exact num _ (lt_trans p.isLt (by decide))
  · intro t
    obtain ⟨i, hi, h⟩ := a8 t
    have hi := drop8192 _ t i hi
    obtain ⟨p, q, rfl⟩ : ∃ (p : Fin 8192) (q : Fin 128), i = ix2 p q := ⟨i 0, i 1, pair_eta i⟩
    have hi : p.val = _ := hi
    simp (disch := exact rfl) only [andi, ori, noti, cmpi, IntOp.andi, IntOp.ori, IntOp.cmpi, and_one, or_one, not_one, ofBool_one, col1a, col1b, row1a, row1b, row1c, Host.shrsi, col0, row0, k, iotaInDim, ix2_0, ix2_1, addi, muli, IntOp.addi, IntOp.muli, beq_iff_eq, bne_iff_ne] at h
    have hv := between _ _ _ (by rw [m1]; have := bl q; omega) (by rw [m2]; have := bl q; omega) h.1.2 h.2
    rw [m1, m2] at hv
    have hpt : p = t := Fin.ext hi
    subst hpt
    exact ⟨q, (congrArg BitVec.toNat h.1.1.1).trans (token p), h.1.1.2, hv.1, hv.2⟩
  · intro t
    obtain ⟨i, hi, h⟩ := a9 t
    have hi := drop8192 _ t i hi
    obtain ⟨p, q, rfl⟩ : ∃ (p : Fin 8192) (q : Fin 128), i = ix2 p q := ⟨i 0, i 1, pair_eta i⟩
    have hi : p.val = _ := hi
    simp (disch := exact rfl) only [andi, ori, noti, cmpi, IntOp.andi, IntOp.ori, IntOp.cmpi, and_one, or_one, not_one, ofBool_one, col1a, col1b, row1a, row1b, row1c, Host.shrsi, col0, row0, k, iotaInDim, ix2_0, ix2_1, addi, muli, IntOp.addi, IntOp.muli, beq_iff_eq, bne_iff_ne] at h
    have hv := between _ _ _ (by rw [m1]; have := bl q; omega) (by rw [m2]; have := bl q; omega) h.1.2 h.2
    rw [m1, m2] at hv
    have hpt : p = t := Fin.ext hi
    subst hpt
    exact ⟨q, (congrArg BitVec.toNat h.1.1.1).trans (token p), h.1.1.2, hv.1, hv.2⟩

end Cert.Combining

end
-- ==== Proof.CombineNorm.lean ====
/- The row a token's results are made of: scaled to zero mean and unit variance, times a weight, plus an offset. Both the
   combination kernel and its reference are read as this function of a row. -/
module

public import proofs.«01_k».proof.Proof.Products
public import Idealize.ShloMosaic.Lib.Tactic
public import Idealize.ShloMosaic.Lib.ValueLayout
public import Idealize.ShloMosaic.Lib.ValueIdx
public import Idealize.ShloMosaic.Lib.Pointwise.ElementwiseCore
public import Idealize.ShloMosaic.Lib.Pipeline.Value

@[expose] public section

noncomputable section

namespace Cert.Combining

open Idealize.ShloMosaic Idealize.ShloMosaic.TcCoe Idealize.ShloMosaic.ValueIdx
open scoped BigOperators

/-- The number a word of 32 bits stands for. -/
abbrev lit (b : BitVec 32) : EReal := Scalar.ofBits (F := Ideal) .f32 b

/-- The mean of a row. -/
def mean (z : Fin 2048 → EReal) : EReal := Ideal.div (∑ d, z d) (lit 0x45000000#32)

/-- The row less its mean. -/
def centred (z : Fin 2048 → EReal) (d : Fin 2048) : EReal := z d - mean z

/-- The row scaled to zero mean and unit variance, weighed and offset. -/
def norm (z g b : Fin 2048 → EReal) (d : Fin 2048) : EReal :=
  centred z d * Ideal.rsqrt (mean (fun q => centred z q * centred z q) + lit 0x3727C5AC#32) * g d + b d

/-- The row a token's results are made of. -/
def blend (x g a : Fin 2048 → EReal) (d : Fin 2048) : EReal := lit 0x3FB504F3#32 * x d + g d * a d

/-- A column of one number per row, from a row of numbers. -/
theorem to_column {M : ℕ} {α : Type} (x : (⟨1, ![M]⟩ : Shape).Idx → α) (h : (⟨1, ![M]⟩ : Shape).ShapeCasts ⟨2, ![M, 1]⟩) (r : Fin M) :
    shapeCast ⟨2, ![M, 1]⟩ x h (ix2 r 0) = x (ix1 r) :=
  shapeCast_apply x h _ _ (by
    rw [Shape.rowMajor_val_two, Shape.rowMajor_val_one]
    show r.val = r.val * 1 + 0
    omega)

/-- A column spread over its rows. -/
theorem spread {M : ℕ} {α : Type} (w : (⟨2, ![M, 1]⟩ : Shape).Idx → α) (h : (⟨2, ![M, 1]⟩ : Shape).Broadcasts ⟨2, ![M, 2048]⟩) (r : Fin M) (d : Fin 2048) :
    broadcastTo ⟨2, ![M, 2048]⟩ w h (ix2 r d) = w (ix2 r 0) :=
  broadcastTo_apply w h (ix2 r d) (ix2 r 0) fun ax => by
    match ax with
    | ⟨0, _⟩ =>
      show r.val = if M = 1 then 0 else r.val
      split
      · have := r.isLt; omega
      · rfl
    | ⟨1, _⟩ => rfl

/-- A row repeated over the rows of a block. -/
theorem repeated {M : ℕ} {α : Type} (w : (⟨2, ![1, 2048]⟩ : Shape).Idx → α) (h : (⟨2, ![1, 2048]⟩ : Shape).Broadcasts ⟨2, ![M, 2048]⟩) (r : Fin M) (d : Fin 2048) :
    broadcastTo ⟨2, ![M, 2048]⟩ w h (ix2 r d) = w (ix2 0 d) :=
  broadcastTo_apply w h (ix2 r d) (ix2 0 d) fun ax => by
    match ax with
    | ⟨0, _⟩ => rfl
    | ⟨1, _⟩ => rfl

/-- The means of a block's rows, as a column. -/
theorem means {M : ℕ} (z : FVec Ideal ⟨2, ![M, 2048]⟩ .f32) (hr : (⟨2, ![M, 2048]⟩ : Shape).Reduces [(1 : Fin 2)] ⟨1, ![M]⟩) (hφ hacc)
    (hc : (⟨1, ![M]⟩ : Shape).ShapeCasts ⟨2, ![M, 1]⟩) (r : Fin M) :
    divf (F := Ideal) (shapeCast ⟨2, ![M, 1]⟩ (multiReduction .add [(1 : Fin 2)] ⟨1, ![M]⟩ z 0x00000000#32 hr hφ hacc) hc)
      (broadcast ⟨2, ![M, 1]⟩ (lit 0x45000000#32)) (ix2 r 0) = mean fun d => z (ix2 r d) := by
  show Ideal.div (shapeCast ⟨2, ![M, 1]⟩ _ hc (ix2 r 0)) (lit 0x45000000#32) = _
  rw [to_column]
  refine congrArg (fun s : EReal => Ideal.div s (lit 0x45000000#32)) ?_
  refine (Ideal.multiReduction_add_single z _ hr hφ hacc (ix1 r)).trans (Finset.sum_congr rfl fun k _ => congrArg z ?_)
  funext a
  match a with
  | ⟨0, _⟩ => rfl
  | ⟨1, _⟩ => rfl

end Cert.Combining

end
-- ==== Proof.CombineTile.lean ====
/- The arithmetic of the combination kernel over the extended reals: what a pair adds to the accumulator's rows, and what
   a chunk of rows of the results is made of. -/
module

public import proofs.«01_k».proof.Proof.Gen.CombineIdeal.Skeleton
public import proofs.«01_k».proof.Proof.CombineNorm
public import proofs.«01_k».proof.Proof.ExpertsTile
public import Idealize.ShloMosaic.Lib.IdealHost

@[expose] public section

set_option maxRecDepth 16384

noncomputable section

namespace Cert.CombineIdeal.Tile

open Cert.CombineIdeal Cert.CombineIdeal.Gen Cert.Products Cert.Combining
open Cert.ExpertsIdeal.Tile (rows_by_columns)
open Idealize.ShloMosaic Idealize.ShloMosaic.TcCoe Idealize.ShloMosaic.ValueIdx
open scoped BigOperators

/-! ## What a pair adds -/

/-- The weight of row `s` of a block of outputs whose first row is `u`, for a token with slots `a` and `b`. -/
def hot (u a b : BitVec 32) (s : Fin 256) : EReal :=
  if u + BitVec.ofNat 32 s.val = a then 1 else if u + BitVec.ofNat 32 s.val = b then 1 else 0

theorem choose (p q : BitVec 32) (x y : EReal) : Scalar.select (IntOp.cmpi .eq p q) x y = if p = q then x else y := by
  show (if BitVec.ofBool (p == q) = 1#1 then x else y) = _
  by_cases h : p = q
  · rw [if_pos h, if_pos (by rw [beq_iff_eq.mpr h]; rfl)]
  · rw [if_neg h, if_neg (by rw [beq_eq_false_iff_ne.mpr h]; decide)]

/-- A column of words spread over the columns of a block. -/
theorem spread_words (w : S1024x1.Idx → BitVec 32) (r : Fin 1024) (s : Fin 256) :
    broadcastTo S1024x256 w broadcasts_S1024x1_S1024x256 (ix2 r s) = w (ix2 r 0) :=
  broadcastTo_apply w broadcasts_S1024x1_S1024x256 (ix2 r s) (ix2 r 0) fun ax => by
    match ax with
    | ⟨0, _⟩ => rfl
    | ⟨1, _⟩ => rfl

theorem count_at (r : Fin 1024) (s : Fin 256) : iota .tc S1024x256 32 [1] iota_S1024x256_d1_w32 (ix2 r s) = BitVec.ofNat 32 s.val := by
  show BitVec.ofNat 32 (0 * 256 + s.val) = _
  rw [Nat.zero_mul, Nat.zero_add]

theorem pay1_apply (y : S1024x2048.Idx) : k0_pay1 (F := Ideal) y = (0 : EReal) := by
  unfold k0_pay1
  simp only [shapeCast_self]
  exact zero_word

theorem pay2_apply (w : BitVec 32) (sa sb : Vec Ideal S1024x1 .i32) (f : Vec Ideal S1024x2048 .f32) (y : Vec Ideal S256x2048 .bf16) (r : Fin 1024) (d : Fin 2048) :
    k0_pay2 (F := Ideal) w sa sb f y (ix2 r d) = (f (ix2 r d) + ∑ s : Fin 256, hot (w * 256#32) (sa (ix2 r 0)) (sb (ix2 r 0)) s * y (ix2 s d) : EReal) := by
  unfold k0_pay2
  simp only [shapeCast_self]
  rw [ValueIdx.addf_apply]
  refine congrArg (fun z : EReal => f (ix2 r d) + z) ?_
  refine (rows_by_columns (M := 1024) (K := 256) (N := 2048) (φ₁ := .bf16) (φ₂ := .bf16) _ y r d).trans (Finset.sum_congr rfl fun s _ => ?_)
  refine congrArg (fun z : EReal => z * y (ix2 s d)) ?_
  rw [ValueIdx.truncf_apply, ValueIdx.select_apply, ValueIdx.select_apply]
  show Scalar.select (IntOp.cmpi .eq (w * 256#32 + iota .tc S1024x256 32 [1] iota_S1024x256_d1_w32 (ix2 r s)) (broadcastTo S1024x256 sa broadcasts_S1024x1_S1024x256 (ix2 r s))) (lit 0x3F800000#32)
    (Scalar.select (IntOp.cmpi .eq (w * 256#32 + iota .tc S1024x256 32 [1] iota_S1024x256_d1_w32 (ix2 r s)) (broadcastTo S1024x256 sb broadcasts_S1024x1_S1024x256 (ix2 r s))) (lit 0x3F800000#32) (lit 0x00000000#32)) = _
  rw [choose, choose, count_at, spread_words, spread_words, show lit 0x3F800000#32 = 1 from Ideal.ofBits_one_f32, show lit 0x00000000#32 = 0 from zero_word]
  rfl

/-- Slot `a` lies in block `w` of the outputs. -/
def Inside (w a : BitVec 32) : Prop := w.toNat * 256 ≤ a.toNat ∧ a.toNat < w.toNat * 256 + 256

/-- Slot `a`'s row of a block `y` of outputs, if it lies there. -/
def found (w a : BitVec 32) (y : Fin 256 → EReal) : EReal :=
  open Classical in if h : Inside w a then y ⟨a.toNat - w.toNat * 256, by have := h.1; have := h.2; omega⟩ else 0

theorem row_eq (w a : BitVec 32) (hw : w.toNat < 135) (s : Fin 256) : w * 256#32 + BitVec.ofNat 32 s.val = a ↔ w.toNat * 256 + s.val = a.toNat := by
  have hs := s.isLt
  rw [← BitVec.toNat_inj, BitVec.toNat_add, BitVec.toNat_mul, BitVec.toNat_ofNat]
  rw [BitVec.toNat_ofNat, Nat.mod_eq_of_lt (by decide : 256 < 2 ^ 32), Nat.mod_eq_of_lt (by omega : w.toNat * 256 < 2 ^ 32), Nat.mod_eq_of_lt (by omega : s.val < 2 ^ 32), Nat.mod_eq_of_lt (by omega)]

theorem found_eq (w a : BitVec 32) (hw : w.toNat < 135) (y : Fin 256 → EReal) :
    (∑ s : Fin 256, if w * 256#32 + BitVec.ofNat 32 s.val = a then y s else 0) = found w a y := by
  unfold found
  split
  · rename_i h
    have h1 := h.1
    have h2 := h.2
    refine (Finset.sum_eq_single (⟨a.toNat - w.toNat * 256, by omega⟩ : Fin 256) (fun s _ hs => if_neg fun e => hs (Fin.ext ?_)) (fun h => absurd (Finset.mem_univ _) h)).trans (if_pos ((row_eq w a hw _).mpr ?_))
    · have := (row_eq w a hw s).mp e
      show s.val = a.toNat - w.toNat * 256
      omega
    · show w.toNat * 256 + (a.toNat - w.toNat * 256) = a.toNat
      omega
  · rename_i h
    refine Finset.sum_eq_zero fun s _ => if_neg fun e => h ?_
    have := (row_eq w a hw s).mp e
    have hs := s.isLt
    exact ⟨by omega, by omega⟩

theorem hot_sum (w a b : BitVec 32) (hw : w.toNat < 135) (hab : a ≠ b) (y : Fin 256 → EReal) :
    (∑ s : Fin 256, hot (w * 256#32) a b s * y s) = found w a y + found w b y := by
  rw [← found_eq w a hw y, ← found_eq w b hw y, ← Finset.sum_add_distrib]
  refine Finset.sum_congr rfl fun s _ => ?_
  unfold hot
  by_cases ha : w * 256#32 + BitVec.ofNat 32 s.val = a
  · rw [if_pos ha, if_pos ha, if_neg (fun e => hab (ha.symm.trans e)), one_mul, add_zero]
  · rw [if_neg ha, if_neg ha, zero_add]
    by_cases hb : w * 256#32 + BitVec.ofNat 32 s.val = b
    · rw [if_pos hb, if_pos hb, one_mul]
    · rw [if_neg hb, if_neg hb, zero_mul]

/-! ## A chunk of results -/

/-- One unit axis dropped. -/
theorem drop_unit (x : FVec Ideal S1x1x2048 .f32) (d : Fin 2048) :
    shapeCast S1x2048 x shapeCasts_S1x1x2048_S1x2048 (ix2 0 d) = x (ix3 0 0 d) :=
  shapeCast_apply x shapeCasts_S1x1x2048_S1x2048 _ _ (by
    rw [Shape.rowMajor_val_three, Shape.rowMajor_val_two]
    show (0 * 1 + 0) * 2048 + d.val = 0 * 2048 + d.val
    omega)

/-- The rows of a block scaled, weighed and offset. -/
theorem normed (z : FVec Ideal S128x2048 .f32) (g b : FVec Ideal S1x2048 .f32) (r : Fin 128) (d : Fin 2048) (c : FVec Ideal S128x1 .f32)
    (hc : ∀ r : Fin 128, c (ix2 r 0) = mean fun d => z (ix2 r d)) (c' : FVec Ideal S128x1 .f32)
    (hc' : ∀ r : Fin 128, c' (ix2 r 0) = mean fun d => (subf z (broadcastTo S128x2048 c broadcasts_S128x1_S128x2048) (ix2 r d) * subf z (broadcastTo S128x2048 c broadcasts_S128x1_S128x2048) (ix2 r d) : EReal)) :
    addf (F := Ideal) (mulf (mulf (subf z (broadcastTo S128x2048 c broadcasts_S128x1_S128x2048)) (broadcastTo S128x2048 (rsqrt (addf c' (broadcast S128x1 (lit 0x3727C5AC#32)))) broadcasts_S128x1_S128x2048))
      (broadcastTo S128x2048 g broadcasts_S1x2048_S128x2048)) (broadcastTo S128x2048 b broadcasts_S1x2048_S128x2048) (ix2 r d)
      = norm (fun q => z (ix2 r q)) (fun q => g (ix2 0 q)) (fun q => b (ix2 0 q)) d := by
  have hz : ∀ q : Fin 2048, subf z (broadcastTo S128x2048 c broadcasts_S128x1_S128x2048) (ix2 r q) = centred (fun q => z (ix2 r q)) q := by
    intro q
    show (z (ix2 r q) - broadcastTo S128x2048 c broadcasts_S128x1_S128x2048 (ix2 r q) : EReal) = _
    rw [show broadcastTo S128x2048 c broadcasts_S128x1_S128x2048 (ix2 r q) = c (ix2 r 0) from spread (M := 128) c _ r q, hc]
    rfl
  have hv := hc' r
  simp only [hz] at hv
  show (subf z (broadcastTo S128x2048 c broadcasts_S128x1_S128x2048) (ix2 r d) * broadcastTo S128x2048 (rsqrt (addf c' (broadcast S128x1 (lit 0x3727C5AC#32)))) broadcasts_S128x1_S128x2048 (ix2 r d)
    * broadcastTo S128x2048 g broadcasts_S1x2048_S128x2048 (ix2 r d) + broadcastTo S128x2048 b broadcasts_S1x2048_S128x2048 (ix2 r d) : EReal) = _
  rw [hz d, show broadcastTo S128x2048 (rsqrt (addf c' (broadcast S128x1 (lit 0x3727C5AC#32)))) broadcasts_S128x1_S128x2048 (ix2 r d) = rsqrt (addf c' (broadcast S128x1 (lit 0x3727C5AC#32))) (ix2 r 0) from spread (M := 128) _ _ r d,
    show broadcastTo S128x2048 g broadcasts_S1x2048_S128x2048 (ix2 r d) = g (ix2 0 d) from repeated (M := 128) g _ r d,
    show broadcastTo S128x2048 b broadcasts_S1x2048_S128x2048 (ix2 r d) = b (ix2 0 d) from repeated (M := 128) b _ r d,
    show rsqrt (F := Ideal) (addf c' (broadcast S128x1 (lit 0x3727C5AC#32))) (ix2 r 0) = Ideal.rsqrt (c' (ix2 r 0) + lit 0x3727C5AC#32) from rfl, hv]
  rfl

theorem pay3_apply (x : Vec Ideal S128x2048 .f32) (g2 : Vec Ideal S1x1x2048 .f32) (a : Vec Ideal S128x2048 .f32) (g b : Vec Ideal S1x2048 .f32) (r : Fin 128) (d : Fin 2048) :
    k0_pay3 (F := Ideal) x g2 a g b (ix2 r d)
      = norm (blend (fun q => x (ix2 r q)) (fun q => g2 (ix3 0 0 q)) (fun q => a (ix2 r q))) (fun q => g (ix2 0 q)) (fun q => b (ix2 0 q)) d := by
  unfold k0_pay3
  refine (normed _ g b r d _ (fun r => means (M := 128) _ reduces_S128x2048_S128 _ _ shapeCasts_S128_S128x1 r) _ (fun r => means (M := 128) _ reduces_S128x2048_S128 _ _ shapeCasts_S128_S128x1 r)).trans ?_
  refine congrArg (fun z => norm z _ _ d) (funext fun q => ?_)
  show (lit 0x3FB504F3#32 * x (ix2 r q) + broadcastTo S128x2048 (shapeCast S1x2048 g2 shapeCasts_S1x1x2048_S1x2048) broadcasts_S1x2048_S128x2048 (ix2 r q) * a (ix2 r q) : EReal) = _
  rw [show broadcastTo S128x2048 (shapeCast S1x2048 g2 shapeCasts_S1x1x2048_S1x2048) broadcasts_S1x2048_S128x2048 (ix2 r q) = shapeCast S1x2048 g2 shapeCasts_S1x1x2048_S1x2048 (ix2 0 q) from repeated (M := 128) _ _ r q, drop_unit]
  rfl

end Cert.CombineIdeal.Tile

end
-- ==== Proof.CombineBody.lean ====
/- The combination kernel at one point of its grid: what the point's run makes of the accumulator and of the
   block of results, as functions of what they held and of the words the point reads from the tables. -/
module

public import proofs.«01_k».proof.Proof.Gen.CombineIdeal.Loops
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.VecWindow
public import Idealize.ShloMosaic.Lib.Pipeline.Value

@[expose] public section

set_option maxRecDepth 16384
set_option maxHeartbeats 1000000

noncomputable section

namespace Cert.CombineIdeal.Body

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Whether a word of a table is one, as the kernel asks it. -/
abbrev flag (v : BitVec 32) : Prop := Scalar.cmpi .ne (Scalar.extui (Scalar.cmpi .eq v 1#32) : BitVec 32) 0#32 = 1#1

/-- What the accumulator starts a point from: cleared at the first point of a tile of tokens. -/
def start (v1 : BitVec 32) (f : Vec F S1024x2048 .f32) : Vec F S1024x2048 .f32 :=
  if flag v1 then k0_pay1 (F := F) else f

/-- The accumulator after a point: where the point is a pair, the pair's rows are added. -/
def acc (v1 v6 v16 : BitVec 32) (x6 : Vec F S256x2048 .bf16) (x7 x8 : Vec F S1024x1 .i32) (f : Vec F S1024x2048 .f32) : Vec F S1024x2048 .f32 :=
  if flag v6 then k0_pay2 v16 x7 x8 (start v1 f) x6 else start v1 f

theorem zeros2 : (![0, 0] : Fin 2 → Nat) = fun _ => 0 := by decide

/-- A block read whole. -/
theorem whole {sig' : RefSig} {κ : Kind} {sp : Space} {S : Shape} {e : EltTy} (v : View sig' κ sp S e) (X : v.ty.Contents (Elt F)) {off : Fin S.rank → ℕ} (h : off = fun _ => 0) (hb : ∀ a, off a + S.size a ≤ S.size a) :
    v.readAt (Elt F) (Rect.unit (s := S) off S.size hb).toLoadRect X = v.read (Elt F) X := by
  rw [View.readAt_eq_ld]; exact View.ld_unit_zero (S := S) h _ _

/-- A block written whole is what was written. -/
theorem stored {sig' : RefSig} {κ : Kind} {sp : Space} (v : View sig' κ sp S1024x2048 .f32) (g : v.ty.Contents (Elt F)) (w : Vec F S1024x2048 .f32) (L : List (View.Piece (Elt F) S1024x2048 .f32)) :
    v.read (Elt F) (v.writes (Elt F) g (⟨(Rect.unit (s := S1024x2048) ![0, 0] S1024x2048.size inb_S1024x2048_S1024x2048_0_0), w⟩ :: L)) = w :=
  View.read_writes_full v g inb_S1024x2048_S1024x2048_0_0 w L

/-- The block of results after a point: written at the last point of a tile of tokens. -/
def out (c : Dev nD) (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S128 .i32) (harg4 : arg4.IsWhole) (arg5 : Memref sig .tc .smem S128 .i32) (harg5 : arg5.IsWhole) (arg6 : Memref sig .tc .vmem S256x2048 .bf16) (harg6 : arg6.IsWhole) (arg7 : Memref sig .tc .vmem S1024x1 .i32) (harg7 : arg7.IsWhole) (arg8 : Memref sig .tc .vmem S1024x1 .i32) (harg8 : arg8.IsWhole) (arg9 : Memref sig .tc .vmem S1024x2048 .f32) (harg9 : arg9.IsWhole) (arg10 : Memref sig .tc .vmem S1x1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1024x2048 .f32) (harg13 : arg13.IsWhole) (arg14 : Memref sig .tc .vmem S1024x2048 .f32) (harg14 : arg14.IsWhole) (v11 : BitVec 32)
    (X9 : BufTy.Contents (Elt F) arg9.view.ty) (X10 : BufTy.Contents (Elt F) arg10.view.ty) (X11 : BufTy.Contents (Elt F) arg11.view.ty) (X12 : BufTy.Contents (Elt F) arg12.view.ty) (X14 : BufTy.Contents (Elt F) arg14.view.ty) (g : BufTy.Contents (Elt F) arg13.view.ty) :
    BufTy.Contents (Elt F) arg13.view.ty :=
  if k0_cond3 v11 = 1#1 then arg13.view.writes (Elt F) g
    (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X9 X10 X11 X12 X14 k0_t1_loop.trips)
  else g

/-- A point's run leaves `acc` in the accumulator and `out` in the block of results. -/
theorem body (c : Dev nD) (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S128 .i32) (harg4 : arg4.IsWhole) (arg5 : Memref sig .tc .smem S128 .i32) (harg5 : arg5.IsWhole) (arg6 : Memref sig .tc .vmem S256x2048 .bf16) (harg6 : arg6.IsWhole) (arg7 : Memref sig .tc .vmem S1024x1 .i32) (harg7 : arg7.IsWhole) (arg8 : Memref sig .tc .vmem S1024x1 .i32) (harg8 : arg8.IsWhole) (arg9 : Memref sig .tc .vmem S1024x2048 .f32) (harg9 : arg9.IsWhole) (arg10 : Memref sig .tc .vmem S1x1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1024x2048 .f32) (harg13 : arg13.IsWhole) (arg14 : Memref sig .tc .vmem S1024x2048 .f32) (harg14 : arg14.IsWhole)
    (X2 : BufTy.Contents (Elt F) arg2.view.ty) (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (f : BufTy.Contents (Elt F) arg14.view.ty) (g : BufTy.Contents (Elt F) arg13.view.ty)
    (v1 v6 v11 v16 : BitVec 32)
    (hv1 : arg3.view.readAt (Elt F) (Rect.unit (s := S128) (k0_off1 i) S1.size (k0_off1_inb i)).toLoadRect X3 (Shape.Idx.first (numel1_S1.symm ▸ Nat.one_pos)) = v1)
    (hv6 : arg5.view.readAt (Elt F) (Rect.unit (s := S128) (k0_off2 i) S1.size (k0_off2_inb i)).toLoadRect X5 (Shape.Idx.first (numel1_S1.symm ▸ Nat.one_pos)) = v6)
    (hv11 : arg4.view.readAt (Elt F) (Rect.unit (s := S128) (k0_off4 i) S1.size (k0_off4_inb i)).toLoadRect X4 (Shape.Idx.first (numel1_S1.symm ▸ Nat.one_pos)) = v11)
    (hv16 : arg2.view.readAt (Elt F) (Rect.unit (s := S128) (k0_off3 i) S1.size (k0_off3_inb i)).toLoadRect X2 (Shape.Idx.first (numel1_S1.symm ▸ Nat.one_pos)) = v16)
    (E : Set ℕ) (K : PUnit → sProp 𝕄) :
    iprop((arg2.view.loc (c : Thread nD τ) ↦{fullShare.right} X2) ∗ (arg3.view.loc (c : Thread nD τ) ↦{fullShare.right} X3) ∗ (arg4.view.loc (c : Thread nD τ) ↦{fullShare.right} X4) ∗ (arg5.view.loc (c : Thread nD τ) ↦{fullShare.right} X5)
      ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} g) ∗ (arg14.view.loc (c : Thread nD τ) ↦[arg14.view.set]{fullShare} f)
      ∗ (iprop((arg2.view.loc (c : Thread nD τ) ↦{fullShare.right} X2) ∗ (arg3.view.loc (c : Thread nD τ) ↦{fullShare.right} X3) ∗ (arg4.view.loc (c : Thread nD τ) ↦{fullShare.right} X4) ∗ (arg5.view.loc (c : Thread nD τ) ↦{fullShare.right} X5)
      ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12)
      ∗ (∃ z y, ⌜arg14.view.read (Elt F) z = acc v1 v6 v16 (arg6.view.read (Elt F) X6) (arg7.view.read (Elt F) X7) (arg8.view.read (Elt F) X8) (arg14.view.read (Elt F) f) ∧ y = out c i arg1 harg1 arg2 harg2 arg3 harg3 arg4 harg4 arg5 harg5 arg6 harg6 arg7 harg7 arg8 harg8 arg9 harg9 arg10 harg10 arg11 harg11 arg12 harg12 arg13 harg13 arg14 harg14 v11 X9 X10 X11 X12 z g⌝ ∗ (arg13.view.loc (c : Thread nD τ) ↦[arg13.view.set]{fullShare} y) ∗ (arg14.view.loc (c : Thread nD τ) ↦[arg14.view.set]{fullShare} z))) -∗ K PUnit.unit))
    ⊢ wp frame (wpE (defs₀ (F := F)) Variants.none c none) E
        (cc0_moe_combine i arg1 harg1 arg2 harg2 arg3 harg3 arg4 harg4 arg5 harg5 arg6 harg6 arg7 harg7 arg8 harg8 arg9 harg9 arg10 harg10 arg11 harg11 arg12 harg12 arg13 harg13 arg14 harg14) K := by
  rw [cc0_moe_combine_eq_skeleton]; unfold cc0_moe_combine_skel
  subst hv1 hv6 hv11 hv16
  by_cases h1 : flag (arg3.view.readAt (Elt F) (Rect.unit (s := S128) (k0_off1 i) S1.size (k0_off1_inb i)).toLoadRect X3 (Shape.Idx.first (numel1_S1.symm ▸ Nat.one_pos))) <;>
  by_cases h6 : flag (arg5.view.readAt (Elt F) (Rect.unit (s := S128) (k0_off2 i) S1.size (k0_off2_inb i)).toLoadRect X5 (Shape.Idx.first (numel1_S1.symm ▸ Nat.one_pos)))
  · by_cases h11 : k0_cond3 (arg4.view.readAt (Elt F) (Rect.unit (s := S128) (k0_off4 i) S1.size (k0_off4_inb i)).toLoadRect X4 (Shape.Idx.first (numel1_S1.symm ▸ Nat.one_pos))) = 1#1 <;>
    · iintro ⟨H2, H3, H4, H5, H6, H7, H8, H9, H10, H11, H12, H13, H14, Hk⟩
      sl_exec (disch := first | sl_exact h1 | sl_exact h6 | sl_exact h11)
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexists _, _; isplitr; swap
      · isplitl [H13]; · iexact H13
        iexact H14
      ipureintro
      refine ⟨?_, by unfold out; first | exact (if_pos h11).symm | exact (if_neg h11).symm⟩
      unfold acc start
      rw [if_pos h1, if_pos h6]
      sl_unfold_words
      rw [stored, whole _ X7 zeros2, whole _ X8 zeros2, whole _ X6 zeros2, View.readCov_unit_zero _ zeros2]
  · by_cases h11 : k0_cond3 (arg4.view.readAt (Elt F) (Rect.unit (s := S128) (k0_off4 i) S1.size (k0_off4_inb i)).toLoadRect X4 (Shape.Idx.first (numel1_S1.symm ▸ Nat.one_pos))) = 1#1 <;>
    · iintro ⟨H2, H3, H4, H5, H6, H7, H8, H9, H10, H11, H12, H13, H14, Hk⟩
      sl_exec (disch := first | sl_exact h1 | sl_exact h6 | sl_exact h11)
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexists _, _; isplitr; swap
      · isplitl [H13]; · iexact H13
        iexact H14
      ipureintro
      refine ⟨?_, by unfold out; first | exact (if_pos h11).symm | exact (if_neg h11).symm⟩
      unfold acc start
      rw [if_pos h1, if_neg h6]
      sl_unfold_words
      rw [stored]
  · by_cases h11 : k0_cond3 (arg4.view.readAt (Elt F) (Rect.unit (s := S128) (k0_off4 i) S1.size (k0_off4_inb i)).toLoadRect X4 (Shape.Idx.first (numel1_S1.symm ▸ Nat.one_pos))) = 1#1 <;>
    · iintro ⟨H2, H3, H4, H5, H6, H7, H8, H9, H10, H11, H12, H13, H14, Hk⟩
      sl_exec (disch := first | sl_exact h1 | sl_exact h6 | sl_exact h11)
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexists _, _; isplitr; swap
      · isplitl [H13]; · iexact H13
        iexact H14
      ipureintro
      refine ⟨?_, by unfold out; first | exact (if_pos h11).symm | exact (if_neg h11).symm⟩
      unfold acc start
      rw [if_neg h1, if_pos h6]
      sl_unfold_words
      rw [stored, whole _ X7 zeros2, whole _ X8 zeros2, whole _ X6 zeros2, whole _ f zeros2]
  · by_cases h11 : k0_cond3 (arg4.view.readAt (Elt F) (Rect.unit (s := S128) (k0_off4 i) S1.size (k0_off4_inb i)).toLoadRect X4 (Shape.Idx.first (numel1_S1.symm ▸ Nat.one_pos))) = 1#1 <;>
    · iintro ⟨H2, H3, H4, H5, H6, H7, H8, H9, H10, H11, H12, H13, H14, Hk⟩
      sl_exec (disch := first | sl_exact h1 | sl_exact h6 | sl_exact h11)
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexists _, _; isplitr; swap
      · isplitl [H13]; · iexact H13
        iexact H14
      ipureintro
      refine ⟨?_, by unfold out; first | exact (if_pos h11).symm | exact (if_neg h11).symm⟩
      unfold acc start
      rw [if_neg h1, if_neg h6]

end Cert.CombineIdeal.Body

end
-- ==== Proof.CombineRun.lean ====
/- The combining call as the launch runs it: the tables it reads, the proof data of its pipeline, and its run
   from one step's relation between what the accumulator and the block of results hold before and after. -/
module

public import proofs.«01_k».proof.Proof.CombineBody
public import proofs.«01_k».proof.Proof.Gen.CombineIdeal.Launch
public import Idealize.ShloMosaic.Lib.Pipeline.DatRel
public import Idealize.ShloMosaic.Lib.Pipeline.ArrRel
public import Idealize.ShloMosaic.Lib.Pipeline.FrameBody
public import Idealize.ShloMosaic.Lib.Claim

@[expose] public section

set_option maxRecDepth 16384

noncomputable section

namespace Cert.CombineIdeal.Body

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the call starts from -/

/-- A buffer of a core as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The five tables: of each pair its tile of tokens, its block of outputs, whether it is its tile's first and last, whether it is one. -/
def tbl : pre0.Contents (Elt F) := fun j => V m (0 : Dev nD) (pre0.ref j)

theorem tables (c : Dev nD) (j : Fin 5) : V m c (pre0.ref j) = tbl m j := by
  obtain rfl : c = 0 := Subsingleton.elim _ _; rfl

variable (hO : ok0 (F := F) (tbl m))

abbrev adm : (pcfg0 (F := F)).Adm := ⟨tbl m, hO⟩
abbrev cfgM : Pipeline.Cfg sig Λ₀ := cfg0 (adm m hO)

abbrev tbM0_0 : Memref sig .tc .smem S128 .i32 := Memref.whole main_arg7
abbrev htbM0_0 : tbM0_0.IsWhole := Memref.isWhole_whole _
abbrev tbM0_1 : Memref sig .tc .smem S128 .i32 := Memref.whole main_arg8
abbrev htbM0_1 : tbM0_1.IsWhole := Memref.isWhole_whole _
abbrev tbM0_2 : Memref sig .tc .smem S128 .i32 := Memref.whole main_arg9
abbrev htbM0_2 : tbM0_2.IsWhole := Memref.isWhole_whole _
abbrev tbM0_3 : Memref sig .tc .smem S128 .i32 := Memref.whole main_arg10
abbrev htbM0_3 : tbM0_3.IsWhole := Memref.isWhole_whole _
abbrev tbM0_4 : Memref sig .tc .smem S128 .i32 := Memref.whole main_arg11
abbrev htbM0_4 : tbM0_4.IsWhole := Memref.isWhole_whole _
abbrev scM0_0 : Memref sig .tc .vmem S1024x2048 .f32 := Memref.whole cc0_scratch0
abbrev hscM0_0 : scM0_0.IsWhole := Memref.isWhole_whole _

/-- The staging buffers the windows are on at a point. -/
abbrev st0_0 (t : Fin (cfgM m hO).N) := ((cfgM m hO).win 0).stage ((cfgM m hO).slots t 0)
theorem hst0_0 (t : Fin (cfgM m hO).N) : (st0_0 m hO t).IsWhole := hstage0_0 (((cfgM m hO).slots t 0).cast nbuf0_0)
abbrev st0_1 (t : Fin (cfgM m hO).N) := ((cfgM m hO).win 1).stage ((cfgM m hO).slots t 1)
theorem hst0_1 (t : Fin (cfgM m hO).N) : (st0_1 m hO t).IsWhole := hstage0_1 (((cfgM m hO).slots t 1).cast nbuf0_1)
abbrev st0_2 (t : Fin (cfgM m hO).N) := ((cfgM m hO).win 2).stage ((cfgM m hO).slots t 2)
theorem hst0_2 (t : Fin (cfgM m hO).N) : (st0_2 m hO t).IsWhole := hstage0_2 (((cfgM m hO).slots t 2).cast nbuf0_2)
abbrev st0_3 (t : Fin (cfgM m hO).N) := ((cfgM m hO).win 3).stage ((cfgM m hO).slots t 3)
theorem hst0_3 (t : Fin (cfgM m hO).N) : (st0_3 m hO t).IsWhole := hstage0_3 (((cfgM m hO).slots t 3).cast nbuf0_3)
abbrev st0_4 (t : Fin (cfgM m hO).N) := ((cfgM m hO).win 4).stage ((cfgM m hO).slots t 4)
theorem hst0_4 (t : Fin (cfgM m hO).N) : (st0_4 m hO t).IsWhole := hstage0_4 (((cfgM m hO).slots t 4).cast nbuf0_4)
abbrev st0_5 (t : Fin (cfgM m hO).N) := ((cfgM m hO).win 5).stage ((cfgM m hO).slots t 5)
theorem hst0_5 (t : Fin (cfgM m hO).N) : (st0_5 m hO t).IsWhole := hstage0_5 (((cfgM m hO).slots t 5).cast nbuf0_5)
abbrev st0_6 (t : Fin (cfgM m hO).N) := ((cfgM m hO).win 6).stage ((cfgM m hO).slots t 6)
theorem hst0_6 (t : Fin (cfgM m hO).N) : (st0_6 m hO t).IsWhole := hstage0_6 (((cfgM m hO).slots t 6).cast nbuf0_6)
abbrev st0_7 (t : Fin (cfgM m hO).N) := ((cfgM m hO).win 7).stage ((cfgM m hO).slots t 7)
theorem hst0_7 (t : Fin (cfgM m hO).N) : (st0_7 m hO t).IsWhole := hstage0_7 (((cfgM m hO).slots t 7).cast nbuf0_7)

/-- A table held at half of the full share: the pipeline keeps the other half. -/
abbrev tbPt0 (c : Dev nD) {S : Shape} {e : EltTy} (M : Memref sig .tc .smem S e) (f : Buf (Elt F) (M.view.loc (c : Thread nD τ))) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- Whether a point's pair is its tile's first, as the kernel reads it. -/
def firstAt (i : grid0.Coords) : BitVec 32 :=
  tbM0_2.view.readAt (Elt F) (Rect.unit (s := S128) (k0_off1 i) S1.size (k0_off1_inb i)).toLoadRect (tbl m 2) (Shape.Idx.first (numel1_S1.symm ▸ Nat.one_pos))

/-- Whether a point is a pair, as the kernel reads it. -/
def validAt (i : grid0.Coords) : BitVec 32 :=
  tbM0_4.view.readAt (Elt F) (Rect.unit (s := S128) (k0_off2 i) S1.size (k0_off2_inb i)).toLoadRect (tbl m 4) (Shape.Idx.first (numel1_S1.symm ▸ Nat.one_pos))

/-- A point's block of outputs, as the kernel reads it. -/
def blkAt (i : grid0.Coords) : BitVec 32 :=
  tbM0_1.view.readAt (Elt F) (Rect.unit (s := S128) (k0_off3 i) S1.size (k0_off3_inb i)).toLoadRect (tbl m 1) (Shape.Idx.first (numel1_S1.symm ▸ Nat.one_pos))

/-- Whether a point's pair is its tile's last, as the kernel reads it. -/
def lastAt (i : grid0.Coords) : BitVec 32 :=
  tbM0_3.view.readAt (Elt F) (Rect.unit (s := S128) (k0_off4 i) S1.size (k0_off4_inb i)).toLoadRect (tbl m 3) (Shape.Idx.first (numel1_S1.symm ▸ Nat.one_pos))

/-- A window's block of its array at a point. -/
def iblk (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem acc_congr (v1 v6 v16 : BitVec 32) {x6 y6 : Vec F S256x2048 .bf16} {x7 y7 x8 y8 : Vec F S1024x1 .i32} (h6 : x6 = y6) (h7 : x7 = y7) (h8 : x8 = y8) (f : Vec F S1024x2048 .f32) :
    acc v1 v6 v16 x6 x7 x8 f = acc v1 v6 v16 y6 y7 y8 f := by subst h6 h7 h8; rfl

/-! ## The proof data -/

variable (Acc : ℕ → Vec F S1024x2048 .f32 → Prop)
variable (Out : Fin (cfgM m hO).N → Vec F S1024x2048 .f32 → Prop)

/-- What holds between points: the accumulator meets `Acc`, the tables are held. -/
def inv (c : Dev nD) (n : ℕ) : sProp 𝕄 :=
  iprop((∃ v, ⌜Acc n v⌝ ∗ owns (c : Thread nD τ) scM0_0 fullShare v) ∗ (∃ r, prngReg c r)
    ∗ tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4))

/-- The proof data: the arrays as launched, every input's block in place. -/
def dat (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
  Φ t := inv m Acc c t.val
  q _ := fullShare
  owed _ := 0

theorem A_eq (c : Dev nD) (w : Fin (cfgM m hO).W) : (dat m hO Acc c).A w = V m c (Pipeline.arrRef spec0 w) := by
  dsimp only [dat]

theorem after_0 (c : Dev nD) (t : Fin (cfgM m hO).N) : (dat m hO Acc c).after 0 t = iblk m hO c 0 t := rfl
theorem after_1 (c : Dev nD) (t : Fin (cfgM m hO).N) : (dat m hO Acc c).after 1 t = iblk m hO c 1 t := rfl
theorem after_2 (c : Dev nD) (t : Fin (cfgM m hO).N) : (dat m hO Acc c).after 2 t = iblk m hO c 2 t := rfl
theorem after_3 (c : Dev nD) (t : Fin (cfgM m hO).N) : (dat m hO Acc c).after 3 t = iblk m hO c 3 t := rfl
theorem after_4 (c : Dev nD) (t : Fin (cfgM m hO).N) : (dat m hO Acc c).after 4 t = iblk m hO c 4 t := rfl
theorem after_5 (c : Dev nD) (t : Fin (cfgM m hO).N) : (dat m hO Acc c).after 5 t = iblk m hO c 5 t := rfl
theorem after_6 (c : Dev nD) (t : Fin (cfgM m hO).N) : (dat m hO Acc c).after 6 t = iblk m hO c 6 t := rfl

/-- Window 0 holds its block of the array at every point. -/
theorem before_0 (c : Dev nD) (t : Fin (cfgM m hO).N) (d) : (dat m hO Acc c).before 0 t d = iblk m hO c 0 t :=
  ((dat m hO Acc c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Window 1 holds its block of the array at every point. -/
theorem before_1 (c : Dev nD) (t : Fin (cfgM m hO).N) (d) : (dat m hO Acc c).before 1 t d = iblk m hO c 1 t :=
  ((dat m hO Acc c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Window 2 holds its block of the array at every point. -/
theorem before_2 (c : Dev nD) (t : Fin (cfgM m hO).N) (d) : (dat m hO Acc c).before 2 t d = iblk m hO c 2 t :=
  ((dat m hO Acc c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- Window 3 holds its block of the array at every point. -/
theorem before_3 (c : Dev nD) (t : Fin (cfgM m hO).N) (d) : (dat m hO Acc c).before 3 t d = iblk m hO c 3 t :=
  ((dat m hO Acc c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
/-- Window 4 holds its block of the array at every point. -/
theorem before_4 (c : Dev nD) (t : Fin (cfgM m hO).N) (d) : (dat m hO Acc c).before 4 t d = iblk m hO c 4 t :=
  ((dat m hO Acc c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- Window 5 holds its block of the array at every point. -/
theorem before_5 (c : Dev nD) (t : Fin (cfgM m hO).N) (d) : (dat m hO Acc c).before 5 t d = iblk m hO c 5 t :=
  ((dat m hO Acc c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
/-- Window 6 holds its block of the array at every point. -/
theorem before_6 (c : Dev nD) (t : Fin (cfgM m hO).N) (d) : (dat m hO Acc c).before 6 t d = iblk m hO c 6 t :=
  ((dat m hO Acc c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

theorem phi_succ (c : Dev nD) (t : Fin (cfgM m hO).N) : (dat m hO Acc c).Φ t.succ = inv m Acc c (t.val + 1) := by
  dsimp only [dat]; rw [Fin.val_succ]

theorem phi_castSucc (c : Dev nD) (t : Fin (cfgM m hO).N) : (dat m hO Acc c).Φ t.castSucc = inv m Acc c t.val := by
  dsimp only [dat]; rw [Fin.val_castSucc]

/-- The window whose contents are stated by a relation: the results. -/
def marked : Fin (cfgM m hO).W → Bool := fun w => decide (w.val = 7)

/-- The relation of the results' block after a point. -/
def rel : (w : Fin (cfgM m hO).W) → (t : Fin (cfgM m hO).N) → (((cfgM m hO).win w).block.Idx → Elt F ((cfgM m hO).win w).elt) → Prop
  | ⟨7, _⟩, t, X => Out t X
  | _, _, _ => True

/-- What the block of results may hold before a point: at the first point, and after a block was written back, anything. -/
def Before (t : Fin (cfgM m hO).N) (Y : Vec F S1024x2048 .f32) : Prop :=
  t.val = 0 ∨ ∃ ht : t.val - 1 < (cfgM m hO).N, ((cfgM m hO).win 7).flush ⟨t.val - 1, ht⟩ = true ∨ Out ⟨t.val - 1, ht⟩ Y

theorem before_of_finds (c : Dev nD) (t : Fin (cfgM m hO).N) (Y) (h : ((dat m hO Acc c).toRRel (marked m hO) (rel m hO Out)).Finds 7 t Y) :
    Before m hO Out t Y := by
  by_cases ht : t.val = 0
  · exact .inl ht
  · refine .inr ⟨Nat.lt_of_le_of_lt (Nat.sub_le _ _) t.isLt, ?_⟩
    rcases (RDat.finds_of_pos ((dat m hO Acc c).toRRel (marked m hO) (rel m hO Out)) (w := 7) (t := t) (by rfl) ht Y).mp h with h | h
    · exact .inl h
    · exact .inr (Dat.toRRel_leaves (Rl := rel m hO Out) (fgt := marked m hO) (w := 7) (dat m hO Acc c) rfl h)

/-- One step of the call: how a point's run carries the accumulator's relation and the results' block's. -/
structure Steps : Prop where
  init : ∀ v, Acc 0 v
  run : ∀ (c : Dev nD) (t : Fin (cfgM m hO).N) X6 X7 X8 X9 X10 X11 X12 f g z,
    (st0_0 m hO t).view.read (Elt F) X6 = iblk m hO c 0 t →
    (st0_1 m hO t).view.read (Elt F) X7 = iblk m hO c 1 t →
    (st0_2 m hO t).view.read (Elt F) X8 = iblk m hO c 2 t →
    (st0_3 m hO t).view.read (Elt F) X9 = iblk m hO c 3 t →
    (st0_4 m hO t).view.read (Elt F) X10 = iblk m hO c 4 t →
    (st0_5 m hO t).view.read (Elt F) X11 = iblk m hO c 5 t →
    (st0_6 m hO t).view.read (Elt F) X12 = iblk m hO c 6 t →
    Acc t.val (scM0_0.view.read (Elt F) f) → Before m hO Out t ((st0_7 m hO t).view.read (Elt F) g) →
    scM0_0.view.read (Elt F) z = acc (firstAt m (grid0.coords t)) (validAt m (grid0.coords t)) (blkAt m (grid0.coords t)) (iblk m hO c 0 t) (iblk m hO c 1 t) (iblk m hO c 2 t) (scM0_0.view.read (Elt F) f) →
    Acc (t.val + 1) (scM0_0.view.read (Elt F) z)
    ∧ Out t ((st0_7 m hO t).view.read (Elt F) (out c (grid0.coords t) tbM0_0 htbM0_0 tbM0_1 htbM0_1 tbM0_2 htbM0_2 tbM0_3 htbM0_3 tbM0_4 htbM0_4 (st0_0 m hO t) (hst0_0 m hO t) (st0_1 m hO t) (hst0_1 m hO t) (st0_2 m hO t) (hst0_2 m hO t) (st0_3 m hO t) (hst0_3 m hO t) (st0_4 m hO t) (hst0_4 m hO t) (st0_5 m hO t) (hst0_5 m hO t) (st0_6 m hO t) (hst0_6 m hO t) (st0_7 m hO t) (hst0_7 m hO t) scM0_0 hscM0_0 (lastAt m (grid0.coords t)) X9 X10 X11 X12 z g))

/-! ## The body's obligation -/

/-- The body at a point. -/
abbrev bodyAt0 (t : Fin (cfgM m hO).N) : Prog (TpuEff nD τ sig (Elt F) Λ₀ .tc) PUnit :=
  cc0_moe_combine (grid0.coords t) tbM0_0 htbM0_0 tbM0_1 htbM0_1 tbM0_2 htbM0_2 tbM0_3 htbM0_3 tbM0_4 htbM0_4 (st0_0 m hO t) (hst0_0 m hO t) (st0_1 m hO t) (hst0_1 m hO t) (st0_2 m hO t) (hst0_2 m hO t) (st0_3 m hO t) (hst0_3 m hO t) (st0_4 m hO t) (hst0_4 m hO t) (st0_5 m hO t) (hst0_5 m hO t) (st0_6 m hO t) (hst0_6 m hO t) (st0_7 m hO t) (hst0_7 m hO t) scM0_0 hscM0_0

def bodyPre (c : Dev nD) (t : Fin (cfgM m hO).N) : sProp 𝕄 :=
  iprop((dat m hO Acc c).Φ t.castSucc ∗ (dat m hO Acc c).owesAt () t.castSucc
    ∗ (∃ d, owns (c : Thread nD τ) (st0_0 m hO t) fullShare ((dat m hO Acc c).before 0 t d))
    ∗ (∃ d, owns (c : Thread nD τ) (st0_1 m hO t) fullShare ((dat m hO Acc c).before 1 t d))
    ∗ (∃ d, owns (c : Thread nD τ) (st0_2 m hO t) fullShare ((dat m hO Acc c).before 2 t d))
    ∗ (∃ d, owns (c : Thread nD τ) (st0_3 m hO t) fullShare ((dat m hO Acc c).before 3 t d))
    ∗ (∃ d, owns (c : Thread nD τ) (st0_4 m hO t) fullShare ((dat m hO Acc c).before 4 t d))
    ∗ (∃ d, owns (c : Thread nD τ) (st0_5 m hO t) fullShare ((dat m hO Acc c).before 5 t d))
    ∗ (∃ d, owns (c : Thread nD τ) (st0_6 m hO t) fullShare ((dat m hO Acc c).before 6 t d))
    ∗ (∃ Y, ⌜((dat m hO Acc c).toRRel (marked m hO) (rel m hO Out)).Finds 7 t Y⌝ ∗ owns (c : Thread nD τ) (st0_7 m hO t) fullShare Y))

def bodyPost (c : Dev nD) (t : Fin (cfgM m hO).N) : sProp 𝕄 :=
  iprop((dat m hO Acc c).Φ t.succ ∗ (dat m hO Acc c).owesAt () t.succ
    ∗ owns (c : Thread nD τ) (st0_0 m hO t) fullShare ((dat m hO Acc c).after 0 t)
    ∗ owns (c : Thread nD τ) (st0_1 m hO t) fullShare ((dat m hO Acc c).after 1 t)
    ∗ owns (c : Thread nD τ) (st0_2 m hO t) fullShare ((dat m hO Acc c).after 2 t)
    ∗ owns (c : Thread nD τ) (st0_3 m hO t) fullShare ((dat m hO Acc c).after 3 t)
    ∗ owns (c : Thread nD τ) (st0_4 m hO t) fullShare ((dat m hO Acc c).after 4 t)
    ∗ owns (c : Thread nD τ) (st0_5 m hO t) fullShare ((dat m hO Acc c).after 5 t)
    ∗ owns (c : Thread nD τ) (st0_6 m hO t) fullShare ((dat m hO Acc c).after 6 t)
    ∗ (∃ X, ⌜rel m hO Out 7 t X⌝ ∗ owns (c : Thread nD τ) (st0_7 m hO t) fullShare X))

variable {m hO Acc Out} (S : Steps m hO Acc Out)
include S

set_option maxHeartbeats 400000 in
/-- The body at any point, of the step's relation. -/
theorem sound_body (c : Dev nD) (t : Fin (cfgM m hO).N) :
    bodyPre m hO Acc Out c t ⊢ wp frame (wpE (defs₀ (F := F)) Variants.none c none) Set.univ (bodyAt0 m hO t) (fun _ => bodyPost m hO Acc Out c t) := by
  unfold bodyPre bodyPost bodyAt0
  simp only [before_0, before_1, before_2, before_3, before_4, before_5, before_6]
  rw [show (dat m hO Acc c).owesAt () t.succ = (dat m hO Acc c).owesAt () t.castSucc from rfl,
    after_0, after_1, after_2, after_3, after_4, after_5, after_6, phi_succ, phi_castSucc]
  unfold inv owns
  iintro ⟨⟨⟨%v, %hv, ⟨%f, %hf, HS⟩⟩, Hg, T0, T1, T2, T3, T4⟩, Ho, ⟨%d0, ⟨%X6, %h6, H6⟩⟩, ⟨%d1, ⟨%X7, %h7, H7⟩⟩, ⟨%d2, ⟨%X8, %h8, H8⟩⟩, ⟨%d3, ⟨%X9, %h9, H9⟩⟩, ⟨%d4, ⟨%X10, %h10, H10⟩⟩, ⟨%d5, ⟨%X11, %h11, H11⟩⟩, ⟨%d6, ⟨%X12, %h12, H12⟩⟩, ⟨%Y, %hY, ⟨%g, %hg, H13⟩⟩⟩
  have hstep := fun z => S.run c t X6 X7 X8 X9 X10 X11 X12 f g z h6 h7 h8 h9 h10 h11 h12 (by rw [hf]; exact hv) (by rw [hg]; exact before_of_finds m hO Acc Out c t Y hY)
  iapply (body c (grid0.coords t) tbM0_0 htbM0_0 tbM0_1 htbM0_1 tbM0_2 htbM0_2 tbM0_3 htbM0_3 tbM0_4 htbM0_4 (st0_0 m hO t) (hst0_0 m hO t) (st0_1 m hO t) (hst0_1 m hO t) (st0_2 m hO t) (hst0_2 m hO t) (st0_3 m hO t) (hst0_3 m hO t) (st0_4 m hO t) (hst0_4 m hO t) (st0_5 m hO t) (hst0_5 m hO t) (st0_6 m hO t) (hst0_6 m hO t) (st0_7 m hO t) (hst0_7 m hO t) scM0_0 hscM0_0 (tbl m 1) (tbl m 2) (tbl m 3) (tbl m 4) X6 X7 X8 X9 X10 X11 X12 f g (firstAt m (grid0.coords t)) (validAt m (grid0.coords t)) (lastAt m (grid0.coords t)) (blkAt m (grid0.coords t)) rfl rfl rfl rfl Set.univ _)
  isplitl [T1]; · iexact T1
  isplitl [T2]; · iexact T2
  isplitl [T3]; · iexact T3
  isplitl [T4]; · iexact T4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS]; · iexact HS
  iintro ⟨T1, T2, T3, T4, H6, H7, H8, H9, H10, H11, H12, ⟨%z, %y, %hy, H13, HS⟩⟩
  obtain ⟨hz, hy⟩ := hy
  have hz := hz.trans (acc_congr _ _ _ h6 h7 h8 _)
  isplitl [HS Hg T0 T1 T2 T3 T4]
  · isplitl [HS]
    · iexists _; isplitr; swap
      · iexists _; isplitr; swap; · iexact HS
        ipureintro; rfl
      ipureintro; exact (hstep z hz).1
    isplitl [Hg]; · iexact Hg
    isplitl [T0]; · iexact T0
    isplitl [T1]; · iexact T1
    isplitl [T2]; · iexact T2
    isplitl [T3]; · iexact T3
    iexact T4
  isplitl [Ho]; · iexact Ho
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  iexists _; isplitr; swap
  · iexists _; isplitr; swap; · iexact H13
    ipureintro; rfl
  ipureintro; rw [hy]; exact (hstep z hz).2

omit S in
/-- The body the pipeline calls is the body at the point's buffers. -/
theorem defs₀_row (t : Fin (cfgM m hO).N) :
    defs₀ (F := F) .tc (cfgM m hO).body ((cfgM m hO).bodyArgs t ((cfgM m hO).slots t)) = bodyAt0 m hO t := by
  unfold defs₀; rw [Defs.onTc_tc]; rfl

theorem body_obligation (c : Dev nD) : BodyObligationRel (dat m hO Acc c) (defs₀ (F := F)) Variants.none () Set.univ (marked m hO) (rel m hO Out) := fun t => by
  rw [bigSep_W0, bigSep_W0, defs₀_row]
  exact triple_restated (sound_body S c t) rfl .rfl fun _ => .rfl

theorem hin (c : Dev nD) : iprop(Pipeline.ΦA spec0 c ∗ Pipeline.ΦT pre0 (tbl m) c) ⊢ ((dat m hO Acc c).toRRel (marked m hO) (rel m hO Out)).Φ 0 := by
  rw [show ((dat m hO Acc c).toRRel (marked m hO) (rel m hO Out)).Φ 0 = inv m Acc c 0 from rfl, PhiA0_eq, PhiT0_eq]
  unfold inv
  iintro ⟨⟨⟨%d, HS⟩, Hg⟩, T0, T1, T2, T3, T4⟩
  isplitl [HS]
  · iexists d; isplitr; swap; · iexact HS
    ipureintro; exact S.init d
  isplitl [Hg]; · iexact Hg
  isplitl [T0]; · iexact T0
  isplitl [T1]; · iexact T1
  isplitl [T2]; · iexact T2
  isplitl [T3]; · iexact T3
  iexact T4

omit S in
theorem hout (c : Dev nD) : ((dat m hO Acc c).toRRel (marked m hO) (rel m hO Out)).Φ (Fin.last (cfgM m hO).N) ⊢ Pipeline.ΦA spec0 c := by
  rw [show ((dat m hO Acc c).toRRel (marked m hO) (rel m hO Out)).Φ (Fin.last (cfgM m hO).N) = inv m Acc c (Fin.last (cfgM m hO).N).val from rfl, PhiA0_eq]
  unfold inv
  iintro ⟨⟨%v, %hv, HS⟩, Hg, T0, T1, T2, T3, T4⟩
  isplitl [HS]
  · iexists v; iexact HS
  iexact Hg

/-! ## The run -/

/-- The arrays after the run, by the relations. -/
abbrev Post (r : PUnit × MemSt nD τ sig (Elt F)) : Prop :=
  RDat.FramePost (cfgM m hO) (fun c => (dat m hO Acc c).toRRel (marked m hO) (rel m hO Out)) (V m) r

set_option backward.isDefEq.respectTransparency.types false in
/-- The call runs, and ends with every counter at zero. -/
theorem run_main : θ_run defs (onTc (τ := τ) (main (F := F))) (s₀ m ρ) (fun r => Post (m := m) (hO := hO) (Acc := Acc) (Out := Out) r ∧ r.2.sem = fun _ => 0) :=
  RDat.θ_run_frameP_track (Q' := _) pcfgs (fun _ => adm m hO) (0 : Fin 1) launch0 defs₀ Variants.none
    (fun c => (dat m hO Acc c).toRRel (marked m hO) (rel m hO Out)) m ρ main
    (hbody := fun c => (body_obligation S c).toRRel) (hshare := fun c w => by rw [Dat.toRRel_share]; exact (dat m hO Acc c).share_full (fun _ => rfl) w)
    (howed := fun _ _ => rfl) (V := V m) (hmain := hmain m Variants.none) (hA := fun _ _ => rfl)
    (hpf := fun c k => tables m c k) (hin := fun c => hin S c) (hout := fun c => hout c)

end Cert.CombineIdeal.Body

end
-- ==== Proof.CombineWords.lean ====
/- The words the combining call reads, from its precondition: every block its index maps name lies inside its array. -/
module

public import proofs.«01_k».proof.Proof.CombinePlan
public import proofs.«01_k».proof.Proof.CombineRun

@[expose] public section

noncomputable section

namespace Cert.CombineIdeal.Body

open Idealize.ShloMosaic Idealize.ShloMosaic.TcCoe
open Cert.CombineIdeal Cert.CombineIdeal.Gen
open Cert.Combining (Paired at128)

variable {F : FTy → Type} [FloatOps F]

variable (m : (ℓ : Loc nD τ sig) → Buf (Elt F) ℓ)

/-- The precondition of a launch memory. -/
def Planned : Prop :=
  ∀ c : Dev nD, Cert.Pre_paired.fn (F := F) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) = (fun _ => 1#1)

/-! ## The tables of a launch memory -/

def tileOf (p : Fin 128) : BitVec 32 := tbl m 0 (at128 p)
def blkOf (p : Fin 128) : BitVec 32 := tbl m 1 (at128 p)
def firstOf (p : Fin 128) : BitVec 32 := tbl m 2 (at128 p)
def lastOf (p : Fin 128) : BitVec 32 := tbl m 3 (at128 p)
def validOf (p : Fin 128) : BitVec 32 := tbl m 4 (at128 p)
def slotA (t : Fin 8192) : BitVec 32 := V m (0 : Dev nD) main_arg1 (ix2 t (0 : Fin 1))
def slotB (t : Fin 8192) : BitVec 32 := V m (0 : Dev nD) main_arg2 (ix2 t (0 : Fin 1))

/-- What the precondition says of them. -/
abbrev PairedOf : Prop := Paired (tileOf m) (blkOf m) (firstOf m) (lastOf m) (validOf m) (slotA m) (slotB m)

theorem paired_of (h : Planned m) : PairedOf m := Cert.Combining.paired _ _ _ _ _ _ _ _ _ _ _ _ (h 0)

theorem place (x : S128.Idx) (s : Fin 128) (h : (x 0).val = s.val) : x = at128 s := by
  funext a
  match a with
  | ⟨0, _⟩ => exact Fin.ext h

theorem off_val (i : Fin 128) : (Scalar.indexCast (BitVec.ofNat 32 i.val) : BitVec 32).toNat = i.val := Cert.Combining.num _ (by omega)

theorem firstAt_eq (i : grid0.Coords) : firstAt m i = firstOf m (i 0) := congrArg (tbl m 2) (place _ _ (off_val (i 0)))
theorem validAt_eq (i : grid0.Coords) : validAt m i = validOf m (i 0) := congrArg (tbl m 4) (place _ _ (off_val (i 0)))
theorem blkAt_eq (i : grid0.Coords) : blkAt m i = blkOf m (i 0) := congrArg (tbl m 1) (place _ _ (off_val (i 0)))
theorem lastAt_eq (i : grid0.Coords) : lastAt m i = lastOf m (i 0) := congrArg (tbl m 3) (place _ _ (off_val (i 0)))

/-! ## The blocks -/

theorem pf0_at (i : grid0.Coords) (o : Fin 1 → ℕ) (ho : o 0 = (i 0).val) (hb) :
    (tbl m).at 0 (Rect.unit (s := S128) o S1.size hb) numel1_S1 = tileOf m (i 0) :=
  congrArg (tbl m 0) (place _ _ ho)

theorem pf1_at (i : grid0.Coords) (o : Fin 1 → ℕ) (ho : o 0 = (i 0).val) (hb) :
    (tbl m).at 1 (Rect.unit (s := S128) o S1.size hb) numel1_S1 = blkOf m (i 0) :=
  congrArg (tbl m 1) (place _ _ ho)

theorem map0 (i : grid0.Coords) : cc0_transform_0 k0_off1_inb numel1_S1 (tbl m) i = ![(blkOf m (i 0)).toNat, 0] := by
  funext a
  fin_cases a
  · exact congrArg BitVec.toNat (pf1_at m i _ (off_val (i 0)) _)
  · rfl

theorem map1 (i : grid0.Coords) : cc0_transform_1 k0_off1_inb numel1_S1 (tbl m) i = ![(tileOf m (i 0)).toNat, 0] := by
  funext a
  fin_cases a
  · exact congrArg BitVec.toNat (pf0_at m i _ (off_val (i 0)) _)
  · rfl

theorem map2 (i : grid0.Coords) : cc0_transform_2 k0_off1_inb numel1_S1 (tbl m) i = ![(tileOf m (i 0)).toNat, 0] := by
  funext a
  fin_cases a
  · exact congrArg BitVec.toNat (pf0_at m i _ (off_val (i 0)) _)
  · rfl

theorem map3 (i : grid0.Coords) : cc0_transform_3 k0_off1_inb numel1_S1 (tbl m) i = ![(tileOf m (i 0)).toNat, 0] := by
  funext a
  fin_cases a
  · exact congrArg BitVec.toNat (pf0_at m i _ (off_val (i 0)) _)
  · rfl

theorem map7 (i : grid0.Coords) : cc0_transform_7 k0_off1_inb numel1_S1 (tbl m) i = ![(tileOf m (i 0)).toNat, 0] := by
  funext a
  fin_cases a
  · exact congrArg BitVec.toNat (pf0_at m i _ (off_val (i 0)) _)
  · rfl

/-- The row of the modulations a tile of tokens reads, as the index map computes it. -/
def modRow (v1 : BitVec 32) : BitVec 32 :=
  Scalar.addi (Scalar.addi 48#32 (Scalar.muli (Scalar.select (Scalar.andi
    (Scalar.cmpi .ne (Scalar.subi (Scalar.extui (Scalar.cmpi .sgt v1 0#32) : BitVec 32) (Scalar.extui (Scalar.cmpi .slt v1 0#32)))
      (Scalar.subi (Scalar.extui (Scalar.cmpi .sgt 4#32 0#32) : BitVec 32) (Scalar.extui (Scalar.cmpi .slt 4#32 0#32))))
    (Scalar.cmpi .ne (Scalar.remsi v1 4#32) 0#32)) (Scalar.subi (Scalar.divsi v1 4#32) 1#32) (Scalar.divsi v1 4#32)) 6#32)) 5#32

theorem modRow_val : ∀ k : Fin 8, (modRow (BitVec.ofNat 32 k.val)).toNat = 48 + k.val / 4 * 6 + 5 := by decide

theorem modRow_eq (v : BitVec 32) (h : v.toNat < 8) : (modRow v).toNat = 48 + v.toNat / 4 * 6 + 5 := by
  have e : v = BitVec.ofNat 32 (⟨v.toNat, h⟩ : Fin 8).val := (BitVec.ofNat_toNat 32 v ▸ (BitVec.setWidth_eq v).symm)
  exact (congrArg (fun w => (modRow w).toNat) e).trans (modRow_val ⟨v.toNat, h⟩)

theorem map4 (P : PairedOf m) (i : grid0.Coords) : cc0_transform_4 k0_off1_inb numel1_S1 (tbl m) i = ![48 + (tileOf m (i 0)).toNat / 4 * 6 + 5, 0, 0] := by
  funext a
  fin_cases a
  · exact (congrArg (fun v => (modRow v).toNat) (pf0_at m i _ (off_val (i 0)) _)).trans (modRow_eq _ (P.tile_lt _))
  · rfl
  · rfl

theorem inb2 (b n r w : ℕ) (h : (b + 1) * r ≤ n) : ∀ a : Fin 2, ((![b, 0] : Fin 2 → ℕ) a + 1) * (![r, w] : Fin 2 → ℕ) a ≤ (![n, w] : Fin 2 → ℕ) a := by
  intro a
  fin_cases a
  · exact h
  · show (0 + 1) * w ≤ w; omega

theorem inb3 (b n w : ℕ) (h : b < n) : ∀ a : Fin 3, ((![b, 0, 0] : Fin 3 → ℕ) a + 1) * (![1, 1, w] : Fin 3 → ℕ) a ≤ (![n, 1, w] : Fin 3 → ℕ) a := by
  intro a
  fin_cases a
  · show (b + 1) * 1 ≤ n; omega
  · show (0 + 1) * 1 ≤ 1; omega
  · show (0 + 1) * w ≤ w; omega

/-- Every block lies inside its array. -/
theorem ok_of (h : Planned m) : ok0 (F := F) (tbl m) := by
  have P := paired_of m h
  have T := fun i : grid0.Coords => P.tile_lt (i 0)
  have B := fun i : grid0.Coords => P.blk_lt (i 0)
  refine ⟨fun i => ⟨?_, .inr (Affine.block_words_dvd (of_decide_eq_true rfl) (by decide))⟩, fun i => ⟨?_, .inl rfl⟩,
    fun i => ⟨?_, .inl rfl⟩, fun i => ⟨?_, .inl rfl⟩, fun i => ⟨?_, .inl rfl⟩, fun i => ⟨?_, .inl rfl⟩⟩
  · rw [map0 m]; exact inb2 _ 34560 256 2048 (by have := B i; omega)
  · rw [map1 m]; exact inb2 _ 8192 1024 1 (by have := T i; omega)
  · rw [map2 m]; exact inb2 _ 8192 1024 1 (by have := T i; omega)
  · rw [map3 m]; exact inb2 _ 8192 1024 2048 (by have := T i; omega)
  · rw [map4 m P]; exact inb3 _ 96 2048 (by have := T i; omega)
  · rw [map7 m]; exact inb2 _ 8192 1024 2048 (by have := T i; omega)

end Cert.CombineIdeal.Body

end
-- ==== Proof.CombineFrame.lean ====
/- The combining call runs on every launch its precondition admits, and its arguments end unchanged. -/
module

public import proofs.«01_k».proof.Proof.CombineWords

@[expose] public section

noncomputable section

namespace Cert.CombineIdeal.Body

open Idealize.ShloMosaic Idealize.ShloMosaic.TcCoe
open Cert.CombineIdeal Cert.CombineIdeal.Gen
open Idealize.SL.Sem
open Idealize.ShloMosaic.Pipeline (Dat RDat)

variable {F : FTy → Type} [FloatOps F]
variable (m : (ℓ : Loc nD τ sig) → Buf (Elt F) ℓ) (ρ : Dev nD → PrngReg)

/-- Every argument of a core holds what it was launched with. -/
def Kept (r : PUnit × MemSt nD τ sig (Elt F)) (c : Dev nD) : Prop :=
  r.2.mem (c.tc.loc main_arg0) = m (c.tc.loc main_arg0)
  ∧ r.2.mem (c.tc.loc main_arg1) = m (c.tc.loc main_arg1)
  ∧ r.2.mem (c.tc.loc main_arg2) = m (c.tc.loc main_arg2)
  ∧ r.2.mem (c.tc.loc main_arg3) = m (c.tc.loc main_arg3)
  ∧ r.2.mem (c.tc.loc main_arg4) = m (c.tc.loc main_arg4)
  ∧ r.2.mem (c.tc.loc main_arg5) = m (c.tc.loc main_arg5)
  ∧ r.2.mem (c.tc.loc main_arg6) = m (c.tc.loc main_arg6)
  ∧ r.2.mem (c.tc.loc main_arg7) = m (c.tc.loc main_arg7)
  ∧ r.2.mem (c.tc.loc main_arg8) = m (c.tc.loc main_arg8)
  ∧ r.2.mem (c.tc.loc main_arg9) = m (c.tc.loc main_arg9)
  ∧ r.2.mem (c.tc.loc main_arg10) = m (c.tc.loc main_arg10)
  ∧ r.2.mem (c.tc.loc main_arg11) = m (c.tc.loc main_arg11)

variable {m}
variable {hO : ok0 (F := F) (tbl m)} {Acc : ℕ → Vec F S1024x2048 .f32 → Prop}
  {Out : Fin (cfgM m hO).N → Vec F S1024x2048 .f32 → Prop}

set_option backward.isDefEq.respectTransparency.types false in
theorem kept {r : PUnit × MemSt nD τ sig (Elt F)} (h : Post (m := m) (hO := hO) (Acc := Acc) (Out := Out) r) (c : Dev nD) : Kept m r c :=
  ⟨RDat.FramePost.arr_in h c 0 rfl, RDat.FramePost.arr_in h c 1 rfl, RDat.FramePost.arr_in h c 2 rfl, RDat.FramePost.arr_in h c 3 rfl, RDat.FramePost.arr_in h c 4 rfl, RDat.FramePost.arr_in h c 5 rfl, RDat.FramePost.arr_in h c 6 rfl, (h c).2 main_arg7 (by decide : main_arg7 ∈ Pipeline.restRefs sig spec0), (h c).2 main_arg8 (by decide : main_arg8 ∈ Pipeline.restRefs sig spec0), (h c).2 main_arg9 (by decide : main_arg9 ∈ Pipeline.restRefs sig spec0), (h c).2 main_arg10 (by decide : main_arg10 ∈ Pipeline.restRefs sig spec0), (h c).2 main_arg11 (by decide : main_arg11 ∈ Pipeline.restRefs sig spec0)⟩

/-- With nothing claimed of the values, every step of the body is a step. -/
theorem steps_any (h : Planned m) : Steps m (ok_of m h) (fun _ _ => True) (fun _ _ => True) :=
  ⟨fun _ => trivial, fun _ _ _ _ _ _ _ _ _ _ _ _ _ _ _ _ _ _ _ _ _ _ => ⟨trivial, trivial⟩⟩

theorem frame (h : Planned m) : θ_run defs (onTc (τ := τ) (main (F := F))) ⟨m, fun _ => 0, ρ⟩
    (fun r => (∀ c : Dev nD, Kept m r c) ∧ r.2.sem = fun _ => 0) :=
  (θ_run defs _ _).mono (fun _ hr => ⟨fun c => kept hr.1 c, hr.2⟩) (run_main ρ (steps_any h))

end Cert.CombineIdeal.Body

end
-- ==== Proof.CombinePoint.lean ====
/- The block of results the combination kernel leaves at the last point of a tile of tokens, row by row: eight chunks of
   rows, each from the same rows of the accumulator and of the residual. -/
module

public import proofs.«01_k».proof.Proof.CombineTile
public import proofs.«01_k».proof.Proof.CombineFrame

@[expose] public section

set_option maxRecDepth 16384

noncomputable section

namespace Cert.CombineIdeal.Tile

open Cert.CombineIdeal Cert.CombineIdeal.Gen Cert.CombineIdeal.Body Cert.Combining
open Idealize.ShloMosaic hiding ix1 ix2 ix3 ix4
open Idealize.ShloMosaic.TcCoe Idealize.ShloMosaic.ValueIdx
open scoped BigOperators

/-! ## Some rows of a block, written and read back -/

section
variable {Val : EltTy → Type} {sig' : RefSig} {κ : Kind} {sp : Space} {e : EltTy} (v : View sig' κ sp S1024x2048 e) (f : v.ty.Contents Val)

theorem put_rows {off : Fin 2 → ℕ} (hb : ∀ a, off a + S128x2048.size a ≤ S1024x2048.size a) (h1 : off 1 = 0)
    (w : S128x2048.Idx → Val e) (L : List (View.Piece Val S1024x2048 e)) (x : S128x2048.Idx) (y : S1024x2048.Idx)
    (e0 : (y 0).val = off 0 + (x 0).val) (e1 : (y 1).val = (x 1).val) :
    v.read Val (v.writes Val f (⟨Rect.unit (s := S1024x2048) off S128x2048.size hb, w⟩ :: L)) y = w x :=
  View.read_writes_cons_hit_of_coords v f (Rect.unit (s := S1024x2048) off S128x2048.size hb) w L x y fun a => by
    match a with
    | ⟨0, _⟩ => show (y 0).val = off 0 + 1 * (x 0).val; omega
    | ⟨1, _⟩ => show (y 1).val = off 1 + 1 * (x 1).val; omega

theorem keep_rows {off : Fin 2 → ℕ} (hb : ∀ a, off a + S128x2048.size a ≤ S1024x2048.size a)
    (w : S128x2048.Idx → Val e) (L : List (View.Piece Val S1024x2048 e)) (y : S1024x2048.Idx)
    (e0 : ¬(off 0 ≤ (y 0).val ∧ (y 0).val < off 0 + 128)) :
    v.read Val (v.writes Val f (⟨Rect.unit (s := S1024x2048) off S128x2048.size hb, w⟩ :: L)) y = v.read Val (v.writes Val f L) y :=
  View.read_writes_cons_miss_of_axis v f _ L y (0 : Fin 2) (off 0) 128 rfl rfl rfl (by omega)

theorem take_rows {off : Fin 2 → ℕ} (hb : ∀ a, off a + S128x2048.size a ≤ S1024x2048.size a) (h1 : off 1 = 0) (x : Fin 128) (r : Fin 1024) (d : Fin 2048)
    (e0 : r.val = off 0 + x.val) :
    v.readAt Val (Rect.unit (s := S1024x2048) off S128x2048.size hb).toLoadRect f (ix2 x d) = v.read Val f (ix2 r d) := by
  rw [View.readAt_apply]
  refine congrArg (v.read Val f) ((Rect.unit (s := S1024x2048) off S128x2048.size hb).emb_eq_of_coords (ix2 x d) (ix2 r d) fun a => ?_)
  match a with
  | ⟨0, _⟩ => show r.val = off 0 + 1 * x.val; omega
  | ⟨1, _⟩ => show d.val = off 1 + 1 * d.val; omega
end

theorem off5_at : ∀ t : Fin k0_t1_loop.trips, k0_off5 t 0 = 128 * t.val ∧ k0_off5 t 1 = 0 := by decide
theorem trips_eq : k0_t1_loop.trips = 8 := by decide
theorem zeros3 : (![0, 0, 0] : Fin 3 → ℕ) = fun _ => 0 := by decide
theorem last_iff (v : BitVec 32) : k0_cond3 v = 1#1 ↔ v = 1#32 := by
  show Scalar.cmpi .ne (Scalar.extui (BitVec.ofBool (v == 1#32)) : BitVec 32) 0#32 = 1#1 ↔ _
  by_cases h : v = 1#32
  · subst h; exact ⟨fun _ => rfl, fun _ => by decide⟩
  · rw [beq_eq_false_iff_ne.mpr h]; exact ⟨fun e => absurd e (by decide), fun e => absurd e h⟩
theorem flag_iff (v : BitVec 32) : flag v ↔ v = 1#32 := by
  show Scalar.cmpi .ne (Scalar.extui (BitVec.ofBool (v == 1#32)) : BitVec 32) 0#32 = 1#1 ↔ _
  by_cases h : v = 1#32
  · subst h; exact ⟨fun _ => rfl, fun _ => by decide⟩
  · rw [beq_eq_false_iff_ne.mpr h]; exact ⟨fun e => absurd e (by decide), fun e => absurd e h⟩

/-- The results of row `r` of a tile, from the residual `x`, the gate `g2`, the accumulator `a`, the weight `g` and the offset `b`. -/
def finish (x : Vec Ideal S1024x2048 .f32) (g2 : Vec Ideal S1x1x2048 .f32) (a : Vec Ideal S1024x2048 .f32) (g b : Vec Ideal S1x2048 .f32) (r : Fin 1024) (d : Fin 2048) : EReal :=
  norm (blend (fun q => x (ix2 r q)) (fun q => g2 (ix3 0 0 q)) (fun q => a (ix2 r q))) (fun q => g (ix2 0 q)) (fun q => b (ix2 0 q)) d

variable (c : Dev nD) (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S128 .i32) (harg4 : arg4.IsWhole) (arg5 : Memref sig .tc .smem S128 .i32) (harg5 : arg5.IsWhole) (arg6 : Memref sig .tc .vmem S256x2048 .bf16) (harg6 : arg6.IsWhole) (arg7 : Memref sig .tc .vmem S1024x1 .i32) (harg7 : arg7.IsWhole) (arg8 : Memref sig .tc .vmem S1024x1 .i32) (harg8 : arg8.IsWhole) (arg9 : Memref sig .tc .vmem S1024x2048 .f32) (harg9 : arg9.IsWhole) (arg10 : Memref sig .tc .vmem S1x1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1024x2048 .f32) (harg13 : arg13.IsWhole) (arg14 : Memref sig .tc .vmem S1024x2048 .f32) (harg14 : arg14.IsWhole)
  (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X14 : BufTy.Contents (Elt Ideal) arg14.view.ty) (g : BufTy.Contents (Elt Ideal) arg13.view.ty)

theorem trip (t : Fin k0_t1_loop.trips) :
    tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 X9 X10 X11 X12 X14 t
      = [⟨(Rect.unit (s := S1024x2048) (k0_off5 t) S128x2048.size (k0_off5_inb t)), k0_pay3
      (arg9.view.readAt (Elt Ideal) (Rect.unit (s := S1024x2048) (k0_off5 t) S128x2048.size (k0_off5_inb t)).toLoadRect X9)
      (arg10.view.readAt (Elt Ideal) (Rect.unit (s := S1x1x2048) ![0, 0, 0] S1x1x2048.size inb_S1x1x2048_S1x1x2048_0_0_0).toLoadRect X10)
      (arg14.view.readAt (Elt Ideal) (Rect.unit (s := S1024x2048) (k0_off5 t) S128x2048.size (k0_off5_inb t)).toLoadRect X14)
      (arg11.view.readAt (Elt Ideal) (Rect.unit (s := S1x2048) ![0, 0] S1x2048.size inb_S1x2048_S1x2048_0_0).toLoadRect X11)
      (arg12.view.readAt (Elt Ideal) (Rect.unit (s := S1x2048) ![0, 0] S1x2048.size inb_S1x2048_S1x2048_0_0).toLoadRect X12)⟩] := by
  unfold tripL_k0_t1 trip_k0_t1; rfl

/-- One chunk of results. -/
theorem chunk (t : Fin k0_t1_loop.trips) (x : Fin 128) (r : Fin 1024) (d : Fin 2048) (hr : r.val = k0_off5 t 0 + x.val) :
    k0_pay3
      (arg9.view.readAt (Elt Ideal) (Rect.unit (s := S1024x2048) (k0_off5 t) S128x2048.size (k0_off5_inb t)).toLoadRect X9)
      (arg10.view.readAt (Elt Ideal) (Rect.unit (s := S1x1x2048) ![0, 0, 0] S1x1x2048.size inb_S1x1x2048_S1x1x2048_0_0_0).toLoadRect X10)
      (arg14.view.readAt (Elt Ideal) (Rect.unit (s := S1024x2048) (k0_off5 t) S128x2048.size (k0_off5_inb t)).toLoadRect X14)
      (arg11.view.readAt (Elt Ideal) (Rect.unit (s := S1x2048) ![0, 0] S1x2048.size inb_S1x2048_S1x2048_0_0).toLoadRect X11)
      (arg12.view.readAt (Elt Ideal) (Rect.unit (s := S1x2048) ![0, 0] S1x2048.size inb_S1x2048_S1x2048_0_0).toLoadRect X12) (ix2 x d)
      = finish (arg9.view.read (Elt Ideal) X9) (arg10.view.read (Elt Ideal) X10) (arg14.view.read (Elt Ideal) X14) (arg11.view.read (Elt Ideal) X11) (arg12.view.read (Elt Ideal) X12) r d := by
  rw [whole (F := Ideal) arg10.view X10 zeros3, whole (F := Ideal) arg11.view X11 zeros2, whole (F := Ideal) arg12.view X12 zeros2]
  refine (pay3_apply _ _ _ _ _ x d).trans ?_
  have e9 : ∀ q : Fin 2048, _ := fun q => take_rows arg9.view X9 (k0_off5_inb t) (off5_at t).2 x r q hr
  have e14 : ∀ q : Fin 2048, _ := fun q => take_rows arg14.view X14 (k0_off5_inb t) (off5_at t).2 x r q hr
  unfold finish
  rw [funext e9, funext e14]

theorem shown (n : ℕ) (hn : n ≤ 8) (r : Fin 1024) (d : Fin 2048) (hr : r.val < 128 * n) :
    arg13.view.read (Elt Ideal) (arg13.view.writes (Elt Ideal) g (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 X9 X10 X11 X12 X14 n)) (ix2 r d)
      = finish (arg9.view.read (Elt Ideal) X9) (arg10.view.read (Elt Ideal) X10) (arg14.view.read (Elt Ideal) X14) (arg11.view.read (Elt Ideal) X11) (arg12.view.read (Elt Ideal) X12) r d := by
  induction n with
  | zero => exact absurd hr (by omega)
  | succ n ih =>
    have hn' : n < k0_t1_loop.trips := by rw [trips_eq]; omega
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 X9 X10 X11 X12 X14 ⟨n, hn'⟩
    dsimp only at e
    rw [e, trip]
    have o := off5_at ⟨n, hn'⟩
    have o0 : k0_off5 ⟨n, hn'⟩ 0 = 128 * n := o.1
    by_cases h : r.val < 128 * n
    · exact (keep_rows arg13.view g (k0_off5_inb ⟨n, hn'⟩) _ _ (ix2 r d) (by rw [o0]; show ¬(_ ≤ r.val ∧ r.val < _); omega)).trans (ih (by omega) h)
    · have hx : r.val = k0_off5 ⟨n, hn'⟩ 0 + (⟨r.val - 128 * n, by omega⟩ : Fin 128).val := by rw [o0]; show r.val = 128 * n + (r.val - 128 * n); omega
      exact (put_rows arg13.view g (k0_off5_inb ⟨n, hn'⟩) o.2 _ _ (ix2 ⟨r.val - 128 * n, by omega⟩ d) (ix2 r d) hx rfl).trans (chunk arg9 arg10 arg11 arg12 arg14 X9 X10 X11 X12 X14 ⟨n, hn'⟩ _ r d hx)

/-- The results at the last point of a tile of tokens. -/
theorem out_rows (v11 : BitVec 32) (hv : v11 = 1#32) (r : Fin 1024) (d : Fin 2048) :
    arg13.view.read (Elt Ideal) (out (F := Ideal) c i arg1 harg1 arg2 harg2 arg3 harg3 arg4 harg4 arg5 harg5 arg6 harg6 arg7 harg7 arg8 harg8 arg9 harg9 arg10 harg10 arg11 harg11 arg12 harg12 arg13 harg13 arg14 harg14 v11 X9 X10 X11 X12 X14 g) (ix2 r d)
      = finish (arg9.view.read (Elt Ideal) X9) (arg10.view.read (Elt Ideal) X10) (arg14.view.read (Elt Ideal) X14) (arg11.view.read (Elt Ideal) X11) (arg12.view.read (Elt Ideal) X12) r d := by
  unfold out
  rw [if_pos ((last_iff v11).mpr hv), trips_eq]
  exact shown c i arg1 harg1 arg2 harg2 arg3 harg3 arg4 harg4 arg5 harg5 arg6 harg6 arg7 harg7 arg8 harg8 arg9 harg9 arg10 harg10 arg11 harg11 arg12 harg12 arg13 harg13 arg14 harg14 X9 X10 X11 X12 X14 g 8 (Nat.le_refl 8) r d (by have := r.isLt; omega)

theorem out_kept (v11 : BitVec 32) (hv : v11 ≠ 1#32) :
    arg13.view.read (Elt Ideal) (out (F := Ideal) c i arg1 harg1 arg2 harg2 arg3 harg3 arg4 harg4 arg5 harg5 arg6 harg6 arg7 harg7 arg8 harg8 arg9 harg9 arg10 harg10 arg11 harg11 arg12 harg12 arg13 harg13 arg14 harg14 v11 X9 X10 X11 X12 X14 g) = arg13.view.read (Elt Ideal) g := by
  unfold out
  rw [if_neg fun e => hv ((last_iff v11).mp e)]

end Cert.CombineIdeal.Tile

end
-- ==== Proof.CombineBlocks.lean ====
/- The combination call point by point over the extended reals: the numbers it computes, and which blocks the windows
   read. -/
module

public import proofs.«01_k».proof.Proof.CombinePoint
public import Idealize.ShloMosaic.Lib.Pipeline.Value

@[expose] public section

set_option maxRecDepth 16384

noncomputable section

namespace Cert.CombineIdeal.Tile

open Cert.CombineIdeal Cert.CombineIdeal.Gen Cert.CombineIdeal.Body Cert.Combining
open Idealize.ShloMosaic hiding ix1 ix2 ix3 ix4
open Idealize.ShloMosaic.TcCoe Idealize.ShloMosaic.ValueIdx
open Idealize.SL.Sem
open Idealize.ShloMosaic.Pipeline (Dat RDat)
open scoped BigOperators

/-! ## The numbers -/

variable (m : (ℓ : Loc nD τ sig) → Buf (Elt Ideal) ℓ)

/-- Token `r` of tile `e`. -/
def tok (e : ℕ) (he : e < 8) (r : Fin 1024) : Fin 8192 := ⟨e * 1024 + r.val, by omega⟩

/-- The output of slot `s`. -/
def row (c : Dev nD) (s : BitVec 32) (d : Fin 2048) : EReal :=
  if h : s.toNat < 34560 then (m (c.tc.loc main_arg0) : FVec Ideal S34560x2048 .bf16) (ix2 ⟨s.toNat, h⟩ d) else 0

/-- The row of the modulations a token's gate is in. -/
def gateRow (t : Fin 8192) : Fin 96 := ⟨48 + t.val / 4096 * 6 + 5, by omega⟩

/-- A token's results. -/
def result (c : Dev nD) (t : Fin 8192) (d : Fin 2048) : EReal :=
  norm (blend (fun q => (m (c.tc.loc main_arg3) : FVec Ideal S8192x2048 .f32) (ix2 t q)) (fun q => (m (c.tc.loc main_arg4) : FVec Ideal S96x1x2048 .f32) (ix3 (gateRow t) 0 q))
      (fun q => row m c (slotA m t) q + row m c (slotB m t) q))
    (fun q => (m (c.tc.loc main_arg5) : FVec Ideal S1x2048 .f32) (ix2 0 q)) (fun q => (m (c.tc.loc main_arg6) : FVec Ideal S1x2048 .f32) (ix2 0 q)) d

/-! ## The points -/

theorem coords_at : ∀ t : Fin grid0.N, (grid0.coords t 0).val = t.val := by decide +kernel

variable (P : PairedOf m) (hO : ok0 (F := Ideal) (tbl m))
include P

/-- The block of outputs at a point. -/
theorem outputs_at (c : Dev nD) (t : Fin (cfgM m hO).N) (s : Fin 256) (d : Fin 2048) :
    (iblk m hO c 0 t : Vec Ideal S256x2048 .bf16) (ix2 s d) = (m (c.tc.loc main_arg0) : FVec Ideal S34560x2048 .bf16) (ix2 ⟨(blkOf m (grid0.coords t 0)).toNat * 256 + s.val, by have := P.blk_lt (grid0.coords t 0); omega⟩ d) := by
  have e := map0 m (grid0.coords t)
  unfold iblk
  refine (View.read_apply _ _).trans ?_
  show V m c main_arg0 _ = _
  show m _ _ = m _ _
  congr 1
  funext a
  apply Fin.ext
  match a with
  | ⟨0, _⟩ => show cc0_transform_0 k0_off1_inb numel1_S1 (tbl m) (grid0.coords t) 0 * 256 + 1 * s.val = (blkOf m (grid0.coords t 0)).toNat * 256 + s.val; rw [e]; show (blkOf m (grid0.coords t 0)).toNat * 256 + 1 * s.val = (blkOf m (grid0.coords t 0)).toNat * 256 + s.val; omega
  | ⟨1, _⟩ => show cc0_transform_0 k0_off1_inb numel1_S1 (tbl m) (grid0.coords t) 1 * 2048 + 1 * d.val = d.val; rw [e]; show 0 * 2048 + 1 * d.val = d.val; omega

/-- The block of first slots at a point. -/
theorem slots_a_at (c : Dev nD) (t : Fin (cfgM m hO).N) (r : Fin 1024) :
    (iblk m hO c 1 t : Vec Ideal S1024x1 .i32) (ix2 r 0) = (m (c.tc.loc main_arg1) : IVec S8192x1 32) (ix2 (tok (tileOf m (grid0.coords t 0)).toNat (P.tile_lt _) r) 0) := by
  have e := map1 m (grid0.coords t)
  unfold iblk
  refine (View.read_apply _ _).trans ?_
  show V m c main_arg1 _ = _
  show m _ _ = m _ _
  congr 1
  funext a
  apply Fin.ext
  match a with
  | ⟨0, _⟩ => show cc0_transform_1 k0_off1_inb numel1_S1 (tbl m) (grid0.coords t) 0 * 1024 + 1 * r.val = (tileOf m (grid0.coords t 0)).toNat * 1024 + r.val; rw [e]; show (tileOf m (grid0.coords t 0)).toNat * 1024 + 1 * r.val = (tileOf m (grid0.coords t 0)).toNat * 1024 + r.val; omega
  | ⟨1, _⟩ => show cc0_transform_1 k0_off1_inb numel1_S1 (tbl m) (grid0.coords t) 1 * 1 + 1 * 0 = 0; rw [e]; show 0 * 1 + 1 * 0 = 0; omega

/-- The block of second slots at a point. -/
theorem slots_b_at (c : Dev nD) (t : Fin (cfgM m hO).N) (r : Fin 1024) :
    (iblk m hO c 2 t : Vec Ideal S1024x1 .i32) (ix2 r 0) = (m (c.tc.loc main_arg2) : IVec S8192x1 32) (ix2 (tok (tileOf m (grid0.coords t 0)).toNat (P.tile_lt _) r) 0) := by
  have e := map2 m (grid0.coords t)
  unfold iblk
  refine (View.read_apply _ _).trans ?_
  show V m c main_arg2 _ = _
  show m _ _ = m _ _
  congr 1
  funext a
  apply Fin.ext
  match a with
  | ⟨0, _⟩ => show cc0_transform_2 k0_off1_inb numel1_S1 (tbl m) (grid0.coords t) 0 * 1024 + 1 * r.val = (tileOf m (grid0.coords t 0)).toNat * 1024 + r.val; rw [e]; show (tileOf m (grid0.coords t 0)).toNat * 1024 + 1 * r.val = (tileOf m (grid0.coords t 0)).toNat * 1024 + r.val; omega
  | ⟨1, _⟩ => show cc0_transform_2 k0_off1_inb numel1_S1 (tbl m) (grid0.coords t) 1 * 1 + 1 * 0 = 0; rw [e]; show 0 * 1 + 1 * 0 = 0; omega

/-- The block of the residual at a point. -/
theorem residual_at (c : Dev nD) (t : Fin (cfgM m hO).N) (r : Fin 1024) (d : Fin 2048) :
    (iblk m hO c 3 t : Vec Ideal S1024x2048 .f32) (ix2 r d) = (m (c.tc.loc main_arg3) : FVec Ideal S8192x2048 .f32) (ix2 (tok (tileOf m (grid0.coords t 0)).toNat (P.tile_lt _) r) d) := by
  have e := map3 m (grid0.coords t)
  unfold iblk
  refine (View.read_apply _ _).trans ?_
  show V m c main_arg3 _ = _
  show m _ _ = m _ _
  congr 1
  funext a
  apply Fin.ext
  match a with
  | ⟨0, _⟩ => show cc0_transform_3 k0_off1_inb numel1_S1 (tbl m) (grid0.coords t) 0 * 1024 + 1 * r.val = (tileOf m (grid0.coords t 0)).toNat * 1024 + r.val; rw [e]; show (tileOf m (grid0.coords t 0)).toNat * 1024 + 1 * r.val = (tileOf m (grid0.coords t 0)).toNat * 1024 + r.val; omega
  | ⟨1, _⟩ => show cc0_transform_3 k0_off1_inb numel1_S1 (tbl m) (grid0.coords t) 1 * 2048 + 1 * d.val = d.val; rw [e]; show 0 * 2048 + 1 * d.val = d.val; omega

/-- The gate at a point. -/
theorem gates_at (c : Dev nD) (t : Fin (cfgM m hO).N) (r : Fin 1024) (d : Fin 2048) :
    (iblk m hO c 4 t : Vec Ideal S1x1x2048 .f32) (ix3 0 0 d) = (m (c.tc.loc main_arg4) : FVec Ideal S96x1x2048 .f32) (ix3 (gateRow (tok (tileOf m (grid0.coords t 0)).toNat (P.tile_lt _) r)) 0 d) := by
  have e := map4 m P (grid0.coords t)
  unfold iblk
  refine (View.read_apply _ _).trans ?_
  show V m c main_arg4 _ = _
  show m _ _ = m _ _
  congr 1
  funext a
  apply Fin.ext
  match a with
  | ⟨0, _⟩ => show cc0_transform_4 k0_off1_inb numel1_S1 (tbl m) (grid0.coords t) 0 * 1 + 1 * 0 = 48 + ((tileOf m (grid0.coords t 0)).toNat * 1024 + r.val) / 4096 * 6 + 5; rw [e]; show (48 + (tileOf m (grid0.coords t 0)).toNat / 4 * 6 + 5) * 1 + 1 * 0 = 48 + ((tileOf m (grid0.coords t 0)).toNat * 1024 + r.val) / 4096 * 6 + 5; omega
  | ⟨1, _⟩ => show cc0_transform_4 k0_off1_inb numel1_S1 (tbl m) (grid0.coords t) 1 * 1 + 1 * 0 = 0; rw [e]; show 0 * 1 + 1 * 0 = 0; omega
  | ⟨2, _⟩ => show cc0_transform_4 k0_off1_inb numel1_S1 (tbl m) (grid0.coords t) 2 * 2048 + 1 * d.val = d.val; rw [e]; show 0 * 2048 + 1 * d.val = d.val; omega

/-- The weight of the results at a point. -/
theorem weight_at (c : Dev nD) (t : Fin (cfgM m hO).N) (d : Fin 2048) :
    (iblk m hO c 5 t : Vec Ideal S1x2048 .f32) (ix2 0 d) = (m (c.tc.loc main_arg5) : FVec Ideal S1x2048 .f32) (ix2 0 d) := by
  unfold iblk
  refine (View.read_apply _ _).trans ?_
  show V m c main_arg5 _ = _
  show m _ _ = m _ _
  congr 1
  funext a
  apply Fin.ext
  match a with
  | ⟨0, _⟩ => show 0 * 1 + 1 * 0 = 0; omega
  | ⟨1, _⟩ => show 0 * 2048 + 1 * d.val = d.val; omega

/-- The offset of the results at a point. -/
theorem offset_at (c : Dev nD) (t : Fin (cfgM m hO).N) (d : Fin 2048) :
    (iblk m hO c 6 t : Vec Ideal S1x2048 .f32) (ix2 0 d) = (m (c.tc.loc main_arg6) : FVec Ideal S1x2048 .f32) (ix2 0 d) := by
  unfold iblk
  refine (View.read_apply _ _).trans ?_
  show V m c main_arg6 _ = _
  show m _ _ = m _ _
  congr 1
  funext a
  apply Fin.ext
  match a with
  | ⟨0, _⟩ => show 0 * 1 + 1 * 0 = 0; omega
  | ⟨1, _⟩ => show 0 * 2048 + 1 * d.val = d.val; omega

/-- A slot's row of the block of outputs at a point. -/
theorem found_at (c : Dev nD) (t : Fin (cfgM m hO).N) (s : BitVec 32) (d : Fin 2048) :
    found (blkOf m (grid0.coords t 0)) s (fun k => (iblk m hO c 0 t : Vec Ideal S256x2048 .bf16) (ix2 k d))
      = open Classical in if Inside (blkOf m (grid0.coords t 0)) s then row m c s d else 0 := by
  unfold found
  by_cases h : Inside (blkOf m (grid0.coords t 0)) s
  · refine (dif_pos h).trans (Eq.trans ?_ (if_pos h).symm)
    have h1 := h.1
    have h2 := h.2
    have hb := P.blk_lt (grid0.coords t 0)
    refine (outputs_at m P hO c t _ d).trans ?_
    unfold row
    rw [dif_pos (by omega : s.toNat < 34560)]
    refine congrArg (fun k => (m (c.tc.loc main_arg0) : FVec Ideal S34560x2048 .bf16) (ix2 k d)) (Fin.ext ?_)
    show (blkOf m (grid0.coords t 0)).toNat * 256 + (s.toNat - (blkOf m (grid0.coords t 0)).toNat * 256) = s.toNat
    omega
  · exact (dif_neg h).trans (if_neg h).symm

end Cert.CombineIdeal.Tile

end
-- ==== Proof.CombineSums.lean ====
/- What the accumulator of the combination call gathers, pair by pair: a slot's output counts from the pair on that meets
   its block in the token's tile. No precondition is used but what the tables satisfy. -/
module

public import proofs.«01_k».proof.Proof.CombineBlocks

@[expose] public section

set_option maxRecDepth 16384

noncomputable section

namespace Cert.CombineIdeal.Tile

open Cert.CombineIdeal Cert.CombineIdeal.Gen Cert.CombineIdeal.Body Cert.Combining
open Idealize.ShloMosaic hiding ix1 ix2 ix3 ix4
open Idealize.ShloMosaic.TcCoe Idealize.ShloMosaic.ValueIdx
open scoped BigOperators
open scoped Classical

variable (m : (ℓ : Loc nD τ sig) → Buf (Elt Ideal) ℓ)

/-- Pair `p` meets slot `s`. -/
def Meets (p : Fin 128) (s : BitVec 32) : Prop := validOf m p = 1#32 ∧ Inside (blkOf m p) s

/-- Some pair of `p`'s tile, up to `p`, meets slot `s`. -/
def Seen (p : Fin 128) (s : BitVec 32) : Prop := ∃ q : Fin 128, q.val ≤ p.val ∧ tileOf m q = tileOf m p ∧ Meets m q s

/-- What pair `p` adds of slot `s`. -/
def gain (c : Dev nD) (p : Fin 128) (s : BitVec 32) (d : Fin 2048) : EReal := if Meets m p s then row m c s d else 0

/-- What the pairs up to `p` added of slot `s`. -/
def pick (c : Dev nD) (p : Fin 128) (s : BitVec 32) (d : Fin 2048) : EReal := if Seen m p s then row m c s d else 0

variable (P : PairedOf m)
include P

/-- At the first pair of a tile, only that pair counts. -/
theorem pick_first (c : Dev nD) (p : Fin 128) (hf : firstOf m p = 1#32) (s : BitVec 32) (d : Fin 2048) : pick m c p s d = gain m c p s d := by
  have h : Seen m p s ↔ Meets m p s := by
    constructor
    · rintro ⟨q, hq, ht, hm⟩
      rcases Nat.lt_or_eq_of_le hq with h | h
      · exact absurd ht.symm (P.starts p q hf h)
      · obtain rfl : q = p := Fin.ext h
        exact hm
    · exact fun hm => ⟨p, Nat.le_refl _, rfl, hm⟩
  unfold pick gain
  simp only [h]

/-- At another pair of a tile, it is added to what the pairs before it added. -/
theorem pick_next (c : Dev nD) (p q : Fin 128) (hq : p.val = q.val + 1) (ht : tileOf m p = tileOf m q) (s : BitVec 32) (d : Fin 2048) :
    pick m c p s d = pick m c q s d + gain m c p s d := by
  have h : Seen m p s ↔ Seen m q s ∨ Meets m p s := by
    constructor
    · rintro ⟨k, hk, hkt, hm⟩
      by_cases h : k.val = p.val
      · obtain rfl : k = p := Fin.ext h
        exact .inr hm
      · exact .inl ⟨k, by omega, hkt.trans ht, hm⟩
    · rintro (⟨k, hk, hkt, hm⟩ | hm)
      · exact ⟨k, by omega, hkt.trans ht.symm, hm⟩
      · exact ⟨p, Nat.le_refl _, rfl, hm⟩
  have hx : Seen m q s → ¬ Meets m p s := by
    rintro ⟨k, hk, hkt, hkv, hki⟩ ⟨hv, hi⟩
    refine P.once p k (fun e => by rw [e] at hq; omega) hv hkv (ht.trans hkt.symm) (BitVec.eq_of_toNat_eq ?_)
    have h1 := hki.1
    have h2 := hki.2
    have h3 := hi.1
    have h4 := hi.2
    omega
  unfold pick gain
  by_cases h1 : Seen m q s
  · rw [if_pos (h.mpr (.inl h1)), if_pos h1, if_neg (hx h1), add_zero]
  · by_cases h2 : Meets m p s
    · rw [if_pos (h.mpr (.inr h2)), if_neg h1, if_pos h2, zero_add]
    · rw [if_neg (fun e => (h.mp e).elim h1 h2), if_neg h1, if_neg h2, add_zero]

theorem same_tile (p q : Fin 128) (h : (tileOf m q).toNat = (tileOf m p).toNat) : tileOf m q = tileOf m p := BitVec.eq_of_toNat_eq h

/-- At the last pair of a tile, both slots of each of its tokens were met. -/
theorem pick_last (c : Dev nD) (p : Fin 128) (hl : lastOf m p = 1#32) (t : Fin 8192) (ht : t.val / 1024 = (tileOf m p).toNat) (d : Fin 2048) :
    pick m c p (slotA m t) d = row m c (slotA m t) d ∧ pick m c p (slotB m t) d = row m c (slotB m t) d := by
  have key : ∀ s : BitVec 32, (∃ q, (tileOf m q).toNat = t.val / 1024 ∧ validOf m q = 1#32 ∧ (blkOf m q).toNat * 256 ≤ s.toNat ∧ s.toNat < (blkOf m q).toNat * 256 + 256) →
      pick m c p s d = row m c s d := by
    rintro s ⟨q, hq, hv, h1, h2⟩
    have e := same_tile m P p q (hq.trans ht)
    refine if_pos ⟨q, Nat.le_of_not_lt fun h => P.ends p q hl h e.symm hv, e, hv, h1, h2⟩
  exact ⟨key _ (P.met_a t), key _ (P.met_b t)⟩

variable (hO : ok0 (F := Ideal) (tbl m))

/-- The accumulator after a point, row by row. -/
theorem acc_rows (c : Dev nD) (t : Fin (cfgM m hO).N) (p : Fin 128) (hp : grid0.coords t 0 = p) (f : Vec Ideal S1024x2048 .f32) (r : Fin 1024) (d : Fin 2048) :
    acc (firstAt m (grid0.coords t)) (validAt m (grid0.coords t)) (blkAt m (grid0.coords t)) (iblk m hO c 0 t) (iblk m hO c 1 t) (iblk m hO c 2 t) f (ix2 r d)
      = ((if firstOf m p = 1#32 then 0 else f (ix2 r d) : EReal)
        + (gain m c p (slotA m (tok (tileOf m p).toNat (P.tile_lt p) r)) d + gain m c p (slotB m (tok (tileOf m p).toNat (P.tile_lt p) r)) d) : EReal) := by
  subst hp
  have hs : ∀ y : S1024x2048.Idx, start (F := Ideal) (firstAt m (grid0.coords t)) f y = if firstOf m (grid0.coords t 0) = 1#32 then (0 : EReal) else f y := by
    intro y
    unfold start
    rw [firstAt_eq]
    by_cases h : firstOf m (grid0.coords t 0) = 1#32
    · exact (congrFun (if_pos ((flag_iff _).mpr h)) y).trans ((pay1_apply y).trans (if_pos h).symm)
    · exact (congrFun (if_neg fun e => h ((flag_iff _).mp e)) y).trans (if_neg h).symm
  have ha : (iblk m hO c 1 t : Vec Ideal S1024x1 .i32) (ix2 r 0) = slotA m (tok (tileOf m (grid0.coords t 0)).toNat (P.tile_lt _) r) := by
    obtain rfl : c = 0 := Subsingleton.elim _ _
    exact slots_a_at m P hO 0 t r
  have hb : (iblk m hO c 2 t : Vec Ideal S1024x1 .i32) (ix2 r 0) = slotB m (tok (tileOf m (grid0.coords t 0)).toNat (P.tile_lt _) r) := by
    obtain rfl : c = 0 := Subsingleton.elim _ _
    exact slots_b_at m P hO 0 t r
  unfold acc
  rw [validAt_eq, blkAt_eq]
  by_cases hv : validOf m (grid0.coords t 0) = 1#32
  · refine (congrFun (if_pos ((flag_iff _).mpr hv)) (ix2 r d)).trans ?_
    refine (pay2_apply _ _ _ _ _ r d).trans ?_
    rw [hs, ha, hb]
    refine congrArg (fun z : EReal => ((if firstOf m (grid0.coords t 0) = 1#32 then 0 else f (ix2 r d) : EReal) + z : EReal)) ?_
    refine (hot_sum _ _ _ (P.blk_lt _) (P.apart _) (fun k => (iblk m hO c 0 t : Vec Ideal S256x2048 .bf16) (ix2 k d))).trans ?_
    rw [found_at m P hO, found_at m P hO]
    have hg : ∀ s, gain m c (grid0.coords t 0) s d = if Inside (blkOf m (grid0.coords t 0)) s then row m c s d else 0 := by
      intro s
      unfold gain
      by_cases h : Inside (blkOf m (grid0.coords t 0)) s
      · exact (if_pos ⟨hv, h⟩).trans (if_pos h).symm
      · exact (if_neg fun e => h e.2).trans (if_neg h).symm
    rw [hg, hg]
  · refine (congrFun (if_neg fun e => hv ((flag_iff _).mp e)) (ix2 r d)).trans ?_
    rw [hs, show gain m c (grid0.coords t 0) _ d = 0 from if_neg fun e => hv e.1, show gain m c (grid0.coords t 0) _ d = 0 from if_neg fun e => hv e.1]
    exact (congrArg (fun z : EReal => _ + z) (add_zero (0 : EReal))).trans (add_zero _) |>.symm

end Cert.CombineIdeal.Tile

end
-- ==== Proof.CombineSteps.lean ====
/- The combination call over the extended reals: what the accumulator and the block of results hold after each point, and
   the array the call leaves. -/
module

public import proofs.«01_k».proof.Proof.CombineSums

@[expose] public section

set_option maxRecDepth 16384

noncomputable section

namespace Cert.CombineIdeal.Tile

open Cert.CombineIdeal Cert.CombineIdeal.Gen Cert.CombineIdeal.Body Cert.Combining
open Idealize.ShloMosaic hiding ix1 ix2 ix3 ix4
open Idealize.ShloMosaic.TcCoe Idealize.ShloMosaic.ValueIdx
open Idealize.SL.Sem
open Idealize.ShloMosaic.Pipeline (Dat RDat Window)
open scoped BigOperators

variable (m : (ℓ : Loc nD τ sig) → Buf (Elt Ideal) ℓ)
variable (P : PairedOf m) (hO : ok0 (F := Ideal) (tbl m))

/-- What the accumulator holds before point `n`: what the pairs of the tile met so far of each token's two slots. -/
def Acc (n : ℕ) (v : Vec Ideal S1024x2048 .f32) : Prop :=
  ∀ (c : Dev nD) (p : Fin 128) (h : p.val + 1 = n) (r : Fin 1024) (d : Fin 2048),
    v (ix2 r d) = pick m c p (slotA m (tok (tileOf m p).toNat (P.tile_lt p) r)) d + pick m c p (slotB m (tok (tileOf m p).toNat (P.tile_lt p) r)) d

/-- The pair of a point. -/
def pair (t : Fin (cfgM m hO).N) : Fin 128 := ⟨t.val, Nat.lt_of_lt_of_eq t.isLt N_0⟩

omit P in
theorem pair_eq (t : Fin (cfgM m hO).N) : grid0.coords t 0 = pair m hO t := Fin.ext (coords_at t)

/-- What the block of results holds after a point: from the last pair of the point's tile on, the results. -/
def Out (t : Fin (cfgM m hO).N) (Y : Vec Ideal S1024x2048 .f32) : Prop :=
  (∃ q : Fin 128, q.val ≤ t.val ∧ tileOf m q = tileOf m (pair m hO t) ∧ lastOf m q = 1#32) →
    ∀ (c : Dev nD) (r : Fin 1024) (d : Fin 2048), Y (ix2 r d) = result m c (tok (tileOf m (pair m hO t)).toNat (P.tile_lt _) r) d

omit P in
theorem tok_congr {e e' : ℕ} (h : e = e') (he : e < 8) (he' : e' < 8) (r : Fin 1024) : tok e he r = tok e' he' r := by subst h; rfl

omit P in
theorem place (t : Fin (cfgM m hO).N) : ((cfgM m hO).win 7).index t = ![(tileOf m (pair m hO t)).toNat, 0] :=
  (map7 m (grid0.coords t)).trans (by rw [pair_eq m hO])

omit P in
/-- The block of results is written back at the last point, and where the next point's block is another one. -/
theorem flush_iff (t : Fin (cfgM m hO).N) :
    ((cfgM m hO).win 7).flush t = true ↔ t.val + 1 = 128 ∨ ∃ q : Fin 128, q.val = t.val + 1 ∧ (tileOf m q).toNat ≠ (tileOf m (pair m hO t)).toNat := by
  have hN : (cfgM m hO).grid.N = 128 := N_0
  have hout : ((cfgM m hO).win 7).isOut = true := rfl
  unfold Window.flush
  rw [hout, Bool.true_and, Bool.or_eq_true, decide_eq_true_eq, decide_eq_true_eq]
  refine or_congr ⟨fun h => h.trans hN, fun h => h.trans hN.symm⟩ ⟨?_, ?_⟩
  · rintro ⟨h, hne⟩
    refine ⟨⟨t.val + 1, Nat.lt_of_lt_of_eq h hN⟩, rfl, fun e => hne ?_⟩
    rw [place m hO ⟨t.val + 1, h⟩, place m hO t]
    exact congrArg (fun k : ℕ => (![k, 0] : Fin 2 → ℕ)) e
  · rintro ⟨q, hq, hne⟩
    have h' : t.val + 1 < (cfgM m hO).grid.N := Nat.lt_of_lt_of_eq (hq ▸ q.isLt) hN.symm
    refine ⟨h', fun e => hne ?_⟩
    rw [place m hO ⟨t.val + 1, h'⟩, place m hO t] at e
    have e0 : (tileOf m ⟨t.val + 1, _⟩).toNat = _ := congrFun e 0
    exact (congrArg (fun k => (tileOf m k).toNat) (Fin.ext hq : q = ⟨t.val + 1, _⟩)).trans e0

omit P in
theorem finish_congr {x x' g2 g2' a a' g g' b b'} (h0 : x = x') (h1 : g2 = g2') (h2 : a = a') (h3 : g = g') (h4 : b = b') (r : Fin 1024) (d : Fin 2048) :
    finish x g2 a g b r d = finish x' g2' a' g' b' r d := by subst h0; subst h1; subst h2; subst h3; subst h4; rfl

include P

/-- The results of a tile, from the accumulator its last pair leaves. -/
theorem finished (c : Dev nD) (t : Fin (cfgM m hO).N) (a : Vec Ideal S1024x2048 .f32)
    (ha : ∀ (r : Fin 1024) (d : Fin 2048), a (ix2 r d) = row m c (slotA m (tok (tileOf m (grid0.coords t 0)).toNat (P.tile_lt _) r)) d + row m c (slotB m (tok (tileOf m (grid0.coords t 0)).toNat (P.tile_lt _) r)) d)
    (r : Fin 1024) (d : Fin 2048) :
    finish (iblk m hO c 3 t) (iblk m hO c 4 t) a (iblk m hO c 5 t) (iblk m hO c 6 t) r d = result m c (tok (tileOf m (grid0.coords t 0)).toNat (P.tile_lt _) r) d := by
  unfold finish result
  rw [show (fun q => (iblk m hO c 3 t : Vec Ideal S1024x2048 .f32) (ix2 r q)) = _ from funext fun q => residual_at m P hO c t r q,
    show (fun q => (iblk m hO c 4 t : Vec Ideal S1x1x2048 .f32) (ix3 0 0 q)) = _ from funext fun q => gates_at m P hO c t r q,
    show (fun q => a (ix2 r q)) = _ from funext fun q => ha r q,
    show (fun q => (iblk m hO c 5 t : Vec Ideal S1x2048 .f32) (ix2 0 q)) = _ from funext fun q => weight_at m P hO c t q,
    show (fun q => (iblk m hO c 6 t : Vec Ideal S1x2048 .f32) (ix2 0 q)) = _ from funext fun q => offset_at m P hO c t q]

theorem steps : Steps m hO (Acc m P) (Out m P hO) where
  init := fun v c p h => absurd h (by omega)
  run := by
    intro c t X6 X7 X8 X9 X10 X11 X12 f g z e6 e7 e8 e9 e10 e11 e12 hA hB hz
    have hp := pair_eq m hO t
    have hacc : ∀ (c : Dev nD) (r : Fin 1024) (d : Fin 2048), scM0_0.view.read (Elt Ideal) z (ix2 r d)
        = pick m c (pair m hO t) (slotA m (tok (tileOf m (pair m hO t)).toNat (P.tile_lt _) r)) d + pick m c (pair m hO t) (slotB m (tok (tileOf m (pair m hO t)).toNat (P.tile_lt _) r)) d := by
      intro c' r d
      obtain rfl : c' = c := Subsingleton.elim _ _
      refine (congrFun hz (ix2 r d)).trans ((acc_rows m P hO c' t (pair m hO t) hp _ r d).trans ?_)
      by_cases hf : firstOf m (pair m hO t) = 1#32
      · rw [if_pos hf, zero_add, pick_first m P c' _ hf, pick_first m P c' _ hf]
      · rw [if_neg hf]
        obtain ⟨h0, hg⟩ := P.goes_on _ hf
        have h0 : t.val ≠ 0 := h0
        have ht : t.val < 128 := (pair m hO t).isLt
        have hq : (pair m hO t).val = (⟨t.val - 1, by omega⟩ : Fin 128).val + 1 := by show t.val = t.val - 1 + 1; omega
        have hT := hg _ hq
        have h := hA c' ⟨t.val - 1, by omega⟩ (by show t.val - 1 + 1 = t.val; omega) r d
        rw [tok_congr (congrArg BitVec.toNat hT.symm) (P.tile_lt _) (P.tile_lt _) r] at h
        rw [pick_next m P c' _ _ hq hT, pick_next m P c' _ _ hq hT]
        exact (congrArg (fun s : EReal => s + _) h).trans (add_add_add_comm _ _ _ _)
    refine ⟨fun c' p h r d => ?_, ?_⟩
    · have e : p = pair m hO t := Fin.ext (Nat.succ.inj h)
      subst e
      exact hacc c' r d
    · intro hl c' r d
      obtain rfl : c' = c := Subsingleton.elim _ _
      by_cases hlast : lastOf m (pair m hO t) = 1#32
      · refine (out_rows c' (grid0.coords t) tbM0_0 htbM0_0 tbM0_1 htbM0_1 tbM0_2 htbM0_2 tbM0_3 htbM0_3 tbM0_4 htbM0_4 (st0_0 m hO t) (hst0_0 m hO t) (st0_1 m hO t) (hst0_1 m hO t) (st0_2 m hO t) (hst0_2 m hO t) (st0_3 m hO t) (hst0_3 m hO t) (st0_4 m hO t) (hst0_4 m hO t) (st0_5 m hO t) (hst0_5 m hO t) (st0_6 m hO t) (hst0_6 m hO t) (st0_7 m hO t) (hst0_7 m hO t) scM0_0 hscM0_0 X9 X10 X11 X12 z g (lastAt m (grid0.coords t)) ((lastAt_eq m _).trans ((congrArg (lastOf m) hp).trans hlast)) r d).trans ?_
        refine (finish_congr e9 e10 rfl e11 e12 r d).trans ?_
        have hr := finished m P hO c' t (scM0_0.view.read (Elt Ideal) z) (fun r d => ?_) r d
        · refine hr.trans (congrArg (fun k => result m c' k d) (tok_congr (congrArg (fun p => (tileOf m p).toNat) hp) _ _ r))
        · rw [tok_congr (congrArg (fun p => (tileOf m p).toNat) hp) _ (P.tile_lt (pair m hO t)) r]
          have hk := pick_last m P c' (pair m hO t) hlast (tok (tileOf m (pair m hO t)).toNat (P.tile_lt _) r) (by show (_ * 1024 + r.val) / 1024 = _; omega) d
          refine (hacc c' r d).trans ?_
          rw [hk.1, hk.2]
      · refine (congrFun (out_kept c' (grid0.coords t) tbM0_0 htbM0_0 tbM0_1 htbM0_1 tbM0_2 htbM0_2 tbM0_3 htbM0_3 tbM0_4 htbM0_4 (st0_0 m hO t) (hst0_0 m hO t) (st0_1 m hO t) (hst0_1 m hO t) (st0_2 m hO t) (hst0_2 m hO t) (st0_3 m hO t) (hst0_3 m hO t) (st0_4 m hO t) (hst0_4 m hO t) (st0_5 m hO t) (hst0_5 m hO t) (st0_6 m hO t) (hst0_6 m hO t) (st0_7 m hO t) (hst0_7 m hO t) scM0_0 hscM0_0 X9 X10 X11 X12 z g (lastAt m (grid0.coords t)) (fun e => hlast ((congrArg (lastOf m) hp).symm.trans ((lastAt_eq m _).symm.trans e)))) (ix2 r d)).trans ?_
        obtain ⟨q, hq, hqt, hql⟩ := hl
        have hne : q.val ≠ t.val := fun e => hlast ((congrArg (lastOf m) (Fin.ext e : q = pair m hO t)).symm.trans hql)
        have ht : t.val < 128 := (pair m hO t).isLt
        rcases hB with h0 | ⟨ht', hf | ho⟩
        · omega
        · rcases (flush_iff m hO _).mp hf with h | ⟨k, hk, h⟩
          · have h : t.val - 1 + 1 = 128 := h
            omega
          · have hk : k.val = t.val - 1 + 1 := hk
            obtain rfl : k = pair m hO t := Fin.ext (by show k.val = t.val; omega)
            have h1 := P.sorted (pair m hO ⟨t.val - 1, ht'⟩) q (by show q.val ≤ t.val - 1; omega)
            have h2 := P.sorted (pair m hO t) (pair m hO ⟨t.val - 1, ht'⟩) (by show t.val - 1 ≤ t.val; omega)
            rw [hqt] at h1
            omega
        · have h1 := P.sorted (pair m hO ⟨t.val - 1, ht'⟩) q (by show q.val ≤ t.val - 1; omega)
          have h2 := P.sorted (pair m hO t) (pair m hO ⟨t.val - 1, ht'⟩) (by show t.val - 1 ≤ t.val; omega)
          rw [hqt] at h1
          have e : (tileOf m (pair m hO ⟨t.val - 1, ht'⟩)).toNat = (tileOf m (pair m hO t)).toNat := by omega
          have h := ho ⟨q, by show q.val ≤ t.val - 1; omega, hqt.trans (same_tile m P _ _ e).symm, hql⟩ c' r d
          exact h.trans (congrArg (fun k => result m c' k d) (tok_congr e _ _ r))

omit P in
/-- Where an entry of the block of results lies in the array. -/
theorem lies (t : Fin (cfgM m hO).N) (y : S1024x2048.Idx) (i : S8192x2048.Idx)
    (h : (((cfgM m hO).win 7).blk t).view.emb y = i) : (i 0).val = (tileOf m (pair m hO t)).toNat * 1024 + (y 0).val ∧ (i 1).val = (y 1).val := by
  have e := map7 m (grid0.coords t)
  rw [pair_eq m hO] at e
  refine ⟨?_, ?_⟩
  · rw [← h]
    show cc0_transform_7 k0_off1_inb numel1_S1 (tbl m) (grid0.coords t) 0 * 1024 + 1 * (y 0).val = _
    rw [e]; show (tileOf m (pair m hO t)).toNat * 1024 + 1 * (y 0).val = _; omega
  · rw [← h]
    show cc0_transform_7 k0_off1_inb numel1_S1 (tbl m) (grid0.coords t) 1 * 2048 + 1 * (y 1).val = _
    rw [e]; show 0 * 2048 + 1 * (y 1).val = _; omega

omit P in
theorem covered (t : Fin (cfgM m hO).N) (e : Fin 8) (r : Fin 1024) (d : Fin 2048) (h : (tileOf m (pair m hO t)).toNat = e.val) :
    ix2 (tok e.val e.isLt r) d ∈ (((cfgM m hO).win 7).blk t).view.set := by
  have e : (((cfgM m hO).win 7).blk t).view.emb (ix2 r d : S1024x2048.Idx) = ix2 (tok e.val e.isLt r) d := by
    obtain ⟨h0, h1⟩ := lies m hO t (ix2 r d) _ rfl
    funext a; apply Fin.ext
    match a with
    | ⟨0, _⟩ => exact h0.trans (by rw [h]; rfl)
    | ⟨1, _⟩ => exact h1
  rw [← e]
  exact View.emb_mem_set _ _

variable {m hO}

/-- The array the call leaves: the tokens' results. -/
theorem array {r : PUnit × MemSt nD τ sig (Elt Ideal)} (h : Post (m := m) (hO := hO) (Acc := Acc m P) (Out := Out m P hO) r) (c : Dev nD)
    (e : Fin 8) (p : Fin 1024) (d : Fin 2048) :
    (r.2.mem (c.tc.loc main_v0) : FVec Ideal S8192x2048 .f32) (ix2 (tok e.val e.isLt p) d) = result m c (tok e.val e.isLt p) d := by
  obtain ⟨after, hL, hA⟩ := RDat.FramePost.exists_exact h c
  have hN : (cfgM m hO).grid.N = 128 := N_0
  refine (congrFun (hA 7) (ix2 (tok e.val e.isLt p) d)).trans ?_
  have key := Dat.arrAt_forall_of_flushed (((dat m hO (Acc m P) c).toRRel (marked m hO) (rel m hO (Out m P hO))).withAfter after) 7
    (fun i v => ∀ (e : Fin 8) (p : Fin 1024) (d : Fin 2048), (i : S8192x2048.Idx) = ix2 (tok e.val e.isLt p) d → (v : EReal) = result m c (tok e.val e.isLt p) d)
    (fun t hf (y : S1024x2048.Idx) e p d hi => by
      obtain ⟨h0, h1⟩ := lies m hO t y _ hi
      have hy : (y 0).val < 1024 := (y 0).isLt
      have hp := p.isLt
      have h0 : e.val * 1024 + p.val = (tileOf m (pair m hO t)).toNat * 1024 + (y 0).val := h0
      have h1 : d.val = (y 1).val := h1
      have es : (tileOf m (pair m hO t)).toNat = e.val := by omega
      have ho : Out m P hO t (after 7 t) := Dat.toRRel_leaves (Rl := rel m hO (Out m P hO)) (fgt := marked m hO) (w := 7) (dat m hO (Acc m P) c) rfl (hL 7 t hf)
      have ey : y = ix2 p d := by
        funext a; apply Fin.ext
        match a with
        | ⟨0, _⟩ => show (y 0).val = p.val; omega
        | ⟨1, _⟩ => exact h1.symm
      obtain ⟨q, hq, hql⟩ := P.closed e
      have hqt : q.val ≤ t.val := by
        rcases (flush_iff m hO t).mp hf with h | ⟨k, hk, h⟩
        · have := q.isLt; omega
        · refine Nat.le_of_not_lt fun hlt => ?_
          have s1 := P.sorted q k (by omega)
          have s2 := P.sorted k (pair m hO t) (by show t.val ≤ k.val; omega)
          omega
      have hr := ho ⟨q, hqt, same_tile m P _ _ (hq.trans es.symm), hql⟩ c p d
      refine (cast_eq _ _).trans ?_
      refine Eq.trans (congrArg (after 7 t : S1024x2048.Idx → EReal) ey) (hr.trans ?_)
      exact congrArg (fun k => result m c k d) (tok_congr es _ _ p)) (cfgM m hO).N
  obtain ⟨t, hf, et⟩ : ∃ t : Fin (cfgM m hO).N, ((cfgM m hO).win 7).flush t = true ∧ (tileOf m (pair m hO t)).toNat = e.val := by
    obtain ⟨q0, hq0, -⟩ := P.closed e
    obtain ⟨k, hk, hmax⟩ := Finset.exists_max_image (Finset.univ.filter fun q : Fin 128 => (tileOf m q).toNat = e.val) (fun q => q.val) ⟨q0, Finset.mem_filter.mpr ⟨Finset.mem_univ _, hq0⟩⟩
    have hke := (Finset.mem_filter.mp hk).2
    refine ⟨⟨k.val, Nat.lt_of_lt_of_eq k.isLt hN.symm⟩, (flush_iff m hO _).mpr ?_, hke⟩
    by_cases hl : k.val + 1 = 128
    · exact .inl hl
    · refine .inr ⟨⟨k.val + 1, by have := k.isLt; omega⟩, rfl, fun he => ?_⟩
      have := hmax ⟨k.val + 1, by have := k.isLt; omega⟩ (Finset.mem_filter.mpr ⟨Finset.mem_univ _, he.trans hke⟩)
      have : k.val + 1 ≤ k.val := this
      omega
  exact key t _ t.isLt hf (covered m hO t e p d et) e p d rfl

end Cert.CombineIdeal.Tile

end
-- ==== Proof.CombineReference.lean ====
/- What the reference of the combination leaves in its result array, entry by entry: the token's two outputs added, gated
   and added to the residual, scaled to zero mean and unit variance, weighed and offset. -/
module

public import proofs.«01_k».proof.Proof.Gen.RefCombineIdeal.Run
public import proofs.«01_k».proof.Proof.CombineNorm
public import Idealize.ShloMosaic.Lib.IdealHost
public import Idealize.ShloMosaic.Lib.StackMember
public import Idealize.ShloMosaic.Lib.KernelVsHost

@[expose] public section

set_option maxRecDepth 16384

noncomputable section

namespace Cert.RefCombineIdeal.Entry

open Cert.RefCombineIdeal Cert.RefCombineIdeal.Gen Cert.RefCombineIdeal.Value Cert.Combining Cert.Products
open Idealize.ShloMosaic
open Idealize.ShloMosaic.TcCoe Idealize.ShloMosaic.ValueIdx
open Idealize.SL.Sem
open scoped BigOperators

/-- A row taken by its number. -/
theorem taken (x : FVec Ideal S34560x2048 .f32) (idx : IVec S8192x1 32) (t : Fin 8192) (d : Fin 2048) :
    Host.gather gather_S34560x2048_S8192x1_S8192x2048_1_0_n_n_0_1_12048 x idx (ix2 t d)
      = x (ix2 ⟨min (idx (ix2 t 0)).toInt.toNat 34559, by omega⟩ d) := by
  unfold Host.gather
  congr 1
  funext a
  refine Fin.ext ?_
  show (gather_S34560x2048_S8192x1_S8192x2048_1_0_n_n_0_1_12048).start (ix2 t d) idx a + (gather_S34560x2048_S8192x1_S8192x2048_1_0_n_n_0_1_12048).batchCoord (ix2 t d) a
      + (gather_S34560x2048_S8192x1_S8192x2048_1_0_n_n_0_1_12048).offCoord (ix2 t d) a = _
  have h01 : a = 0 ∨ a = 1 := by
    match a with
    | ⟨0, _⟩ => exact Or.inl rfl
    | ⟨1, _⟩ => exact Or.inr rfl
  rw [GatherDims.batchCoord_eq_zero _ _ _ List.not_mem_nil, Nat.add_zero]
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (gather_S34560x2048_S8192x1_S8192x2048_1_0_n_n_0_1_12048).startIndexMap from List.mem_singleton.mpr rfl)]
    have hsi : (gather_S34560x2048_S8192x1_S8192x2048_1_0_n_n_0_1_12048).siIdx (ix2 t d) ⟨List.idxOf (0 : Fin 2) (gather_S34560x2048_S8192x1_S8192x2048_1_0_n_n_0_1_12048).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  · have h0 : (gather_S34560x2048_S8192x1_S8192x2048_1_0_n_n_0_1_12048).start (ix2 t d) idx 1 = 0 := by
      unfold GatherDims.start
      exact dif_neg (by decide : ¬ (1 : Fin 2) ∈ ([0] : List (Fin 2)))
    rw [h0, Nat.zero_add]
    unfold GatherDims.offCoord
    rw [dif_pos ((GatherDims.mem_sKept _ _).mpr ⟨(by decide : ¬ (1 : Fin 2) ∈ ([0] : List (Fin 2))), List.not_mem_nil⟩)]
    rfl

/-- The words of a column, read as a row and made a column again. -/
theorem column_again (s : IVec S8192x1 32) (t : Fin 8192) :
    broadcastInDim S8192x1 ![0] bcast_S8192_S8192x1_0 (shapeCast S8192 s shapeCasts_S8192x1_S8192) (ix2 t 0) = s (ix2 t 0) := by
  refine (broadcastInDim_apply _ _ _ (ix2 t 0) (ix1 t) fun a => ?_).trans (shapeCast_apply s _ _ _ ?_)
  · match a with
    | ⟨0, _⟩ => rfl
  · rw [Shape.rowMajor_val_two, Shape.rowMajor_val_one]
    show t.val * 1 + 0 = t.val
    omega

/-- A token's output in one of its slots. -/
theorem output_at (y : FVec Ideal S34560x2048 .bf16) (s : IVec S8192x1 32) (t : Fin 8192) (d : Fin 2048) :
    Host.gather gather_S34560x2048_S8192x1_S8192x2048_1_0_n_n_0_1_12048 (extf (F := Ideal) .f32 y bitsLt_bf16_f32)
        (broadcastInDim S8192x1 ![0] bcast_S8192_S8192x1_0 (shapeCast _ s shapeCasts_S8192x1_S8192)) (ix2 t d)
      = (y (ix2 ⟨min (s (ix2 t 0)).toInt.toNat 34559, by omega⟩ d) : EReal) := by
  refine (taken _ _ t d).trans ?_
  show (y _ : EReal) = y _
  refine congrArg (fun k => (y (ix2 k d) : EReal)) (Fin.ext ?_)
  show min _ _ = min _ _
  rw [column_again]

/-- The row of the modulations a token's gate is in. -/
theorem gate_at (mod : FVec Ideal S96x1x2048 .f32) (t : Fin 8192) (d : Fin 2048) (k : Fin 96) (hk : k.val = 48 + t.val / 4096 * 6 + 5) :
    shapeCast S8192x2048 (broadcastInDim S2x4096x2048 ![0, 1, 2] bcast_S2x1x2048_S2x4096x2048_0_1_2 (broadcastInDim S2x1x2048 ![0, 2] bcast_S2x2048_S2x1x2048_0_2
      (shapeCast S2x2048 (extractStridedSlice S1x2x1x2048 ![1, 0, 5, 0] (shapeCast S2x8x6x2048 mod shapeCasts_S96x1x2048_S2x8x6x2048) slices_S2x8x6x2048_S1x2x1x2048_1_0_5_0) shapeCasts_S1x2x1x2048_S2x2048)))
      shapeCasts_S2x4096x2048_S8192x2048 (ix2 t d) = mod (ix3 k 0 d) := by
  have ht := t.isLt
  refine (shapeCast_apply _ _ (ix2 t d) (ix3 (⟨t.val / 4096, by omega⟩ : Fin 2) (⟨t.val % 4096, by omega⟩ : Fin 4096) d) ?_).trans ?_
  · rw [Shape.rowMajor_val_three, Shape.rowMajor_val_two]
    show (t.val / 4096 * 4096 + t.val % 4096) * 2048 + d.val = t.val * 2048 + d.val
    omega
  refine (broadcastInDim_apply _ _ _ _ (ix3 (⟨t.val / 4096, by omega⟩ : Fin 2) (0 : Fin 1) d) fun a => ?_).trans ?_
  · match a with
    | ⟨0, _⟩ => rfl
    | ⟨1, _⟩ => rfl
    | ⟨2, _⟩ => rfl
  refine (broadcastInDim_apply _ _ _ _ (ix2 (⟨t.val / 4096, by omega⟩ : Fin 2) d) fun a => ?_).trans ?_
  · match a with
    | ⟨0, _⟩ => rfl
    | ⟨1, _⟩ => rfl
  refine (shapeCast_apply _ _ _ (ix4 (0 : Fin 1) (⟨t.val / 4096, by omega⟩ : Fin 2) (0 : Fin 1) d) ?_).trans ?_
  · rw [Shape.rowMajor_val_four, Shape.rowMajor_val_two]
    show ((0 * 2 + t.val / 4096) * 1 + 0) * 2048 + d.val = t.val / 4096 * 2048 + d.val
    omega
  refine (extractStridedSlice_apply _ _ _ _ (ix4 (1 : Fin 2) (⟨t.val / 4096, by omega⟩ : Fin 8) (5 : Fin 6) d) fun ax => ?_).trans ?_
  · match ax with
    | ⟨0, _⟩ => rfl
    | ⟨1, _⟩ => exact (Nat.zero_add _).symm
    | ⟨2, _⟩ => rfl
    | ⟨3, _⟩ => exact (Nat.zero_add _).symm
  refine shapeCast_apply mod _ _ _ ?_
  rw [Shape.rowMajor_val_four, Shape.rowMajor_val_three]
  show (k.val * 1 + 0) * 2048 + d.val = ((1 * 8 + t.val / 4096) * 6 + 5) * 2048 + d.val
  rw [hk]
  omega

/-- A row repeated over all the tokens. -/
theorem row_at (g : FVec Ideal S1x2048 .f32) (t : Fin 8192) (d : Fin 2048) :
    broadcastInDim S8192x2048 ![0, 1] bcast_S1x2048_S8192x2048_0_1 (broadcastInDim S1x2048 ![1] bcast_S2048_S1x2048_1 (shapeCast S2048 g shapeCasts_S1x2048_S2048)) (ix2 t d) = g (ix2 0 d) := by
  refine (broadcastInDim_apply _ _ _ _ (ix2 (0 : Fin 1) d) fun a => ?_).trans ?_
  · match a with
    | ⟨0, _⟩ => rfl
    | ⟨1, _⟩ => rfl
  refine (broadcastInDim_apply _ _ _ _ (ix1 d) fun a => ?_).trans ?_
  · match a with
    | ⟨0, _⟩ => rfl
  refine shapeCast_apply g _ _ _ ?_
  rw [Shape.rowMajor_val_two, Shape.rowMajor_val_one]
  show 0 * 2048 + d.val = d.val
  omega

/-- A column spread over its rows. -/
theorem column_at (w : FVec Ideal S8192x1 .f32) (t : Fin 8192) (d : Fin 2048) :
    broadcastInDim S8192x2048 ![0, 1] bcast_S8192x1_S8192x2048_0_1 w (ix2 t d) = w (ix2 t 0) :=
  broadcastInDim_apply _ _ _ (ix2 t d) (ix2 t 0) fun a => by
    match a with
    | ⟨0, _⟩ => rfl
    | ⟨1, _⟩ => rfl

/-- The means of an array's rows, as a column. -/
def means (z : FVec Ideal S8192x2048 .f32) : FVec Ideal S8192x1 .f32 :=
  Host.divf (broadcastInDim S8192x1 ![0] bcast_S8192_S8192x1_0 (Host.reduceAdd z (constant S_ .f32 0x00000000#32) reducesTo_S8192x2048_S8192_d1 h_S_))
    (broadcastInDim S8192x1 ![] bcast_S_S8192x1 (constant S_ .f32 0x45000000#32))

theorem reduces_rows : S8192x2048.Reduces [(1 : Fin 2)] S8192 := by decide

theorem means_at (z : FVec Ideal S8192x2048 .f32) (t : Fin 8192) : means z (ix2 t 0) = mean fun d => z (ix2 t d) := by
  unfold means
  show Ideal.div (broadcastInDim S8192x1 ![0] bcast_S8192_S8192x1_0 (Host.reduceAdd z (constant (F := Ideal) S_ .f32 0x00000000#32) reducesTo_S8192x2048_S8192_d1 h_S_) (ix2 t 0)) (lit 0x45000000#32) = _
  refine congrArg (fun s : EReal => Ideal.div s (lit 0x45000000#32)) ?_
  refine (broadcastInDim_apply _ _ _ (ix2 t 0) (ix1 t) fun a => ?_).trans ?_
  · match a with
    | ⟨0, _⟩ => rfl
  show Ideal.hostReduceAdd reducesTo_S8192x2048_S8192_d1 z (Scalar.ofBits (F := Ideal) .f32 0x00000000#32) (ix1 t) = _
  rw [Ideal.hostReduceAdd_single reducesTo_S8192x2048_S8192_d1 reduces_rows, zero_word, zero_add]
  refine Finset.sum_congr rfl fun k _ => congrArg z ?_
  funext a
  match a with
  | ⟨0, _⟩ => rfl
  | ⟨1, _⟩ => rfl

/-- An array less its rows' means. -/
def less (z : FVec Ideal S8192x2048 .f32) : FVec Ideal S8192x2048 .f32 :=
  subf z (broadcastInDim S8192x2048 ![0, 1] bcast_S8192x1_S8192x2048_0_1 (means z))

theorem less_at (z : FVec Ideal S8192x2048 .f32) (t : Fin 8192) (d : Fin 2048) : less z (ix2 t d) = centred (fun q => z (ix2 t q)) d := by
  show (z (ix2 t d) - broadcastInDim S8192x2048 ![0, 1] bcast_S8192x1_S8192x2048_0_1 (means z) (ix2 t d) : EReal) = _
  rw [column_at, means_at]
  rfl

/-- The rows scaled, weighed and offset. -/
theorem normed (z : FVec Ideal S8192x2048 .f32) (g b : FVec Ideal S1x2048 .f32) (t : Fin 8192) (d : Fin 2048) :
    addf (F := Ideal) (mulf (mulf (less z) (broadcastInDim S8192x2048 ![0, 1] bcast_S8192x1_S8192x2048_0_1
        (Host.rsqrt (addf (means (mulf (less z) (less z))) (broadcastInDim S8192x1 ![] bcast_S_S8192x1 (constant S_ .f32 0x3727C5AC#32))))))
      (broadcastInDim S8192x2048 ![0, 1] bcast_S1x2048_S8192x2048_0_1 (broadcastInDim S1x2048 ![1] bcast_S2048_S1x2048_1 (shapeCast S2048 g shapeCasts_S1x2048_S2048))))
      (broadcastInDim S8192x2048 ![0, 1] bcast_S1x2048_S8192x2048_0_1 (broadcastInDim S1x2048 ![1] bcast_S2048_S1x2048_1 (shapeCast S2048 b shapeCasts_S1x2048_S2048))) (ix2 t d)
      = norm (fun q => z (ix2 t q)) (fun q => g (ix2 0 q)) (fun q => b (ix2 0 q)) d := by
  rw [ValueIdx.addf_apply, ValueIdx.mulf_apply, ValueIdx.mulf_apply, row_at, row_at, column_at, less_at]
  show (_ * Ideal.rsqrt (means (mulf (less z) (less z)) (ix2 t 0) + lit 0x3727C5AC#32) * _ + _ : EReal) = _
  rw [means_at]
  have h : ∀ q : Fin 2048, mulf (less z) (less z) (ix2 t q) = (centred (fun q => z (ix2 t q)) q * centred (fun q => z (ix2 t q)) q : EReal) := by
    intro q
    rw [ValueIdx.mulf_apply, less_at]
  rw [funext h]
  rfl

variable (m : (ℓ : Loc nD τ sig) → Buf (Elt Ideal) ℓ) (c : Dev nD)

/-- A token's output in the slot a word names. -/
def row (s : BitVec 32) (d : Fin 2048) : EReal := (m (c.tc.loc main_arg0) : FVec Ideal S34560x2048 .bf16) (ix2 ⟨min s.toInt.toNat 34559, by omega⟩ d)

/-- The gated outputs added to the residual. -/
def sums : FVec Ideal S8192x2048 .f32 :=
  addf (mulf (broadcastInDim S8192x2048 ![] bcast_S_S8192x2048 (constant S_ .f32 0x3FB504F3#32)) (m ((c.tc : Thread nD τ).loc main_arg3))) (mulf (shapeCast _ (broadcastInDim S2x4096x2048 ![0, 1, 2] bcast_S2x1x2048_S2x4096x2048_0_1_2 (broadcastInDim S2x1x2048 ![0, 2] bcast_S2x2048_S2x1x2048_0_2 (shapeCast _ (extractStridedSlice S1x2x1x2048 ![1, 0, 5, 0] (shapeCast _ (m ((c.tc : Thread nD τ).loc main_arg4)) shapeCasts_S96x1x2048_S2x8x6x2048) slices_S2x8x6x2048_S1x2x1x2048_1_0_5_0) shapeCasts_S1x2x1x2048_S2x2048))) shapeCasts_S2x4096x2048_S8192x2048) (addf (Host.gather gather_S34560x2048_S8192x1_S8192x2048_1_0_n_n_0_1_12048 (extf .f32 (m ((c.tc : Thread nD τ).loc main_arg0)) bitsLt_bf16_f32) (broadcastInDim S8192x1 ![0] bcast_S8192_S8192x1_0 (shapeCast _ (m ((c.tc : Thread nD τ).loc main_arg1)) shapeCasts_S8192x1_S8192))) (Host.gather gather_S34560x2048_S8192x1_S8192x2048_1_0_n_n_0_1_12048 (extf .f32 (m ((c.tc : Thread nD τ).loc main_arg0)) bitsLt_bf16_f32) (broadcastInDim S8192x1 ![0] bcast_S8192_S8192x1_0 (shapeCast _ (m ((c.tc : Thread nD τ).loc main_arg2)) shapeCasts_S8192x1_S8192)))))

theorem sums_at (t : Fin 8192) (k : Fin 96) (hk : k.val = 48 + t.val / 4096 * 6 + 5) (d : Fin 2048) :
    sums m c (ix2 t d) = blend (fun q => (m (c.tc.loc main_arg3) : FVec Ideal S8192x2048 .f32) (ix2 t q)) (fun q => (m (c.tc.loc main_arg4) : FVec Ideal S96x1x2048 .f32) (ix3 k 0 q))
      (fun q => row m c ((m (c.tc.loc main_arg1) : IVec S8192x1 32) (ix2 t 0)) q + row m c ((m (c.tc.loc main_arg2) : IVec S8192x1 32) (ix2 t 0)) q) d := by
  unfold sums
  refine (ValueIdx.addf_apply _ _ _).trans (congr (congrArg (fun p q : EReal => p + q) rfl) ?_)
  refine (ValueIdx.mulf_apply _ _ _).trans (congr (congrArg (fun p q : EReal => p * q) (gate_at _ t d k hk)) ?_)
  exact (ValueIdx.addf_apply _ _ _).trans (congr (congrArg (fun p q : EReal => p + q) (output_at _ _ t d)) (output_at _ _ t d))

/-- An entry of the reference's result. -/
theorem entry (t : Fin 8192) (k : Fin 96) (hk : k.val = 48 + t.val / 4096 * 6 + 5) (d : Fin 2048) :
    res_main_v41 m c (ix2 t d) = norm (blend (fun q => (m (c.tc.loc main_arg3) : FVec Ideal S8192x2048 .f32) (ix2 t q)) (fun q => (m (c.tc.loc main_arg4) : FVec Ideal S96x1x2048 .f32) (ix3 k 0 q))
      (fun q => row m c ((m (c.tc.loc main_arg1) : IVec S8192x1 32) (ix2 t 0)) q + row m c ((m (c.tc.loc main_arg2) : IVec S8192x1 32) (ix2 t 0)) q))
      (fun q => (m (c.tc.loc main_arg5) : FVec Ideal S1x2048 .f32) (ix2 0 q)) (fun q => (m (c.tc.loc main_arg6) : FVec Ideal S1x2048 .f32) (ix2 0 q)) d := by
  refine Eq.trans ?_ ((normed (sums m c) (m (c.tc.loc main_arg5)) (m (c.tc.loc main_arg6)) t d).trans ?_)
  · unfold res_main_v41 less means sums
    rfl
  · exact congrArg (fun z => norm z _ _ d) (funext fun q => sums_at m c t k hk q)

end Cert.RefCombineIdeal.Entry

end
-- ==== Proof.CombineValue.lean ====
/- The combination's results are the reference's, from memories that agree on the arguments. -/
module

public import proofs.«01_k».proof.Proof.CombineSteps
public import proofs.«01_k».proof.Proof.CombineReference

@[expose] public section

set_option maxRecDepth 16384

noncomputable section

namespace Cert.CombineIdeal.Tile

open Cert.CombineIdeal Cert.CombineIdeal.Gen Cert.CombineIdeal.Body Cert.Combining
open Idealize.ShloMosaic hiding ix1 ix2 ix3 ix4
open Idealize.ShloMosaic.TcCoe Idealize.ShloMosaic.ValueIdx
open Idealize.SL.Sem

/-- A small word is the same number read with a sign. -/
theorem unsigned (s : BitVec 32) (h : s.toNat < 34560) : min s.toInt.toNat 34559 = s.toNat := by
  have e : s.toInt = (s.toNat : ℤ) := BitVec.toInt_eq_toNat_of_lt (by omega)
  rw [e, Int.toNat_natCast]
  omega

/-- An index of the result is a token of a tile and a number of its row. -/
theorem split (i : S8192x2048.Idx) : ∃ (e : Fin 8) (p : Fin 1024) (d : Fin 2048), i = ix2 (tok e.val e.isLt p) d := by
  have h0 : (i 0).val < 8192 := (i 0).isLt
  refine ⟨⟨(i 0).val / 1024, by omega⟩, ⟨(i 0).val % 1024, by omega⟩, i 1, ?_⟩
  funext a
  match a with
  | ⟨0, _⟩ => refine Fin.ext ?_; show (i 0).val = (i 0).val / 1024 * 1024 + (i 0).val % 1024; omega
  | ⟨1, _⟩ => rfl

variable (m : (ℓ : Loc nD τ sig) → Buf (Elt Ideal) ℓ) (m' : (ℓ : Loc Cert.RefCombineIdeal.nD Cert.RefCombineIdeal.τ Cert.RefCombineIdeal.sig) → Buf (Elt Ideal) ℓ)

/-- The two programs read the same output in a slot. -/
theorem row_same (c : Dev nD) (a0 : (m' (c.tc.loc Cert.RefCombineIdeal.main_arg0) : FVec Ideal S34560x2048 .bf16) = m (c.tc.loc main_arg0))
    (s : BitVec 32) (h : s.toNat < 34560) (d : Fin 2048) : row m c s d = Cert.RefCombineIdeal.Entry.row m' c s d := by
  unfold row
  refine (dif_pos h).trans ?_
  refine (congrFun a0.symm (ix2 ⟨s.toNat, h⟩ d)).trans ?_
  exact congrArg (fun k => (m' (c.tc.loc Cert.RefCombineIdeal.main_arg0) : FVec Ideal S34560x2048 .bf16) (ix2 k d)) (Fin.ext (unsigned s h).symm)

/-- A token's result is the reference's, when the arguments are the same. -/
theorem agrees (P : PairedOf m) (c : Dev nD)
    (a0 : (m' (c.tc.loc Cert.RefCombineIdeal.main_arg0) : FVec Ideal S34560x2048 .bf16) = m (c.tc.loc main_arg0))
    (a1 : (m' (c.tc.loc Cert.RefCombineIdeal.main_arg1) : IVec S8192x1 32) = m (c.tc.loc main_arg1))
    (a2 : (m' (c.tc.loc Cert.RefCombineIdeal.main_arg2) : IVec S8192x1 32) = m (c.tc.loc main_arg2))
    (a3 : (m' (c.tc.loc Cert.RefCombineIdeal.main_arg3) : FVec Ideal S8192x2048 .f32) = m (c.tc.loc main_arg3))
    (a4 : (m' (c.tc.loc Cert.RefCombineIdeal.main_arg4) : FVec Ideal S96x1x2048 .f32) = m (c.tc.loc main_arg4))
    (a5 : (m' (c.tc.loc Cert.RefCombineIdeal.main_arg5) : FVec Ideal S1x2048 .f32) = m (c.tc.loc main_arg5))
    (a6 : (m' (c.tc.loc Cert.RefCombineIdeal.main_arg6) : FVec Ideal S1x2048 .f32) = m (c.tc.loc main_arg6))
    (t : Fin 8192) (d : Fin 2048) :
    result m c t d = Cert.RefCombineIdeal.Value.res_main_v41 m' c (ix2 t d) := by
  obtain rfl : c = 0 := Subsingleton.elim _ _
  have sA : (slotA m t).toNat < 34560 := by
    obtain ⟨q, -, -, -, h⟩ := P.met_a t
    have := P.blk_lt q
    omega
  have sB : (slotB m t).toNat < 34560 := by
    obtain ⟨q, -, -, -, h⟩ := P.met_b t
    have := P.blk_lt q
    omega
  have eA : slotA m t = (m' ((0 : Dev nD).tc.loc Cert.RefCombineIdeal.main_arg1) : IVec S8192x1 32) (ix2 t 0) := (congrFun a1 (ix2 t 0)).symm
  have eB : slotB m t = (m' ((0 : Dev nD).tc.loc Cert.RefCombineIdeal.main_arg2) : IVec S8192x1 32) (ix2 t 0) := (congrFun a2 (ix2 t 0)).symm
  refine Eq.trans ?_ (Cert.RefCombineIdeal.Entry.entry m' 0 t (gateRow t) rfl d).symm
  unfold result
  have hs : (fun q => row m 0 (slotA m t) q + row m 0 (slotB m t) q) = fun q =>
      Cert.RefCombineIdeal.Entry.row m' 0 ((m' ((0 : Dev nD).tc.loc Cert.RefCombineIdeal.main_arg1) : IVec S8192x1 32) (ix2 t 0)) q
        + Cert.RefCombineIdeal.Entry.row m' 0 ((m' ((0 : Dev nD).tc.loc Cert.RefCombineIdeal.main_arg2) : IVec S8192x1 32) (ix2 t 0)) q := by
    funext q
    rw [row_same m m' 0 a0 _ sA q, row_same m m' 0 a0 _ sB q]
    exact congr (congrArg (fun u v : EReal => u + v) (congrArg (fun s => Cert.RefCombineIdeal.Entry.row m' 0 s q) eA)) (congrArg (fun s => Cert.RefCombineIdeal.Entry.row m' 0 s q) eB)
  rw [hs, ← a3, ← a4, ← a5, ← a6]

end Cert.CombineIdeal.Tile

end
-- ==== Proof.lean ====
module

public import proofs.«01_k».proof.Defs
public import proofs.«01_k».proof.Proof.Gen.ProjDecay.Frame
public import proofs.«01_k».proof.Proof.Gen.ProjDecayIdeal.Value
public import proofs.«01_k».proof.Proof.Gen.ProjGates.Frame
public import proofs.«01_k».proof.Proof.Gen.ProjGatesIdeal.Value
public import proofs.«01_k».proof.Proof.Gen.ProjIn.Frame
public import proofs.«01_k».proof.Proof.Gen.ProjInIdeal.Value
public import proofs.«01_k».proof.Proof.Gen.ProjNa.Frame
public import proofs.«01_k».proof.Proof.Gen.ProjNaIdeal.Value
public import proofs.«01_k».proof.Proof.ProjInBlocks
public import proofs.«01_k».proof.Proof.ProjDecayBlocks
public import proofs.«01_k».proof.Proof.ProjNaBlocks
public import proofs.«01_k».proof.Proof.ProjGatesBlocks
public import proofs.«01_k».proof.Proof.ExpertsFrameBits
public import proofs.«01_k».proof.Proof.ExpertsValue
public import proofs.«01_k».proof.Proof.CombineFrameBits
public import proofs.«01_k».proof.Proof.CombineValue
public import proofs.«01_k».proof.Proof.Gen.RefDecayIdeal.Run
public import proofs.«01_k».proof.Proof.Gen.RefGatesIdeal.Run
public import proofs.«01_k».proof.Proof.Gen.RefInIdeal.Run
public import proofs.«01_k».proof.Proof.Gen.RefNaIdeal.Run
public import proofs.«01_k».proof.Proof.Gen.Combine
public import proofs.«01_k».proof.Proof.Gen.Combine.Skeleton
public import proofs.«01_k».proof.Proof.Gen.Combine.Loops
public import proofs.«01_k».proof.Proof.Gen.Combine.Launch
public import proofs.«01_k».proof.Proof.Gen.CombineIdeal
public import proofs.«01_k».proof.Proof.Gen.CombineIdeal.Skeleton
public import proofs.«01_k».proof.Proof.Gen.CombineIdeal.Loops
public import proofs.«01_k».proof.Proof.Gen.CombineIdeal.Launch
public import proofs.«01_k».proof.Proof.Gen.RefCombineIdeal
public import proofs.«01_k».proof.Proof.Gen.RefCombineIdeal.Run
public import proofs.«01_k».proof.Proof.Gen.Pre_paired
public import proofs.«01_k».proof.Proof.Gen.Experts
public import proofs.«01_k».proof.Proof.Gen.Experts.Skeleton
public import proofs.«01_k».proof.Proof.Gen.Experts.Loops
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Loops
public import proofs.«01_k».proof.Proof.Gen.ExpertsIdeal.Launch
public import proofs.«01_k».proof.Proof.Gen.RefExpertsIdeal
public import proofs.«01_k».proof.Proof.Gen.RefExpertsIdeal.Run
public import proofs.«01_k».proof.Proof.Gen.Pre_planned
public import proofs.«01_k».proof.Proof.Gen.On_filled
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_RefInIdeal : quiescent_RefInIdeal := fun m ρ _ =>
  (θ_run Cert.RefInIdeal.defs _ _).mono (fun r h => ⟨fun c => (h c).2, sem_eq_zero_of_no_sems (by decide) r.2⟩)
    (Cert.RefInIdeal.Value.run (F := Ideal) m ρ)

theorem quiescent_RefDecayIdeal : quiescent_RefDecayIdeal := fun m ρ _ =>
  (θ_run Cert.RefDecayIdeal.defs _ _).mono (fun r h => ⟨fun c => (h c).2, sem_eq_zero_of_no_sems (by decide) r.2⟩)
    (Cert.RefDecayIdeal.Value.run (F := Ideal) m ρ)

theorem quiescent_RefNaIdeal : quiescent_RefNaIdeal := fun m ρ _ =>
  (θ_run Cert.RefNaIdeal.defs _ _).mono (fun r h => ⟨fun c => (h c).2, sem_eq_zero_of_no_sems (by decide) r.2⟩)
    (Cert.RefNaIdeal.Value.run (F := Ideal) m ρ)

theorem quiescent_RefGatesIdeal : quiescent_RefGatesIdeal := fun m ρ _ =>
  (θ_run Cert.RefGatesIdeal.defs _ _).mono (fun r h => ⟨fun c => (h c).2, sem_eq_zero_of_no_sems (by decide) r.2⟩)
    (Cert.RefGatesIdeal.Value.run (F := Ideal) m ρ)

theorem algebraic_ProjInIdeal_RefInIdeal : algebraic_ProjInIdeal_RefInIdeal := by
  intro m ρ m' ρ' _ hagree
  refine ⟨_, Cert.ProjInIdeal.Value.run (F := Ideal) m ρ, ?_⟩
  refine (θ_run Cert.RefInIdeal.defs _ _).mono (fun _ h c => ⟨?_, (h c).2⟩) (Cert.RefInIdeal.Value.run (F := Ideal) m' ρ')
  rw [(h c).1]
  simp only [hagree c]
  funext i
  rw [Cert.ProjInIdeal.Blocks.array]
  unfold Cert.Products.column
  pointwise
  rfl

theorem algebraic_ProjDecayIdeal_RefDecayIdeal : algebraic_ProjDecayIdeal_RefDecayIdeal := by
  intro m ρ m' ρ' _ hagree
  refine ⟨_, Cert.ProjDecayIdeal.Value.run (F := Ideal) m ρ, ?_⟩
  refine (θ_run Cert.RefDecayIdeal.defs _ _).mono (fun _ h c => ⟨?_, (h c).2⟩) (Cert.RefDecayIdeal.Value.run (F := Ideal) m' ρ')
  rw [(h c).1]
  simp only [hagree c]
  funext i
  rw [Cert.ProjDecayIdeal.Blocks.array]
  unfold Cert.Products.column
  pointwise
  rfl

theorem algebraic_ProjNaIdeal_RefNaIdeal : algebraic_ProjNaIdeal_RefNaIdeal := by
  intro m ρ m' ρ' _ hagree
  refine ⟨_, Cert.ProjNaIdeal.Value.run (F := Ideal) m ρ, ?_⟩
  refine (θ_run Cert.RefNaIdeal.defs _ _).mono (fun _ h c => ⟨?_, (h c).2⟩) (Cert.RefNaIdeal.Value.run (F := Ideal) m' ρ')
  rw [(h c).1]
  simp only [hagree c]
  funext i
  rw [Cert.ProjNaIdeal.Blocks.array]
  unfold Cert.Products.column
  pointwise
  rw [(hagree c).1, (hagree c).2]
  by_cases hq : (i 1).val < 1024
  · rw [dif_pos hq, if_pos hq]; rfl
  · rw [dif_neg hq, if_neg hq, mul_one]
    refine Finset.sum_congr rfl fun k _ => ?_
    congr 3
    apply Fin.ext; show 7200 + ((i 1).val - 1024) = 6176 + (i 1).val; omega

theorem algebraic_ProjGatesIdeal_RefGatesIdeal : algebraic_ProjGatesIdeal_RefGatesIdeal := by
  intro m ρ m' ρ' _ hagree
  refine ⟨_, Cert.ProjGatesIdeal.Value.run (F := Ideal) m ρ, ?_⟩
  refine (θ_run Cert.RefGatesIdeal.defs _ _).mono (fun _ h c => ⟨?_, (h c).2⟩) (Cert.RefGatesIdeal.Value.run (F := Ideal) m' ρ')
  rw [(h c).1]
  simp only [hagree c]
  funext i
  rw [Cert.ProjGatesIdeal.Blocks.array]
  unfold Cert.Products.column
  pointwise
  rfl

theorem quiescent_Experts : quiescent_Experts := fun m ρ h => Cert.Experts.Body.frame ρ h

theorem quiescent_ExpertsIdeal : quiescent_ExpertsIdeal := fun m ρ h => Cert.ExpertsIdeal.Body.frame ρ h

theorem quiescent_RefExpertsIdeal : quiescent_RefExpertsIdeal := fun m ρ _ =>
  (θ_run Cert.RefExpertsIdeal.defs _ _).mono (fun r h => ⟨fun c => (h c).2, sem_eq_zero_of_no_sems (by decide) r.2⟩)
    (Cert.RefExpertsIdeal.Value.run (F := Ideal) m ρ)

theorem quiescent_RefExpertsIdeal_pre_planned : quiescent_RefExpertsIdeal_pre_planned := fun m ρ _ =>
  (θ_run Cert.RefExpertsIdeal.defs _ _).mono (fun r h => ⟨fun c => (h c).2, sem_eq_zero_of_no_sems (by decide) r.2⟩)
    (Cert.RefExpertsIdeal.Value.run (F := Ideal) m ρ)

/-- The experts: the two results are the same number at every entry of a filled slot. -/
theorem algebraic_ExpertsIdeal_RefExpertsIdeal_on_filled : algebraic_ExpertsIdeal_RefExpertsIdeal_on_filled := by
  intro m ρ m' ρ' hpre hagree
  have P := Cert.ExpertsIdeal.Body.planned m hpre
  refine ⟨fun c => Cert.RefExpertsIdeal.Value.res_main_v148 (F := Ideal) (StableHlo.launchContents m' c), ?_, ?_⟩
  · refine (θ_run Cert.ExpertsIdeal.defs _ _).mono (fun r h c => ⟨fun i hi => ?_, Cert.ExpertsIdeal.Body.kept h.1 c⟩)
      (Cert.ExpertsIdeal.Body.run_main ρ (Cert.ExpertsIdeal.Tile.steps m P (Cert.ExpertsIdeal.Body.ok_of m hpre) (Cert.ExpertsIdeal.Body.chk_of m hpre)))
    obtain ⟨s, p, d, rfl⟩ : ∃ (s : Fin 15) (p : Fin 2304) (d : Fin 2048), i = ValueIdx.ix2 (Cert.ExpertsIdeal.Tile.slot s p) d := by
      have h0 : (i 0).val < 34560 := (i 0).isLt
      refine ⟨⟨(i 0).val / 2304, by omega⟩, ⟨(i 0).val % 2304, by omega⟩, i 1, ?_⟩
      funext a
      match a with
      | ⟨0, _⟩ => exact Fin.ext (Nat.div_add_mod _ _).symm
      | ⟨1, _⟩ => rfl
    obtain ⟨hs, hp⟩ := Cert.ExpertsIdeal.Tile.filled m P c s p d hi
    refine (Cert.ExpertsIdeal.Tile.array P h.1 c s hs p d hp).trans ?_
    obtain ⟨a0, a1, -, -, a4, a5, a6, a7⟩ := hagree c
    exact Cert.ExpertsIdeal.Tile.agrees m P c (StableHlo.launchContents m' c) a0 a1 a4 a5 a6 a7 s p d
  · exact (θ_run Cert.RefExpertsIdeal.defs _ _).mono (fun r h c => ⟨fun i _ => congrFun (h c).1 i, (h c).2⟩)
      (Cert.RefExpertsIdeal.Value.run (F := Ideal) m' ρ')

theorem quiescent_Combine : quiescent_Combine := fun m ρ h => Cert.Combine.Body.frame ρ h

theorem quiescent_CombineIdeal : quiescent_CombineIdeal := fun m ρ h => Cert.CombineIdeal.Body.frame ρ h

theorem quiescent_RefCombineIdeal : quiescent_RefCombineIdeal := fun m ρ _ =>
  (θ_run Cert.RefCombineIdeal.defs _ _).mono (fun r h => ⟨fun c => (h c).2, sem_eq_zero_of_no_sems (by decide) r.2⟩)
    (Cert.RefCombineIdeal.Value.run (F := Ideal) m ρ)

theorem quiescent_RefCombineIdeal_pre_paired : quiescent_RefCombineIdeal_pre_paired := fun m ρ _ =>
  (θ_run Cert.RefCombineIdeal.defs _ _).mono (fun r h => ⟨fun c => (h c).2, sem_eq_zero_of_no_sems (by decide) r.2⟩)
    (Cert.RefCombineIdeal.Value.run (F := Ideal) m ρ)

/-- The combination: the two results are the same number at every entry. -/
theorem algebraic_CombineIdeal_RefCombineIdeal : algebraic_CombineIdeal_RefCombineIdeal := by
  intro m ρ m' ρ' hpre hagree
  have P := Cert.CombineIdeal.Body.paired_of m hpre
  refine ⟨fun c => Cert.RefCombineIdeal.Value.res_main_v41 (F := Ideal) m' c, ?_, ?_⟩
  · refine (θ_run Cert.CombineIdeal.defs _ _).mono (fun r h c => ⟨funext fun i => ?_, Cert.CombineIdeal.Body.kept h.1 c⟩)
      (Cert.CombineIdeal.Body.run_main ρ (Cert.CombineIdeal.Tile.steps m P (Cert.CombineIdeal.Body.ok_of m hpre)))
    obtain ⟨e, p, d, rfl⟩ := Cert.CombineIdeal.Tile.split i
    refine (Cert.CombineIdeal.Tile.array P h.1 c e p d).trans ?_
    obtain ⟨a0, a1, a2, a3, a4, a5, a6, -⟩ := hagree c
    exact Cert.CombineIdeal.Tile.agrees m m' P c a0 a1 a2 a3 a4 a5 a6 _ d
  · exact (θ_run Cert.RefCombineIdeal.defs _ _).mono (fun r h c => h c) (Cert.RefCombineIdeal.Value.run (F := Ideal) m' ρ')

theorem claim : Cert.Claim := ⟨Cert.ProjIn.Gen.facts, Cert.ProjInIdeal.Gen.facts, Cert.RefInIdeal.Gen.facts, Cert.ProjDecay.Gen.facts, Cert.ProjDecayIdeal.Gen.facts, Cert.RefDecayIdeal.Gen.facts, Cert.ProjNa.Gen.facts, Cert.ProjNaIdeal.Gen.facts, Cert.RefNaIdeal.Gen.facts, Cert.ProjGates.Gen.facts, Cert.ProjGatesIdeal.Gen.facts, Cert.RefGatesIdeal.Gen.facts, Cert.Experts.Gen.facts, Cert.ExpertsIdeal.Gen.facts, Cert.RefExpertsIdeal.Gen.facts, Cert.Combine.Gen.facts, Cert.CombineIdeal.Gen.facts, Cert.RefCombineIdeal.Gen.facts, Cert.Pre_planned.Gen.facts, Cert.Pre_paired.Gen.facts, Cert.On_filled.Gen.facts,
  fun m ρ _ => Cert.ProjIn.Gen.frame m ρ, fun m ρ _ => Cert.ProjInIdeal.Gen.frame m ρ, quiescent_RefInIdeal, fun m ρ _ => Cert.ProjDecay.Gen.frame m ρ, fun m ρ _ => Cert.ProjDecayIdeal.Gen.frame m ρ, quiescent_RefDecayIdeal, fun m ρ _ => Cert.ProjNa.Gen.frame m ρ, fun m ρ _ => Cert.ProjNaIdeal.Gen.frame m ρ, quiescent_RefNaIdeal, fun m ρ _ => Cert.ProjGates.Gen.frame m ρ, fun m ρ _ => Cert.ProjGatesIdeal.Gen.frame m ρ, quiescent_RefGatesIdeal, quiescent_Experts, quiescent_ExpertsIdeal, quiescent_RefExpertsIdeal, quiescent_RefExpertsIdeal_pre_planned, quiescent_Combine, quiescent_CombineIdeal, quiescent_RefCombineIdeal, quiescent_RefCombineIdeal_pre_paired, (trivial : preserves_ProjIn_ProjInIdeal), algebraic_ProjInIdeal_RefInIdeal, (trivial : preserves_ProjDecay_ProjDecayIdeal), algebraic_ProjDecayIdeal_RefDecayIdeal, (trivial : preserves_ProjNa_ProjNaIdeal), algebraic_ProjNaIdeal_RefNaIdeal, (trivial : preserves_ProjGates_ProjGatesIdeal), algebraic_ProjGatesIdeal_RefGatesIdeal, (trivial : preserves_Experts_ExpertsIdeal), algebraic_ExpertsIdeal_RefExpertsIdeal_on_filled, (trivial : preserves_Combine_CombineIdeal), algebraic_CombineIdeal_RefCombineIdeal⟩

end Cert.Proof

end
